-- ==== Defs.lean ====
def Pre_Xnorm (m : (ℓ : Loc Cert.Xnorm.nD Cert.Xnorm.τ Cert.Xnorm.sig) → Buf (Elt Bits) ℓ) : Prop :=
  True

def Pre_XnormIdeal (m : (ℓ : Loc Cert.XnormIdeal.nD Cert.XnormIdeal.τ Cert.XnormIdeal.sig) → Buf (Elt Ideal) ℓ) : Prop :=
  True

def Pre_XnormRefIdeal (m : (ℓ : Loc Cert.XnormRefIdeal.nD Cert.XnormRefIdeal.τ Cert.XnormRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_ProjGla (m : (ℓ : Loc Cert.ProjGla.nD Cert.ProjGla.τ Cert.ProjGla.sig) → Buf (Elt Bits) ℓ) : Prop :=
  True

def Pre_ProjGlaIdeal (m : (ℓ : Loc Cert.ProjGlaIdeal.nD Cert.ProjGlaIdeal.τ Cert.ProjGlaIdeal.sig) → Buf (Elt Ideal) ℓ) : Prop :=
  True

def Pre_ProjGlaRefIdeal (m : (ℓ : Loc Cert.ProjGlaRefIdeal.nD Cert.ProjGlaRefIdeal.τ Cert.ProjGlaRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_softmax_state [hPre_softmax_state : Cert.Pre_softmax_state.Facts] (m : (ℓ : Loc Cert.MergeIdeal.nD Cert.MergeIdeal.τ Cert.MergeIdeal.sig) → Buf (Elt Ideal) ℓ) : Prop :=
  ∀ c : Dev Cert.MergeIdeal.nD,
    (Cert.Pre_softmax_state.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15))).1 = (fun _ => 1#1)
    ∧ (Cert.Pre_softmax_state.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15))).2.1 = (fun _ => 1#1)
    ∧ (Cert.Pre_softmax_state.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15))).2.2.1 = (fun _ => 1#1)
    ∧ (Cert.Pre_softmax_state.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15))).2.2.2.1 = (fun _ => 1#1)
    ∧ (Cert.Pre_softmax_state.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15))).2.2.2.2.1 = (fun _ => 1#1)
    ∧ (Cert.Pre_softmax_state.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15))).2.2.2.2.2 = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_softmax_state [hPre_softmax_state : Cert.Pre_softmax_state.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_softmax_state.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15))).1 = (fun _ => 1#1)
    ∧ (Cert.Pre_softmax_state.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15))).2.1 = (fun _ => 1#1)
    ∧ (Cert.Pre_softmax_state.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15))).2.2.1 = (fun _ => 1#1)
    ∧ (Cert.Pre_softmax_state.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15))).2.2.2.1 = (fun _ => 1#1)
    ∧ (Cert.Pre_softmax_state.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15))).2.2.2.2.1 = (fun _ => 1#1)
    ∧ (Cert.Pre_softmax_state.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15))).2.2.2.2.2 = (fun _ => 1#1)

def Pre_AttC (m : (ℓ : Loc Cert.AttC.nD Cert.AttC.τ Cert.AttC.sig) → Buf (Elt Bits) ℓ) : Prop :=
  True

def Pre_AttCIdeal (m : (ℓ : Loc Cert.AttCIdeal.nD Cert.AttCIdeal.τ Cert.AttCIdeal.sig) → Buf (Elt Ideal) ℓ) : Prop :=
  True

def Pre_AttCRefIdeal (m : (ℓ : Loc Cert.AttCRefIdeal.nD Cert.AttCRefIdeal.τ Cert.AttCRefIdeal.sig) → Buf (Elt Ideal) ℓ) : Prop :=
  True

def quiescent_Xnorm [hXnorm : Cert.Xnorm.Facts] : Prop :=
  ∀ (m : (ℓ : Loc Cert.Xnorm.nD Cert.Xnorm.τ Cert.Xnorm.sig) → Buf (Elt Bits) ℓ) (g : Dev Cert.Xnorm.nD → PrngReg), Pre_Xnorm m →
    θ_run (Cert.Xnorm.defs (F := Bits)) (onTc (τ := Cert.Xnorm.τ) (Cert.Xnorm.main (F := Bits))) ⟨m, fun _ => 0, g⟩ (fun r => (∀ c : Dev Cert.Xnorm.nD,
      r.2.mem ((c.tc : Thread Cert.Xnorm.nD Cert.Xnorm.τ).loc Cert.Xnorm.main_arg0) = m ((c.tc : Thread Cert.Xnorm.nD Cert.Xnorm.τ).loc Cert.Xnorm.main_arg0)
      ∧ r.2.mem ((c.tc : Thread Cert.Xnorm.nD Cert.Xnorm.τ).loc Cert.Xnorm.main_arg1) = m ((c.tc : Thread Cert.Xnorm.nD Cert.Xnorm.τ).loc Cert.Xnorm.main_arg1)
      ∧ r.2.mem ((c.tc : Thread Cert.Xnorm.nD Cert.Xnorm.τ).loc Cert.Xnorm.main_arg2) = m ((c.tc : Thread Cert.Xnorm.nD Cert.Xnorm.τ).loc Cert.Xnorm.main_arg2))
      ∧ r.2.sem = fun _ => 0)

def quiescent_XnormIdeal [hXnormIdeal : Cert.XnormIdeal.Facts] : Prop :=
  ∀ (m : (ℓ : Loc Cert.XnormIdeal.nD Cert.XnormIdeal.τ Cert.XnormIdeal.sig) → Buf (Elt Ideal) ℓ) (g : Dev Cert.XnormIdeal.nD → PrngReg), Pre_XnormIdeal m →
    θ_run (Cert.XnormIdeal.defs (F := Ideal)) (onTc (τ := Cert.XnormIdeal.τ) (Cert.XnormIdeal.main (F := Ideal))) ⟨m, fun _ => 0, g⟩ (fun r => (∀ c : Dev Cert.XnormIdeal.nD,
      r.2.mem ((c.tc : Thread Cert.XnormIdeal.nD Cert.XnormIdeal.τ).loc Cert.XnormIdeal.main_arg0) = m ((c.tc : Thread Cert.XnormIdeal.nD Cert.XnormIdeal.τ).loc Cert.XnormIdeal.main_arg0)
      ∧ r.2.mem ((c.tc : Thread Cert.XnormIdeal.nD Cert.XnormIdeal.τ).loc Cert.XnormIdeal.main_arg1) = m ((c.tc : Thread Cert.XnormIdeal.nD Cert.XnormIdeal.τ).loc Cert.XnormIdeal.main_arg1)
      ∧ r.2.mem ((c.tc : Thread Cert.XnormIdeal.nD Cert.XnormIdeal.τ).loc Cert.XnormIdeal.main_arg2) = m ((c.tc : Thread Cert.XnormIdeal.nD Cert.XnormIdeal.τ).loc Cert.XnormIdeal.main_arg2))
      ∧ r.2.sem = fun _ => 0)

def quiescent_XnormRefIdeal [hXnormRefIdeal : Cert.XnormRefIdeal.Facts] : Prop :=
  ∀ (m : (ℓ : Loc Cert.XnormRefIdeal.nD Cert.XnormRefIdeal.τ Cert.XnormRefIdeal.sig) → Buf (Elt Ideal) ℓ) (g : Dev Cert.XnormRefIdeal.nD → PrngReg), Pre_XnormRefIdeal m →
    θ_run (Cert.XnormRefIdeal.defs (F := Ideal)) (onTc (τ := Cert.XnormRefIdeal.τ) (Cert.XnormRefIdeal.main (F := Ideal))) ⟨m, fun _ => 0, g⟩ (fun r => (∀ c : Dev Cert.XnormRefIdeal.nD,
      r.2.mem ((c.tc : Thread Cert.XnormRefIdeal.nD Cert.XnormRefIdeal.τ).loc Cert.XnormRefIdeal.main_arg0) = m ((c.tc : Thread Cert.XnormRefIdeal.nD Cert.XnormRefIdeal.τ).loc Cert.XnormRefIdeal.main_arg0)
      ∧ r.2.mem ((c.tc : Thread Cert.XnormRefIdeal.nD Cert.XnormRefIdeal.τ).loc Cert.XnormRefIdeal.main_arg1) = m ((c.tc : Thread Cert.XnormRefIdeal.nD Cert.XnormRefIdeal.τ).loc Cert.XnormRefIdeal.main_arg1)
      ∧ r.2.mem ((c.tc : Thread Cert.XnormRefIdeal.nD Cert.XnormRefIdeal.τ).loc Cert.XnormRefIdeal.main_arg2) = m ((c.tc : Thread Cert.XnormRefIdeal.nD Cert.XnormRefIdeal.τ).loc Cert.XnormRefIdeal.main_arg2))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1)
      ∧ r.2.mem ((c.tc : Thread Cert.ProjCRefIdeal.nD Cert.ProjCRefIdeal.τ).loc Cert.ProjCRefIdeal.main_arg2) = m ((c.tc : Thread Cert.ProjCRefIdeal.nD Cert.ProjCRefIdeal.τ).loc Cert.ProjCRefIdeal.main_arg2))
      ∧ r.2.sem = fun _ => 0)

def quiescent_ProjGla [hProjGla : Cert.ProjGla.Facts] : Prop :=
  ∀ (m : (ℓ : Loc Cert.ProjGla.nD Cert.ProjGla.τ Cert.ProjGla.sig) → Buf (Elt Bits) ℓ) (g : Dev Cert.ProjGla.nD → PrngReg), Pre_ProjGla m →
    θ_run (Cert.ProjGla.defs (F := Bits)) (onTc (τ := Cert.ProjGla.τ) (Cert.ProjGla.main (F := Bits))) ⟨m, fun _ => 0, g⟩ (fun r => (∀ c : Dev Cert.ProjGla.nD,
      r.2.mem ((c.tc : Thread Cert.ProjGla.nD Cert.ProjGla.τ).loc Cert.ProjGla.main_arg0) = m ((c.tc : Thread Cert.ProjGla.nD Cert.ProjGla.τ).loc Cert.ProjGla.main_arg0)
      ∧ r.2.mem ((c.tc : Thread Cert.ProjGla.nD Cert.ProjGla.τ).loc Cert.ProjGla.main_arg1) = m ((c.tc : Thread Cert.ProjGla.nD Cert.ProjGla.τ).loc Cert.ProjGla.main_arg1))
      ∧ r.2.sem = fun _ => 0)

def quiescent_ProjGlaIdeal [hProjGlaIdeal : Cert.ProjGlaIdeal.Facts] : Prop :=
  ∀ (m : (ℓ : Loc Cert.ProjGlaIdeal.nD Cert.ProjGlaIdeal.τ Cert.ProjGlaIdeal.sig) → Buf (Elt Ideal) ℓ) (g : Dev Cert.ProjGlaIdeal.nD → PrngReg), Pre_ProjGlaIdeal m →
    θ_run (Cert.ProjGlaIdeal.defs (F := Ideal)) (onTc (τ := Cert.ProjGlaIdeal.τ) (Cert.ProjGlaIdeal.main (F := Ideal))) ⟨m, fun _ => 0, g⟩ (fun r => (∀ c : Dev Cert.ProjGlaIdeal.nD,
      r.2.mem ((c.tc : Thread Cert.ProjGlaIdeal.nD Cert.ProjGlaIdeal.τ).loc Cert.ProjGlaIdeal.main_arg0) = m ((c.tc : Thread Cert.ProjGlaIdeal.nD Cert.ProjGlaIdeal.τ).loc Cert.ProjGlaIdeal.main_arg0)
      ∧ r.2.mem ((c.tc : Thread Cert.ProjGlaIdeal.nD Cert.ProjGlaIdeal.τ).loc Cert.ProjGlaIdeal.main_arg1) = m ((c.tc : Thread Cert.ProjGlaIdeal.nD Cert.ProjGlaIdeal.τ).loc Cert.ProjGlaIdeal.main_arg1))
      ∧ r.2.sem = fun _ => 0)

def quiescent_ProjGlaRefIdeal [hProjGlaRefIdeal : Cert.ProjGlaRefIdeal.Facts] : Prop :=
  ∀ (m : (ℓ : Loc Cert.ProjGlaRefIdeal.nD Cert.ProjGlaRefIdeal.τ Cert.ProjGlaRefIdeal.sig) → Buf (Elt Ideal) ℓ) (g : Dev Cert.ProjGlaRefIdeal.nD → PrngReg), Pre_ProjGlaRefIdeal m →
    θ_run (Cert.ProjGlaRefIdeal.defs (F := Ideal)) (onTc (τ := Cert.ProjGlaRefIdeal.τ) (Cert.ProjGlaRefIdeal.main (F := Ideal))) ⟨m, fun _ => 0, g⟩ (fun r => (∀ c : Dev Cert.ProjGlaRefIdeal.nD,
      r.2.mem ((c.tc : Thread Cert.ProjGlaRefIdeal.nD Cert.ProjGlaRefIdeal.τ).loc Cert.ProjGlaRefIdeal.main_arg0) = m ((c.tc : Thread Cert.ProjGlaRefIdeal.nD Cert.ProjGlaRefIdeal.τ).loc Cert.ProjGlaRefIdeal.main_arg0)
      ∧ r.2.mem ((c.tc : Thread Cert.ProjGlaRefIdeal.nD Cert.ProjGlaRefIdeal.τ).loc Cert.ProjGlaRefIdeal.main_arg1) = m ((c.tc : Thread Cert.ProjGlaRefIdeal.nD Cert.ProjGlaRefIdeal.τ).loc Cert.ProjGlaRefIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeIdeal_pre_softmax_state [hMergeIdeal : Cert.MergeIdeal.Facts] [hPre_softmax_state : Cert.Pre_softmax_state.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_softmax_state m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_MergeRefIdeal_pre_softmax_state [hMergeRefIdeal : Cert.MergeRefIdeal.Facts] [hPre_softmax_state : Cert.Pre_softmax_state.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_softmax_state m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15))
      ∧ r.2.sem = fun _ => 0)

def quiescent_AttC [hAttC : Cert.AttC.Facts] : Prop :=
  ∀ (m : (ℓ : Loc Cert.AttC.nD Cert.AttC.τ Cert.AttC.sig) → Buf (Elt Bits) ℓ) (g : Dev Cert.AttC.nD → PrngReg), Pre_AttC m →
    θ_run (Cert.AttC.defs (F := Bits)) (onTc (τ := Cert.AttC.τ) (Cert.AttC.main (F := Bits))) ⟨m, fun _ => 0, g⟩ (fun r => (∀ c : Dev Cert.AttC.nD,
      r.2.mem ((c.tc : Thread Cert.AttC.nD Cert.AttC.τ).loc Cert.AttC.main_arg0) = m ((c.tc : Thread Cert.AttC.nD Cert.AttC.τ).loc Cert.AttC.main_arg0)
      ∧ r.2.mem ((c.tc : Thread Cert.AttC.nD Cert.AttC.τ).loc Cert.AttC.main_arg1) = m ((c.tc : Thread Cert.AttC.nD Cert.AttC.τ).loc Cert.AttC.main_arg1)
      ∧ r.2.mem ((c.tc : Thread Cert.AttC.nD Cert.AttC.τ).loc Cert.AttC.main_arg2) = m ((c.tc : Thread Cert.AttC.nD Cert.AttC.τ).loc Cert.AttC.main_arg2))
      ∧ r.2.sem = fun _ => 0)

def quiescent_AttCIdeal [hAttCIdeal : Cert.AttCIdeal.Facts] : Prop :=
  ∀ (m : (ℓ : Loc Cert.AttCIdeal.nD Cert.AttCIdeal.τ Cert.AttCIdeal.sig) → Buf (Elt Ideal) ℓ) (g : Dev Cert.AttCIdeal.nD → PrngReg), Pre_AttCIdeal m →
    θ_run (Cert.AttCIdeal.defs (F := Ideal)) (onTc (τ := Cert.AttCIdeal.τ) (Cert.AttCIdeal.main (F := Ideal))) ⟨m, fun _ => 0, g⟩ (fun r => (∀ c : Dev Cert.AttCIdeal.nD,
      r.2.mem ((c.tc : Thread Cert.AttCIdeal.nD Cert.AttCIdeal.τ).loc Cert.AttCIdeal.main_arg0) = m ((c.tc : Thread Cert.AttCIdeal.nD Cert.AttCIdeal.τ).loc Cert.AttCIdeal.main_arg0)
      ∧ r.2.mem ((c.tc : Thread Cert.AttCIdeal.nD Cert.AttCIdeal.τ).loc Cert.AttCIdeal.main_arg1) = m ((c.tc : Thread Cert.AttCIdeal.nD Cert.AttCIdeal.τ).loc Cert.AttCIdeal.main_arg1)
      ∧ r.2.mem ((c.tc : Thread Cert.AttCIdeal.nD Cert.AttCIdeal.τ).loc Cert.AttCIdeal.main_arg2) = m ((c.tc : Thread Cert.AttCIdeal.nD Cert.AttCIdeal.τ).loc Cert.AttCIdeal.main_arg2))
      ∧ r.2.sem = fun _ => 0)

def quiescent_AttCRefIdeal [hAttCRefIdeal : Cert.AttCRefIdeal.Facts] : Prop :=
  ∀ (m : (ℓ : Loc Cert.AttCRefIdeal.nD Cert.AttCRefIdeal.τ Cert.AttCRefIdeal.sig) → Buf (Elt Ideal) ℓ) (g : Dev Cert.AttCRefIdeal.nD → PrngReg), Pre_AttCRefIdeal m →
    θ_run (Cert.AttCRefIdeal.defs (F := Ideal)) (onTc (τ := Cert.AttCRefIdeal.τ) (Cert.AttCRefIdeal.main (F := Ideal))) ⟨m, fun _ => 0, g⟩ (fun r => (∀ c : Dev Cert.AttCRefIdeal.nD,
      r.2.mem ((c.tc : Thread Cert.AttCRefIdeal.nD Cert.AttCRefIdeal.τ).loc Cert.AttCRefIdeal.main_arg0) = m ((c.tc : Thread Cert.AttCRefIdeal.nD Cert.AttCRefIdeal.τ).loc Cert.AttCRefIdeal.main_arg0)
      ∧ r.2.mem ((c.tc : Thread Cert.AttCRefIdeal.nD Cert.AttCRefIdeal.τ).loc Cert.AttCRefIdeal.main_arg1) = m ((c.tc : Thread Cert.AttCRefIdeal.nD Cert.AttCRefIdeal.τ).loc Cert.AttCRefIdeal.main_arg1)
      ∧ r.2.mem ((c.tc : Thread Cert.AttCRefIdeal.nD Cert.AttCRefIdeal.τ).loc Cert.AttCRefIdeal.main_arg2) = m ((c.tc : Thread Cert.AttCRefIdeal.nD Cert.AttCRefIdeal.τ).loc Cert.AttCRefIdeal.main_arg2))
      ∧ r.2.sem = fun _ => 0)

def preserves_Xnorm_XnormIdeal : Prop :=
  True

def algebraic_XnormIdeal_XnormRefIdeal [hXnormIdeal : Cert.XnormIdeal.Facts] [hXnormRefIdeal : Cert.XnormRefIdeal.Facts] : Prop :=
  ∀ (m : (ℓ : Loc Cert.XnormIdeal.nD Cert.XnormIdeal.τ Cert.XnormIdeal.sig) → Buf (Elt Ideal) ℓ) (g : Dev Cert.XnormIdeal.nD → PrngReg)
    (m' : (ℓ : Loc Cert.XnormRefIdeal.nD Cert.XnormRefIdeal.τ Cert.XnormRefIdeal.sig) → Buf (Elt Ideal) ℓ) (g' : Dev Cert.XnormRefIdeal.nD → PrngReg), Pre_XnormIdeal m →
    (∀ c : Dev Cert.XnormIdeal.nD,
      m' ((c.tc : Thread Cert.XnormRefIdeal.nD Cert.XnormRefIdeal.τ).loc Cert.XnormRefIdeal.main_arg0) = m ((c.tc : Thread Cert.XnormIdeal.nD Cert.XnormIdeal.τ).loc Cert.XnormIdeal.main_arg0)
      ∧ m' ((c.tc : Thread Cert.XnormRefIdeal.nD Cert.XnormRefIdeal.τ).loc Cert.XnormRefIdeal.main_arg1) = m ((c.tc : Thread Cert.XnormIdeal.nD Cert.XnormIdeal.τ).loc Cert.XnormIdeal.main_arg1)
      ∧ m' ((c.tc : Thread Cert.XnormRefIdeal.nD Cert.XnormRefIdeal.τ).loc Cert.XnormRefIdeal.main_arg2) = m ((c.tc : Thread Cert.XnormIdeal.nD Cert.XnormIdeal.τ).loc Cert.XnormIdeal.main_arg2)) →
    ∃ (v0 : (c : Dev Cert.XnormIdeal.nD) → Buf (Elt Ideal) ((c.tc : Thread Cert.XnormIdeal.nD Cert.XnormIdeal.τ).loc Cert.XnormIdeal.main_v5_0)) (v1 : (c : Dev Cert.XnormIdeal.nD) → Buf (Elt Ideal) ((c.tc : Thread Cert.XnormIdeal.nD Cert.XnormIdeal.τ).loc Cert.XnormIdeal.main_v5_1)),
      θ_run (Cert.XnormIdeal.defs (F := Ideal)) (onTc (τ := Cert.XnormIdeal.τ) (Cert.XnormIdeal.main (F := Ideal))) ⟨m, fun _ => 0, g⟩ (fun r => ∀ c : Dev Cert.XnormIdeal.nD,
          r.2.mem ((c.tc : Thread Cert.XnormIdeal.nD Cert.XnormIdeal.τ).loc Cert.XnormIdeal.main_v5_0) = v0 c
          ∧ r.2.mem ((c.tc : Thread Cert.XnormIdeal.nD Cert.XnormIdeal.τ).loc Cert.XnormIdeal.main_v5_1) = v1 c
          ∧ r.2.mem ((c.tc : Thread Cert.XnormIdeal.nD Cert.XnormIdeal.τ).loc Cert.XnormIdeal.main_arg0) = m ((c.tc : Thread Cert.XnormIdeal.nD Cert.XnormIdeal.τ).loc Cert.XnormIdeal.main_arg0)
          ∧ r.2.mem ((c.tc : Thread Cert.XnormIdeal.nD Cert.XnormIdeal.τ).loc Cert.XnormIdeal.main_arg1) = m ((c.tc : Thread Cert.XnormIdeal.nD Cert.XnormIdeal.τ).loc Cert.XnormIdeal.main_arg1)
          ∧ r.2.mem ((c.tc : Thread Cert.XnormIdeal.nD Cert.XnormIdeal.τ).loc Cert.XnormIdeal.main_arg2) = m ((c.tc : Thread Cert.XnormIdeal.nD Cert.XnormIdeal.τ).loc Cert.XnormIdeal.main_arg2))
      ∧ θ_run (Cert.XnormRefIdeal.defs (F := Ideal)) (onTc (τ := Cert.XnormRefIdeal.τ) (Cert.XnormRefIdeal.main (F := Ideal))) ⟨m', fun _ => 0, g'⟩ (fun r => ∀ c : Dev Cert.XnormRefIdeal.nD,
          r.2.mem ((c.tc : Thread Cert.XnormRefIdeal.nD Cert.XnormRefIdeal.τ).loc Cert.XnormRefIdeal.main_v15) = v0 c
          ∧ r.2.mem ((c.tc : Thread Cert.XnormRefIdeal.nD Cert.XnormRefIdeal.τ).loc Cert.XnormRefIdeal.main_v18) = v1 c
          ∧ r.2.mem ((c.tc : Thread Cert.XnormRefIdeal.nD Cert.XnormRefIdeal.τ).loc Cert.XnormRefIdeal.main_arg0) = m' ((c.tc : Thread Cert.XnormRefIdeal.nD Cert.XnormRefIdeal.τ).loc Cert.XnormRefIdeal.main_arg0)
          ∧ r.2.mem ((c.tc : Thread Cert.XnormRefIdeal.nD Cert.XnormRefIdeal.τ).loc Cert.XnormRefIdeal.main_arg1) = m' ((c.tc : Thread Cert.XnormRefIdeal.nD Cert.XnormRefIdeal.τ).loc Cert.XnormRefIdeal.main_arg1)
          ∧ r.2.mem ((c.tc : Thread Cert.XnormRefIdeal.nD Cert.XnormRefIdeal.τ).loc Cert.XnormRefIdeal.main_arg2) = m' ((c.tc : Thread Cert.XnormRefIdeal.nD Cert.XnormRefIdeal.τ).loc Cert.XnormRefIdeal.main_arg2))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v2)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v2) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v10) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v3_0)) (v1 : (c : Dev Cert.ProjBIdeal.nD) → Buf (Elt Ideal) ((c.tc : Thread Cert.ProjBIdeal.nD Cert.ProjBIdeal.τ).loc Cert.ProjBIdeal.main_v3_1)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v3_0) = v0 c
          ∧ r.2.mem ((c.tc : Thread Cert.ProjBIdeal.nD Cert.ProjBIdeal.τ).loc Cert.ProjBIdeal.main_v3_1) = v1 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v9) = v0 c
          ∧ r.2.mem ((c.tc : Thread Cert.ProjBRefIdeal.nD Cert.ProjBRefIdeal.τ).loc Cert.ProjBRefIdeal.main_v11) = v1 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)
      ∧ m' ((c.tc : Thread Cert.ProjCRefIdeal.nD Cert.ProjCRefIdeal.τ).loc Cert.ProjCRefIdeal.main_arg2) = m ((c.tc : Thread Cert.ProjCIdeal.nD Cert.ProjCIdeal.τ).loc Cert.ProjCIdeal.main_arg2)) →
    ∃ (v0 : (c : Dev Cert.ProjCIdeal.nD) → Buf (Elt Ideal) ((c.tc : Thread Cert.ProjCIdeal.nD Cert.ProjCIdeal.τ).loc Cert.ProjCIdeal.main_v3_0)) (v1 : (c : Dev Cert.ProjCIdeal.nD) → Buf (Elt Ideal) ((c.tc : Thread Cert.ProjCIdeal.nD Cert.ProjCIdeal.τ).loc Cert.ProjCIdeal.main_v3_1)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v3_0) = v0 c
          ∧ r.2.mem ((c.tc : Thread Cert.ProjCIdeal.nD Cert.ProjCIdeal.τ).loc Cert.ProjCIdeal.main_v3_1) = v1 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v9) = v0 c
          ∧ r.2.mem ((c.tc : Thread Cert.ProjCRefIdeal.nD Cert.ProjCRefIdeal.τ).loc Cert.ProjCRefIdeal.main_v11) = v1 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1)
          ∧ r.2.mem ((c.tc : Thread Cert.ProjCRefIdeal.nD Cert.ProjCRefIdeal.τ).loc Cert.ProjCRefIdeal.main_arg2) = m' ((c.tc : Thread Cert.ProjCRefIdeal.nD Cert.ProjCRefIdeal.τ).loc Cert.ProjCRefIdeal.main_arg2))

def preserves_ProjGla_ProjGlaIdeal : Prop :=
  True

def algebraic_ProjGlaIdeal_ProjGlaRefIdeal [hProjGlaIdeal : Cert.ProjGlaIdeal.Facts] [hProjGlaRefIdeal : Cert.ProjGlaRefIdeal.Facts] : Prop :=
  ∀ (m : (ℓ : Loc Cert.ProjGlaIdeal.nD Cert.ProjGlaIdeal.τ Cert.ProjGlaIdeal.sig) → Buf (Elt Ideal) ℓ) (g : Dev Cert.ProjGlaIdeal.nD → PrngReg)
    (m' : (ℓ : Loc Cert.ProjGlaRefIdeal.nD Cert.ProjGlaRefIdeal.τ Cert.ProjGlaRefIdeal.sig) → Buf (Elt Ideal) ℓ) (g' : Dev Cert.ProjGlaRefIdeal.nD → PrngReg), Pre_ProjGlaIdeal m →
    (∀ c : Dev Cert.ProjGlaIdeal.nD,
      m' ((c.tc : Thread Cert.ProjGlaRefIdeal.nD Cert.ProjGlaRefIdeal.τ).loc Cert.ProjGlaRefIdeal.main_arg0) = m ((c.tc : Thread Cert.ProjGlaIdeal.nD Cert.ProjGlaIdeal.τ).loc Cert.ProjGlaIdeal.main_arg0)
      ∧ m' ((c.tc : Thread Cert.ProjGlaRefIdeal.nD Cert.ProjGlaRefIdeal.τ).loc Cert.ProjGlaRefIdeal.main_arg1) = m ((c.tc : Thread Cert.ProjGlaIdeal.nD Cert.ProjGlaIdeal.τ).loc Cert.ProjGlaIdeal.main_arg1)) →
    ∃ (v0 : (c : Dev Cert.ProjGlaIdeal.nD) → Buf (Elt Ideal) ((c.tc : Thread Cert.ProjGlaIdeal.nD Cert.ProjGlaIdeal.τ).loc Cert.ProjGlaIdeal.main_v2)),
      θ_run (Cert.ProjGlaIdeal.defs (F := Ideal)) (onTc (τ := Cert.ProjGlaIdeal.τ) (Cert.ProjGlaIdeal.main (F := Ideal))) ⟨m, fun _ => 0, g⟩ (fun r => ∀ c : Dev Cert.ProjGlaIdeal.nD,
          r.2.mem ((c.tc : Thread Cert.ProjGlaIdeal.nD Cert.ProjGlaIdeal.τ).loc Cert.ProjGlaIdeal.main_v2) = v0 c
          ∧ r.2.mem ((c.tc : Thread Cert.ProjGlaIdeal.nD Cert.ProjGlaIdeal.τ).loc Cert.ProjGlaIdeal.main_arg0) = m ((c.tc : Thread Cert.ProjGlaIdeal.nD Cert.ProjGlaIdeal.τ).loc Cert.ProjGlaIdeal.main_arg0)
          ∧ r.2.mem ((c.tc : Thread Cert.ProjGlaIdeal.nD Cert.ProjGlaIdeal.τ).loc Cert.ProjGlaIdeal.main_arg1) = m ((c.tc : Thread Cert.ProjGlaIdeal.nD Cert.ProjGlaIdeal.τ).loc Cert.ProjGlaIdeal.main_arg1))
      ∧ θ_run (Cert.ProjGlaRefIdeal.defs (F := Ideal)) (onTc (τ := Cert.ProjGlaRefIdeal.τ) (Cert.ProjGlaRefIdeal.main (F := Ideal))) ⟨m', fun _ => 0, g'⟩ (fun r => ∀ c : Dev Cert.ProjGlaRefIdeal.nD,
          r.2.mem ((c.tc : Thread Cert.ProjGlaRefIdeal.nD Cert.ProjGlaRefIdeal.τ).loc Cert.ProjGlaRefIdeal.main_v4) = v0 c
          ∧ r.2.mem ((c.tc : Thread Cert.ProjGlaRefIdeal.nD Cert.ProjGlaRefIdeal.τ).loc Cert.ProjGlaRefIdeal.main_arg0) = m' ((c.tc : Thread Cert.ProjGlaRefIdeal.nD Cert.ProjGlaRefIdeal.τ).loc Cert.ProjGlaRefIdeal.main_arg0)
          ∧ r.2.mem ((c.tc : Thread Cert.ProjGlaRefIdeal.nD Cert.ProjGlaRefIdeal.τ).loc Cert.ProjGlaRefIdeal.main_arg1) = m' ((c.tc : Thread Cert.ProjGlaRefIdeal.nD Cert.ProjGlaRefIdeal.τ).loc Cert.ProjGlaRefIdeal.main_arg1))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v2)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v2) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v4) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v7) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal_pre_softmax_state [hMergeIdeal : Cert.MergeIdeal.Facts] [hMergeRefIdeal : Cert.MergeRefIdeal.Facts] [hPre_softmax_state : Cert.Pre_softmax_state.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_softmax_state m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v125) = v0 c
          ∧ r.2.mem ((c.tc : Thread Cert.MergeRefIdeal.nD Cert.MergeRefIdeal.τ).loc Cert.MergeRefIdeal.main_v127) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15))

def preserves_AttC_AttCIdeal : Prop :=
  IdealRules.named_const.Statement Cert.AttCIdeal.κ "mask" .f32 0xF149F2CA#32 ⊥

def algebraic_AttCIdeal_AttCRefIdeal [hAttCIdeal : Cert.AttCIdeal.Facts] [hAttCRefIdeal : Cert.AttCRefIdeal.Facts] : Prop :=
  ∀ (m : (ℓ : Loc Cert.AttCIdeal.nD Cert.AttCIdeal.τ Cert.AttCIdeal.sig) → Buf (Elt Ideal) ℓ) (g : Dev Cert.AttCIdeal.nD → PrngReg)
    (m' : (ℓ : Loc Cert.AttCRefIdeal.nD Cert.AttCRefIdeal.τ Cert.AttCRefIdeal.sig) → Buf (Elt Ideal) ℓ) (g' : Dev Cert.AttCRefIdeal.nD → PrngReg), Pre_AttCIdeal m →
    (∀ c : Dev Cert.AttCIdeal.nD,
      m' ((c.tc : Thread Cert.AttCRefIdeal.nD Cert.AttCRefIdeal.τ).loc Cert.AttCRefIdeal.main_arg0) = m ((c.tc : Thread Cert.AttCIdeal.nD Cert.AttCIdeal.τ).loc Cert.AttCIdeal.main_arg0)
      ∧ m' ((c.tc : Thread Cert.AttCRefIdeal.nD Cert.AttCRefIdeal.τ).loc Cert.AttCRefIdeal.main_arg1) = m ((c.tc : Thread Cert.AttCIdeal.nD Cert.AttCIdeal.τ).loc Cert.AttCIdeal.main_arg1)
      ∧ m' ((c.tc : Thread Cert.AttCRefIdeal.nD Cert.AttCRefIdeal.τ).loc Cert.AttCRefIdeal.main_arg2) = m ((c.tc : Thread Cert.AttCIdeal.nD Cert.AttCIdeal.τ).loc Cert.AttCIdeal.main_arg2)) →
    ∃ (v0 : (c : Dev Cert.AttCIdeal.nD) → Buf (Elt Ideal) ((c.tc : Thread Cert.AttCIdeal.nD Cert.AttCIdeal.τ).loc Cert.AttCIdeal.main_v28_0)) (v1 : (c : Dev Cert.AttCIdeal.nD) → Buf (Elt Ideal) ((c.tc : Thread Cert.AttCIdeal.nD Cert.AttCIdeal.τ).loc Cert.AttCIdeal.main_v28_1)),
      θ_run (Cert.AttCIdeal.defs (F := Ideal)) (onTc (τ := Cert.AttCIdeal.τ) (Cert.AttCIdeal.main (F := Ideal))) ⟨m, fun _ => 0, g⟩ (fun r => ∀ c : Dev Cert.AttCIdeal.nD,
          r.2.mem ((c.tc : Thread Cert.AttCIdeal.nD Cert.AttCIdeal.τ).loc Cert.AttCIdeal.main_v28_0) = v0 c
          ∧ r.2.mem ((c.tc : Thread Cert.AttCIdeal.nD Cert.AttCIdeal.τ).loc Cert.AttCIdeal.main_v28_1) = v1 c
          ∧ r.2.mem ((c.tc : Thread Cert.AttCIdeal.nD Cert.AttCIdeal.τ).loc Cert.AttCIdeal.main_arg0) = m ((c.tc : Thread Cert.AttCIdeal.nD Cert.AttCIdeal.τ).loc Cert.AttCIdeal.main_arg0)
          ∧ r.2.mem ((c.tc : Thread Cert.AttCIdeal.nD Cert.AttCIdeal.τ).loc Cert.AttCIdeal.main_arg1) = m ((c.tc : Thread Cert.AttCIdeal.nD Cert.AttCIdeal.τ).loc Cert.AttCIdeal.main_arg1)
          ∧ r.2.mem ((c.tc : Thread Cert.AttCIdeal.nD Cert.AttCIdeal.τ).loc Cert.AttCIdeal.main_arg2) = m ((c.tc : Thread Cert.AttCIdeal.nD Cert.AttCIdeal.τ).loc Cert.AttCIdeal.main_arg2))
      ∧ θ_run (Cert.AttCRefIdeal.defs (F := Ideal)) (onTc (τ := Cert.AttCRefIdeal.τ) (Cert.AttCRefIdeal.main (F := Ideal))) ⟨m', fun _ => 0, g'⟩ (fun r => ∀ c : Dev Cert.AttCRefIdeal.nD,
          r.2.mem ((c.tc : Thread Cert.AttCRefIdeal.nD Cert.AttCRefIdeal.τ).loc Cert.AttCRefIdeal.main_v185) = v0 c
          ∧ r.2.mem ((c.tc : Thread Cert.AttCRefIdeal.nD Cert.AttCRefIdeal.τ).loc Cert.AttCRefIdeal.main_v183) = v1 c
          ∧ r.2.mem ((c.tc : Thread Cert.AttCRefIdeal.nD Cert.AttCRefIdeal.τ).loc Cert.AttCRefIdeal.main_arg0) = m' ((c.tc : Thread Cert.AttCRefIdeal.nD Cert.AttCRefIdeal.τ).loc Cert.AttCRefIdeal.main_arg0)
          ∧ r.2.mem ((c.tc : Thread Cert.AttCRefIdeal.nD Cert.AttCRefIdeal.τ).loc Cert.AttCRefIdeal.main_arg1) = m' ((c.tc : Thread Cert.AttCRefIdeal.nD Cert.AttCRefIdeal.τ).loc Cert.AttCRefIdeal.main_arg1)
          ∧ r.2.mem ((c.tc : Thread Cert.AttCRefIdeal.nD Cert.AttCRefIdeal.τ).loc Cert.AttCRefIdeal.main_arg2) = m' ((c.tc : Thread Cert.AttCRefIdeal.nD Cert.AttCRefIdeal.τ).loc Cert.AttCRefIdeal.main_arg2))

def Claim : Prop :=
  ∃ (hXnorm : Cert.Xnorm.Facts) (hXnormIdeal : Cert.XnormIdeal.Facts) (hXnormRefIdeal : Cert.XnormRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hProjC : Cert.ProjC.Facts) (hProjCIdeal : Cert.ProjCIdeal.Facts) (hProjCRefIdeal : Cert.ProjCRefIdeal.Facts) (hProjGla : Cert.ProjGla.Facts) (hProjGlaIdeal : Cert.ProjGlaIdeal.Facts) (hProjGlaRefIdeal : Cert.ProjGlaRefIdeal.Facts) (hProjGates : Cert.ProjGates.Facts) (hProjGatesIdeal : Cert.ProjGatesIdeal.Facts) (hProjGatesRefIdeal : Cert.ProjGatesRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hAttC : Cert.AttC.Facts) (hAttCIdeal : Cert.AttCIdeal.Facts) (hAttCRefIdeal : Cert.AttCRefIdeal.Facts) (hPre_softmax_state : Cert.Pre_softmax_state.Facts),
    quiescent_Xnorm (hXnorm := hXnorm)
    ∧ quiescent_XnormIdeal (hXnormIdeal := hXnormIdeal)
    ∧ quiescent_XnormRefIdeal (hXnormRefIdeal := hXnormRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_ProjGla (hProjGla := hProjGla)
    ∧ quiescent_ProjGlaIdeal (hProjGlaIdeal := hProjGlaIdeal)
    ∧ quiescent_ProjGlaRefIdeal (hProjGlaRefIdeal := hProjGlaRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeIdeal_pre_softmax_state (hMergeIdeal := hMergeIdeal) (hPre_softmax_state := hPre_softmax_state)
    ∧ quiescent_MergeRefIdeal (hMergeRefIdeal := hMergeRefIdeal)
    ∧ quiescent_MergeRefIdeal_pre_softmax_state (hMergeRefIdeal := hMergeRefIdeal) (hPre_softmax_state := hPre_softmax_state)
    ∧ quiescent_AttC (hAttC := hAttC)
    ∧ quiescent_AttCIdeal (hAttCIdeal := hAttCIdeal)
    ∧ quiescent_AttCRefIdeal (hAttCRefIdeal := hAttCRefIdeal)
    ∧ preserves_Xnorm_XnormIdeal
    ∧ algebraic_XnormIdeal_XnormRefIdeal (hXnormIdeal := hXnormIdeal) (hXnormRefIdeal := hXnormRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_ProjC_ProjCIdeal
    ∧ algebraic_ProjCIdeal_ProjCRefIdeal (hProjCIdeal := hProjCIdeal) (hProjCRefIdeal := hProjCRefIdeal)
    ∧ preserves_ProjGla_ProjGlaIdeal
    ∧ algebraic_ProjGlaIdeal_ProjGlaRefIdeal (hProjGlaIdeal := hProjGlaIdeal) (hProjGlaRefIdeal := hProjGlaRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal_pre_softmax_state (hMergeIdeal := hMergeIdeal) (hMergeRefIdeal := hMergeRefIdeal) (hPre_softmax_state := hPre_softmax_state)
    ∧ preserves_AttC_AttCIdeal
    ∧ algebraic_AttCIdeal_AttCRefIdeal (hAttCIdeal := hAttCIdeal) (hAttCRefIdeal := hAttCRefIdeal)
-- ==== Pre_softmax_state.lean ====
abbrev S4x1x2048x1024 : Shape := ⟨4, ![4, 1, 2048, 1024]⟩
abbrev S4x4x512x1024 : Shape := ⟨4, ![4, 4, 512, 1024]⟩
abbrev S4x16x128x1024 : Shape := ⟨4, ![4, 16, 128, 1024]⟩
abbrev S4x1x2048x128 : Shape := ⟨4, ![4, 1, 2048, 128]⟩
abbrev S4x4x512x128 : Shape := ⟨4, ![4, 4, 512, 128]⟩
abbrev S4x16x128x128 : Shape := ⟨4, ![4, 16, 128, 128]⟩
abbrev S4x2048x2048 : Shape := ⟨3, ![4, 2048, 2048]⟩
abbrev S8192x6144 : Shape := ⟨2, ![8192, 6144]⟩
abbrev S8192x4096 : Shape := ⟨2, ![8192, 4096]⟩
abbrev S1x1024x2048 : Shape := ⟨3, ![1, 1024, 2048]⟩
abbrev S1x2048x2048 : Shape := ⟨3, ![1, 2048, 2048]⟩
abbrev S1x512 : Shape := ⟨2, ![1, 512]⟩
abbrev S1x2048 : Shape := ⟨2, ![1, 2048]⟩
abbrev S4x1x2048x16 : Shape := ⟨4, ![4, 1, 2048, 16]⟩
abbrev S_ : Shape := ⟨0, ![]⟩
abbrev S4x1x2048x8 : Shape := ⟨4, ![4, 1, 2048, 8]⟩
abbrev S4x4x512x16 : Shape := ⟨4, ![4, 4, 512, 16]⟩
abbrev S4x4x512x8 : Shape := ⟨4, ![4, 4, 512, 8]⟩
abbrev S4x16x128x16 : Shape := ⟨4, ![4, 16, 128, 16]⟩
abbrev S4x16x128x8 : Shape := ⟨4, ![4, 16, 128, 8]⟩

class Facts : Prop where
  slices_S4x1x2048x128_S4x1x2048x16_0_0_0_0 : S4x1x2048x128.Slices ![0, 0, 0, 0] S4x1x2048x16
  bcast_S_S4x1x2048x16 : S_.BroadcastsInDim S4x1x2048x16 (![] : Fin 0 → Fin S4x1x2048x16.rank)
  slices_S4x1x2048x128_S4x1x2048x8_0_0_0_8 : S4x1x2048x128.Slices ![0, 0, 0, 8] S4x1x2048x8
  bcast_S_S4x1x2048x8 : S_.BroadcastsInDim S4x1x2048x8 (![] : Fin 0 → Fin S4x1x2048x8.rank)
  slices_S4x4x512x128_S4x4x512x16_0_0_0_0 : S4x4x512x128.Slices ![0, 0, 0, 0] S4x4x512x16
  bcast_S_S4x4x512x16 : S_.BroadcastsInDim S4x4x512x16 (![] : Fin 0 → Fin S4x4x512x16.rank)
  slices_S4x4x512x128_S4x4x512x8_0_0_0_8 : S4x4x512x128.Slices ![0, 0, 0, 8] S4x4x512x8
  bcast_S_S4x4x512x8 : S_.BroadcastsInDim S4x4x512x8 (![] : Fin 0 → Fin S4x4x512x8.rank)
  slices_S4x16x128x128_S4x16x128x16_0_0_0_0 : S4x16x128x128.Slices ![0, 0, 0, 0] S4x16x128x16
  bcast_S_S4x16x128x16 : S_.BroadcastsInDim S4x16x128x16 (![] : Fin 0 → Fin S4x16x128x16.rank)
  slices_S4x16x128x128_S4x16x128x8_0_0_0_8 : S4x16x128x128.Slices ![0, 0, 0, 8] S4x16x128x8
  bcast_S_S4x16x128x8 : S_.BroadcastsInDim S4x16x128x8 (![] : Fin 0 → Fin S4x16x128x8.rank)

variable [Facts]

def fn_part1 {F : FTy → Type} [FloatOps F] (main_v3 : IVec S4x1x2048x16 1) (main_v6 : IVec S4x1x2048x8 1) (main_v10 : IVec S4x4x512x16 1) (main_v13 : IVec S4x4x512x8 1) (main_v17 : IVec S4x16x128x16 1) (main_v18 : FVec F S4x16x128x8 .f32) : IVec S4x1x2048x16 1 × IVec S4x1x2048x8 1 × IVec S4x4x512x16 1 × IVec S4x4x512x8 1 × IVec S4x16x128x16 1 × IVec S4x16x128x8 1 :=
  let main_cst_4 : FVec F S_ .f32 := constant S_ .f32 0x00000000#32
  let main_v19 : FVec F S4x16x128x8 .f32 := broadcastInDim S4x16x128x8 ![] bcast_S_S4x16x128x8 main_cst_4
  let main_v20 : IVec S4x16x128x8 1 := cmpf .ogt main_v18 main_v19
  (main_v3, main_v6, main_v10, main_v13, main_v17, main_v20)

def fn {F : FTy → Type} [FloatOps F] (main_arg0 : FVec F S4x1x2048x1024 .bf16) (main_arg1 : FVec F S4x4x512x1024 .bf16) (main_arg2 : FVec F S4x16x128x1024 .bf16) (main_arg3 : FVec F S4x1x2048x128 .f32) (main_arg4 : FVec F S4x4x512x128 .f32) (main_arg5 : FVec F S4x16x128x128 .f32) (main_arg6 : FVec F S4x2048x2048 .bf16) (main_arg7 : FVec F S4x2048x2048 .bf16) (main_arg8 : FVec F S8192x6144 .bf16) (main_arg9 : FVec F S8192x4096 .bf16) (main_arg10 : FVec F S4x2048x2048 .f32) (main_arg11 : FVec F S1x1024x2048 .f32) (main_arg12 : FVec F S1x2048x2048 .f32) (main_arg13 : FVec F S1x2048x2048 .f32) (main_arg14 : FVec F S1x512 .f32) (main_arg15 : FVec F S1x2048 .f32) : IVec S4x1x2048x16 1 × IVec S4x1x2048x8 1 × IVec S4x4x512x16 1 × IVec S4x4x512x8 1 × IVec S4x16x128x16 1 × IVec S4x16x128x8 1 :=
  let main_v0 : FVec F S4x1x2048x16 .f32 := (extractStridedSlice S4x1x2048x16 ![0, 0, 0, 0] · slices_S4x1x2048x128_S4x1x2048x16_0_0_0_0) main_arg3
  let main_v1 : FVec F S4x1x2048x16 .f32 := Host.absf main_v0
  let main_cst : FVec F S_ .f32 := constant S_ .f32 0x7F800000#32
  let main_v2 : FVec F S4x1x2048x16 .f32 := broadcastInDim S4x1x2048x16 ![] bcast_S_S4x1x2048x16 main_cst
  let main_v3 : IVec S4x1x2048x16 1 := cmpf .olt main_v1 main_v2
  let main_v4 : FVec F S4x1x2048x8 .f32 := (extractStridedSlice S4x1x2048x8 ![0, 0, 0, 8] · slices_S4x1x2048x128_S4x1x2048x8_0_0_0_8) main_arg3
  let main_cst_0 : FVec F S_ .f32 := constant S_ .f32 0x00000000#32
  let main_v5 : FVec F S4x1x2048x8 .f32 := broadcastInDim S4x1x2048x8 ![] bcast_S_S4x1x2048x8 main_cst_0
  let main_v6 : IVec S4x1x2048x8 1 := cmpf .ogt main_v4 main_v5
  let main_v7 : FVec F S4x4x512x16 .f32 := (extractStridedSlice S4x4x512x16 ![0, 0, 0, 0] · slices_S4x4x512x128_S4x4x512x16_0_0_0_0) main_arg4
  let main_v8 : FVec F S4x4x512x16 .f32 := Host.absf main_v7
  let main_cst_1 : FVec F S_ .f32 := constant S_ .f32 0x7F800000#32
  let main_v9 : FVec F S4x4x512x16 .f32 := broadcastInDim S4x4x512x16 ![] bcast_S_S4x4x512x16 main_cst_1
  let main_v10 : IVec S4x4x512x16 1 := cmpf .olt main_v8 main_v9
  let main_v11 : FVec F S4x4x512x8 .f32 := (extractStridedSlice S4x4x512x8 ![0, 0, 0, 8] · slices_S4x4x512x128_S4x4x512x8_0_0_0_8) main_arg4
  let main_cst_2 : FVec F S_ .f32 := constant S_ .f32 0x00000000#32
  let main_v12 : FVec F S4x4x512x8 .f32 := broadcastInDim S4x4x512x8 ![] bcast_S_S4x4x512x8 main_cst_2
  let main_v13 : IVec S4x4x512x8 1 := cmpf .ogt main_v11 main_v12
  let main_v14 : FVec F S4x16x128x16 .f32 := (extractStridedSlice S4x16x128x16 ![0, 0, 0, 0] · slices_S4x16x128x128_S4x16x128x16_0_0_0_0) main_arg5
  let main_v15 : FVec F S4x16x128x16 .f32 := Host.absf main_v14
  let main_cst_3 : FVec F S_ .f32 := constant S_ .f32 0x7F800000#32
  let main_v16 : FVec F S4x16x128x16 .f32 := broadcastInDim S4x16x128x16 ![] bcast_S_S4x16x128x16 main_cst_3
  let main_v17 : IVec S4x16x128x16 1 := cmpf .olt main_v15 main_v16
  let main_v18 : FVec F S4x16x128x8 .f32 := (extractStridedSlice S4x16x128x8 ![0, 0, 0, 8] · slices_S4x16x128x128_S4x16x128x8_0_0_0_8) main_arg5
  fn_part1 (F := F) main_v3 main_v6 main_v10 main_v13 main_v17 main_v18
-- ==== Xnorm.lean ====
abbrev S4x2048x2048 : Shape := ⟨3, ![4, 2048, 2048]⟩
abbrev S1x2048 : Shape := ⟨2, ![1, 2048]⟩
abbrev S1x2048x19488 : Shape := ⟨3, ![1, 2048, 19488]⟩
abbrev S8192x2048 : Shape := ⟨2, ![8192, 2048]⟩
abbrev S2048 : Shape := ⟨1, ![2048]⟩
abbrev S2048x19488 : Shape := ⟨2, ![2048, 19488]⟩
abbrev S19488x2048 : Shape := ⟨2, ![19488, 2048]⟩
abbrev S8192x128 : Shape := ⟨2, ![8192, 128]⟩
abbrev S512x2048 : Shape := ⟨2, ![512, 2048]⟩
abbrev S128x2048 : Shape := ⟨2, ![128, 2048]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x19488, .f32⟩
  | .hbm, ⟨3, _⟩ => ⟨S8192x2048, .f32⟩
  | .hbm, ⟨4, _⟩ => ⟨S2048, .f32⟩
  | .hbm, ⟨5, _⟩ => ⟨S1x2048, .f32⟩
  | .hbm, ⟨6, _⟩ => ⟨S2048x19488, .f32⟩
  | .hbm, ⟨7, _⟩ => ⟨S19488x2048, .f32⟩
  | .hbm, ⟨8, _⟩ => ⟨S8192x2048, .bf16⟩
  | .hbm, ⟨9, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S128x2048, .f32⟩
  | .local _ .vmem, ⟨4, _⟩ => ⟨S512x2048, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15360_i32 : BitVec 32 := 15360#32
  let c0_i32 : BitVec 32 := 0#32
  let c0_i32_0 : BitVec 32 := 0#32
  ![c15360_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XnormRefIdeal.lean ====
abbrev S4x2048x2048 : Shape := ⟨3, ![4, 2048, 2048]⟩
abbrev S1x2048 : Shape := ⟨2, ![1, 2048]⟩
abbrev S1x2048x19488 : Shape := ⟨3, ![1, 2048, 19488]⟩
abbrev S_ : Shape := ⟨0, ![]⟩
abbrev S4x2048 : Shape := ⟨2, ![4, 2048]⟩
abbrev S4x2048x1 : Shape := ⟨3, ![4, 2048, 1]⟩
abbrev S2048 : Shape := ⟨1, ![2048]⟩
abbrev S1x1x2048 : Shape := ⟨3, ![1, 1, 2048]⟩
abbrev S8192x2048 : Shape := ⟨2, ![8192, 2048]⟩
abbrev S2048x19488 : Shape := ⟨2, ![2048, 19488]⟩
abbrev S2048x128 : Shape := ⟨2, ![2048, 128]⟩
abbrev S8192x128 : Shape := ⟨2, ![8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x19488, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S8192x2048, .f32⟩
  | .hbm, ⟨21, _⟩ => ⟨S8192x2048, .bf16⟩
  | .hbm, ⟨22, _⟩ => ⟨S2048x19488, .f32⟩
  | .hbm, ⟨23, _⟩ => ⟨S2048x128, .f32⟩
  | .hbm, ⟨24, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== ProjA.lean ====
abbrev S8192x2048 : Shape := ⟨2, ![8192, 2048]⟩
abbrev S1x2048x19488 : Shape := ⟨3, ![1, 2048, 19488]⟩
abbrev S2048x19488 : Shape := ⟨2, ![2048, 19488]⟩
abbrev S19488x2048 : Shape := ⟨2, ![19488, 2048]⟩
abbrev S8192x3072 : Shape := ⟨2, ![8192, 3072]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x19488, .f32⟩
  | .hbm, ⟨2, _⟩ => ⟨S2048x19488, .f32⟩
  | .hbm, ⟨3, _⟩ => ⟨S19488x2048, .f32⟩
  | .hbm, ⟨4, _⟩ => ⟨S8192x3072, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_mult1 (i : grid0.Coords) : BitVec 32 :=
  let arg0 : BitVec 32 := BitVec.ofNat 32 (i 0).val
  let c3072_i32 : BitVec 32 := 3072#32
  let v0 : BitVec 32 := Scalar.muli arg0 c3072_i32
  let c0_i32 : BitVec 32 := 0#32
  let v1 : BitVec 32 := Scalar.addi v0 c0_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3072_i32 : BitVec 32 := 3072#32
  let v0 : BitVec 32 := Scalar.muli arg0 c3072_i32
  let c0_i32 : BitVec 32 := 0#32
  let v1 : BitVec 32 := Scalar.addi v0 c0_i32
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjARefIdeal.lean ====
abbrev S8192x2048 : Shape := ⟨2, ![8192, 2048]⟩
abbrev S1x2048x19488 : Shape := ⟨3, ![1, 2048, 19488]⟩
abbrev S2048x19488 : Shape := ⟨2, ![2048, 19488]⟩
abbrev S8192x19488 : Shape := ⟨2, ![8192, 19488]⟩
abbrev S8192x9216 : Shape := ⟨2, ![8192, 9216]⟩
abbrev S4x2048x1x3x3x1024 : Shape := ⟨6, ![4, 2048, 1, 3, 3, 1024]⟩
abbrev S4x2048x1x3x1x1024 : Shape := ⟨6, ![4, 2048, 1, 3, 1, 1024]⟩
abbrev S4x2048x1x3x1024 : Shape := ⟨5, ![4, 2048, 1, 3, 1024]⟩
abbrev S4x1x2048x3x1024 : Shape := ⟨5, ![4, 1, 2048, 3, 1024]⟩
abbrev S4x1x2048x3072 : Shape := ⟨4, ![4, 1, 2048, 3072]⟩
abbrev S8192x3072 : Shape := ⟨2, ![8192, 3072]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x19488, .f32⟩
  | .hbm, ⟨2, _⟩ => ⟨S8192x2048, .f32⟩
  | .hbm, ⟨3, _⟩ => ⟨S2048x19488, .f32⟩
  | .hbm, ⟨4, _⟩ => ⟨S8192x19488, .f32⟩
  | .hbm, ⟨5, _⟩ => ⟨S8192x9216, .f32⟩
  | .hbm, ⟨6, _⟩ => ⟨S4x2048x1x3x3x1024, .f32⟩
  | .hbm, ⟨7, _⟩ => ⟨S4x2048x1x3x1x1024, .f32⟩
  | .hbm, ⟨8, _⟩ => ⟨S4x2048x1x3x1024, .f32⟩
  | .hbm, ⟨9, _⟩ => ⟨S4x1x2048x3x1024, .f32⟩
  | .hbm, ⟨10, _⟩ => ⟨S4x1x2048x3072, .f32⟩
  | .hbm, ⟨11, _⟩ => ⟨S4x1x2048x3072, .bf16⟩
  | .hbm, ⟨12, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== ProjB.lean ====
abbrev S8192x2048 : Shape := ⟨2, ![8192, 2048]⟩
abbrev S1x2048x19488 : Shape := ⟨3, ![1, 2048, 19488]⟩
abbrev S1x2048x8192 : Shape := ⟨3, ![1, 2048, 8192]⟩
abbrev S2048x19488 : Shape := ⟨2, ![2048, 19488]⟩
abbrev S19488x2048 : Shape := ⟨2, ![19488, 2048]⟩
abbrev S2048x8192 : Shape := ⟨2, ![2048, 8192]⟩
abbrev S4x4x512x3072 : Shape := ⟨4, ![4, 4, 512, 3072]⟩
abbrev S1024x2048 : Shape := ⟨2, ![1024, 2048]⟩
abbrev S2048x512 : Shape := ⟨2, ![2048, 512]⟩
abbrev S1x4x256x1024 : Shape := ⟨4, ![1, 4, 256, 1024]⟩
abbrev S1024x1024 : Shape := ⟨2, ![1024, 1024]⟩
abbrev S256x256 : Shape := ⟨2, ![256, 256]⟩
abbrev S256x1024 : Shape := ⟨2, ![256, 1024]⟩
abbrev S64x1024 : Shape := ⟨2, ![64, 1024]⟩
abbrev S1x1x64x1024 : Shape := ⟨4, ![1, 1, 64, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x19488, .f32⟩
  | .hbm, ⟨2, _⟩ => ⟨S1x2048x8192, .f32⟩
  | .hbm, ⟨3, _⟩ => ⟨S2048x19488, .f32⟩
  | .hbm, ⟨4, _⟩ => ⟨S19488x2048, .f32⟩
  | .hbm, ⟨5, _⟩ => ⟨S2048x8192, .f32⟩
  | .hbm, ⟨6, _⟩ => ⟨S4x4x512x3072, .bf16⟩
  | .hbm, ⟨7, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x512, .f32⟩
  | .local _ .vmem, ⟨5, _⟩ => ⟨S2048x512, .f32⟩
  | .local _ .vmem, ⟨6, _⟩ => ⟨S1x4x256x1024, .bf16⟩
  | .local _ .vmem, ⟨7, _⟩ => ⟨S1x4x256x1024, .bf16⟩
  | .local _ .vmem, ⟨8, _⟩ => ⟨S2048x512, .bf16⟩
  | .local _ .vmem, ⟨9, _⟩ => ⟨S2048x512, .bf16⟩
  | .local _ .vmem, ⟨10, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let arg0 : BitVec 32 := BitVec.ofNat 32 (i 0).val
  let c3072_i32 : BitVec 32 := 3072#32
  let v0 : BitVec 32 := Scalar.muli arg0 c3072_i32
  let c1024_i32 : BitVec 32 := 1024#32
  let v1 : BitVec 32 := Scalar.addi v0 c1024_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3072_i32 : BitVec 32 := 3072#32
  let v0 : BitVec 32 := Scalar.muli arg0 c3072_i32
  let c1024_i32 : BitVec 32 := 1024#32
  let v1 : BitVec 32 := Scalar.addi v0 c1024_i32
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![c0_i32.toNat, v2.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![c0_i32.toNat, v2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjBRefIdeal.lean ====
abbrev S8192x2048 : Shape := ⟨2, ![8192, 2048]⟩
abbrev S1x2048x19488 : Shape := ⟨3, ![1, 2048, 19488]⟩
abbrev S1x2048x8192 : Shape := ⟨3, ![1, 2048, 8192]⟩
abbrev S2048x19488 : Shape := ⟨2, ![2048, 19488]⟩
abbrev S8192x19488 : Shape := ⟨2, ![8192, 19488]⟩
abbrev S8192x9216 : Shape := ⟨2, ![8192, 9216]⟩
abbrev S4x512x4x3x3x1024 : Shape := ⟨6, ![4, 512, 4, 3, 3, 1024]⟩
abbrev S4x512x4x3x1x1024 : Shape := ⟨6, ![4, 512, 4, 3, 1, 1024]⟩
abbrev S4x512x4x3x1024 : Shape := ⟨5, ![4, 512, 4, 3, 1024]⟩
abbrev S4x4x512x3x1024 : Shape := ⟨5, ![4, 4, 512, 3, 1024]⟩
abbrev S4x4x512x3072 : Shape := ⟨4, ![4, 4, 512, 3072]⟩
abbrev S2048x8192 : Shape := ⟨2, ![2048, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x19488, .f32⟩
  | .hbm, ⟨2, _⟩ => ⟨S1x2048x8192, .f32⟩
  | .hbm, ⟨3, _⟩ => ⟨S8192x2048, .f32⟩
  | .hbm, ⟨4, _⟩ => ⟨S2048x19488, .f32⟩
  | .hbm, ⟨5, _⟩ => ⟨S8192x19488, .f32⟩
  | .hbm, ⟨6, _⟩ => ⟨S8192x9216, .f32⟩
  | .hbm, ⟨7, _⟩ => ⟨S4x512x4x3x3x1024, .f32⟩
  | .hbm, ⟨8, _⟩ => ⟨S4x512x4x3x1x1024, .f32⟩
  | .hbm, ⟨9, _⟩ => ⟨S4x512x4x3x1024, .f32⟩
  | .hbm, ⟨10, _⟩ => ⟨S4x4x512x3x1024, .f32⟩
  | .hbm, ⟨11, _⟩ => ⟨S4x4x512x3072, .f32⟩
  | .hbm, ⟨12, _⟩ => ⟨S4x4x512x3072, .bf16⟩
  | .hbm, ⟨13, _⟩ => ⟨S2048x8192, .f32⟩
  | .hbm, ⟨14, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== ProjC.lean ====
abbrev S8192x2048 : Shape := ⟨2, ![8192, 2048]⟩
abbrev S1x2048x19488 : Shape := ⟨3, ![1, 2048, 19488]⟩
abbrev S1x8192x2048 : Shape := ⟨3, ![1, 8192, 2048]⟩
abbrev S2048x19488 : Shape := ⟨2, ![2048, 19488]⟩
abbrev S19488x2048 : Shape := ⟨2, ![19488, 2048]⟩
abbrev S4x16x128x3072 : Shape := ⟨4, ![4, 16, 128, 3072]⟩
abbrev S1024x2048 : Shape := ⟨2, ![1024, 2048]⟩
abbrev S512x2048 : Shape := ⟨2, ![512, 2048]⟩
abbrev S1x16x64x1024 : Shape := ⟨4, ![1, 16, 64, 1024]⟩
abbrev S1024x1024 : Shape := ⟨2, ![1024, 1024]⟩
abbrev S256x256 : Shape := ⟨2, ![256, 256]⟩
abbrev S256x1024 : Shape := ⟨2, ![256, 1024]⟩
abbrev S16x1024 : Shape := ⟨2, ![16, 1024]⟩
abbrev S1x1x16x1024 : Shape := ⟨4, ![1, 1, 16, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x19488, .f32⟩
  | .hbm, ⟨2, _⟩ => ⟨S1x8192x2048, .f32⟩
  | .hbm, ⟨3, _⟩ => ⟨S2048x19488, .f32⟩
  | .hbm, ⟨4, _⟩ => ⟨S19488x2048, .f32⟩
  | .hbm, ⟨5, _⟩ => ⟨S8192x2048, .f32⟩
  | .hbm, ⟨6, _⟩ => ⟨S4x16x128x3072, .bf16⟩
  | .hbm, ⟨7, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S512x2048, .f32⟩
  | .local _ .vmem, ⟨5, _⟩ => ⟨S512x2048, .f32⟩
  | .local _ .vmem, ⟨6, _⟩ => ⟨S1x16x64x1024, .bf16⟩
  | .local _ .vmem, ⟨7, _⟩ => ⟨S1x16x64x1024, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def k0_mult1 (i : grid0.Coords) : BitVec 32 :=
  let arg0 : BitVec 32 := BitVec.ofNat 32 (i 0).val
  let c3072_i32 : BitVec 32 := 3072#32
  let v0 : BitVec 32 := Scalar.muli arg0 c3072_i32
  let c2048_i32 : BitVec 32 := 2048#32
  let v1 : BitVec 32 := Scalar.addi v0 c2048_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3072_i32 : BitVec 32 := 3072#32
  let v0 : BitVec 32 := Scalar.muli arg0 c3072_i32
  let c2048_i32 : BitVec 32 := 2048#32
  let v1 : BitVec 32 := Scalar.addi v0 c2048_i32
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjCRefIdeal.lean ====
abbrev S8192x2048 : Shape := ⟨2, ![8192, 2048]⟩
abbrev S1x2048x19488 : Shape := ⟨3, ![1, 2048, 19488]⟩
abbrev S1x8192x2048 : Shape := ⟨3, ![1, 8192, 2048]⟩
abbrev S2048x19488 : Shape := ⟨2, ![2048, 19488]⟩
abbrev S8192x19488 : Shape := ⟨2, ![8192, 19488]⟩
abbrev S8192x9216 : Shape := ⟨2, ![8192, 9216]⟩
abbrev S4x128x16x3x3x1024 : Shape := ⟨6, ![4, 128, 16, 3, 3, 1024]⟩
abbrev S4x128x16x3x1x1024 : Shape := ⟨6, ![4, 128, 16, 3, 1, 1024]⟩
abbrev S4x128x16x3x1024 : Shape := ⟨5, ![4, 128, 16, 3, 1024]⟩
abbrev S4x16x128x3x1024 : Shape := ⟨5, ![4, 16, 128, 3, 1024]⟩
abbrev S4x16x128x3072 : Shape := ⟨4, ![4, 16, 128, 3072]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x19488, .f32⟩
  | .hbm, ⟨2, _⟩ => ⟨S1x8192x2048, .f32⟩
  | .hbm, ⟨3, _⟩ => ⟨S8192x2048, .f32⟩
  | .hbm, ⟨4, _⟩ => ⟨S2048x19488, .f32⟩
  | .hbm, ⟨5, _⟩ => ⟨S8192x19488, .f32⟩
  | .hbm, ⟨6, _⟩ => ⟨S8192x9216, .f32⟩
  | .hbm, ⟨7, _⟩ => ⟨S4x128x16x3x3x1024, .f32⟩
  | .hbm, ⟨8, _⟩ => ⟨S4x128x16x3x1x1024, .f32⟩
  | .hbm, ⟨9, _⟩ => ⟨S4x128x16x3x1024, .f32⟩
  | .hbm, ⟨10, _⟩ => ⟨S4x16x128x3x1024, .f32⟩
  | .hbm, ⟨11, _⟩ => ⟨S4x16x128x3072, .f32⟩
  | .hbm, ⟨12, _⟩ => ⟨S4x16x128x3072, .bf16⟩
  | .hbm, ⟨13, _⟩ => ⟨S8192x2048, .f32⟩
  | .hbm, ⟨14, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== ProjGla.lean ====
abbrev S8192x2048 : Shape := ⟨2, ![8192, 2048]⟩
abbrev S1x2048x19488 : Shape := ⟨3, ![1, 2048, 19488]⟩
abbrev S2048x19488 : Shape := ⟨2, ![2048, 19488]⟩
abbrev S19488x2048 : Shape := ⟨2, ![19488, 2048]⟩
abbrev S8192x6144 : Shape := ⟨2, ![8192, 6144]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x19488, .f32⟩
  | .hbm, ⟨2, _⟩ => ⟨S2048x19488, .f32⟩
  | .hbm, ⟨3, _⟩ => ⟨S19488x2048, .f32⟩
  | .hbm, ⟨4, _⟩ => ⟨S8192x6144, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 4], ![false, false]⟩

def k0_mult1 (i : grid0.Coords) : BitVec 32 :=
  let c9216_i32 : BitVec 32 := 9216#32
  let arg0 : BitVec 32 := BitVec.ofNat 32 (i 0).val
  let c1024_i32 : BitVec 32 := 1024#32
  let v0 : BitVec 32 := Scalar.muli arg0 c1024_i32
  let v1 : BitVec 32 := Scalar.addi c9216_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c9216_i32 : BitVec 32 := 9216#32
  let v1 : BitVec 32 := Scalar.addi c9216_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGlaRefIdeal.lean ====
abbrev S8192x2048 : Shape := ⟨2, ![8192, 2048]⟩
abbrev S1x2048x19488 : Shape := ⟨3, ![1, 2048, 19488]⟩
abbrev S2048x19488 : Shape := ⟨2, ![2048, 19488]⟩
abbrev S8192x19488 : Shape := ⟨2, ![8192, 19488]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x19488, .f32⟩
  | .hbm, ⟨2, _⟩ => ⟨S8192x2048, .f32⟩
  | .hbm, ⟨3, _⟩ => ⟨S2048x19488, .f32⟩
  | .hbm, ⟨4, _⟩ => ⟨S8192x19488, .f32⟩
  | .hbm, ⟨5, _⟩ => ⟨S8192x6144, .f32⟩
  | .hbm, ⟨6, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjGates.lean ====
abbrev S8192x2048 : Shape := ⟨2, ![8192, 2048]⟩
abbrev S1x2048x19488 : Shape := ⟨3, ![1, 2048, 19488]⟩
abbrev S2048x19488 : Shape := ⟨2, ![2048, 19488]⟩
abbrev S19488x2048 : Shape := ⟨2, ![19488, 2048]⟩
abbrev S8192x4096 : Shape := ⟨2, ![8192, 4096]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x19488, .f32⟩
  | .hbm, ⟨2, _⟩ => ⟨S2048x19488, .f32⟩
  | .hbm, ⟨3, _⟩ => ⟨S19488x2048, .f32⟩
  | .hbm, ⟨4, _⟩ => ⟨S8192x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let c15392_i32 : BitVec 32 := 15392#32
  let arg0 : BitVec 32 := BitVec.ofNat 32 (i 0).val
  let c1024_i32 : BitVec 32 := 1024#32
  let v0 : BitVec 32 := Scalar.muli arg0 c1024_i32
  let v1 : BitVec 32 := Scalar.addi c15392_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c15392_i32 : BitVec 32 := 15392#32
  let v1 : BitVec 32 := Scalar.addi c15392_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjGatesRefIdeal.lean ====
abbrev S8192x2048 : Shape := ⟨2, ![8192, 2048]⟩
abbrev S1x2048x19488 : Shape := ⟨3, ![1, 2048, 19488]⟩
abbrev S2048x19488 : Shape := ⟨2, ![2048, 19488]⟩
abbrev S8192x19488 : Shape := ⟨2, ![8192, 19488]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x19488, .f32⟩
  | .hbm, ⟨2, _⟩ => ⟨S8192x2048, .f32⟩
  | .hbm, ⟨3, _⟩ => ⟨S2048x19488, .f32⟩
  | .hbm, ⟨4, _⟩ => ⟨S8192x19488, .f32⟩
  | .hbm, ⟨5, _⟩ => ⟨S8192x4096, .f32⟩
  | .hbm, ⟨6, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Ffn.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x8192, .f32⟩
  | .hbm, ⟨3, _⟩ => ⟨S1x8192x2048, .f32⟩
  | .hbm, ⟨4, _⟩ => ⟨S2048x8192, .f32⟩
  | .hbm, ⟨5, _⟩ => ⟨S2048x8192, .bf16⟩
  | .hbm, ⟨6, _⟩ => ⟨S8192x2048, .f32⟩
  | .hbm, ⟨7, _⟩ => ⟨S8192x2048, .bf16⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S8192x2048 : Shape := ⟨2, ![8192, 2048]⟩
abbrev S1x2048x8192 : Shape := ⟨3, ![1, 2048, 8192]⟩
abbrev S1x8192x2048 : Shape := ⟨3, ![1, 8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x8192, .f32⟩
  | .hbm, ⟨3, _⟩ => ⟨S1x8192x2048, .f32⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Merge.lean ====
abbrev S4x1x2048x1024 : Shape := ⟨4, ![4, 1, 2048, 1024]⟩
abbrev S4x4x512x1024 : Shape := ⟨4, ![4, 4, 512, 1024]⟩
abbrev S4x16x128x1024 : Shape := ⟨4, ![4, 16, 128, 1024]⟩
abbrev S4x1x2048x128 : Shape := ⟨4, ![4, 1, 2048, 128]⟩
abbrev S4x4x512x128 : Shape := ⟨4, ![4, 4, 512, 128]⟩
abbrev S4x16x128x128 : Shape := ⟨4, ![4, 16, 128, 128]⟩
abbrev S4x2048x2048 : Shape := ⟨3, ![4, 2048, 2048]⟩
abbrev S8192x6144 : Shape := ⟨2, ![8192, 6144]⟩
abbrev S8192x4096 : Shape := ⟨2, ![8192, 4096]⟩
abbrev S1x1024x2048 : Shape := ⟨3, ![1, 1024, 2048]⟩
abbrev S1x2048x2048 : Shape := ⟨3, ![1, 2048, 2048]⟩
abbrev S1x512 : Shape := ⟨2, ![1, 512]⟩
abbrev S1x2048 : Shape := ⟨2, ![1, 2048]⟩
abbrev S8192x2048 : Shape := ⟨2, ![8192, 2048]⟩
abbrev S1024x2048 : Shape := ⟨2, ![1024, 2048]⟩
abbrev S2048x2048 : Shape := ⟨2, ![2048, 2048]⟩
abbrev S512 : Shape := ⟨1, ![512]⟩
abbrev S2048 : Shape := ⟨1, ![2048]⟩
abbrev S1x1x256x1024 : Shape := ⟨4, ![1, 1, 256, 1024]⟩
abbrev S1x4x64x1024 : Shape := ⟨4, ![1, 4, 64, 1024]⟩
abbrev S1x16x16x1024 : Shape := ⟨4, ![1, 16, 16, 1024]⟩
abbrev S1x1x256x128 : Shape := ⟨4, ![1, 1, 256, 128]⟩
abbrev S1x4x64x128 : Shape := ⟨4, ![1, 4, 64, 128]⟩
abbrev S1x16x16x128 : Shape := ⟨4, ![1, 16, 16, 128]⟩
abbrev S256x2048 : Shape := ⟨2, ![256, 2048]⟩
abbrev S256x1024 : Shape := ⟨2, ![256, 1024]⟩
abbrev S2x8x256x128 : Shape := ⟨4, ![2, 8, 256, 128]⟩
abbrev S2x256x128 : Shape := ⟨3, ![2, 256, 128]⟩
abbrev S1x1x64x128 : Shape := ⟨4, ![1, 1, 64, 128]⟩
abbrev S64x128 : Shape := ⟨2, ![64, 128]⟩
abbrev S1x64x128 : Shape := ⟨3, ![1, 64, 128]⟩
abbrev S1x1x16x128 : Shape := ⟨4, ![1, 1, 16, 128]⟩
abbrev S16x128 : Shape := ⟨2, ![16, 128]⟩
abbrev S1x16x128 : Shape := ⟨3, ![1, 16, 128]⟩
abbrev S256x128 : Shape := ⟨2, ![256, 128]⟩
abbrev S1x256x128 : Shape := ⟨3, ![1, 256, 128]⟩
abbrev S256x1 : Shape := ⟨2, ![256, 1]⟩
abbrev S256x512 : Shape := ⟨2, ![256, 512]⟩
abbrev S256 : Shape := ⟨1, ![256]⟩

abbrev nBuf : Space → Nat
  | .hbm => 31
  | .vmem => 37
  | .smem => 0
  | _ => 0

abbrev bufTy : (tb : Table) → Fin (tcTables nBuf tb) → BufTy
  | .hbm, ⟨0, _⟩ => ⟨S4x1x2048x1024, .bf16⟩
  | .hbm, ⟨1, _⟩ => ⟨S4x4x512x1024, .bf16⟩
  | .hbm, ⟨2, _⟩ => ⟨S4x16x128x1024, .bf16⟩
  | .hbm, ⟨3, _⟩ => ⟨S4x1x2048x128, .f32⟩
  | .hbm, ⟨4, _⟩ => ⟨S4x4x512x128, .f32⟩
  | .hbm, ⟨5, _⟩ => ⟨S4x16x128x128, .f32⟩
  | .hbm, ⟨6, _⟩ => ⟨S4x2048x2048, .bf16⟩
  | .hbm, ⟨7, _⟩ => ⟨S4x2048x2048, .bf16⟩
  | .hbm, ⟨8, _⟩ => ⟨S8192x6144, .bf16⟩
  | .hbm, ⟨9, _⟩ => ⟨S8192x4096, .bf16⟩
  | .hbm, ⟨10, _⟩ => ⟨S4x2048x2048, .f32⟩
  | .hbm, ⟨11, _⟩ => ⟨S1x1024x2048, .f32⟩
  | .hbm, ⟨12, _⟩ => ⟨S1x2048x2048, .f32⟩
  | .hbm, ⟨13, _⟩ => ⟨S1x2048x2048, .f32⟩
  | .hbm, ⟨14, _⟩ => ⟨S1x512, .f32⟩
  | .hbm, ⟨15, _⟩ => ⟨S1x2048, .f32⟩
  | .hbm, ⟨16, _⟩ => ⟨S8192x2048, .bf16⟩
  | .hbm, ⟨17, _⟩ => ⟨S8192x2048, .bf16⟩
  | .hbm, ⟨18, _⟩ => ⟨S8192x2048, .f32⟩
  | .hbm, ⟨19, _⟩ => ⟨S1024x2048, .f32⟩
  | .hbm, ⟨20, _⟩ => ⟨S1024x2048, .bf16⟩
  | .hbm, ⟨21, _⟩ => ⟨S2048x2048, .f32⟩
  | .hbm, ⟨22, _⟩ => ⟨S2048x2048, .bf16⟩
  | .hbm, ⟨23, _⟩ => ⟨S2048x2048, .f32⟩
  | .hbm, ⟨24, _⟩ => ⟨S2048x2048, .bf16⟩
  | .hbm, ⟨25, _⟩ => ⟨S512, .f32⟩
  | .hbm, ⟨26, _⟩ => ⟨S1x512, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .bf16⟩
  | .local _ .vmem, ⟨0, _⟩ => ⟨S1x1x256x1024, .bf16⟩
  | .local _ .vmem, ⟨1, _⟩ => ⟨S1x1x256x1024, .bf16⟩
  | .local _ .vmem, ⟨2, _⟩ => ⟨S1x4x64x1024, .bf16⟩
  | .local _ .vmem, ⟨3, _⟩ => ⟨S1x4x64x1024, .bf16⟩
  | .local _ .vmem, ⟨4, _⟩ => ⟨S1x16x16x1024, .bf16⟩
  | .local _ .vmem, ⟨5, _⟩ => ⟨S1x16x16x1024, .bf16⟩
  | .local _ .vmem, ⟨6, _⟩ => ⟨S1x1x256x128, .f32⟩
  | .local _ .vmem, ⟨7, _⟩ => ⟨S1x1x256x128, .f32⟩
  | .local _ .vmem, ⟨8, _⟩ => ⟨S1x4x64x128, .f32⟩
  | .local _ .vmem, ⟨9, _⟩ => ⟨S1x4x64x128, .f32⟩
  | .local _ .vmem, ⟨10, _⟩ => ⟨S1x16x16x128, .f32⟩
  | .local _ .vmem, ⟨11, _⟩ => ⟨S1x16x16x128, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .f32⟩
  | .local _ .vmem, ⟨23, _⟩ => ⟨S256x2048, .f32⟩
  | .local _ .vmem, ⟨24, _⟩ => ⟨S1024x2048, .bf16⟩
  | .local _ .vmem, ⟨25, _⟩ => ⟨S2048x2048, .bf16⟩
  | .local _ .vmem, ⟨26, _⟩ => ⟨S2048x2048, .bf16⟩
  | .local _ .vmem, ⟨27, _⟩ => ⟨S1x512, .f32⟩
  | .local _ .vmem, ⟨28, _⟩ => ⟨S1x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .bf16⟩
  | .local _ .vmem, ⟨32, _⟩ => ⟨S256x2048, .bf16⟩
  | .local _ .vmem, ⟨33, _⟩ => ⟨S256x1024, .bf16⟩
  | .local _ .vmem, ⟨34, _⟩ => ⟨S256x2048, .bf16⟩
  | .local _ .vmem, ⟨35, _⟩ => ⟨S2x8x256x128, .f32⟩
  | .local _ .vmem, ⟨36, _⟩ => ⟨S2x256x128, .f32⟩
  | _, _ => ⟨S4x1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== MergeRefIdeal.lean ====
abbrev S4x1x2048x1024 : Shape := ⟨4, ![4, 1, 2048, 1024]⟩
abbrev S4x4x512x1024 : Shape := ⟨4, ![4, 4, 512, 1024]⟩
abbrev S4x16x128x1024 : Shape := ⟨4, ![4, 16, 128, 1024]⟩
abbrev S4x1x2048x128 : Shape := ⟨4, ![4, 1, 2048, 128]⟩
abbrev S4x4x512x128 : Shape := ⟨4, ![4, 4, 512, 128]⟩
abbrev S4x16x128x128 : Shape := ⟨4, ![4, 16, 128, 128]⟩
abbrev S4x2048x2048 : Shape := ⟨3, ![4, 2048, 2048]⟩
abbrev S8192x6144 : Shape := ⟨2, ![8192, 6144]⟩
abbrev S8192x4096 : Shape := ⟨2, ![8192, 4096]⟩
abbrev S1x1024x2048 : Shape := ⟨3, ![1, 1024, 2048]⟩
abbrev S1x2048x2048 : Shape := ⟨3, ![1, 2048, 2048]⟩
abbrev S1x512 : Shape := ⟨2, ![1, 512]⟩
abbrev S1x2048 : Shape := ⟨2, ![1, 2048]⟩
abbrev S4x1x2048x8 : Shape := ⟨4, ![4, 1, 2048, 8]⟩
abbrev S4x1x2048x8x128 : Shape := ⟨5, ![4, 1, 2048, 8, 128]⟩
abbrev S4x1x2048x8x1 : Shape := ⟨5, ![4, 1, 2048, 8, 1]⟩
abbrev S4x2048x1x8x128 : Shape := ⟨5, ![4, 2048, 1, 8, 128]⟩
abbrev S4x2048x8x128 : Shape := ⟨4, ![4, 2048, 8, 128]⟩
abbrev S4x2048x1x8 : Shape := ⟨4, ![4, 2048, 1, 8]⟩
abbrev S4x2048x8 : Shape := ⟨3, ![4, 2048, 8]⟩
abbrev S4x4x512x8 : Shape := ⟨4, ![4, 4, 512, 8]⟩
abbrev S4x4x512x8x128 : Shape := ⟨5, ![4, 4, 512, 8, 128]⟩
abbrev S4x4x512x8x1 : Shape := ⟨5, ![4, 4, 512, 8, 1]⟩
abbrev S4x512x4x8x128 : Shape := ⟨5, ![4, 512, 4, 8, 128]⟩
abbrev S4x512x4x8 : Shape := ⟨4, ![4, 512, 4, 8]⟩
abbrev S4x16x128x8 : Shape := ⟨4, ![4, 16, 128, 8]⟩
abbrev S4x16x128x8x128 : Shape := ⟨5, ![4, 16, 128, 8, 128]⟩
abbrev S4x16x128x8x1 : Shape := ⟨5, ![4, 16, 128, 8, 1]⟩
abbrev S4x128x16x8x128 : Shape := ⟨5, ![4, 128, 16, 8, 128]⟩
abbrev S4x128x16x8 : Shape := ⟨4, ![4, 128, 16, 8]⟩
abbrev S1x4x2048x8 : Shape := ⟨4, ![1, 4, 2048, 8]⟩
abbrev S3x4x2048x8 : Shape := ⟨4, ![3, 4, 2048, 8]⟩
abbrev S_ : Shape := ⟨0, ![]⟩
abbrev S1x4x2048x8x128 : Shape := ⟨5, ![1, 4, 2048, 8, 128]⟩
abbrev S3x4x2048x8x128 : Shape := ⟨5, ![3, 4, 2048, 8, 128]⟩
abbrev S4x2048x1024 : Shape := ⟨3, ![4, 2048, 1024]⟩
abbrev S4x2048x6144 : Shape := ⟨3, ![4, 2048, 6144]⟩
abbrev S4x2048x4096 : Shape := ⟨3, ![4, 2048, 4096]⟩
abbrev S4x2048x4x512 : Shape := ⟨4, ![4, 2048, 4, 512]⟩
abbrev S512 : Shape := ⟨1, ![512]⟩
abbrev S4x2048x4 : Shape := ⟨3, ![4, 2048, 4]⟩
abbrev S4x2048x4x1 : Shape := ⟨4, ![4, 2048, 4, 1]⟩
abbrev S1x1x1x512 : Shape := ⟨4, ![1, 1, 1, 512]⟩
abbrev S1024x2048 : Shape := ⟨2, ![1024, 2048]⟩
abbrev S2048x2048 : Shape := ⟨2, ![2048, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 165
  | .vmem => 0
  | .smem => 0
  | _ => 0

abbrev hbmTy0_0 (i : Nat) : BufTy := match i % 128 with
  | 0 => ⟨S4x1x2048x1024, .bf16⟩
  | 1 => ⟨S4x4x512x1024, .bf16⟩
  | 2 => ⟨S4x16x128x1024, .bf16⟩
  | 3 => ⟨S4x1x2048x128, .f32⟩
  | 4 => ⟨S4x4x512x128, .f32⟩
  | 5 => ⟨S4x16x128x128, .f32⟩
  | 6 => ⟨S4x2048x2048, .bf16⟩
  | 7 => ⟨S4x2048x2048, .bf16⟩
  | 8 => ⟨S8192x6144, .bf16⟩
  | 9 => ⟨S8192x4096, .bf16⟩
  | 10 => ⟨S4x2048x2048, .f32⟩
  | 11 => ⟨S1x1024x2048, .f32⟩
  | 12 => ⟨S1x2048x2048, .f32⟩
  | 13 => ⟨S1x2048x2048, .f32⟩
  | 14 => ⟨S1x512, .f32⟩
  | 15 => ⟨S1x2048, .f32⟩
  | 16 => ⟨S4x1x2048x8, .f32⟩
  | 17 => ⟨S4x1x2048x8, .f32⟩
  | 18 => ⟨S4x1x2048x1024, .f32⟩
  | 19 => ⟨S4x1x2048x8x128, .f32⟩
  | 20 => ⟨S4x1x2048x8x1, .f32⟩
  | 21 => ⟨S4x1x2048x8x128, .f32⟩
  | 22 => ⟨S4x1x2048x8x128, .f32⟩
  | 23 => ⟨S4x1x2048x8, .f32⟩
  | 24 => ⟨S4x1x2048x8, .f32⟩
  | 25 => ⟨S4x2048x1x8x128, .f32⟩
  | 26 => ⟨S4x2048x8x128, .f32⟩
  | 27 => ⟨S4x2048x1x8, .f32⟩
  | 28 => ⟨S4x2048x8, .f32⟩
  | 29 => ⟨S4x4x512x8, .f32⟩
  | 30 => ⟨S4x4x512x8, .f32⟩
  | 31 => ⟨S4x4x512x1024, .f32⟩
  | 32 => ⟨S4x4x512x8x128, .f32⟩
  | 33 => ⟨S4x4x512x8x1, .f32⟩
  | 34 => ⟨S4x4x512x8x128, .f32⟩
  | 35 => ⟨S4x4x512x8x128, .f32⟩
  | 36 => ⟨S4x4x512x8, .f32⟩
  | 37 => ⟨S4x4x512x8, .f32⟩
  | 38 => ⟨S4x512x4x8x128, .f32⟩
  | 39 => ⟨S4x2048x8x128, .f32⟩
  | 40 => ⟨S4x512x4x8, .f32⟩
  | 41 => ⟨S4x2048x8, .f32⟩
  | 42 => ⟨S4x16x128x8, .f32⟩
  | 43 => ⟨S4x16x128x8, .f32⟩
  | 44 => ⟨S4x16x128x1024, .f32⟩
  | 45 => ⟨S4x16x128x8x128, .f32⟩
  | 46 => ⟨S4x16x128x8x1, .f32⟩
  | 47 => ⟨S4x16x128x8x128, .f32⟩
  | 48 => ⟨S4x16x128x8x128, .f32⟩
  | 49 => ⟨S4x16x128x8, .f32⟩
  | 50 => ⟨S4x16x128x8, .f32⟩
  | 51 => ⟨S4x128x16x8x128, .f32⟩
  | 52 => ⟨S4x2048x8x128, .f32⟩
  | 53 => ⟨S4x128x16x8, .f32⟩
  | 54 => ⟨S4x2048x8, .f32⟩
  | 55 => ⟨S1x4x2048x8, .f32⟩
  | 56 => ⟨S1x4x2048x8, .f32⟩
  | 57 => ⟨S1x4x2048x8, .f32⟩
  | 58 => ⟨S3x4x2048x8, .f32⟩
  | 59 => ⟨S_, .f32⟩
  | 60 => ⟨S4x2048x8, .f32⟩
  | 61 => ⟨S_, .f32⟩
  | 62 => ⟨S4x2048x8, .f32⟩
  | 63 => ⟨S4x2048x8, .f32⟩
  | 64 => ⟨S1x4x2048x8, .f32⟩
  | 65 => ⟨S3x4x2048x8, .f32⟩
  | 66 => ⟨S3x4x2048x8, .f32⟩
  | 67 => ⟨S3x4x2048x8, .f32⟩
  | 68 => ⟨S_, .f32⟩
  | 69 => ⟨S4x2048x8, .f32⟩
  | 70 => ⟨S1x4x2048x8, .f32⟩
  | 71 => ⟨S3x4x2048x8, .f32⟩
  | 72 => ⟨S3x4x2048x8, .f32⟩
  | 73 => ⟨S1x4x2048x8x128, .f32⟩
  | 74 => ⟨S1x4x2048x8x128, .f32⟩
  | 75 => ⟨S1x4x2048x8x128, .f32⟩
  | 76 => ⟨S3x4x2048x8x128, .f32⟩
  | 77 => ⟨S4x2048x8x128, .f32⟩
  | 78 => ⟨S4x2048x1024, .f32⟩
  | 79 => ⟨S8192x6144, .f32⟩
  | 80 => ⟨S4x2048x6144, .f32⟩
  | 81 => ⟨S4x2048x2048, .f32⟩
  | 82 => ⟨S8192x4096, .f32⟩
  | 83 => ⟨S4x2048x4096, .f32⟩
  | 84 => ⟨S4x2048x2048, .f32⟩
  | 85 => ⟨S4x2048x2048, .f32⟩
  | 86 => ⟨S4x2048x2048, .f32⟩
  | 87 => ⟨S4x2048x2048, .f32⟩
  | 88 => ⟨S4x2048x2048, .f32⟩
  | 89 => ⟨S4x2048x4x512, .f32⟩
  | 90 => ⟨S512, .f32⟩
  | 91 => ⟨S4x2048x4x512, .f32⟩
  | 92 => ⟨S_, .f32⟩
  | 93 => ⟨S4x2048x4, .f32⟩
  | 94 => ⟨S4x2048x4x1, .f32⟩
  | 95 => ⟨S_, .f32⟩
  | 96 => ⟨S4x2048x4x1, .f32⟩
  | 97 => ⟨S4x2048x4x1, .f32⟩
  | 98 => ⟨S_, .f32⟩
  | 99 => ⟨S4x2048x4x1, .f32⟩
  | 100 => ⟨S4x2048x4x1, .f32⟩
  | 101 => ⟨S4x2048x4x1, .f32⟩
  | 102 => ⟨S4x2048x4x512, .f32⟩
  | 103 => ⟨S4x2048x4x512, .f32⟩
  | 104 => ⟨S1x1x1x512, .f32⟩
  | 105 => ⟨S4x2048x4x512, .f32⟩
  | 106 => ⟨S4x2048x4x512, .f32⟩
  | 107 => ⟨S4x2048x4x512, .f32⟩
  | 108 => ⟨S4x2048x4x512, .f32⟩
  | 109 => ⟨S4x2048x4x512, .f32⟩
  | 110 => ⟨S_, .f32⟩
  | 111 => ⟨S4x2048x4x512, .f32⟩
  | 112 => ⟨S4x2048x4x512, .f32⟩
  | 113 => ⟨S_, .f32⟩
  | 114 => ⟨S4x2048x4x512, .f32⟩
  | 115 => ⟨S4x2048x4x512, .f32⟩
  | 116 => ⟨S4x2048x4x512, .f32⟩
  | 117 => ⟨S4x2048x4x512, .f32⟩
  | 118 => ⟨S4x2048x2048, .f32⟩
  | 119 => ⟨S1024x2048, .f32⟩
  | 120 => ⟨S4x2048x2048, .f32⟩
  | 121 => ⟨S2048x2048, .f32⟩
  | 122 => ⟨S4x2048x2048, .f32⟩
  | 123 => ⟨S4x2048x2048, .f32⟩
  | 124 => ⟨S4x2048x2048, .f32⟩
  | 125 => ⟨S_, .f32⟩
  | 126 => ⟨S4x2048x2048, .f32⟩
  | 127 => ⟨S4x2048x2048, .f32⟩
  | _ => ⟨S4x1x2048x1024, .bf16⟩

abbrev hbmTy0_1 (i : Nat) : BufTy := match i % 128 with
  | 0 => ⟨S_, .f32⟩
  | 1 => ⟨S4x2048x2048, .f32⟩
  | 2 => ⟨S4x2048x2048, .f32⟩
  | 3 => ⟨S4x2048x2048, .f32⟩
  | 4 => ⟨S4x2048x2048, .f32⟩
  | 5 => ⟨S4x2048x2048, .f32⟩
  | 6 => ⟨S_, .f32⟩
  | 7 => ⟨S4x2048x2048, .f32⟩
  | 8 => ⟨S4x2048x2048, .f32⟩
  | 9 => ⟨S_, .f32⟩
  | 10 => ⟨S4x2048x2048, .f32⟩
  | 11 => ⟨S4x2048x2048, .f32⟩
  | 12 => ⟨S4x2048x2048, .f32⟩
  | 13 => ⟨S4x2048x2048, .f32⟩
  | 14 => ⟨S2048x2048, .f32⟩
  | 15 => ⟨S4x2048x2048, .f32⟩
  | 16 => ⟨S4x2048x2048, .f32⟩
  | 17 => ⟨S2048, .f32⟩
  | 18 => ⟨S4x2048x2048, .f32⟩
  | 19 => ⟨S_, .f32⟩
  | 20 => ⟨S4x2048, .f32⟩
  | 21 => ⟨S4x2048x1, .f32⟩
  | 22 => ⟨S_, .f32⟩
  | 23 => ⟨S4x2048x1, .f32⟩
  | 24 => ⟨S4x2048x1, .f32⟩
  | 25 => ⟨S_, .f32⟩
  | 26 => ⟨S4x2048x1, .f32⟩
  | 27 => ⟨S4x2048x1, .f32⟩
  | 28 => ⟨S4x2048x1, .f32⟩
  | 29 => ⟨S4x2048x2048, .f32⟩
  | 30 => ⟨S4x2048x2048, .f32⟩
  | 31 => ⟨S1x1x2048, .f32⟩
  | 32 => ⟨S4x2048x2048, .f32⟩
  | 33 => ⟨S4x2048x2048, .f32⟩
  | 34 => ⟨S8192x2048, .f32⟩
  | 35 => ⟨S4x2048x2048, .bf16⟩
  | 36 => ⟨S8192x2048, .bf16⟩
  | _ => ⟨S4x1x2048x1024, .bf16⟩

abbrev hbmTy (i : Nat) : BufTy := match i / 128 with
  | 0 => hbmTy0_0 i
  | 1 => hbmTy0_1 i
  | _ => ⟨S4x1x2048x1024, .bf16⟩

abbrev bufTy : (tb : Table) → Fin (tcTables nBuf tb) → BufTy
  | .hbm, ⟨i, _⟩ => hbmTy i
  | _, _ => ⟨S4x1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst : Ref sig .tc := ⟨.hbm, 59, rfl⟩
abbrev main_v43 : Ref sig .tc := ⟨.hbm, 60, rfl⟩
abbrev main_cst_0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_1 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_2 : Ref sig .tc := ⟨.hbm, 92, rfl⟩
abbrev main_v73 : Ref sig .tc := ⟨.hbm, 93, rfl⟩
abbrev main_v74 : Ref sig .tc := ⟨.hbm, 94, rfl⟩
abbrev main_cst_3 : Ref sig .tc := ⟨.hbm, 95, rfl⟩
abbrev main_v75 : Ref sig .tc := ⟨.hbm, 96, rfl⟩
abbrev main_v76 : Ref sig .tc := ⟨.hbm, 97, rfl⟩
abbrev main_cst_4 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_call0_v0 : Ref sig .tc := ⟨.hbm, 108, rfl⟩
abbrev main_call0_v1 : Ref sig .tc := ⟨.hbm, 109, rfl⟩
abbrev main_call0_cst : Ref sig .tc := ⟨.hbm, 110, rfl⟩
abbrev main_call0_v2 : Ref sig .tc := ⟨.hbm, 111, rfl⟩
abbrev main_call0_v3 : Ref sig .tc := ⟨.hbm, 112, rfl⟩
abbrev main_call0_cst_0 : Ref sig .tc := ⟨.hbm, 113, rfl⟩
abbrev main_call0_v4 : Ref sig .tc := ⟨.hbm, 114, rfl⟩
abbrev main_call0_v5 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_5 : Ref sig .tc := ⟨.hbm, 125, rfl⟩
abbrev main_v95 : Ref sig .tc := ⟨.hbm, 126, rfl⟩
abbrev main_v96 : Ref sig .tc := ⟨.hbm, 127, rfl⟩
abbrev main_cst_6 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_7 : Ref sig .tc := ⟨.hbm, 134, rfl⟩
abbrev main_v102 : Ref sig .tc := ⟨.hbm, 135, rfl⟩
abbrev main_v103 : Ref sig .tc := ⟨.hbm, 136, rfl⟩
abbrev main_cst_8 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_9 : Ref sig .tc := ⟨.hbm, 147, rfl⟩
abbrev main_v113 : Ref sig .tc := ⟨.hbm, 148, rfl⟩
abbrev main_v114 : Ref sig .tc := ⟨.hbm, 149, rfl⟩
abbrev main_cst_10 : Ref sig .tc := ⟨.hbm, 150, rfl⟩
abbrev main_v115 : Ref sig .tc := ⟨.hbm, 151, rfl⟩
abbrev main_v116 : Ref sig .tc := ⟨.hbm, 152, rfl⟩
abbrev main_cst_11 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩

abbrev nD : Nat := 1
abbrev τ : Topo := Topo.v7x

variable {F : FTy → Type} [FloatOps F]
-- ==== AttC.lean ====
abbrev S4x16x128x3072 : Shape := ⟨4, ![4, 16, 128, 3072]⟩
abbrev S1x3x128 : Shape := ⟨3, ![1, 3, 128]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x96 : Shape := ⟨2, ![2048, 96]⟩
abbrev S2048x128 : Shape := ⟨2, ![2048, 128]⟩
abbrev S3x128 : Shape := ⟨2, ![3, 128]⟩
abbrev S128x2048 : Shape := ⟨2, ![128, 2048]⟩
abbrev S1x128 : Shape := ⟨2, ![1, 128]⟩
abbrev S4x16x128x1024 : Shape := ⟨4, ![4, 16, 128, 1024]⟩
abbrev S4x16x128x128 : Shape := ⟨4, ![4, 16, 128, 128]⟩
abbrev S1x1x128x1024 : Shape := ⟨4, ![1, 1, 128, 1024]⟩
abbrev S128x128 : Shape := ⟨2, ![128, 128]⟩
abbrev S1x1x128x128 : Shape := ⟨4, ![1, 1, 128, 128]⟩
abbrev S8x256x128 : Shape := ⟨3, ![8, 256, 128]⟩
abbrev S8x320x128 : Shape := ⟨3, ![8, 320, 128]⟩
abbrev S8x320x256 : Shape := ⟨3, ![8, 320, 256]⟩
abbrev S4x128x256 : Shape := ⟨3, ![4, 128, 256]⟩
abbrev S128x256 : Shape := ⟨2, ![128, 256]⟩
abbrev S1x128x256 : Shape := ⟨3, ![1, 128, 256]⟩
abbrev S64x128 : Shape := ⟨2, ![64, 128]⟩
abbrev S1x64x128 : Shape := ⟨3, ![1, 64, 128]⟩
abbrev S1x128x128 : Shape := ⟨3, ![1, 128, 128]⟩
abbrev S320x128 : Shape := ⟨2, ![320, 128]⟩
abbrev S1x320x128 : Shape := ⟨3, ![1, 320, 128]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩
abbrev S1x256x256 : Shape := ⟨3, ![1, 256, 256]⟩
abbrev S256x256 : Shape := ⟨2, ![256, 256]⟩

abbrev nBuf : Space → Nat
  | .hbm => 39
  | .vmem => 20
  | .smem => 0
  | _ => 0

abbrev bufTy : (tb : Table) → Fin (tcTables nBuf tb) → BufTy
  | .hbm, ⟨0, _⟩ => ⟨S4x16x128x3072, .bf16⟩
  | .hbm, ⟨1, _⟩ => ⟨S1x3x128, .f32⟩
  | .hbm, ⟨2, _⟩ => ⟨S1x3x128, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S2048, .f32⟩
  | .hbm, ⟨18, _⟩ => ⟨S2048x1, .f32⟩
  | .hbm, ⟨19, _⟩ => ⟨S1x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S2048x16, .f32⟩
  | .hbm, ⟨24, _⟩ => ⟨S2048x16, .f32⟩
  | .hbm, ⟨25, _⟩ => ⟨S_, .f32⟩
  | .hbm, ⟨26, _⟩ => ⟨S2048x96, .f32⟩
  | .hbm, ⟨27, _⟩ => ⟨S2048x128, .f32⟩
  | .hbm, ⟨28, _⟩ => ⟨S_, .f32⟩
  | .hbm, ⟨29, _⟩ => ⟨S2048x96, .f32⟩
  | .hbm, ⟨30, _⟩ => ⟨S2048x128, .f32⟩
  | .hbm, ⟨31, _⟩ => ⟨S3x128, .f32⟩
  | .hbm, ⟨32, _⟩ => ⟨S3x128, .f32⟩
  | .hbm, ⟨33, _⟩ => ⟨S128x2048, .f32⟩
  | .hbm, ⟨34, _⟩ => ⟨S128x2048, .f32⟩
  | .hbm, ⟨35, _⟩ => ⟨S1x128, .f32⟩
  | .hbm, ⟨36, _⟩ => ⟨S1x128, .f32⟩
  | .hbm, ⟨37, _⟩ => ⟨S4x16x128x1024, .bf16⟩
  | .hbm, ⟨38, _⟩ => ⟨S4x16x128x128, .f32⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x1x128x1024, .bf16⟩
  | .local _ .vmem, ⟨5, _⟩ => ⟨S1x1x128x1024, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S1x1x128x1024, .bf16⟩
  | .local _ .vmem, ⟨13, _⟩ => ⟨S1x1x128x1024, .bf16⟩
  | .local _ .vmem, ⟨14, _⟩ => ⟨S1x1x128x128, .f32⟩
  | .local _ .vmem, ⟨15, _⟩ => ⟨S1x1x128x128, .f32⟩
  | .local _ .vmem, ⟨16, _⟩ => ⟨S8x256x128, .bf16⟩
  | .local _ .vmem, ⟨17, _⟩ => ⟨S8x320x128, .bf16⟩
  | .local _ .vmem, ⟨18, _⟩ => ⟨S8x320x256, .bf16⟩
  | .local _ .vmem, ⟨19, _⟩ => ⟨S4x128x256, .f32⟩
  | _, _ => ⟨S4x16x128x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![4, 16, 1], ![false, false, false]⟩

def k0_off1 : Fin 3 → Nat :=
  let v_true : BitVec 1 := 1#1
  let c1_i32 : BitVec 32 := 1#32
  let c0_i32_384 : BitVec 32 := 0#32
  let v613 : BitVec 32 := Scalar.select v_true c1_i32 c0_i32_384
  let true_385 : BitVec 1 := 1#1
  let c2_i32 : BitVec 32 := 2#32
  let c0_i32_386 : BitVec 32 := 0#32
  let v614 : BitVec 32 := Scalar.select true_385 c2_i32 c0_i32_386
  let v615 : BitVec 32 := Scalar.addi v613 v614
  let v616 : Index := Scalar.indexCast v615
  let c0_387 : Index := 0#32
  let c0_388 : Index := 0#32
  ![v616.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, arg1.toNat, c0_i32_0.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  ![arg0.toNat, arg1.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![arg0.toNat, arg1.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== AttCIdeal.lean ====
variable {F : FTy → Type} [FloatOps F] [Named F]
def κ : String → Option EReal := fun
  | "mask" => some ⊥
  | _ => none
-- ==== AttCRefIdeal.lean ====
abbrev S4x16x128x3072 : Shape := ⟨4, ![4, 16, 128, 3072]⟩
abbrev S1x3x128 : Shape := ⟨3, ![1, 3, 128]⟩
abbrev S4x16x128x3x8x128 : Shape := ⟨6, ![4, 16, 128, 3, 8, 128]⟩
abbrev S4x128x16x3x8x128 : Shape := ⟨6, ![4, 128, 16, 3, 8, 128]⟩
abbrev S4x2048x3x8x128 : Shape := ⟨5, ![4, 2048, 3, 8, 128]⟩
abbrev S2048 : Shape := ⟨1, ![2048]⟩
abbrev S4x2048x1x8x128 : Shape := ⟨5, ![4, 2048, 1, 8, 128]⟩
abbrev S4x2048x8x128 : Shape := ⟨4, ![4, 2048, 8, 128]⟩
abbrev S1x1x128 : Shape := ⟨3, ![1, 1, 128]⟩
abbrev S128 : Shape := ⟨1, ![128]⟩
abbrev S_ : Shape := ⟨0, ![]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x8x16 : Shape := ⟨4, ![4, 2048, 8, 16]⟩
abbrev S1x2048x1x16 : Shape := ⟨4, ![1, 2048, 1, 16]⟩
abbrev S4x2048x8x96 : Shape := ⟨4, ![4, 2048, 8, 96]⟩
abbrev S4x128x16x8x128 : Shape := ⟨5, ![4, 128, 16, 8, 128]⟩
abbrev S4x16x128x8x128 : Shape := ⟨5, ![4, 16, 128, 8, 128]⟩
abbrev S4x16x2x64x8x128 : Shape := ⟨6, ![4, 16, 2, 64, 8, 128]⟩
abbrev S4x16x256x8x128 : Shape := ⟨5, ![4, 16, 256, 8, 128]⟩
abbrev S4x16x4x64x8x128 : Shape := ⟨6, ![4, 16, 4, 64, 8, 128]⟩
abbrev S4x16x2x192x8x128 : Shape := ⟨6, ![4, 16, 2, 192, 8, 128]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S2 : Shape := ⟨1, ![2]⟩
abbrev S2x1x1 : Shape := ⟨3, ![2, 1, 1]⟩
abbrev S1x1x192 : Shape := ⟨3, ![1, 1, 192]⟩
abbrev S2x1x192 : Shape := ⟨3, ![2, 1, 192]⟩
abbrev S1x64x192 : Shape := ⟨3, ![1, 64, 192]⟩
abbrev S2x64x192 : Shape := ⟨3, ![2, 64, 192]⟩
abbrev S4x16x2x8x64x192 : Shape := ⟨6, ![4, 16, 2, 8, 64, 192]⟩
abbrev S1x1x2x1x64x192 : Shape := ⟨6, ![1, 1, 2, 1, 64, 192]⟩
abbrev S4x16x2x8x64 : Shape := ⟨5, ![4, 16, 2, 8, 64]⟩
abbrev S4x16x2x8x64x1 : Shape := ⟨6, ![4, 16, 2, 8, 64, 1]⟩
abbrev S4x16x2x8x128x64 : Shape := ⟨6, ![4, 16, 2, 8, 128, 64]⟩
abbrev S4x16x2x64x8 : Shape := ⟨5, ![4, 16, 2, 64, 8]⟩
abbrev S4x16x128x8 : Shape := ⟨4, ![4, 16, 128, 8]⟩
abbrev S4x16x128x112 : Shape := ⟨4, ![4, 16, 128, 112]⟩
abbrev S4x16x128x128 : Shape := ⟨4, ![4, 16, 128, 128]⟩
abbrev S4x16x128x1024 : Shape := ⟨4, ![4, 16, 128, 1024]⟩

abbrev nBuf : Space → Nat
  | .hbm => 221
  | .vmem => 0
  | .smem => 0
  | _ => 0

abbrev hbmTy0_0 (i : Nat) : BufTy := match i % 128 with
  | 0 => ⟨S4x16x128x3072, .bf16⟩
  | 1 => ⟨S1x3x128, .f32⟩
  | 2 => ⟨S1x3x128, .f32⟩
  | 3 => ⟨S4x16x128x3072, .f32⟩
  | 4 => ⟨S4x16x128x3x8x128, .f32⟩
  | 5 => ⟨S4x128x16x3x8x128, .f32⟩
  | 6 => ⟨S4x2048x3x8x128, .f32⟩
  | 7 => ⟨S2048, .f32⟩
  | 8 => ⟨S4x2048x1x8x128, .f32⟩
  | 9 => ⟨S4x2048x8x128, .f32⟩
  | 10 => ⟨S1x1x128, .f32⟩
  | 11 => ⟨S128, .f32⟩
  | 12 => ⟨S4x2048x8x128, .f32⟩
  | 13 => ⟨S_, .f32⟩
  | 14 => ⟨S4x2048x8, .f32⟩
  | 15 => ⟨S4x2048x8x1, .f32⟩
  | 16 => ⟨S_, .f32⟩
  | 17 => ⟨S4x2048x8x1, .f32⟩
  | 18 => ⟨S4x2048x8x1, .f32⟩
  | 19 => ⟨S_, .f32⟩
  | 20 => ⟨S4x2048x8x1, .f32⟩
  | 21 => ⟨S4x2048x8x1, .f32⟩
  | 22 => ⟨S4x2048x8x1, .f32⟩
  | 23 => ⟨S4x2048x8x128, .f32⟩
  | 24 => ⟨S4x2048x8x128, .f32⟩
  | 25 => ⟨S1x1x1x128, .f32⟩
  | 26 => ⟨S4x2048x8x128, .f32⟩
  | 27 => ⟨S4x2048x8x128, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S2048x1, .f32⟩
  | 43 => ⟨S1x16, .f32⟩
  | 44 => ⟨S2048x16, .f32⟩
  | 45 => ⟨S2048x16, .f32⟩
  | 46 => ⟨S2048x16, .f32⟩
  | 47 => ⟨S2048x1x16, .f32⟩
  | 48 => ⟨S2048x1x16, .f32⟩
  | 49 => ⟨S2048x1x16, .f32⟩
  | 50 => ⟨S4x2048x8x16, .f32⟩
  | 51 => ⟨S4x2048x8x16, .f32⟩
  | 52 => ⟨S1x2048x1x16, .f32⟩
  | 53 => ⟨S4x2048x8x16, .f32⟩
  | 54 => ⟨S4x2048x8x16, .f32⟩
  | 55 => ⟨S1x2048x1x16, .f32⟩
  | 56 => ⟨S4x2048x8x16, .f32⟩
  | 57 => ⟨S4x2048x8x16, .f32⟩
  | 58 => ⟨S4x2048x8x16, .f32⟩
  | 59 => ⟨S1x2048x1x16, .f32⟩
  | 60 => ⟨S4x2048x8x16, .f32⟩
  | 61 => ⟨S4x2048x8x16, .f32⟩
  | 62 => ⟨S1x2048x1x16, .f32⟩
  | 63 => ⟨S4x2048x8x16, .f32⟩
  | 64 => ⟨S4x2048x8x16, .f32⟩
  | 65 => ⟨S4x2048x8x16, .f32⟩
  | 66 => ⟨S4x2048x8x96, .f32⟩
  | 67 => ⟨S4x2048x8x128, .f32⟩
  | 68 => ⟨S4x2048x1x8x128, .f32⟩
  | 69 => ⟨S4x2048x8x128, .f32⟩
  | 70 => ⟨S1x1x128, .f32⟩
  | 71 => ⟨S128, .f32⟩
  | 72 => ⟨S4x2048x8x128, .f32⟩
  | 73 => ⟨S_, .f32⟩
  | 74 => ⟨S4x2048x8, .f32⟩
  | 75 => ⟨S4x2048x8x1, .f32⟩
  | 76 => ⟨S_, .f32⟩
  | 77 => ⟨S4x2048x8x1, .f32⟩
  | 78 => ⟨S4x2048x8x1, .f32⟩
  | 79 => ⟨S_, .f32⟩
  | 80 => ⟨S4x2048x8x1, .f32⟩
  | 81 => ⟨S4x2048x8x1, .f32⟩
  | 82 => ⟨S4x2048x8x1, .f32⟩
  | 83 => ⟨S4x2048x8x128, .f32⟩
  | 84 => ⟨S4x2048x8x128, .f32⟩
  | 85 => ⟨S1x1x1x128, .f32⟩
  | 86 => ⟨S4x2048x8x128, .f32⟩
  | 87 => ⟨S4x2048x8x128, .f32⟩
  | 88 => ⟨S16, .f32⟩
  | 89 => ⟨S_, .f32⟩
  | 90 => ⟨S16, .f32⟩
  | 91 => ⟨S16, .f32⟩
  | 92 => ⟨S_, .f32⟩
  | 93 => ⟨S16, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S2048x1, .f32⟩
  | 103 => ⟨S1x16, .f32⟩
  | 104 => ⟨S2048x16, .f32⟩
  | 105 => ⟨S2048x16, .f32⟩
  | 106 => ⟨S2048x16, .f32⟩
  | 107 => ⟨S2048x1x16, .f32⟩
  | 108 => ⟨S2048x1x16, .f32⟩
  | 109 => ⟨S2048x1x16, .f32⟩
  | 110 => ⟨S4x2048x8x16, .f32⟩
  | 111 => ⟨S4x2048x8x16, .f32⟩
  | 112 => ⟨S1x2048x1x16, .f32⟩
  | 113 => ⟨S4x2048x8x16, .f32⟩
  | 114 => ⟨S4x2048x8x16, .f32⟩
  | 115 => ⟨S1x2048x1x16, .f32⟩
  | 116 => ⟨S4x2048x8x16, .f32⟩
  | 117 => ⟨S4x2048x8x16, .f32⟩
  | 118 => ⟨S4x2048x8x16, .f32⟩
  | 119 => ⟨S1x2048x1x16, .f32⟩
  | 120 => ⟨S4x2048x8x16, .f32⟩
  | 121 => ⟨S4x2048x8x16, .f32⟩
  | 122 => ⟨S1x2048x1x16, .f32⟩
  | 123 => ⟨S4x2048x8x16, .f32⟩
  | 124 => ⟨S4x2048x8x16, .f32⟩
  | 125 => ⟨S4x2048x8x16, .f32⟩
  | 126 => ⟨S4x2048x8x96, .f32⟩
  | 127 => ⟨S4x2048x8x128, .f32⟩
  | _ => ⟨S4x16x128x3072, .bf16⟩

abbrev hbmTy0_1 (i : Nat) : BufTy := match i % 128 with
  | 0 => ⟨S4x2048x1x8x128, .f32⟩
  | 1 => ⟨S4x2048x8x128, .f32⟩
  | 2 => ⟨S4x128x16x8x128, .f32⟩
  | 3 => ⟨S4x16x128x8x128, .f32⟩
  | 4 => ⟨S4x128x16x8x128, .f32⟩
  | 5 => ⟨S4x16x128x8x128, .f32⟩
  | 6 => ⟨S4x128x16x8x128, .f32⟩
  | 7 => ⟨S4x16x128x8x128, .f32⟩
  | 8 => ⟨S4x16x2x64x8x128, .f32⟩
  | 9 => ⟨S_, .i32⟩
  | 10 => ⟨S_, .f32⟩
  | 11 => ⟨S4x16x256x8x128, .f32⟩
  | 12 => ⟨S4x16x4x64x8x128, .f32⟩
  | 13 => ⟨S_, .i32⟩
  | 14 => ⟨S_, .f32⟩
  | 15 => ⟨S4x16x256x8x128, .f32⟩
  | 16 => ⟨S4x16x4x64x8x128, .f32⟩
  | 17 => ⟨S4x16x2x64x8x128, .f32⟩
  | 18 => ⟨S4x16x2x64x8x128, .f32⟩
  | 19 => ⟨S4x16x2x64x8x128, .f32⟩
  | 20 => ⟨S4x16x2x192x8x128, .f32⟩
  | 21 => ⟨S4x16x2x64x8x128, .f32⟩
  | 22 => ⟨S4x16x2x64x8x128, .f32⟩
  | 23 => ⟨S4x16x2x64x8x128, .f32⟩
  | 24 => ⟨S4x16x2x192x8x128, .f32⟩
  | 25 => ⟨S64, .i32⟩
  | 26 => ⟨S64x1, .i32⟩
  | 27 => ⟨S192, .i32⟩
  | 28 => ⟨S1x192, .i32⟩
  | 29 => ⟨S_, .i32⟩
  | 30 => ⟨S1x192, .i32⟩
  | 31 => ⟨S1x192, .i32⟩
  | 32 => ⟨S64x192, .i32⟩
  | 33 => ⟨S64x192, .i32⟩
  | 34 => ⟨S64x192, .i32⟩
  | 35 => ⟨S2, .i32⟩
  | 36 => ⟨S2x1x1, .i32⟩
  | 37 => ⟨S_, .i32⟩
  | 38 => ⟨S2x1x1, .i32⟩
  | 39 => ⟨S2x1x1, .i32⟩
  | 40 => ⟨S_, .i32⟩
  | 41 => ⟨S2x1x1, .i32⟩
  | 42 => ⟨S2x1x1, .i32⟩
  | 43 => ⟨S1x1x192, .i32⟩
  | 44 => ⟨S2x1x192, .i32⟩
  | 45 => ⟨S2x1x192, .i32⟩
  | 46 => ⟨S2x1x192, .i32⟩
  | 47 => ⟨S64x192, .i32⟩
  | 48 => ⟨S_, .i32⟩
  | 49 => ⟨S64x192, .i32⟩
  | 50 => ⟨S64x192, .i1⟩
  | 51 => ⟨S1x64x192, .i1⟩
  | 52 => ⟨S_, .i32⟩
  | 53 => ⟨S2x1x192, .i32⟩
  | 54 => ⟨S2x1x192, .i1⟩
  | 55 => ⟨S2x64x192, .i1⟩
  | 56 => ⟨S2x64x192, .i1⟩
  | 57 => ⟨S2x64x192, .i1⟩
  | 58 => ⟨S_, .i32⟩
  | 59 => ⟨S2x1x192, .i32⟩
  | 60 => ⟨S2x1x192, .i1⟩
  | 61 => ⟨S2x64x192, .i1⟩
  | 62 => ⟨S2x64x192, .i1⟩
  | 63 => ⟨S4x16x2x8x64x192, .f32⟩
  | 64 => ⟨S_, .f32⟩
  | 65 => ⟨S4x16x2x8x64x192, .f32⟩
  | 66 => ⟨S4x16x2x8x64x192, .f32⟩
  | 67 => ⟨S1x1x2x1x64x192, .i1⟩
  | 68 => ⟨S_, .f32⟩
  | 69 => ⟨S_, .f32⟩
  | 70 => ⟨S4x16x2x8x64x192, .i1⟩
  | 71 => ⟨S4x16x2x8x64x192, .f32⟩
  | 72 => ⟨S4x16x2x8x64x192, .f32⟩
  | 73 => ⟨S_, .f32⟩
  | 74 => ⟨S4x16x2x8x64, .f32⟩
  | 75 => ⟨S4x16x2x8x64x1, .f32⟩
  | 76 => ⟨S4x16x2x8x64x192, .f32⟩
  | 77 => ⟨S4x16x2x8x64x192, .f32⟩
  | 78 => ⟨S4x16x2x8x64x192, .f32⟩
  | 79 => ⟨S_, .f32⟩
  | 80 => ⟨S4x16x2x8x64, .f32⟩
  | 81 => ⟨S4x16x2x8x128x64, .f32⟩
  | 82 => ⟨S4x16x2x64x8x128, .f32⟩
  | 83 => ⟨S4x16x2x8x64, .f32⟩
  | 84 => ⟨S4x16x2x64x8, .f32⟩
  | 85 => ⟨S4x16x128x8, .f32⟩
  | 86 => ⟨S4x16x2x64x8, .f32⟩
  | 87 => ⟨S4x16x128x8, .f32⟩
  | 88 => ⟨S_, .f32⟩
  | 89 => ⟨S4x16x128x112, .f32⟩
  | 90 => ⟨S4x16x128x128, .f32⟩
  | 91 => ⟨S4x16x128x1024, .f32⟩
  | 92 => ⟨S4x16x128x1024, .bf16⟩
  | _ => ⟨S4x16x128x3072, .bf16⟩

abbrev hbmTy (i : Nat) : BufTy := match i / 128 with
  | 0 => hbmTy0_0 i
  | 1 => hbmTy0_1 i
  | _ => ⟨S4x16x128x3072, .bf16⟩

abbrev bufTy : (tb : Table) → Fin (tcTables nBuf tb) → BufTy
  | .hbm, ⟨i, _⟩ => hbmTy i
  | _, _ => ⟨S4x16x128x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_cst_7 : Ref sig .tc := ⟨.hbm, 76, rfl⟩
abbrev main_v65 : Ref sig .tc := ⟨.hbm, 77, rfl⟩
abbrev main_v66 : Ref sig .tc := ⟨.hbm, 78, rfl⟩
abbrev main_cst_8 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_9 : Ref sig .tc := ⟨.hbm, 89, rfl⟩
abbrev main_v76 : Ref sig .tc := ⟨.hbm, 90, rfl⟩
abbrev main_v77 : Ref sig .tc := ⟨.hbm, 91, rfl⟩
abbrev main_cst_10 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_11 : Ref sig .tc := ⟨.hbm, 96, rfl⟩
abbrev main_v81 : Ref sig .tc := ⟨.hbm, 97, rfl⟩
abbrev main_v82 : Ref sig .tc := ⟨.hbm, 98, rfl⟩
abbrev main_cst_12 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_c : Ref sig .tc := ⟨.hbm, 137, rfl⟩
abbrev main_call0_v0 : Ref sig .tc := ⟨.hbm, 138, rfl⟩
abbrev main_v120 : Ref sig .tc := ⟨.hbm, 139, rfl⟩
abbrev main_v121 : Ref sig .tc := ⟨.hbm, 140, rfl⟩
abbrev main_c_13 : Ref sig .tc := ⟨.hbm, 141, rfl⟩
abbrev main_call1_v0 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_c_14 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_c_15 : Ref sig .tc := ⟨.hbm, 165, rfl⟩
abbrev main_v143 : Ref sig .tc := ⟨.hbm, 166, rfl⟩
abbrev main_v144 : Ref sig .tc := ⟨.hbm, 167, rfl⟩
abbrev main_c_16 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_c_17 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_c_18 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_c_19 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_cst_20 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_cst_21 : Ref sig .tc := ⟨.hbm, 196, rfl⟩
abbrev main_call2_v0 : Ref sig .tc := ⟨.hbm, 197, rfl⟩
abbrev main_call2_v1 : Ref sig .tc := ⟨.hbm, 198, rfl⟩
abbrev main_call2_v2 : Ref sig .tc := ⟨.hbm, 199, rfl⟩
abbrev main_v168 : Ref sig .tc := ⟨.hbm, 200, rfl⟩
abbrev main_cst_22 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_cst_23 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_cst_24 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩

abbrev nD : Nat := 1
abbrev τ : Topo := Topo.v7x

variable {F : FTy → Type} [FloatOps F]
-- ==== Proof.RefFrames.lean ====
/-
  The reference programs' frames: each is a host program without semaphores, so its generated run gives the unchanged
  arguments and the counters are zero because there are none.
-/
module

public import proofs.«01_k».proof.Defs
public import Idealize.ShloMosaic.Lib.Quiescent
public import proofs.«01_k».proof.Proof.Gen.XnormRefIdeal.Run
public import proofs.«01_k».proof.Proof.Gen.ProjARefIdeal.Run
public import proofs.«01_k».proof.Proof.Gen.ProjBRefIdeal.Run
public import proofs.«01_k».proof.Proof.Gen.ProjCRefIdeal.Run
public import proofs.«01_k».proof.Proof.Gen.ProjGlaRefIdeal.Run
public import proofs.«01_k».proof.Proof.Gen.ProjGatesRefIdeal.Run
public import proofs.«01_k».proof.Proof.Gen.FfnRefIdeal.Run
public import proofs.«01_k».proof.Proof.Gen.MergeRefIdeal.Run
public import proofs.«01_k».proof.Proof.Gen.AttCRefIdeal.Run

@[expose] public section

noncomputable section

namespace Cert.Layer.RefFrames

open Idealize.ShloMosaic Idealize.SL.Sem

/-- `Xnorm`'s reference leaves its arguments unchanged and every counter at zero. -/
theorem frame_xnorm : Cert.quiescent_XnormRefIdeal := fun m ρ _ =>
  (θ_run Cert.XnormRefIdeal.defs _ _).mono (fun r h => ⟨fun c => (h c).2.2, sem_eq_zero_of_no_sems (by decide) r.2⟩)
    (Cert.XnormRefIdeal.Value.run (F := Ideal) m ρ)

/-- `ProjA`'s reference leaves its arguments unchanged and every counter at zero. -/
theorem frame_projA : Cert.quiescent_ProjARefIdeal := fun m ρ _ =>
  (θ_run Cert.ProjARefIdeal.defs _ _).mono (fun r h => ⟨fun c => (h c).2, sem_eq_zero_of_no_sems (by decide) r.2⟩)
    (Cert.ProjARefIdeal.Value.run (F := Ideal) m ρ)

/-- `ProjB`'s reference leaves its arguments unchanged and every counter at zero. -/
theorem frame_projB : Cert.quiescent_ProjBRefIdeal := fun m ρ _ =>
  (θ_run Cert.ProjBRefIdeal.defs _ _).mono (fun r h => ⟨fun c => (h c).2.2, sem_eq_zero_of_no_sems (by decide) r.2⟩)
    (Cert.ProjBRefIdeal.Value.run (F := Ideal) m ρ)

/-- `ProjC`'s reference leaves its arguments unchanged and every counter at zero. -/
theorem frame_projC : Cert.quiescent_ProjCRefIdeal := fun m ρ _ =>
  (θ_run Cert.ProjCRefIdeal.defs _ _).mono (fun r h => ⟨fun c => (h c).2.2, sem_eq_zero_of_no_sems (by decide) r.2⟩)
    (Cert.ProjCRefIdeal.Value.run (F := Ideal) m ρ)

/-- `ProjGla`'s reference leaves its arguments unchanged and every counter at zero. -/
theorem frame_projGla : Cert.quiescent_ProjGlaRefIdeal := fun m ρ _ =>
  (θ_run Cert.ProjGlaRefIdeal.defs _ _).mono (fun r h => ⟨fun c => (h c).2, sem_eq_zero_of_no_sems (by decide) r.2⟩)
    (Cert.ProjGlaRefIdeal.Value.run (F := Ideal) m ρ)

/-- `ProjGates`'s reference leaves its arguments unchanged and every counter at zero. -/
theorem frame_projGates : Cert.quiescent_ProjGatesRefIdeal := fun m ρ _ =>
  (θ_run Cert.ProjGatesRefIdeal.defs _ _).mono (fun r h => ⟨fun c => (h c).2, sem_eq_zero_of_no_sems (by decide) r.2⟩)
    (Cert.ProjGatesRefIdeal.Value.run (F := Ideal) m ρ)

/-- `Ffn`'s reference leaves its arguments unchanged and every counter at zero. -/
theorem frame_ffn : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- `Merge`'s reference leaves its arguments unchanged and every counter at zero. -/
theorem frame_merge : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- `AttC`'s reference leaves its arguments unchanged and every counter at zero. -/
theorem frame_attC : Cert.quiescent_AttCRefIdeal := fun m ρ _ =>
  (θ_run Cert.AttCRefIdeal.defs _ _).mono (fun r h => ⟨fun c => (h c).2.2, sem_eq_zero_of_no_sems (by decide) r.2⟩)
    (Cert.AttCRefIdeal.Value.run (F := Ideal) m ρ)

end Cert.Layer.RefFrames

end
-- ==== Proof.Spec.lean ====
/-
  The mathematics the projection calls share: one entry of the product of the normalised activations with the layer's
  input weights, over the extended reals.
-/
module

public import Idealize.ShloMosaic.Lib.Pointwise
public import Idealize.ShloMosaic.PureOps.Ideal.Laws

@[expose] public section

noncomputable section

namespace Cert.Layer

open Idealize.ShloMosaic

/-- Entry (row, col) of `xn @ w_in[0]`: the sum over the 2048 features of the row's activation times the weight. -/
def proj (x : (⟨2, ![8192, 2048]⟩ : Shape).Idx → EReal) (w : (⟨3, ![1, 2048, 19488]⟩ : Shape).Idx → EReal)
    (row : Fin 8192) (col : Fin 19488) : EReal :=
  ∑ k : Fin 2048, x (ix2 row k) * w (ix3 0 k col)

/-- Two rows and two columns of equal value name the same entry. -/
theorem proj_congr (x : (⟨2, ![8192, 2048]⟩ : Shape).Idx → EReal) (w : (⟨3, ![1, 2048, 19488]⟩ : Shape).Idx → EReal)
    {row row' : Fin 8192} {col col' : Fin 19488} (hr : row.val = row'.val) (hc : col.val = col'.val) :
    proj x w row col = proj x w row' col' := by
  rw [Fin.ext hr, Fin.ext hc]

/-- The two-coordinate index whose coordinates are zero offsets. -/
theorem hz : (![0, 0] : Fin 2 → Nat) = fun _ => 0 := funext fun a => by fin_cases a <;> rfl

end Cert.Layer

end
-- ==== Proof.Xnorm.lean ====
/-
  The value of the normalisation call: sixteen row tiles of 512 rows, each divided by its root mean square and scaled by
  the gain, and the product of the normalised rows with 128 columns of the input weights, read at element offset 15360.
-/
module

public import proofs.«01_k».proof.Proof.Spec
public import proofs.«01_k».proof.Defs
public import proofs.«01_k».proof.Proof.Gen.XnormIdeal.Value
public import proofs.«01_k».proof.Proof.Gen.XnormRefIdeal.Read
public import Idealize.ShloMosaic.Lib.StableHlo.ReadAt
public import Idealize.ShloMosaic.Lib.Tactic

@[expose] public section

set_option maxRecDepth 16384

noncomputable section

namespace Cert.XnormIdeal.Val

open Cert.XnormIdeal Cert.XnormIdeal.Gen Cert.Layer Idealize.ShloMosaic Idealize.ShloMosaic.TcCoe Idealize.SL.Sem
open Idealize.ShloMosaic.Pipeline (Dat)

/-- One entry of a row divided by the root of its mean square plus the small constant, times the gain. -/
def rms (row : Fin 2048 → EReal) (k : Fin 2048) (gain : EReal) : EReal :=
  row k * Ideal.rsqrt (Ideal.div (∑ q : Fin 2048, row q * row q) (Ideal.ofBits .f32 0x45000000#32)
    + Ideal.ofBits .f32 0x358637BD#32) * gain

/-- The normalised block, entry by entry. -/
theorem pay1_at (x : Vec Ideal S512x2048 .f32) (g : Vec Ideal S1x2048 .f32) (r : Fin 512) (k : Fin 2048) :
    k0_pay1 x g (ix2 r k) = rms (fun q => x (ix2 r q)) k (g (ix2 0 k)) := by
  unfold rms
  pointwise [k0_pay1]

/-- The block of low-rank columns, entry by entry. -/
theorem pay2_at (x : Vec Ideal S512x2048 .f32) (g : Vec Ideal S1x2048 .f32) (w : Vec Ideal S128x2048 .f32) (r : Fin 512)
    (q : Fin 128) :
    k0_pay2 x g w (ix2 r q) = ∑ k : Fin 2048, k0_pay1 x g (ix2 r k) * w (ix2 q k) := by
  pointwise [k0_pay2]

/-- The first output's block after the body: the normalised block. -/
theorem out3 (x : Vec Ideal S512x2048 .f32) (g : Vec Ideal S1x2048 .f32) (w : Vec Ideal S128x2048 .f32) :
    out0_3 x g w = k0_pay1 x g := by
  unfold out0_3
  rw [View.canon_unit_zero hz]
  simp only [View.ld_unit_zero (S := S512x2048) hz, View.ld_unit_zero (S := S1x2048) hz]

/-- The second output's block after the body: the block of low-rank columns. -/
theorem out4 (x : Vec Ideal S512x2048 .f32) (g : Vec Ideal S1x2048 .f32) (w : Vec Ideal S128x2048 .f32) :
    out0_4 x g w = k0_pay2 x g w := by
  unfold out0_4
  rw [View.canon_unit_zero hz]
  simp only [View.ld_unit_zero (S := S512x2048) hz, View.ld_unit_zero (S := S1x2048) hz, View.ld_unit_zero (S := S128x2048) hz]

variable (m : (ℓ : Loc nD τ sig) → Buf (Elt Ideal) ℓ) (ρ : Dev nD → PrngReg)

/-- The tokens, the gain and the weights of the call, as the arguments hold them. -/
abbrev xs (c : Dev nD) : S4x2048x2048.Idx → EReal := m ((c : Thread nD τ).loc main_arg0)
abbrev gs (c : Dev nD) : S1x2048.Idx → EReal := m ((c : Thread nD τ).loc main_arg1)
abbrev ws (c : Dev nD) : S1x2048x19488.Idx → EReal := m ((c : Thread nD τ).loc main_arg2)

/-- The index maps at a point: the row tile is the point; the gain and the weights do not move, and the weights' map
    names the first column itself. -/
theorem idxs : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 15360 ∧ win0_2.index t (1 : Fin 2) = 0)
    ∧ (win0_3.index t (0 : Fin 2) = t.val ∧ win0_3.index t (1 : Fin 2) = 0)
    ∧ win0_4.index t (0 : Fin 2) = t.val ∧ win0_4.index t (1 : Fin 2) = 0 :=
  (by decide +kernel : ∀ t : Fin grid0.N, _)

/-- Every point writes both outputs' blocks back. -/
theorem flushes : ∀ t : Fin cfg0.N, (cfg0.win 3).flush t = true ∧ (cfg0.win 4).flush t = true :=
  (by decide +kernel : ∀ t : Fin grid0.N, win0_3.flush t = true ∧ win0_4.flush t = true)

/-- The call has sixteen points. -/
theorem lt16 (t : Fin cfg0.N) : t.val < 16 := lt_of_lt_of_eq t.isLt N_0

/-- The token rows the host prepares, entry by entry. -/
theorem V_x (c : Dev nD) (r : Fin 8192) (k : Fin 2048) :
    V m c main_v0 (ix2 r k) = xs m c (ix3 ⟨r.val / 2048, by have := r.isLt; omega⟩ ⟨r.val % 2048, by omega⟩ k) := by
  unfold V
  after_reads_at

/-- The gain the host prepares, entry by entry. -/
theorem V_g (c : Dev nD) (k : Fin 2048) : V m c main_v2 (ix2 0 k) = gs m c (ix2 0 k) := by
  unfold V
  after_reads_at

/-- The transposed weights the host prepares, entry by entry. -/
theorem V_w (c : Dev nD) (r : Fin 19488) (k : Fin 2048) : V m c main_v4 (ix2 r k) = ws m c (ix3 0 k r) := by
  unfold V
  after_reads_at

/-- Row `row` of the tokens. -/
abbrev tok (c : Dev nD) (row : Fin 8192) (k : Fin 2048) : EReal :=
  xs m c (ix3 ⟨row.val / 2048, by have := row.isLt; omega⟩ ⟨row.val % 2048, by omega⟩ k)

/-- The row tile at point `t`. -/
theorem iblk_x (c : Dev nD) (t : Fin cfg0.N) (r : Fin 512) (k : Fin 2048) :
    iblk m c 0 t (ix2 r k) = tok m c ⟨t.val * 512 + r.val, by have := r.isLt; have := lt16 t; omega⟩ k := by
  unfold tok
  refine Eq.trans ?_ (V_x m c ⟨t.val * 512 + r.val, by have := r.isLt; have := lt16 t; omega⟩ k)
  unfold iblk
  rw [View.read_apply]
  show V m c main_v0 _ = _
  congr 1
  funext a
  apply Fin.ext
  match a with
  | ⟨0, _⟩ => show win0_0.index t (0 : Fin 2) * 512 + 1 * r.val = _; rw [(idxs t).1.1, Nat.one_mul]; rfl
  | ⟨1, _⟩ => show win0_0.index t (1 : Fin 2) * 2048 + 1 * k.val = _; rw [(idxs t).1.2, Nat.one_mul, Nat.zero_mul, Nat.zero_add]; rfl

/-- The gain at point `t`. -/
theorem iblk_g (c : Dev nD) (t : Fin cfg0.N) (k : Fin 2048) : iblk m c 1 t (ix2 0 k) = gs m c (ix2 0 k) := by
  rw [← V_g]
  unfold iblk
  rw [View.read_apply]
  show V m c main_v2 _ = _
  congr 1
  funext a
  apply Fin.ext
  match a with
  | ⟨0, _⟩ => show win0_1.index t (0 : Fin 2) * 1 + 1 * 0 = _; rw [(idxs t).2.1.1]; rfl
  | ⟨1, _⟩ => show win0_1.index t (1 : Fin 2) * 2048 + 1 * k.val = _; rw [(idxs t).2.1.2, Nat.one_mul, Nat.zero_mul, Nat.zero_add]; rfl

/-- The weight block at every point: the 128 columns from 15360 on. -/
theorem iblk_w (c : Dev nD) (t : Fin cfg0.N) (q : Fin 128) (k : Fin 2048) :
    iblk m c 2 t (ix2 q k) = ws m c (ix3 0 k ⟨15360 + q.val, by have := q.isLt; omega⟩) := by
  rw [← V_w]
  unfold iblk
  rw [View.read_apply]
  show V m c main_v4 _ = _
  congr 1
  funext a
  apply Fin.ext
  match a with
  | ⟨0, _⟩ => show win0_2.index t (0 : Fin 2) + 1 * q.val = _; rw [(idxs t).2.2.1.1, Nat.one_mul]; rfl
  | ⟨1, _⟩ => show win0_2.index t (1 : Fin 2) + 1 * k.val = _; rw [(idxs t).2.2.1.2, Nat.one_mul, Nat.zero_add]; rfl

/-- One entry of the normalised rows. -/
def xn (c : Dev nD) (row : Fin 8192) (k : Fin 2048) : EReal := rms (tok m c row) k (gs m c (ix2 0 k))

/-- One entry of the low-rank columns: a normalised row times column `15360 + q` of the weights. -/
def lr (c : Dev nD) (row : Fin 8192) (q : Fin 128) : EReal :=
  ∑ k : Fin 2048, xn m c row k * ws m c (ix3 0 k ⟨15360 + q.val, by have := q.isLt; omega⟩)

/-- What the first output's block holds after point `t`: the normalised rows of the tile. -/
theorem blk3 (c : Dev nD) (t : Fin cfg0.N) (r : Fin 512) (k : Fin 2048) :
    out0_3 (iblk m c 0 t) (iblk m c 1 t) (iblk m c 2 t) (ix2 r k)
      = xn m c ⟨t.val * 512 + r.val, by have := r.isLt; have := lt16 t; omega⟩ k := by
  rw [out3, pay1_at]
  unfold xn
  rw [iblk_g]
  exact congrArg (fun f => rms f k _) (funext fun q => iblk_x m c t r q)

/-- What the second output's block holds after point `t`: the low-rank columns of the tile's rows. -/
theorem blk4 (c : Dev nD) (t : Fin cfg0.N) (r : Fin 512) (q : Fin 128) :
    out0_4 (iblk m c 0 t) (iblk m c 1 t) (iblk m c 2 t) (ix2 r q)
      = lr m c ⟨t.val * 512 + r.val, by have := r.isLt; have := lt16 t; omega⟩ q := by
  rw [out4, pay2_at]
  unfold lr
  refine Finset.sum_congr rfl fun k _ => ?_
  rw [iblk_w, ← blk3, out3]

/-- What the call computes first: the normalised rows. -/
def G3 (c : Dev nD) : Buf (Elt Ideal) ((c : Thread nD τ).loc main_v5_0) := fun i => xn m c (i 0) (i 1)

/-- What the call computes second: columns 15360 … 15487 of the normalised rows' projection. -/
def G4 (c : Dev nD) : Buf (Elt Ideal) ((c : Thread nD τ).loc main_v5_1) := fun i => lr m c (i 0) (i 1)

/-- Each point writes back its block of `G3`. -/
theorem flushed3 (c : Dev nD) (t : Fin cfg0.N) (_ : (cfg0.win 3).flush t = true) :
    (dats m 0 c).flushed 3 t = ((cfg0.win 3).blk t).view.read (Elt Ideal) (G3 m c) := by
  rw [Value.flushed3]
  funext y
  rw [View.read_apply]
  show out0_3 (iblk m c 0 t) (iblk m c 1 t) (iblk m c 2 t) _ = _
  obtain ⟨r, k, hy⟩ : ∃ (r : Fin 512) (k : Fin 2048), (cfg0.win 3).xinj (grid0.coords t) y = ix2 r k := ⟨_, _, eq_ix2 _⟩
  have h0 : (y 0).val = r.val := congrArg (fun z : S512x2048.Idx => (z 0).val) hy
  have h1 : (y 1).val = k.val := congrArg (fun z : S512x2048.Idx => (z 1).val) hy
  refine (congrArg _ hy).trans ((blk3 m c t r k).trans ?_)
  unfold G3
  refine congrArg₂ (xn m c) (Fin.ext ?_) (Fin.ext ?_)
  · show _ = win0_3.index t (0 : Fin 2) * 512 + 1 * (y 0).val
    rw [(idxs t).2.2.2.1.1, h0, Nat.one_mul]
  · show _ = win0_3.index t (1 : Fin 2) * 2048 + 1 * (y 1).val
    rw [(idxs t).2.2.2.1.2, h1, Nat.one_mul, Nat.zero_mul, Nat.zero_add]

/-- Each point writes back its block of `G4`. -/
theorem flushed4 (c : Dev nD) (t : Fin cfg0.N) (_ : (cfg0.win 4).flush t = true) :
    (dats m 0 c).flushed 4 t = ((cfg0.win 4).blk t).view.read (Elt Ideal) (G4 m c) := by
  rw [Value.flushed4]
  funext y
  rw [View.read_apply]
  show out0_4 (iblk m c 0 t) (iblk m c 1 t) (iblk m c 2 t) _ = _
  obtain ⟨r, q, hy⟩ : ∃ (r : Fin 512) (q : Fin 128), (cfg0.win 4).xinj (grid0.coords t) y = ix2 r q := ⟨_, _, eq_ix2 _⟩
  have h0 : (y 0).val = r.val := congrArg (fun z : S512x128.Idx => (z 0).val) hy
  have h1 : (y 1).val = q.val := congrArg (fun z : S512x128.Idx => (z 1).val) hy
  refine (congrArg _ hy).trans ((blk4 m c t r q).trans ?_)
  unfold G4
  refine congrArg₂ (lr m c) (Fin.ext ?_) (Fin.ext ?_)
  · show _ = win0_4.index t (0 : Fin 2) * 512 + 1 * (y 0).val
    rw [(idxs t).2.2.2.2.1, h0, Nat.one_mul]
  · show _ = win0_4.index t (1 : Fin 2) * 128 + 1 * (y 1).val
    rw [(idxs t).2.2.2.2.2, h1, Nat.one_mul, Nat.zero_mul, Nat.zero_add]

/-- An index lies in point `t`'s block of output 3 iff each coordinate is in the block's range on its axis. -/
theorem mem_blk3 (t : Fin cfg0.N) (i : S8192x2048.Idx) : i ∈ ((cfg0.win 3).blk t).view.set ↔ ∀ a : Fin 2,
    win0_3.index t a * S512x2048.size a ≤ (i a).val ∧ (i a).val < win0_3.index t a * S512x2048.size a + S512x2048.size a := by
  show i ∈ ((View.whole main_v5_0).slice (win0_3.rect t)).set ↔ _
  rw [View.set_slice_whole, Rect.mem_set_unit]
  exact Iff.rfl

/-- The first result array ends holding `G3`: the row tiles fill it. -/
theorem final3 (c : Dev nD) : (dats m 0 c).arrAt 3 cfg0.N = G3 m c :=
  (dats m 0 c).arrAt_eq_of_cover 3 _ (flushed3 m c) fun i => by
    have h0 : (i 0).val < 8192 := (i 0).isLt
    have h1 : (i 1).val < 2048 := (i 1).isLt
    have ht : (i 0).val / 512 < cfg0.N := by rw [show cfg0.N = 16 from N_0]; omega
    refine ⟨⟨(i 0).val / 512, ht⟩, (flushes _).1, ?_⟩
    rw [mem_blk3]
    intro a
    match a with
    | ⟨0, _⟩ =>
      show win0_3.index _ (0 : Fin 2) * 512 ≤ (i 0).val ∧ (i 0).val < win0_3.index _ (0 : Fin 2) * 512 + 512
      rw [(idxs _).2.2.2.1.1]; dsimp only; omega
    | ⟨1, _⟩ =>
      show win0_3.index _ (1 : Fin 2) * 2048 ≤ (i 1).val ∧ (i 1).val < win0_3.index _ (1 : Fin 2) * 2048 + 2048
      rw [(idxs _).2.2.2.1.2]; omega

/-- An index lies in point `t`'s block of output 4 iff each coordinate is in the block's range on its axis. -/
theorem mem_blk4 (t : Fin cfg0.N) (i : S8192x128.Idx) : i ∈ ((cfg0.win 4).blk t).view.set ↔ ∀ a : Fin 2,
    win0_4.index t a * S512x128.size a ≤ (i a).val ∧ (i a).val < win0_4.index t a * S512x128.size a + S512x128.size a := by
  show i ∈ ((View.whole main_v5_1).slice (win0_4.rect t)).set ↔ _
  rw [View.set_slice_whole, Rect.mem_set_unit]
  exact Iff.rfl

/-- The second result array ends holding `G4`: the row tiles fill it. -/
theorem final4 (c : Dev nD) : (dats m 0 c).arrAt 4 cfg0.N = G4 m c :=
  (dats m 0 c).arrAt_eq_of_cover 4 _ (flushed4 m c) fun i => by
    have h0 : (i 0).val < 8192 := (i 0).isLt
    have h1 : (i 1).val < 128 := (i 1).isLt
    have ht : (i 0).val / 512 < cfg0.N := by rw [show cfg0.N = 16 from N_0]; omega
    refine ⟨⟨(i 0).val / 512, ht⟩, (flushes _).2, ?_⟩
    rw [mem_blk4]
    intro a
    match a with
    | ⟨0, _⟩ =>
      show win0_4.index _ (0 : Fin 2) * 512 ≤ (i 0).val ∧ (i 0).val < win0_4.index _ (0 : Fin 2) * 512 + 512
      rw [(idxs _).2.2.2.2.1]; dsimp only; omega
    | ⟨1, _⟩ =>
      show win0_4.index _ (1 : Fin 2) * 128 ≤ (i 1).val ∧ (i 1).val < win0_4.index _ (1 : Fin 2) * 128 + 128
      rw [(idxs _).2.2.2.2.2]; omega

/-- The reference's normalised rows before the cast, entry by entry. -/
theorem ref14 (c : Dev nD) (r : Fin 8192) (k : Fin 2048) :
    XnormRefIdeal.Read.val_main_v14 (F := Ideal) (xs m c) (gs m c) (ix2 r k) = xn m c r k := by
  unfold xn rms tok
  pointwise [XnormRefIdeal.Read.val_main_v14, XnormRefIdeal.Read.val_main_v13,
    XnormRefIdeal.Read.val_main_v12, XnormRefIdeal.Read.val_main_v11, XnormRefIdeal.Read.val_main_v10,
    XnormRefIdeal.Read.val_main_v9, XnormRefIdeal.Read.val_main_v8, XnormRefIdeal.Read.val_main_v7,
    XnormRefIdeal.Read.val_main_v6, XnormRefIdeal.Read.val_main_v5, XnormRefIdeal.Read.val_main_v4,
    XnormRefIdeal.Read.val_main_v3, XnormRefIdeal.Read.val_main_v2, XnormRefIdeal.Read.val_main_v1,
    XnormRefIdeal.Read.val_main_v0, XnormRefIdeal.Read.val_main_cst, XnormRefIdeal.Read.val_main_cst_0,
    XnormRefIdeal.Read.val_main_cst_1]

/-- The reference's first result is `G3` of the same arguments. -/
theorem ref15 (c : Dev nD) : XnormRefIdeal.Read.val_main_v15 (F := Ideal) (xs m c) (gs m c) = G3 m c := by
  funext i
  idx_vars i
  exact ref14 m c _ _

/-- The reference's second result is `G4` of the same arguments. -/
theorem ref18 (c : Dev nD) : XnormRefIdeal.Read.val_main_v18 (F := Ideal) (xs m c) (gs m c) (ws m c) = G4 m c := by
  funext i
  idx_vars i
  unfold G4 lr
  pointwise [XnormRefIdeal.Read.val_main_v18, XnormRefIdeal.Read.val_main_v17, XnormRefIdeal.Read.val_main_v16]
  exact Finset.sum_congr rfl fun k _ => congrArg (· * _) (ref14 m c _ k)

/-- The call and its reference compute the same normalised rows and the same low-rank columns over the extended reals. -/
theorem alg : Cert.algebraic_XnormIdeal_XnormRefIdeal := fun m ρ m' ρ' _ hag =>
  ⟨fun c => G3 m c, fun c => G4 m c,
    (θ_run _ _ _).mono (fun _ h c => ⟨(h c).1.trans (final3 m c), (h c).2.1.trans (final4 m c), (h c).2.2⟩) (Value.run_blocks m ρ),
    (θ_run _ _ _).mono (fun _ h c => ⟨(h c).1.trans (by
        rw [XnormRefIdeal.Read.val_main_v15_eq, (hag c).1, (hag c).2.1]; exact ref15 m c),
      (h c).2.1.trans (by
        rw [XnormRefIdeal.Read.val_main_v18_eq, (hag c).1, (hag c).2.1, (hag c).2.2]; exact ref18 m c), (h c).2.2⟩)
      (XnormRefIdeal.Value.run m' ρ')⟩

end Cert.XnormIdeal.Val

end
-- ==== Proof.ProjA.lean ====
/-
  The value of the projection call of head group 0: the query, key and value columns of the group in `xn @ w_in[0]`,
  three weight blocks of 1024 columns read
  at element offsets, four row tiles of 2048 rows, the block's weights kept in a scratch from the first row tile on.
-/
module

public import proofs.«01_k».proof.Proof.Spec
public import proofs.«01_k».proof.Defs
public import proofs.«01_k».proof.Proof.Gen.ProjAIdeal.Value
public import proofs.«01_k».proof.Proof.Gen.ProjARefIdeal.Read
public import Idealize.ShloMosaic.Lib.StableHlo.ReadAt
public import Idealize.ShloMosaic.Lib.Tactic

@[expose] public section

set_option maxRecDepth 16384

noncomputable section

namespace Cert.ProjAIdeal.Val

open Cert.ProjAIdeal Cert.ProjAIdeal.Gen Cert.Layer Idealize.ShloMosaic Idealize.ShloMosaic.TcCoe Idealize.SL.Sem
open Idealize.ShloMosaic.Pipeline (Dat)

section Cases
variable {F : FTy → Type} [FloatOps F]

/-- Where the row tile is the first, the output block is the product of the rows with the weights just cast. -/
theorem out_A (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : cond0_0 i)
    (x : Vec F S2048x2048 .bf16) (w : Vec F S1024x2048 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz]
  simp only [View.readAt_eq_ld, h2.read_unread, h3.read_unread, View.ld_unit_zero (S := S2048x2048) hz,
    View.ld_unit_zero (S := S1024x2048) hz, View.readCov_unit_zero (S := S1024x2048) _ hz]

/-- … and the scratch is left holding those weights. -/
theorem sout_A (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : cond0_0 i)
    (x : Vec F S2048x2048 .bf16) (w : Vec F S1024x2048 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S1024x2048) hz]

/-- At the other row tiles the output block is the product of the rows with the weights the scratch holds. -/
theorem out_B (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : ¬cond0_0 i)
    (x : Vec F S2048x2048 .bf16) (w : Vec F S1024x2048 .f32) (s : Vec F S1024x2048 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero hz]
  simp only [View.readAt_eq_ld, h2.read_unread, h5.read_unread, View.ld_unit_zero (S := S2048x2048) hz,
    View.ld_unit_zero (S := S1024x2048) hz]

end Cases

variable (m : (ℓ : Loc nD τ sig) → Buf (Elt Ideal) ℓ) (ρ : Dev nD → PrngReg)

/-- The activations and the weights of the call, as the arguments hold them. -/
abbrev xs (c : Dev nD) : S8192x2048.Idx → EReal := m ((c : Thread nD τ).loc main_arg0)
abbrev ws (c : Dev nD) : S1x2048x19488.Idx → EReal := m ((c : Thread nD τ).loc main_arg1)

/-- The three index maps at a point: the row tile is the point mod 4, the column block the point over 4; the weights'
    map names the first column itself. -/
theorem idxs : ∀ t : Fin cfg0.N, (win0_0.index t (0 : Fin 2) = t.val % 4 ∧ win0_0.index t (1 : Fin 2) = 0)
    ∧ (win0_1.index t (0 : Fin 2) = t.val / 4 * 3072 ∧ win0_1.index t (1 : Fin 2) = 0)
    ∧ win0_2.index t (0 : Fin 2) = t.val % 4 ∧ win0_2.index t (1 : Fin 2) = t.val / 4 :=
  (by decide +kernel : ∀ t : Fin grid0.N, _)

/-- The call has twelve points. -/
theorem lt12 (t : Fin cfg0.N) : t.val < 12 := lt_of_lt_of_eq t.isLt N_0

/-- The transposed weights the host prepares, entry by entry. -/
theorem V_w (c : Dev nD) (r : Fin 19488) (k : Fin 2048) : V m c main_v1 (ix2 r k) = ws m c (ix3 0 k r) := by
  unfold V
  after_reads_at

/-- The row tile at point `t`. -/
theorem iblk_x (c : Dev nD) (t : Fin cfg0.N) (r k : Fin 2048) :
    iblk m c 0 t (ix2 r k) = xs m c (ix2 ⟨t.val % 4 * 2048 + r.val, by have := r.isLt; omega⟩ k) := by
  unfold iblk
  rw [View.read_apply]
  show V m c main_arg0 _ = _
  rw [V_main_arg0]
  congr 1
  funext a
  apply Fin.ext
  match a with
  | ⟨0, _⟩ => show win0_0.index t (0 : Fin 2) * 2048 + 1 * r.val = _; rw [(idxs t).1.1, Nat.one_mul]; rfl
  | ⟨1, _⟩ => show win0_0.index t (1 : Fin 2) * 2048 + 1 * k.val = _; rw [(idxs t).1.2, Nat.one_mul, Nat.zero_mul, Nat.zero_add]; rfl

/-- The weight block at point `t`: 1024 columns of the input weights from column `3072 (t / 4)` on. -/
theorem iblk_w (c : Dev nD) (t : Fin cfg0.N) (r : Fin 1024) (k : Fin 2048) :
    iblk m c 1 t (ix2 r k) = ws m c (ix3 0 k ⟨t.val / 4 * 3072 + r.val, by have := r.isLt; have := lt12 t; omega⟩) := by
  rw [← V_w]
  unfold iblk
  rw [View.read_apply]
  show V m c main_v1 _ = _
  congr 1
  funext a
  apply Fin.ext
  match a with
  | ⟨0, _⟩ => show win0_1.index t (0 : Fin 2) + 1 * r.val = _; rw [(idxs t).2.1.1, Nat.one_mul]; rfl
  | ⟨1, _⟩ => show win0_1.index t (1 : Fin 2) + 1 * k.val = _; rw [(idxs t).2.1.2, Nat.one_mul, Nat.zero_add]; rfl

/-- The cast weights, entry by entry: over the extended reals the cast changes nothing. -/
theorem pay1_at (w : Vec Ideal S1024x2048 .f32) (j : S1024x2048.Idx) : k0_pay1 w j = w j := by
  idx_vars j
  pointwise [k0_pay1]

/-- The product block, entry by entry. -/
theorem pay2_at (x : Vec Ideal S2048x2048 .bf16) (s : Vec Ideal S1024x2048 .bf16) (r : Fin 2048) (q : Fin 1024) :
    k0_pay2 x s (ix2 r q) = ∑ k : Fin 2048, x (ix2 r k) * s (ix2 q k) := by
  pointwise [k0_pay2]

/-- What the scratch holds after point `n`: the weight block of the point's column block. -/
theorem scr (c : Dev nD) : ∀ (n : ℕ) (h : n < cfg0.N) (r : Fin 1024) (k : Fin 2048),
    (outsAt0 m c n h).2 (ix2 r k)
      = ws m c (ix3 0 k ⟨n / 4 * 3072 + r.val, by have := r.isLt; have := lt12 ⟨n, h⟩; dsimp only at this; omega⟩) := by
  intro n
  induction n with
  | zero =>
    intro h r k
    rw [outsAt0_A m c ⟨0, h⟩ rfl]
    dsimp only
    rw [sout_A, pay1_at]
    exact iblk_w m c ⟨0, h⟩ r k
  | succ n ih =>
    intro h r k
    by_cases h0 : (n + 1) % 4 = 0
    · rw [outsAt0_A m c ⟨n + 1, h⟩ h0]
      dsimp only
      rw [sout_A, pay1_at]
      exact iblk_w m c ⟨n + 1, h⟩ r k
    · rw [outsAt0_B m c ⟨n + 1, h⟩ h0]
      dsimp only
      unfold sout0_B_0
      refine (ih (Nat.lt_of_succ_lt h) r k).trans ?_
      have e : (n + 1) / 4 = n / 4 := by omega
      simp only [e]

/-- What the output block holds after point `t`: the projection's entries of that row tile and column block. -/
theorem blk (c : Dev nD) (t : Fin cfg0.N) (r : Fin 2048) (q : Fin 1024) :
    (outsAt0 m c t.val t.isLt).1 (ix2 r q)
      = proj (xs m c) (ws m c) ⟨t.val % 4 * 2048 + r.val, by have := r.isLt; omega⟩
          ⟨t.val / 4 * 3072 + q.val, by have := q.isLt; have := lt12 t; omega⟩ := by
  unfold proj
  by_cases h0 : t.val % 4 = 0
  · rw [outsAt0_A m c t h0]
    dsimp only
    rw [out_A, pay2_at]
    refine Finset.sum_congr rfl fun k _ => ?_
    rw [pay1_at, iblk_x, iblk_w]
  · rw [outsAt0_B m c t h0]
    dsimp only
    rw [out_B, pay2_at]
    refine Finset.sum_congr rfl fun k _ => ?_
    have e : (t.val - 1) / 4 = t.val / 4 := by omega
    rw [iblk_x, scr]
    simp only [e]

/-- What the call computes: the queries, keys and values of head group 0. -/
def G (c : Dev nD) : Buf (Elt Ideal) ((c : Thread nD τ).loc main_v2) := fun i =>
  proj (xs m c) (ws m c) (i 0) ⟨(i 1).val / 1024 * 3072 + (i 1).val % 1024, by have h : (i 1).val < 3072 := (i 1).isLt; omega⟩

/-- Each point writes back its block of `G`. -/
theorem flushed (c : Dev nD) (t : Fin cfg0.N) (_ : (cfg0.win 2).flush t = true) :
    (dats m 0 c).flushed 2 t = ((cfg0.win 2).blk t).view.read (Elt Ideal) (G m c) := by
  rw [Value.flushed2]
  funext y
  rw [View.read_apply]
  show (outsAt0 m c t.val t.isLt).1 _ = _
  have hy : ∃ (r : Fin 2048) (q : Fin 1024), (cfg0.win 2).xinj (grid0.coords t) y = ix2 r q :=
    ⟨_, _, eq_ix2 _⟩
  obtain ⟨r, q, hy⟩ := hy
  have h0 : (y 0).val = r.val := congrArg (fun z : S2048x1024.Idx => (z 0).val) hy
  have h1 : (y 1).val = q.val := congrArg (fun z : S2048x1024.Idx => (z 1).val) hy
  refine (congrArg _ hy).trans ((blk m c t r q).trans ?_)
  unfold G
  refine proj_congr _ _ ?_ ?_
  · show _ = win0_2.index t (0 : Fin 2) * 2048 + 1 * (y 0).val
    rw [(idxs t).2.2.1, h0, Nat.one_mul]
  · show _ = (win0_2.index t (1 : Fin 2) * 1024 + 1 * (y 1).val) / 1024 * 3072 + (win0_2.index t (1 : Fin 2) * 1024 + 1 * (y 1).val) % 1024
    rw [(idxs t).2.2.2, h1, Nat.one_mul]
    have := q.isLt
    show t.val / 4 * 3072 + q.val = _
    omega

/-- So the result array ends holding `G`. -/
theorem final (c : Dev nD) : (dats m 0 c).arrAt 2 cfg0.N = G m c :=
  (dats m 0 c).arrAt_eq_of_cover 2 _ (flushed m c) (fun i => (Value.covered_iff2 i).2 (by
    have h0 : (i 0).val < 8192 := (i 0).isLt; have h1 : (i 1).val < 3072 := (i 1).isLt; omega))

/-- The reference's result is `G` of the same arguments. -/
theorem ref_eq (c : Dev nD) : ProjARefIdeal.Read.val_main_v10 (F := Ideal) (xs m c) (ws m c) = G m c := by
  funext i
  idx_vars i
  unfold G proj
  pointwise [ProjARefIdeal.Read.val_main_v10, ProjARefIdeal.Read.val_main_v9, ProjARefIdeal.Read.val_main_v8,
    ProjARefIdeal.Read.val_main_v7, ProjARefIdeal.Read.val_main_v6, ProjARefIdeal.Read.val_main_v5,
    ProjARefIdeal.Read.val_main_v4, ProjARefIdeal.Read.val_main_v3, ProjARefIdeal.Read.val_main_v2,
    ProjARefIdeal.Read.val_main_v1, ProjARefIdeal.Read.val_main_v0]

/-- The call and its reference compute the same projection over the extended reals. -/
theorem alg : Cert.algebraic_ProjAIdeal_ProjARefIdeal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by
      rw [ProjARefIdeal.Read.val_main_v10_eq, (hag c).1, (hag c).2]; exact ref_eq m c), (h c).2⟩) (ProjARefIdeal.Value.run m' ρ')⟩

end Cert.ProjAIdeal.Val

end
-- ==== Proof.Perm.lean ====
/-
  The 0/1 matrix by which the second and third attention projections bring the rows of one residue class together: row
  `d` of the matrix has its one at column `(d mod n) * r + d / n`.
-/
module

public import Idealize.ShloMosaic.Lib.Pointwise
public import Idealize.ShloMosaic.PureOps.Ideal.Laws

@[expose] public section

noncomputable section

namespace Cert.Layer

open Idealize.ShloMosaic

/-- The column of the one in row `d`, in the 32-bit words the kernel computes it with: `d mod n` and `d / n` with their
    corrections for signs, the first times `r` plus the second. -/
def permWord (n r d : BitVec 32) : BitVec 32 :=
  IntOp.addi
    (IntOp.muli
      (Scalar.select
        (IntOp.andi
          (IntOp.xori
            (IntOp.cmpi .slt (IntOp.remsi .vector d (Scalar.select (Scalar.cmpi .eq n 0#32) 1#32 n)) 0#32)
            (Scalar.cmpi .slt (Scalar.select (Scalar.cmpi .eq n 0#32) 1#32 n) 0#32))
          (IntOp.cmpi .ne (IntOp.remsi .vector d (Scalar.select (Scalar.cmpi .eq n 0#32) 1#32 n)) 0#32))
        (IntOp.addi
          (IntOp.remsi .vector d (Scalar.select (Scalar.cmpi .eq n 0#32) 1#32 n))
          (Scalar.select (Scalar.cmpi .eq n 0#32) 1#32 n))
        (IntOp.remsi .vector d (Scalar.select (Scalar.cmpi .eq n 0#32) 1#32 n)))
      r)
    (Scalar.select
      (IntOp.andi
        (IntOp.cmpi .ne
          (IntOp.subi (BitVec.setWidth 32 (IntOp.cmpi .sgt d 0#32)) (BitVec.setWidth 32 (IntOp.cmpi .slt d 0#32)))
          (Scalar.subi (Scalar.extui (Scalar.cmpi .sgt n 0#32)) (Scalar.extui (Scalar.cmpi .slt n 0#32))))
        (IntOp.cmpi .ne (IntOp.remsi .vector d n) 0#32))
      (IntOp.subi (IntOp.divsi .vector d n) 1#32)
      (IntOp.divsi .vector d n))

/-- For four classes of 64 rows the words compute `(d mod 64) * 4 + d / 64`. -/
theorem permWord_4 : ∀ d : Fin 256, permWord 64#32 4#32 (BitVec.ofNat 32 d.val) = BitVec.ofNat 32 (d.val % 64 * 4 + d.val / 64) := by
  decide +kernel

/-- For sixteen classes of 16 rows the words compute `(d mod 16) * 16 + d / 16`. -/
theorem permWord_16 : ∀ d : Fin 256, permWord 16#32 16#32 (BitVec.ofNat 32 d.val) = BitVec.ofNat 32 (d.val % 16 * 16 + d.val / 16) := by
  decide +kernel

/-- Choosing one or zero by the equality of two words below 2³² chooses by the equality of the numbers. -/
theorem select_eq (a b : ℕ) (ha : a < 4294967296) (hb : b < 4294967296) :
    Scalar.select (IntOp.cmpi .eq (BitVec.ofNat 32 a) (BitVec.ofNat 32 b)) (1 : EReal) 0 = if a = b then 1 else 0 := by
  have h : (BitVec.ofNat 32 a = BitVec.ofNat 32 b) ↔ a = b := by
    constructor
    · intro h
      have := congrArg BitVec.toNat h
      simpa [BitVec.toNat_ofNat, Nat.mod_eq_of_lt ha, Nat.mod_eq_of_lt hb] using this
    · rintro rfl; rfl
  by_cases hab : a = b
  · subst hab; simp [Scalar.select, IntOp.cmpi]
  · have : ¬ BitVec.ofNat 32 a = BitVec.ofNat 32 b := fun h' => hab (h.1 h')
    simp [Scalar.select, IntOp.cmpi, beq_false_of_ne this, hab]

/-- A sum against a row with a single one is the entry at that one. -/
theorem sum_perm (f : Fin 256 → EReal) (p : ℕ) (hp : p < 256) :
    (∑ k : Fin 256, (if k.val = p then (1 : EReal) else 0) * f k) = f ⟨p, hp⟩ := by
  rw [Finset.sum_eq_single (⟨p, hp⟩ : Fin 256)]
  · simp
  · intro b _ hb
    rw [if_neg (fun h => hb (Fin.ext h)), zero_mul]
  · intro h; exact absurd (Finset.mem_univ _) h

end Cert.Layer

end
-- ==== Proof.ProjB.lean ====
/-
  The value of the second attention projection: head group 1's queries, keys and values, the rows of each of the four
  residue classes brought together inside every 256 rows by a 0/1 matrix, and the cast of w_ff1 that the call does
  beside it.
-/
module

public import proofs.«01_k».proof.Proof.Spec
public import proofs.«01_k».proof.Proof.Perm
public import proofs.«01_k».proof.Defs
public import proofs.«01_k».proof.Proof.Gen.ProjBIdeal.Value
public import proofs.«01_k».proof.Proof.Gen.ProjBRefIdeal.Read
public import Idealize.ShloMosaic.Lib.StableHlo.ReadAt
public import Idealize.ShloMosaic.Lib.Tactic
public import Idealize.ShloMosaic.Lib.Pipeline.ReadBack

@[expose] public section

set_option maxRecDepth 16384

noncomputable section

namespace Cert.ProjBIdeal.Val

open Cert.ProjBIdeal Cert.ProjBIdeal.Gen Cert.Layer Idealize.ShloMosaic Idealize.ShloMosaic.TcCoe Idealize.SL.Sem
open Idealize.ShloMosaic.Pipeline (Dat)

/-- The 0/1 matrix, entry by entry: row `d` has its one at column `(d mod 64) * 4 + d / 64`. -/
theorem perm_at (d k : Fin 256) :
    (k0_pay9 (F := Ideal) (iota .tc S256x256 32 [0] iota_S256x256_d0_w32) (iota .tc S256x256 32 [1] iota_S256x256_d1_w32) k0_pay6 64#32 k0_pay7 k0_pay8)
      (ix2 d k) = if k.val = d.val % 64 * 4 + d.val / 64 then (1 : EReal) else 0 := by
  pointwise [k0_pay9, k0_pay6, k0_pay7, k0_pay8]
  refine Eq.trans ?_ (select_eq k.val (d.val % 64 * 4 + d.val / 64) (by have := k.isLt; omega) (by have := d.isLt; omega))
  rw [← permWord_4 d]
  rfl

/-- Row `4 * l + c` of a tile's product, read at the block index of class `c` and row `l` in it. -/
def regroup (v : S1024x1024.Idx → EReal) (y : S1x4x256x1024.Idx) : EReal :=
  v (ix2 ⟨(y 2).val * 4 + (y 1).val, by
    have h1 : (y 1).val < 4 := (y 1).isLt
    have h2 : (y 2).val < 256 := (y 2).isLt
    omega⟩ (y 3))

section Cases

/-- A product's entry does not depend on how its row is written. -/
theorem entry_congr (v : S1024x1024.Idx → EReal) {p p' : Fin 1024} {q q' : Fin 1024} (hp : p.val = p'.val) (hq : q.val = q'.val) :
    v (ix2 p q) = v (ix2 p' q') := by
  rw [Fin.ext hp, Fin.ext hq]

/-- Where the row tile is the first, the output block is the regrouped product of the rows with the weights just cast. -/
theorem out3_A (c : Dev nD) (i : grid0.Coords) (a2 : Memref sig .tc .vmem S1024x2048 .bf16) (h2 : a2.IsWhole)
    (a3 : Memref sig .tc .vmem S1024x2048 .f32) (h3 : a3.IsWhole) (a4 : Memref sig .tc .vmem S2048x512 .f32) (h4 : a4.IsWhole)
    (a5 : Memref sig .tc .vmem S1x4x256x1024 .bf16) (h5 : a5.IsWhole) (a6 : Memref sig .tc .vmem S2048x512 .bf16) (h6 : a6.IsWhole)
    (a7 : Memref sig .tc .vmem S1024x2048 .bf16) (h7 : a7.IsWhole) (hc : cond0_0 i)
    (x : Vec Ideal S1024x2048 .bf16) (w : Vec Ideal S1024x2048 .f32) (u : Vec Ideal S2048x512 .f32) :
    out0_A_3 (F := Ideal) c i a2 h2 a3 h3 a4 h4 a5 h5 a6 h6 a7 h7 hc x w u = regroup (k0_pay5 (F := Ideal) x (k0_pay4 w)) := by
  unfold out0_A_3
  rw [View.read_writes_eq_canon _ _ _ (cover0_A_3 c i a2 h2 a3 h3 a4 h4 a5 h5 a6 h6 a7 h7 hc x w u)]
  funext y
  refine View.canon_apply_of_pieces (regroup (k0_pay5 (F := Ideal) x (k0_pay4 w))) _ (View.PiecesOf.mem ?_) y (cover0_A_3 c i a2 h2 a3 h3 a4 h4 a5 h5 a6 h6 a7 h7 hc x w u y)
  unfold kernelRun0_A
  dsimp only
  sl_unfold_words
  simp only [View.readAt_eq_ld, h2.read_unread, h3.read_unread, View.ld_unit_zero (S := S1024x2048) hz, View.readCov_unit_zero (S := S1024x2048) _ hz]
  generalize k0_pay5 (F := Ideal) x (k0_pay4 w) = v
  repeat' (first | exact trivial | refine And.intro ?_ ?_)
  all_goals
    intro x
    idx_vars x
    unfold regroup
    pointwise [k0_pay1, k0_pay2, k0_pay10, k0_pay11, k0_pay12, k0_pay13, k0_pay14, k0_pay15, k0_pay16, k0_pay17,
      k0_pay18, k0_pay19, k0_pay20, k0_pay21, k0_pay22, k0_pay23, k0_pay24, k0_pay25, k0_pay26, k0_pay27,
      k0_pay28, k0_pay29, k0_pay30]
    refine (Finset.sum_congr rfl fun k _ => congrArg (· * _) (perm_at _ k)).trans ?_
    refine (sum_perm _ _ ?_).trans ?_
    · dsimp only
      omega
    refine entry_congr v ?_ ?_
    · show _ = (_ + 1 * x2.val) * 4 + (_ + 1 * x1.val)
      have hx1 := x1.isLt
      simp only [Rect.unit, Matrix.cons_val, S1x4x256x1024] at hx1 ⊢
      omega
    · show _ = _ + 1 * x3.val
      simp only [Rect.unit, Matrix.cons_val]
      omega

/-- … the second output block is the cast of the weights' block it is handed. -/
theorem out4_A (c : Dev nD) (i : grid0.Coords) (a2 : Memref sig .tc .vmem S1024x2048 .bf16) (h2 : a2.IsWhole)
    (a3 : Memref sig .tc .vmem S1024x2048 .f32) (h3 : a3.IsWhole) (a4 : Memref sig .tc .vmem S2048x512 .f32) (h4 : a4.IsWhole)
    (a5 : Memref sig .tc .vmem S1x4x256x1024 .bf16) (h5 : a5.IsWhole) (a6 : Memref sig .tc .vmem S2048x512 .bf16) (h6 : a6.IsWhole)
    (a7 : Memref sig .tc .vmem S1024x2048 .bf16) (h7 : a7.IsWhole) (hc : cond0_0 i)
    (x : Vec Ideal S1024x2048 .bf16) (w : Vec Ideal S1024x2048 .f32) (u : Vec Ideal S2048x512 .f32) :
    out0_A_4 (F := Ideal) c i a2 h2 a3 h3 a4 h4 a5 h5 a6 h6 a7 h7 hc x w u = k0_pay3 (F := Ideal) u := by
  unfold out0_A_4
  rw [View.read_writes_eq_canon _ _ _ (cover0_A_4 c i a2 h2 a3 h3 a4 h4 a5 h5 a6 h6 a7 h7 hc x w u)]
  unfold kernelRun0_A
  dsimp only
  sl_unfold_words
  rw [View.canon_unit_zero hz]
  simp only [View.readAt_eq_ld, h4.read_unread, View.ld_unit_zero (S := S2048x512) hz]

/-- … and the scratch is left holding those weights. -/
theorem sout_A (c : Dev nD) (i : grid0.Coords) (a2 : Memref sig .tc .vmem S1024x2048 .bf16) (h2 : a2.IsWhole)
    (a3 : Memref sig .tc .vmem S1024x2048 .f32) (h3 : a3.IsWhole) (a4 : Memref sig .tc .vmem S2048x512 .f32) (h4 : a4.IsWhole)
    (a5 : Memref sig .tc .vmem S1x4x256x1024 .bf16) (h5 : a5.IsWhole) (a6 : Memref sig .tc .vmem S2048x512 .bf16) (h6 : a6.IsWhole)
    (a7 : Memref sig .tc .vmem S1024x2048 .bf16) (h7 : a7.IsWhole) (hc : cond0_0 i)
    (x : Vec Ideal S1024x2048 .bf16) (w : Vec Ideal S1024x2048 .f32) (u : Vec Ideal S2048x512 .f32) :
    sout0_A_0 (F := Ideal) c i a2 h2 a3 h3 a4 h4 a5 h5 a6 h6 a7 h7 hc x w u = k0_pay4 (F := Ideal) w := by
  unfold sout0_A_0
  rw [View.read_writes_eq_canon _ _ _ (scover0_A_0 c i a2 h2 a3 h3 a4 h4 a5 h5 a6 h6 a7 h7 hc x w u)]
  unfold kernelRun0_A
  dsimp only
  sl_unfold_words
  rw [View.canon_unit_zero hz]
  simp only [View.readAt_eq_ld, h3.read_unread, View.ld_unit_zero (S := S1024x2048) hz]

/-- At the other row tiles, the output block is the regrouped product of the rows with the weights the scratch holds. -/
theorem out3_B (c : Dev nD) (i : grid0.Coords) (a2 : Memref sig .tc .vmem S1024x2048 .bf16) (h2 : a2.IsWhole)
    (a3 : Memref sig .tc .vmem S1024x2048 .f32) (h3 : a3.IsWhole) (a4 : Memref sig .tc .vmem S2048x512 .f32) (h4 : a4.IsWhole)
    (a5 : Memref sig .tc .vmem S1x4x256x1024 .bf16) (h5 : a5.IsWhole) (a6 : Memref sig .tc .vmem S2048x512 .bf16) (h6 : a6.IsWhole)
    (a7 : Memref sig .tc .vmem S1024x2048 .bf16) (h7 : a7.IsWhole) (hc : ¬cond0_0 i)
    (x : Vec Ideal S1024x2048 .bf16) (w : Vec Ideal S1024x2048 .f32) (u : Vec Ideal S2048x512 .f32) (s : Vec Ideal S1024x2048 .bf16) :
    out0_B_3 (F := Ideal) c i a2 h2 a3 h3 a4 h4 a5 h5 a6 h6 a7 h7 hc x w u s = regroup (k0_pay5 (F := Ideal) x s) := by
  unfold out0_B_3
  rw [View.read_writes_eq_canon _ _ _ (cover0_B_3 c i a2 h2 a3 h3 a4 h4 a5 h5 a6 h6 a7 h7 hc x w u s)]
  funext y
  refine View.canon_apply_of_pieces (regroup (k0_pay5 (F := Ideal) x s)) _ (View.PiecesOf.mem ?_) y (cover0_B_3 c i a2 h2 a3 h3 a4 h4 a5 h5 a6 h6 a7 h7 hc x w u s y)
  unfold kernelRun0_B
  dsimp only
  sl_unfold_words
  simp only [View.readAt_eq_ld, h2.read_unread, h7.read_unread, View.ld_unit_zero (S := S1024x2048) hz]
  generalize k0_pay5 (F := Ideal) x s = v
  repeat' (first | exact trivial | refine And.intro ?_ ?_)
  all_goals
    intro x
    idx_vars x
    unfold regroup
    pointwise [k0_pay1, k0_pay2, k0_pay10, k0_pay11, k0_pay12, k0_pay13, k0_pay14, k0_pay15, k0_pay16, k0_pay17,
      k0_pay18, k0_pay19, k0_pay20, k0_pay21, k0_pay22, k0_pay23, k0_pay24, k0_pay25, k0_pay26, k0_pay27,
      k0_pay28, k0_pay29, k0_pay30]
    refine (Finset.sum_congr rfl fun k _ => congrArg (· * _) (perm_at _ k)).trans ?_
    refine (sum_perm _ _ ?_).trans ?_
    · dsimp only
      omega
    refine entry_congr v ?_ ?_
    · show _ = (_ + 1 * x2.val) * 4 + (_ + 1 * x1.val)
      have hx1 := x1.isLt
      simp only [Rect.unit, Matrix.cons_val, S1x4x256x1024] at hx1 ⊢
      omega
    · show _ = _ + 1 * x3.val
      simp only [Rect.unit, Matrix.cons_val]
      omega

/-- … the second output block is the cast of the weights' block it is handed. -/
theorem out4_B (c : Dev nD) (i : grid0.Coords) (a2 : Memref sig .tc .vmem S1024x2048 .bf16) (h2 : a2.IsWhole)
    (a3 : Memref sig .tc .vmem S1024x2048 .f32) (h3 : a3.IsWhole) (a4 : Memref sig .tc .vmem S2048x512 .f32) (h4 : a4.IsWhole)
    (a5 : Memref sig .tc .vmem S1x4x256x1024 .bf16) (h5 : a5.IsWhole) (a6 : Memref sig .tc .vmem S2048x512 .bf16) (h6 : a6.IsWhole)
    (a7 : Memref sig .tc .vmem S1024x2048 .bf16) (h7 : a7.IsWhole) (hc : ¬cond0_0 i)
    (x : Vec Ideal S1024x2048 .bf16) (w : Vec Ideal S1024x2048 .f32) (u : Vec Ideal S2048x512 .f32) (s : Vec Ideal S1024x2048 .bf16) :
    out0_B_4 (F := Ideal) c i a2 h2 a3 h3 a4 h4 a5 h5 a6 h6 a7 h7 hc x w u s = k0_pay3 (F := Ideal) u := by
  unfold out0_B_4
  rw [View.read_writes_eq_canon _ _ _ (cover0_B_4 c i a2 h2 a3 h3 a4 h4 a5 h5 a6 h6 a7 h7 hc x w u s)]
  unfold kernelRun0_B
  dsimp only
  sl_unfold_words
  rw [View.canon_unit_zero hz]
  simp only [View.readAt_eq_ld, h4.read_unread, View.ld_unit_zero (S := S2048x512) hz]

end Cases

variable (m : (ℓ : Loc nD τ sig) → Buf (Elt Ideal) ℓ) (ρ : Dev nD → PrngReg)

/-- The activations, the input weights and the weights to cast, as the arguments hold them. -/
abbrev xs (c : Dev nD) : S8192x2048.Idx → EReal := m ((c : Thread nD τ).loc main_arg0)
abbrev ws (c : Dev nD) : S1x2048x19488.Idx → EReal := m ((c : Thread nD τ).loc main_arg1)
abbrev us (c : Dev nD) : S1x2048x8192.Idx → EReal := m ((c : Thread nD τ).loc main_arg2)

/-- The five index maps at a point: the row tile is the point mod 8, the column block the point over 8; a tile is half a
    sequence; the cast takes a further block at each of the first sixteen points. -/
theorem idxs : ∀ t : Fin cfg0.N, (win0_0.index t (0 : Fin 2) = t.val % 8 ∧ win0_0.index t (1 : Fin 2) = 0)
    ∧ (win0_1.index t (0 : Fin 2) = t.val / 8 * 3072 + 1024 ∧ win0_1.index t (1 : Fin 2) = 0)
    ∧ (win0_2.index t (0 : Fin 2) = 0 ∧ win0_2.index t (1 : Fin 2) = min t.val 15)
    ∧ (win0_3.index t (0 : Fin 4) = t.val % 8 / 2 ∧ win0_3.index t (1 : Fin 4) = 0 ∧ win0_3.index t (2 : Fin 4) = t.val % 8 % 2 ∧ win0_3.index t (3 : Fin 4) = t.val / 8)
    ∧ (win0_4.index t (0 : Fin 2) = 0 ∧ win0_4.index t (1 : Fin 2) = min t.val 15) :=
  (by decide +kernel : ∀ t : Fin grid0.N, _)

/-- The call has twenty-four points. -/
theorem lt24 (t : Fin cfg0.N) : t.val < 24 := lt_of_lt_of_eq t.isLt N_0

/-- The second output is written back at the first fifteen points and at the last. -/
theorem flushes4 : ∀ t : Fin cfg0.N, t.val < 15 ∨ t.val = 23 → (cfg0.win 4).flush t = true :=
  (by decide +kernel : ∀ t : Fin grid0.N, t.val < 15 ∨ t.val = 23 → win0_4.flush t = true)

/-- The transposed input weights the host prepares, entry by entry. -/
theorem V_w (c : Dev nD) (r : Fin 19488) (k : Fin 2048) : V m c main_v1 (ix2 r k) = ws m c (ix3 0 k r) := by
  unfold V
  after_reads_at

/-- The weights to cast as the host hands them over, entry by entry. -/
theorem V_u (c : Dev nD) (a : Fin 2048) (b : Fin 8192) : V m c main_v2 (ix2 a b) = us m c (ix3 0 a b) := by
  unfold V
  after_reads_at

/-- The row tile at point `t`. -/
theorem iblk_x (c : Dev nD) (t : Fin cfg0.N) (r : Fin 1024) (k : Fin 2048) :
    iblk m c 0 t (ix2 r k) = xs m c (ix2 ⟨t.val % 8 * 1024 + r.val, by have := r.isLt; omega⟩ k) := by
  unfold iblk
  rw [View.read_apply]
  show V m c main_arg0 _ = _
  rw [V_main_arg0]
  congr 1
  funext a
  apply Fin.ext
  match a with
  | ⟨0, _⟩ => show win0_0.index t (0 : Fin 2) * 1024 + 1 * r.val = _; rw [(idxs t).1.1, Nat.one_mul]; rfl
  | ⟨1, _⟩ => show win0_0.index t (1 : Fin 2) * 2048 + 1 * k.val = _; rw [(idxs t).1.2, Nat.one_mul, Nat.zero_mul, Nat.zero_add]; rfl

/-- The weight block at point `t`: 1024 columns of the input weights from column `3072 (t / 8) + 1024` on. -/
theorem iblk_w (c : Dev nD) (t : Fin cfg0.N) (r : Fin 1024) (k : Fin 2048) :
    iblk m c 1 t (ix2 r k) = ws m c (ix3 0 k ⟨t.val / 8 * 3072 + 1024 + r.val, by have := r.isLt; have := lt24 t; omega⟩) := by
  rw [← V_w]
  unfold iblk
  rw [View.read_apply]
  show V m c main_v1 _ = _
  congr 1
  funext a
  apply Fin.ext
  match a with
  | ⟨0, _⟩ => show win0_1.index t (0 : Fin 2) + 1 * r.val = _; rw [(idxs t).2.1.1, Nat.one_mul]; rfl
  | ⟨1, _⟩ => show win0_1.index t (1 : Fin 2) + 1 * k.val = _; rw [(idxs t).2.1.2, Nat.one_mul, Nat.zero_add]; rfl

/-- The block to cast at point `t`. -/
theorem iblk_u (c : Dev nD) (t : Fin cfg0.N) (a : Fin 2048) (b : Fin 512) :
    iblk m c 2 t (ix2 a b) = us m c (ix3 0 a ⟨min t.val 15 * 512 + b.val, by have := b.isLt; omega⟩) := by
  rw [← V_u]
  unfold iblk
  rw [View.read_apply]
  show V m c main_v2 _ = _
  congr 1
  funext ax
  apply Fin.ext
  match ax with
  | ⟨0, _⟩ => show win0_2.index t (0 : Fin 2) * 2048 + 1 * a.val = _; rw [(idxs t).2.2.1.1, Nat.one_mul, Nat.zero_mul, Nat.zero_add]; rfl
  | ⟨1, _⟩ => show win0_2.index t (1 : Fin 2) * 512 + 1 * b.val = _; rw [(idxs t).2.2.1.2, Nat.one_mul]; rfl

/-- The cast input weights, entry by entry: over the extended reals the cast changes nothing. -/
theorem wcast_at (w : Vec Ideal S1024x2048 .f32) (j : S1024x2048.Idx) : k0_pay4 (F := Ideal) w j = w j := by
  idx_vars j
  pointwise [k0_pay4]

/-- The cast block, entry by entry. -/
theorem cast_at (u : Vec Ideal S2048x512 .f32) (j : S2048x512.Idx) : k0_pay3 (F := Ideal) u j = u j := by
  idx_vars j
  pointwise [k0_pay3]

/-- The product of a tile with a weight block, entry by entry. -/
theorem prod_at (x : Vec Ideal S1024x2048 .bf16) (s : Vec Ideal S1024x2048 .bf16) (r : Fin 1024) (q : Fin 1024) :
    k0_pay5 (F := Ideal) x s (ix2 r q) = ∑ k : Fin 2048, x (ix2 r k) * s (ix2 q k) := by
  pointwise [k0_pay5]

/-- What the scratch holds after point `n`: the weight block of the point's column block. -/
theorem scr (c : Dev nD) : ∀ (n : ℕ) (h : n < cfg0.N) (r : Fin 1024) (k : Fin 2048),
    (outsAt0 m c n h).2.2 (ix2 r k)
      = ws m c (ix3 0 k ⟨n / 8 * 3072 + 1024 + r.val, by have := r.isLt; have := lt24 ⟨n, h⟩; dsimp only at this; omega⟩) := by
  intro n
  induction n with
  | zero =>
    intro h r k
    rw [outsAt0_A m c ⟨0, h⟩ rfl]
    dsimp only
    rw [sout_A, wcast_at]
    exact iblk_w m c ⟨0, h⟩ r k
  | succ n ih =>
    intro h r k
    by_cases h0 : (n + 1) % 8 = 0
    · rw [outsAt0_A m c ⟨n + 1, h⟩ h0]
      dsimp only
      rw [sout_A, wcast_at]
      exact iblk_w m c ⟨n + 1, h⟩ r k
    · rw [outsAt0_B m c ⟨n + 1, h⟩ h0]
      dsimp only
      unfold sout0_B_0
      refine (ih (Nat.lt_of_succ_lt h) r k).trans ?_
      have e : (n + 1) / 8 = n / 8 := by omega
      simp only [e]

/-- What the output block holds after point `t`: at class `cl` and row `l`, the projection's entries of token
    `4 l + cl` of that row tile. -/
theorem blk3 (c : Dev nD) (t : Fin cfg0.N) (cl : Fin 4) (l : Fin 256) (q : Fin 1024) :
    (outsAt0 m c t.val t.isLt).1 (ix4 0 cl l q)
      = proj (xs m c) (ws m c) ⟨t.val % 8 * 1024 + (l.val * 4 + cl.val), by have := l.isLt; have := cl.isLt; omega⟩
          ⟨t.val / 8 * 3072 + 1024 + q.val, by have := q.isLt; have := lt24 t; omega⟩ := by
  unfold proj
  by_cases h0 : t.val % 8 = 0
  · rw [outsAt0_A m c t h0]
    dsimp only
    rw [out3_A]
    refine (show regroup _ (ix4 0 cl l q) = _ from prod_at _ _ ⟨l.val * 4 + cl.val, _⟩ q).trans (Finset.sum_congr rfl fun k _ => ?_)
    rw [wcast_at, iblk_x, iblk_w]
  · rw [outsAt0_B m c t h0]
    dsimp only
    rw [out3_B]
    refine (show regroup _ (ix4 0 cl l q) = _ from prod_at _ _ ⟨l.val * 4 + cl.val, _⟩ q).trans (Finset.sum_congr rfl fun k _ => ?_)
    have e : (t.val - 1) / 8 = t.val / 8 := by omega
    rw [iblk_x, scr]
    simp only [e]

/-- What the second output block holds after point `t`: the block of weights it is handed. -/
theorem blk4 (c : Dev nD) (t : Fin cfg0.N) (a : Fin 2048) (b : Fin 512) :
    (outsAt0 m c t.val t.isLt).2.1 (ix2 a b) = us m c (ix3 0 a ⟨min t.val 15 * 512 + b.val, by have := b.isLt; omega⟩) := by
  by_cases h0 : t.val % 8 = 0
  · rw [outsAt0_A m c t h0]
    dsimp only
    rw [out4_A, cast_at, iblk_u]
  · rw [outsAt0_B m c t h0]
    dsimp only
    rw [out4_B, cast_at, iblk_u]

/-- What the call computes: batch element `b`, class `cl`, row `l`, column `j` is the projection's entry of token
    `4 l + cl` of the sequence, in part `j / 1024` (query, key or value) of head group 1. -/
def G3 (c : Dev nD) : Buf (Elt Ideal) ((c : Thread nD τ).loc main_v3_0) := fun i =>
  proj (xs m c) (ws m c)
    ⟨(i 0).val * 2048 + (i 2).val * 4 + (i 1).val, by
      have h0 : (i 0).val < 4 := (i 0).isLt
      have h1 : (i 1).val < 4 := (i 1).isLt
      have h2 : (i 2).val < 512 := (i 2).isLt
      omega⟩
    ⟨(i 3).val / 1024 * 3072 + 1024 + (i 3).val % 1024, by
      have h3 : (i 3).val < 3072 := (i 3).isLt
      omega⟩

/-- … and the weights, cast. -/
def G4 (c : Dev nD) : Buf (Elt Ideal) ((c : Thread nD τ).loc main_v3_1) := fun i => us m c (ix3 0 (i 0) (i 1))

/-- Each point writes back its block of `G3`. -/
theorem flushed3 (c : Dev nD) (t : Fin cfg0.N) (_ : (cfg0.win 3).flush t = true) :
    (dats m 0 c).flushed 3 t = ((cfg0.win 3).blk t).view.read (Elt Ideal) (G3 m c) := by
  rw [Value.flushed3]
  funext y
  rw [View.read_apply]
  show (outsAt0 m c t.val t.isLt).1 _ = _
  have hy : ∃ (u : Fin 1) (cl : Fin 4) (l : Fin 256) (q : Fin 1024), (cfg0.win 3).xinj (grid0.coords t) y = ix4 u cl l q :=
    ⟨_, _, _, _, eq_ix4 _⟩
  obtain ⟨u, cl, l, q, hy⟩ := hy
  obtain rfl : u = 0 := Subsingleton.elim _ _
  have h0 : (y 0).val = 0 := congrArg (fun z : S1x4x256x1024.Idx => (z 0).val) hy
  have h1 : (y 1).val = cl.val := congrArg (fun z : S1x4x256x1024.Idx => (z 1).val) hy
  have h2 : (y 2).val = l.val := congrArg (fun z : S1x4x256x1024.Idx => (z 2).val) hy
  have h3 : (y 3).val = q.val := congrArg (fun z : S1x4x256x1024.Idx => (z 3).val) hy
  refine (congrArg _ hy).trans ((blk3 m c t cl l q).trans ?_)
  unfold G3
  have e := (idxs t).2.2.2.1
  have hq := q.isLt
  refine proj_congr _ _ ?_ ?_
  · show _ = (win0_3.index t (0 : Fin 4) * 1 + 1 * (y 0).val) * 2048
      + (win0_3.index t (2 : Fin 4) * 256 + 1 * (y 2).val) * 4 + (win0_3.index t (1 : Fin 4) * 4 + 1 * (y 1).val)
    rw [e.1, e.2.1, e.2.2.1, h0, h1, h2]
    dsimp only
    omega
  · show _ = (win0_3.index t (3 : Fin 4) * 1024 + 1 * (y 3).val) / 1024 * 3072 + 1024
      + (win0_3.index t (3 : Fin 4) * 1024 + 1 * (y 3).val) % 1024
    rw [e.2.2.2, h3]
    dsimp only
    omega

/-- A weight's entry does not depend on how its row and column are written. -/
theorem us_congr (u : S1x2048x8192.Idx → EReal) {a a' : Fin 2048} {b b' : Fin 8192} (ha : a.val = a'.val) (hb : b.val = b'.val) :
    u (ix3 0 a b) = u (ix3 0 a' b') := by
  rw [Fin.ext ha, Fin.ext hb]

/-- Each point that writes back the cast writes its block of `G4`. -/
theorem flushed4 (c : Dev nD) (t : Fin cfg0.N) (_ : (cfg0.win 4).flush t = true) :
    (dats m 0 c).flushed 4 t = ((cfg0.win 4).blk t).view.read (Elt Ideal) (G4 m c) := by
  rw [Value.flushed4]
  funext y
  rw [View.read_apply]
  show (outsAt0 m c t.val t.isLt).2.1 _ = _
  have hy : ∃ (a : Fin 2048) (b : Fin 512), (cfg0.win 4).xinj (grid0.coords t) y = ix2 a b :=
    ⟨_, _, eq_ix2 _⟩
  obtain ⟨a, b, hy⟩ := hy
  have h0 : (y 0).val = a.val := congrArg (fun z : S2048x512.Idx => (z 0).val) hy
  have h1 : (y 1).val = b.val := congrArg (fun z : S2048x512.Idx => (z 1).val) hy
  refine (congrArg _ hy).trans ((blk4 m c t a b).trans ?_)
  unfold G4
  have e := (idxs t).2.2.2.2
  refine us_congr (us m c) ?_ ?_
  · show _ = win0_4.index t (0 : Fin 2) * 2048 + 1 * (y 0).val
    rw [e.1, h0]
    omega
  · show _ = win0_4.index t (1 : Fin 2) * 512 + 1 * (y 1).val
    rw [e.2, h1]
    rw [Nat.one_mul]

/-- An index lies in point `t`'s block of output 3 iff each coordinate is in the block's range on its axis. -/
theorem mem_blk3 (t : Fin cfg0.N) (i : S4x4x512x3072.Idx) : i ∈ ((cfg0.win 3).blk t).view.set ↔ ∀ a : Fin 4,
    win0_3.index t a * S1x4x256x1024.size a ≤ (i a).val ∧ (i a).val < win0_3.index t a * S1x4x256x1024.size a + S1x4x256x1024.size a := by
  show i ∈ ((View.whole main_v3_0).slice (win0_3.rect t)).set ↔ _
  rw [View.set_slice_whole, Rect.mem_set_unit]
  exact Iff.rfl

/-- The first result array ends holding `G3`: the blocks fill it. -/
theorem final3 (c : Dev nD) : (dats m 0 c).arrAt 3 cfg0.N = G3 m c :=
  (dats m 0 c).arrAt_eq_of_cover 3 _ (flushed3 m c) fun i => by
    have h0 : (i 0).val < 4 := (i 0).isLt
    have h1 : (i 1).val < 4 := (i 1).isLt
    have h2 : (i 2).val < 512 := (i 2).isLt
    have h3 : (i 3).val < 3072 := (i 3).isLt
    have ht : (i 3).val / 1024 * 8 + ((i 0).val * 2 + (i 2).val / 256) < cfg0.N := by rw [show cfg0.N = 24 from N_0]; omega
    refine ⟨⟨(i 3).val / 1024 * 8 + ((i 0).val * 2 + (i 2).val / 256), ht⟩, flush0_3 _, ?_⟩
    rw [mem_blk3]
    have e := (idxs ⟨(i 3).val / 1024 * 8 + ((i 0).val * 2 + (i 2).val / 256), ht⟩).2.2.2.1
    dsimp only at e
    intro a
    match a with
    | ⟨0, _⟩ =>
      show win0_3.index _ (0 : Fin 4) * 1 ≤ (i 0).val ∧ (i 0).val < win0_3.index _ (0 : Fin 4) * 1 + 1
      rw [e.1]; omega
    | ⟨1, _⟩ =>
      show win0_3.index _ (1 : Fin 4) * 4 ≤ (i 1).val ∧ (i 1).val < win0_3.index _ (1 : Fin 4) * 4 + 4
      rw [e.2.1]; omega
    | ⟨2, _⟩ =>
      show win0_3.index _ (2 : Fin 4) * 256 ≤ (i 2).val ∧ (i 2).val < win0_3.index _ (2 : Fin 4) * 256 + 256
      rw [e.2.2.1]; omega
    | ⟨3, _⟩ =>
      show win0_3.index _ (3 : Fin 4) * 1024 ≤ (i 3).val ∧ (i 3).val < win0_3.index _ (3 : Fin 4) * 1024 + 1024
      rw [e.2.2.2]; omega

/-- An index lies in point `t`'s block of output 4 iff each coordinate is in the block's range on its axis. -/
theorem mem_blk4 (t : Fin cfg0.N) (i : S2048x8192.Idx) : i ∈ ((cfg0.win 4).blk t).view.set ↔ ∀ a : Fin 2,
    win0_4.index t a * S2048x512.size a ≤ (i a).val ∧ (i a).val < win0_4.index t a * S2048x512.size a + S2048x512.size a := by
  show i ∈ ((View.whole main_v3_1).slice (win0_4.rect t)).set ↔ _
  rw [View.set_slice_whole, Rect.mem_set_unit]
  exact Iff.rfl

/-- The second result array ends holding `G4`: the first fifteen blocks and the last written fill it. -/
theorem final4 (c : Dev nD) : (dats m 0 c).arrAt 4 cfg0.N = G4 m c :=
  (dats m 0 c).arrAt_eq_of_cover 4 _ (flushed4 m c) fun i => by
    have h0 : (i 0).val < 2048 := (i 0).isLt
    have h1 : (i 1).val < 8192 := (i 1).isLt
    obtain ⟨n, hn, hf, hm⟩ : ∃ n, n < 24 ∧ (n < 15 ∨ n = 23) ∧ min n 15 = (i 1).val / 512 := by
      by_cases h : (i 1).val / 512 < 15
      · exact ⟨(i 1).val / 512, by omega, by omega, by omega⟩
      · exact ⟨23, by omega, by omega, by omega⟩
    have ht : n < cfg0.N := by rw [show cfg0.N = 24 from N_0]; exact hn
    refine ⟨⟨n, ht⟩, flushes4 _ hf, ?_⟩
    rw [mem_blk4]
    have e := (idxs ⟨n, ht⟩).2.2.2.2
    dsimp only at e
    rw [hm] at e
    intro a
    match a with
    | ⟨0, _⟩ =>
      show win0_4.index _ (0 : Fin 2) * 2048 ≤ (i 0).val ∧ (i 0).val < win0_4.index _ (0 : Fin 2) * 2048 + 2048
      rw [e.1]; omega
    | ⟨1, _⟩ =>
      show win0_4.index _ (1 : Fin 2) * 512 ≤ (i 1).val ∧ (i 1).val < win0_4.index _ (1 : Fin 2) * 512 + 512
      rw [e.2]; omega

/-- The reference's first result is `G3` of the same arguments. -/
theorem ref9 (c : Dev nD) : ProjBRefIdeal.Read.val_main_v9 (F := Ideal) (xs m c) (ws m c) = G3 m c := by
  funext i
  idx_vars i
  unfold G3 proj
  pointwise [ProjBRefIdeal.Read.val_main_v9, ProjBRefIdeal.Read.val_main_v8, ProjBRefIdeal.Read.val_main_v7, ProjBRefIdeal.Read.val_main_v6, ProjBRefIdeal.Read.val_main_v5,
    ProjBRefIdeal.Read.val_main_v4, ProjBRefIdeal.Read.val_main_v3, ProjBRefIdeal.Read.val_main_v2, ProjBRefIdeal.Read.val_main_v1, ProjBRefIdeal.Read.val_main_v0]

/-- The reference's second result is `G4` of the same arguments. -/
theorem ref11 (c : Dev nD) : ProjBRefIdeal.Read.val_main_v11 (F := Ideal) (us m c) = G4 m c := by
  funext i
  idx_vars i
  unfold G4
  pointwise [ProjBRefIdeal.Read.val_main_v11, ProjBRefIdeal.Read.val_main_v10]

/-- The call and its reference compute the same regrouped projection and the same cast weights over the extended reals. -/
theorem alg : Cert.algebraic_ProjBIdeal_ProjBRefIdeal := fun m ρ m' ρ' _ hag =>
  ⟨fun c => G3 m c, fun c => G4 m c,
    (θ_run _ _ _).mono (fun _ h c => ⟨(h c).1.trans (final3 m c), (h c).2.1.trans (final4 m c), (h c).2.2⟩) (Value.run_blocks m ρ),
    (θ_run _ _ _).mono (fun _ h c => ⟨(h c).1.trans (by
        rw [ProjBRefIdeal.Read.val_main_v9_eq, (hag c).1, (hag c).2.1]; exact ref9 m c),
      (h c).2.1.trans (by
        rw [ProjBRefIdeal.Read.val_main_v11_eq, (hag c).2.2]; exact ref11 m c), (h c).2.2⟩)
      (ProjBRefIdeal.Value.run m' ρ')⟩

end Cert.ProjBIdeal.Val

end
-- ==== Proof.ProjC.lean ====
/-
  The value of the third attention projection: head group 2's queries, keys and values, the rows of each of the sixteen
  residue classes brought together inside every 256 rows by a 0/1 matrix, and the cast of w_ff2 that the call does
  beside it.
-/
module

public import proofs.«01_k».proof.Proof.Spec
public import proofs.«01_k».proof.Proof.Perm
public import proofs.«01_k».proof.Defs
public import proofs.«01_k».proof.Proof.Gen.ProjCIdeal.Value
public import proofs.«01_k».proof.Proof.Gen.ProjCRefIdeal.Read
public import Idealize.ShloMosaic.Lib.StableHlo.ReadAt
public import Idealize.ShloMosaic.Lib.Tactic
public import Idealize.ShloMosaic.Lib.Pipeline.ReadBack

@[expose] public section

set_option maxRecDepth 16384

noncomputable section

namespace Cert.ProjCIdeal.Val

open Cert.ProjCIdeal Cert.ProjCIdeal.Gen Cert.Layer Idealize.ShloMosaic Idealize.ShloMosaic.TcCoe Idealize.SL.Sem
open Idealize.ShloMosaic.Pipeline (Dat)

/-- The 0/1 matrix, entry by entry: row `d` has its one at column `(d mod 16) * 16 + d / 16`. -/
theorem perm_at (d k : Fin 256) :
    (k0_pay10 (F := Ideal) (iota .tc S256x256 32 [0] iota_S256x256_d0_w32) (iota .tc S256x256 32 [1] iota_S256x256_d1_w32) k0_pay7 16#32 k0_pay8 k0_pay9)
      (ix2 d k) = if k.val = d.val % 16 * 16 + d.val / 16 then (1 : EReal) else 0 := by
  pointwise [k0_pay10, k0_pay7, k0_pay8, k0_pay9]
  refine Eq.trans ?_ (select_eq k.val (d.val % 16 * 16 + d.val / 16) (by have := k.isLt; omega) (by have := d.isLt; omega))
  rw [← permWord_16 d]
  rfl

/-- Row `16 * l + c` of a tile's product, read at the block index of class `c` and row `l` in it. -/
def regroup (v : S1024x1024.Idx → EReal) (y : S1x16x64x1024.Idx) : EReal :=
  v (ix2 ⟨(y 2).val * 16 + (y 1).val, by
    have h1 : (y 1).val < 16 := (y 1).isLt
    have h2 : (y 2).val < 64 := (y 2).isLt
    omega⟩ (y 3))

section Cases

/-- A product's entry does not depend on how its row is written. -/
theorem entry_congr (v : S1024x1024.Idx → EReal) {p p' : Fin 1024} {q q' : Fin 1024} (hp : p.val = p'.val) (hq : q.val = q'.val) :
    v (ix2 p q) = v (ix2 p' q') := by
  rw [Fin.ext hp, Fin.ext hq]

/-- Where the row tile is the first, the output block is the regrouped product of the rows with the weights just cast. -/
theorem out3_A (c : Dev nD) (i : grid0.Coords) (a2 : Memref sig .tc .vmem S1024x2048 .bf16) (h2 : a2.IsWhole)
    (a3 : Memref sig .tc .vmem S1024x2048 .f32) (h3 : a3.IsWhole) (a4 : Memref sig .tc .vmem S512x2048 .f32) (h4 : a4.IsWhole)
    (a5 : Memref sig .tc .vmem S1x16x64x1024 .bf16) (h5 : a5.IsWhole) (a6 : Memref sig .tc .vmem S512x2048 .bf16) (h6 : a6.IsWhole)
    (a7 : Memref sig .tc .vmem S1024x2048 .bf16) (h7 : a7.IsWhole) (hc : cond0_0 i)
    (x : Vec Ideal S1024x2048 .bf16) (w : Vec Ideal S1024x2048 .f32) (u : Vec Ideal S512x2048 .f32) :
    out0_A_3 (F := Ideal) c i a2 h2 a3 h3 a4 h4 a5 h5 a6 h6 a7 h7 hc x w u = regroup (k0_pay6 (F := Ideal) x (k0_pay5 w)) := by
  unfold out0_A_3
  rw [View.read_writes_eq_canon _ _ _ (cover0_A_3 c i a2 h2 a3 h3 a4 h4 a5 h5 a6 h6 a7 h7 hc x w u)]
  funext y
  refine View.canon_apply_of_pieces (regroup (k0_pay6 (F := Ideal) x (k0_pay5 w))) _ (View.PiecesOf.mem ?_) y (cover0_A_3 c i a2 h2 a3 h3 a4 h4 a5 h5 a6 h6 a7 h7 hc x w u y)
  unfold kernelRun0_A
  dsimp only
  sl_unfold_words
  simp only [View.readAt_eq_ld, h2.read_unread, h3.read_unread, View.ld_unit_zero (S := S1024x2048) hz, View.readCov_unit_zero (S := S1024x2048) _ hz]
  generalize k0_pay6 (F := Ideal) x (k0_pay5 w) = v
  repeat' (first | exact trivial | refine And.intro ?_ ?_)
  all_goals
    intro x
    idx_vars x
    unfold regroup
    pointwise [k0_pay1, k0_pay2, k0_pay3, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28,
      k0_pay29, k0_pay30, k0_pay31, k0_pay32, k0_pay33, k0_pay34, k0_pay35, k0_pay36, k0_pay37, k0_pay38,
      k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78,
      k0_pay79, k0_pay80, k0_pay81, k0_pay82]
    refine (Finset.sum_congr rfl fun k _ => congrArg (· * _) (perm_at _ k)).trans ?_
    refine (sum_perm _ _ ?_).trans ?_
    · dsimp only
      omega
    refine entry_congr v ?_ ?_
    · show _ = (_ + 1 * x2.val) * 16 + (_ + 1 * x1.val)
      have hx1 := x1.isLt
      simp only [Rect.unit, Matrix.cons_val, S1x16x64x1024] at hx1 ⊢
      omega
    · show _ = _ + 1 * x3.val
      simp only [Rect.unit, Matrix.cons_val]
      omega

/-- … the second output block is the cast of the weights' block it is handed. -/
theorem out4_A (c : Dev nD) (i : grid0.Coords) (a2 : Memref sig .tc .vmem S1024x2048 .bf16) (h2 : a2.IsWhole)
    (a3 : Memref sig .tc .vmem S1024x2048 .f32) (h3 : a3.IsWhole) (a4 : Memref sig .tc .vmem S512x2048 .f32) (h4 : a4.IsWhole)
    (a5 : Memref sig .tc .vmem S1x16x64x1024 .bf16) (h5 : a5.IsWhole) (a6 : Memref sig .tc .vmem S512x2048 .bf16) (h6 : a6.IsWhole)
    (a7 : Memref sig .tc .vmem S1024x2048 .bf16) (h7 : a7.IsWhole) (hc : cond0_0 i)
    (x : Vec Ideal S1024x2048 .bf16) (w : Vec Ideal S1024x2048 .f32) (u : Vec Ideal S512x2048 .f32) :
    out0_A_4 (F := Ideal) c i a2 h2 a3 h3 a4 h4 a5 h5 a6 h6 a7 h7 hc x w u = k0_pay4 (F := Ideal) u := by
  unfold out0_A_4
  rw [View.read_writes_eq_canon _ _ _ (cover0_A_4 c i a2 h2 a3 h3 a4 h4 a5 h5 a6 h6 a7 h7 hc x w u)]
  unfold kernelRun0_A
  dsimp only
  sl_unfold_words
  rw [View.canon_unit_zero hz]
  simp only [View.readAt_eq_ld, h4.read_unread, View.ld_unit_zero (S := S512x2048) hz]

/-- … and the scratch is left holding those weights. -/
theorem sout_A (c : Dev nD) (i : grid0.Coords) (a2 : Memref sig .tc .vmem S1024x2048 .bf16) (h2 : a2.IsWhole)
    (a3 : Memref sig .tc .vmem S1024x2048 .f32) (h3 : a3.IsWhole) (a4 : Memref sig .tc .vmem S512x2048 .f32) (h4 : a4.IsWhole)
    (a5 : Memref sig .tc .vmem S1x16x64x1024 .bf16) (h5 : a5.IsWhole) (a6 : Memref sig .tc .vmem S512x2048 .bf16) (h6 : a6.IsWhole)
    (a7 : Memref sig .tc .vmem S1024x2048 .bf16) (h7 : a7.IsWhole) (hc : cond0_0 i)
    (x : Vec Ideal S1024x2048 .bf16) (w : Vec Ideal S1024x2048 .f32) (u : Vec Ideal S512x2048 .f32) :
    sout0_A_0 (F := Ideal) c i a2 h2 a3 h3 a4 h4 a5 h5 a6 h6 a7 h7 hc x w u = k0_pay5 (F := Ideal) w := by
  unfold sout0_A_0
  rw [View.read_writes_eq_canon _ _ _ (scover0_A_0 c i a2 h2 a3 h3 a4 h4 a5 h5 a6 h6 a7 h7 hc x w u)]
  unfold kernelRun0_A
  dsimp only
  sl_unfold_words
  rw [View.canon_unit_zero hz]
  simp only [View.readAt_eq_ld, h3.read_unread, View.ld_unit_zero (S := S1024x2048) hz]

/-- At the other row tiles, the output block is the regrouped product of the rows with the weights the scratch holds. -/
theorem out3_B (c : Dev nD) (i : grid0.Coords) (a2 : Memref sig .tc .vmem S1024x2048 .bf16) (h2 : a2.IsWhole)
    (a3 : Memref sig .tc .vmem S1024x2048 .f32) (h3 : a3.IsWhole) (a4 : Memref sig .tc .vmem S512x2048 .f32) (h4 : a4.IsWhole)
    (a5 : Memref sig .tc .vmem S1x16x64x1024 .bf16) (h5 : a5.IsWhole) (a6 : Memref sig .tc .vmem S512x2048 .bf16) (h6 : a6.IsWhole)
    (a7 : Memref sig .tc .vmem S1024x2048 .bf16) (h7 : a7.IsWhole) (hc : ¬cond0_0 i)
    (x : Vec Ideal S1024x2048 .bf16) (w : Vec Ideal S1024x2048 .f32) (u : Vec Ideal S512x2048 .f32) (s : Vec Ideal S1024x2048 .bf16) :
    out0_B_3 (F := Ideal) c i a2 h2 a3 h3 a4 h4 a5 h5 a6 h6 a7 h7 hc x w u s = regroup (k0_pay6 (F := Ideal) x s) := by
  unfold out0_B_3
  rw [View.read_writes_eq_canon _ _ _ (cover0_B_3 c i a2 h2 a3 h3 a4 h4 a5 h5 a6 h6 a7 h7 hc x w u s)]
  funext y
  refine View.canon_apply_of_pieces (regroup (k0_pay6 (F := Ideal) x s)) _ (View.PiecesOf.mem ?_) y (cover0_B_3 c i a2 h2 a3 h3 a4 h4 a5 h5 a6 h6 a7 h7 hc x w u s y)
  unfold kernelRun0_B
  dsimp only
  sl_unfold_words
  simp only [View.readAt_eq_ld, h2.read_unread, h7.read_unread, View.ld_unit_zero (S := S1024x2048) hz]
  generalize k0_pay6 (F := Ideal) x s = v
  repeat' (first | exact trivial | refine And.intro ?_ ?_)
  all_goals
    intro x
    idx_vars x
    unfold regroup
    pointwise [k0_pay1, k0_pay2, k0_pay3, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28,
      k0_pay29, k0_pay30, k0_pay31, k0_pay32, k0_pay33, k0_pay34, k0_pay35, k0_pay36, k0_pay37, k0_pay38,
      k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78,
      k0_pay79, k0_pay80, k0_pay81, k0_pay82]
    refine (Finset.sum_congr rfl fun k _ => congrArg (· * _) (perm_at _ k)).trans ?_
    refine (sum_perm _ _ ?_).trans ?_
    · dsimp only
      omega
    refine entry_congr v ?_ ?_
    · show _ = (_ + 1 * x2.val) * 16 + (_ + 1 * x1.val)
      have hx1 := x1.isLt
      simp only [Rect.unit, Matrix.cons_val, S1x16x64x1024] at hx1 ⊢
      omega
    · show _ = _ + 1 * x3.val
      simp only [Rect.unit, Matrix.cons_val]
      omega

/-- … the second output block is the cast of the weights' block it is handed. -/
theorem out4_B (c : Dev nD) (i : grid0.Coords) (a2 : Memref sig .tc .vmem S1024x2048 .bf16) (h2 : a2.IsWhole)
    (a3 : Memref sig .tc .vmem S1024x2048 .f32) (h3 : a3.IsWhole) (a4 : Memref sig .tc .vmem S512x2048 .f32) (h4 : a4.IsWhole)
    (a5 : Memref sig .tc .vmem S1x16x64x1024 .bf16) (h5 : a5.IsWhole) (a6 : Memref sig .tc .vmem S512x2048 .bf16) (h6 : a6.IsWhole)
    (a7 : Memref sig .tc .vmem S1024x2048 .bf16) (h7 : a7.IsWhole) (hc : ¬cond0_0 i)
    (x : Vec Ideal S1024x2048 .bf16) (w : Vec Ideal S1024x2048 .f32) (u : Vec Ideal S512x2048 .f32) (s : Vec Ideal S1024x2048 .bf16) :
    out0_B_4 (F := Ideal) c i a2 h2 a3 h3 a4 h4 a5 h5 a6 h6 a7 h7 hc x w u s = k0_pay4 (F := Ideal) u := by
  unfold out0_B_4
  rw [View.read_writes_eq_canon _ _ _ (cover0_B_4 c i a2 h2 a3 h3 a4 h4 a5 h5 a6 h6 a7 h7 hc x w u s)]
  unfold kernelRun0_B
  dsimp only
  sl_unfold_words
  rw [View.canon_unit_zero hz]
  simp only [View.readAt_eq_ld, h4.read_unread, View.ld_unit_zero (S := S512x2048) hz]

end Cases

variable (m : (ℓ : Loc nD τ sig) → Buf (Elt Ideal) ℓ) (ρ : Dev nD → PrngReg)

/-- The activations, the input weights and the weights to cast, as the arguments hold them. -/
abbrev xs (c : Dev nD) : S8192x2048.Idx → EReal := m ((c : Thread nD τ).loc main_arg0)
abbrev ws (c : Dev nD) : S1x2048x19488.Idx → EReal := m ((c : Thread nD τ).loc main_arg1)
abbrev us (c : Dev nD) : S1x8192x2048.Idx → EReal := m ((c : Thread nD τ).loc main_arg2)

/-- The five index maps at a point: the row tile is the point mod 8, the column block the point over 8; a tile is half a
    sequence; the cast takes a further block at each of the first sixteen points. -/
theorem idxs : ∀ t : Fin cfg0.N, (win0_0.index t (0 : Fin 2) = t.val % 8 ∧ win0_0.index t (1 : Fin 2) = 0)
    ∧ (win0_1.index t (0 : Fin 2) = t.val / 8 * 3072 + 2048 ∧ win0_1.index t (1 : Fin 2) = 0)
    ∧ (win0_2.index t (1 : Fin 2) = 0 ∧ win0_2.index t (0 : Fin 2) = min t.val 15)
    ∧ (win0_3.index t (0 : Fin 4) = t.val % 8 / 2 ∧ win0_3.index t (1 : Fin 4) = 0 ∧ win0_3.index t (2 : Fin 4) = t.val % 8 % 2 ∧ win0_3.index t (3 : Fin 4) = t.val / 8)
    ∧ (win0_4.index t (1 : Fin 2) = 0 ∧ win0_4.index t (0 : Fin 2) = min t.val 15) :=
  (by decide +kernel : ∀ t : Fin grid0.N, _)

/-- The call has twenty-four points. -/
theorem lt24 (t : Fin cfg0.N) : t.val < 24 := lt_of_lt_of_eq t.isLt N_0

/-- The second output is written back at the first fifteen points and at the last. -/
theorem flushes4 : ∀ t : Fin cfg0.N, t.val < 15 ∨ t.val = 23 → (cfg0.win 4).flush t = true :=
  (by decide +kernel : ∀ t : Fin grid0.N, t.val < 15 ∨ t.val = 23 → win0_4.flush t = true)

/-- The transposed input weights the host prepares, entry by entry. -/
theorem V_w (c : Dev nD) (r : Fin 19488) (k : Fin 2048) : V m c main_v1 (ix2 r k) = ws m c (ix3 0 k r) := by
  unfold V
  after_reads_at

/-- The weights to cast as the host hands them over, entry by entry. -/
theorem V_u (c : Dev nD) (a : Fin 8192) (b : Fin 2048) : V m c main_v2 (ix2 a b) = us m c (ix3 0 a b) := by
  unfold V
  after_reads_at

/-- The row tile at point `t`. -/
theorem iblk_x (c : Dev nD) (t : Fin cfg0.N) (r : Fin 1024) (k : Fin 2048) :
    iblk m c 0 t (ix2 r k) = xs m c (ix2 ⟨t.val % 8 * 1024 + r.val, by have := r.isLt; omega⟩ k) := by
  unfold iblk
  rw [View.read_apply]
  show V m c main_arg0 _ = _
  rw [V_main_arg0]
  congr 1
  funext a
  apply Fin.ext
  match a with
  | ⟨0, _⟩ => show win0_0.index t (0 : Fin 2) * 1024 + 1 * r.val = _; rw [(idxs t).1.1, Nat.one_mul]; rfl
  | ⟨1, _⟩ => show win0_0.index t (1 : Fin 2) * 2048 + 1 * k.val = _; rw [(idxs t).1.2, Nat.one_mul, Nat.zero_mul, Nat.zero_add]; rfl

/-- The weight block at point `t`: 1024 columns of the input weights from column `3072 (t / 8) + 2048` on. -/
theorem iblk_w (c : Dev nD) (t : Fin cfg0.N) (r : Fin 1024) (k : Fin 2048) :
    iblk m c 1 t (ix2 r k) = ws m c (ix3 0 k ⟨t.val / 8 * 3072 + 2048 + r.val, by have := r.isLt; have := lt24 t; omega⟩) := by
  rw [← V_w]
  unfold iblk
  rw [View.read_apply]
  show V m c main_v1 _ = _
  congr 1
  funext a
  apply Fin.ext
  match a with
  | ⟨0, _⟩ => show win0_1.index t (0 : Fin 2) + 1 * r.val = _; rw [(idxs t).2.1.1, Nat.one_mul]; rfl
  | ⟨1, _⟩ => show win0_1.index t (1 : Fin 2) + 1 * k.val = _; rw [(idxs t).2.1.2, Nat.one_mul, Nat.zero_add]; rfl

/-- The block to cast at point `t`. -/
theorem iblk_u (c : Dev nD) (t : Fin cfg0.N) (a : Fin 512) (b : Fin 2048) :
    iblk m c 2 t (ix2 a b) = us m c (ix3 0 ⟨min t.val 15 * 512 + a.val, by have := a.isLt; omega⟩ b) := by
  rw [← V_u]
  unfold iblk
  rw [View.read_apply]
  show V m c main_v2 _ = _
  congr 1
  funext ax
  apply Fin.ext
  match ax with
  | ⟨0, _⟩ => show win0_2.index t (0 : Fin 2) * 512 + 1 * a.val = _; rw [(idxs t).2.2.1.2, Nat.one_mul]; rfl
  | ⟨1, _⟩ => show win0_2.index t (1 : Fin 2) * 2048 + 1 * b.val = _; rw [(idxs t).2.2.1.1, Nat.one_mul, Nat.zero_mul, Nat.zero_add]; rfl

/-- The cast input weights, entry by entry: over the extended reals the cast changes nothing. -/
theorem wcast_at (w : Vec Ideal S1024x2048 .f32) (j : S1024x2048.Idx) : k0_pay5 (F := Ideal) w j = w j := by
  idx_vars j
  pointwise [k0_pay5]

/-- The cast block, entry by entry. -/
theorem cast_at (u : Vec Ideal S512x2048 .f32) (j : S512x2048.Idx) : k0_pay4 (F := Ideal) u j = u j := by
  idx_vars j
  pointwise [k0_pay4]

/-- The product of a tile with a weight block, entry by entry. -/
theorem prod_at (x : Vec Ideal S1024x2048 .bf16) (s : Vec Ideal S1024x2048 .bf16) (r : Fin 1024) (q : Fin 1024) :
    k0_pay6 (F := Ideal) x s (ix2 r q) = ∑ k : Fin 2048, x (ix2 r k) * s (ix2 q k) := by
  pointwise [k0_pay6]

/-- What the scratch holds after point `n`: the weight block of the point's column block. -/
theorem scr (c : Dev nD) : ∀ (n : ℕ) (h : n < cfg0.N) (r : Fin 1024) (k : Fin 2048),
    (outsAt0 m c n h).2.2 (ix2 r k)
      = ws m c (ix3 0 k ⟨n / 8 * 3072 + 2048 + r.val, by have := r.isLt; have := lt24 ⟨n, h⟩; dsimp only at this; omega⟩) := by
  intro n
  induction n with
  | zero =>
    intro h r k
    rw [outsAt0_A m c ⟨0, h⟩ rfl]
    dsimp only
    rw [sout_A, wcast_at]
    exact iblk_w m c ⟨0, h⟩ r k
  | succ n ih =>
    intro h r k
    by_cases h0 : (n + 1) % 8 = 0
    · rw [outsAt0_A m c ⟨n + 1, h⟩ h0]
      dsimp only
      rw [sout_A, wcast_at]
      exact iblk_w m c ⟨n + 1, h⟩ r k
    · rw [outsAt0_B m c ⟨n + 1, h⟩ h0]
      dsimp only
      unfold sout0_B_0
      refine (ih (Nat.lt_of_succ_lt h) r k).trans ?_
      have e : (n + 1) / 8 = n / 8 := by omega
      simp only [e]

/-- What the output block holds after point `t`: at class `cl` and row `l`, the projection's entries of token
    `16 l + cl` of that row tile. -/
theorem blk3 (c : Dev nD) (t : Fin cfg0.N) (cl : Fin 16) (l : Fin 64) (q : Fin 1024) :
    (outsAt0 m c t.val t.isLt).1 (ix4 0 cl l q)
      = proj (xs m c) (ws m c) ⟨t.val % 8 * 1024 + (l.val * 16 + cl.val), by have := l.isLt; have := cl.isLt; omega⟩
          ⟨t.val / 8 * 3072 + 2048 + q.val, by have := q.isLt; have := lt24 t; omega⟩ := by
  unfold proj
  by_cases h0 : t.val % 8 = 0
  · rw [outsAt0_A m c t h0]
    dsimp only
    rw [out3_A]
    refine (show regroup _ (ix4 0 cl l q) = _ from prod_at _ _ ⟨l.val * 16 + cl.val, _⟩ q).trans (Finset.sum_congr rfl fun k _ => ?_)
    rw [wcast_at, iblk_x, iblk_w]
  · rw [outsAt0_B m c t h0]
    dsimp only
    rw [out3_B]
    refine (show regroup _ (ix4 0 cl l q) = _ from prod_at _ _ ⟨l.val * 16 + cl.val, _⟩ q).trans (Finset.sum_congr rfl fun k _ => ?_)
    have e : (t.val - 1) / 8 = t.val / 8 := by omega
    rw [iblk_x, scr]
    simp only [e]

/-- What the second output block holds after point `t`: the block of weights it is handed. -/
theorem blk4 (c : Dev nD) (t : Fin cfg0.N) (a : Fin 512) (b : Fin 2048) :
    (outsAt0 m c t.val t.isLt).2.1 (ix2 a b) = us m c (ix3 0 ⟨min t.val 15 * 512 + a.val, by have := a.isLt; omega⟩ b) := by
  by_cases h0 : t.val % 8 = 0
  · rw [outsAt0_A m c t h0]
    dsimp only
    rw [out4_A, cast_at, iblk_u]
  · rw [outsAt0_B m c t h0]
    dsimp only
    rw [out4_B, cast_at, iblk_u]

/-- What the call computes: batch element `b`, class `cl`, row `l`, column `j` is the projection's entry of token
    `16 l + cl` of the sequence, in part `j / 1024` (query, key or value) of head group 2. -/
def G3 (c : Dev nD) : Buf (Elt Ideal) ((c : Thread nD τ).loc main_v3_0) := fun i =>
  proj (xs m c) (ws m c)
    ⟨(i 0).val * 2048 + (i 2).val * 16 + (i 1).val, by
      have h0 : (i 0).val < 4 := (i 0).isLt
      have h1 : (i 1).val < 16 := (i 1).isLt
      have h2 : (i 2).val < 128 := (i 2).isLt
      omega⟩
    ⟨(i 3).val / 1024 * 3072 + 2048 + (i 3).val % 1024, by
      have h3 : (i 3).val < 3072 := (i 3).isLt
      omega⟩

/-- … and the weights, cast. -/
def G4 (c : Dev nD) : Buf (Elt Ideal) ((c : Thread nD τ).loc main_v3_1) := fun i => us m c (ix3 0 (i 0) (i 1))

/-- Each point writes back its block of `G3`. -/
theorem flushed3 (c : Dev nD) (t : Fin cfg0.N) (_ : (cfg0.win 3).flush t = true) :
    (dats m 0 c).flushed 3 t = ((cfg0.win 3).blk t).view.read (Elt Ideal) (G3 m c) := by
  rw [Value.flushed3]
  funext y
  rw [View.read_apply]
  show (outsAt0 m c t.val t.isLt).1 _ = _
  have hy : ∃ (u : Fin 1) (cl : Fin 16) (l : Fin 64) (q : Fin 1024), (cfg0.win 3).xinj (grid0.coords t) y = ix4 u cl l q :=
    ⟨_, _, _, _, eq_ix4 _⟩
  obtain ⟨u, cl, l, q, hy⟩ := hy
  obtain rfl : u = 0 := Subsingleton.elim _ _
  have h0 : (y 0).val = 0 := congrArg (fun z : S1x16x64x1024.Idx => (z 0).val) hy
  have h1 : (y 1).val = cl.val := congrArg (fun z : S1x16x64x1024.Idx => (z 1).val) hy
  have h2 : (y 2).val = l.val := congrArg (fun z : S1x16x64x1024.Idx => (z 2).val) hy
  have h3 : (y 3).val = q.val := congrArg (fun z : S1x16x64x1024.Idx => (z 3).val) hy
  refine (congrArg _ hy).trans ((blk3 m c t cl l q).trans ?_)
  unfold G3
  have e := (idxs t).2.2.2.1
  have hq := q.isLt
  refine proj_congr _ _ ?_ ?_
  · show _ = (win0_3.index t (0 : Fin 4) * 1 + 1 * (y 0).val) * 2048
      + (win0_3.index t (2 : Fin 4) * 64 + 1 * (y 2).val) * 16 + (win0_3.index t (1 : Fin 4) * 16 + 1 * (y 1).val)
    rw [e.1, e.2.1, e.2.2.1, h0, h1, h2]
    dsimp only
    omega
  · show _ = (win0_3.index t (3 : Fin 4) * 1024 + 1 * (y 3).val) / 1024 * 3072 + 2048
      + (win0_3.index t (3 : Fin 4) * 1024 + 1 * (y 3).val) % 1024
    rw [e.2.2.2, h3]
    dsimp only
    omega

/-- A weight's entry does not depend on how its row and column are written. -/
theorem us_congr (u : S1x8192x2048.Idx → EReal) {a a' : Fin 8192} {b b' : Fin 2048} (ha : a.val = a'.val) (hb : b.val = b'.val) :
    u (ix3 0 a b) = u (ix3 0 a' b') := by
  rw [Fin.ext ha, Fin.ext hb]

/-- Each point that writes back the cast writes its block of `G4`. -/
theorem flushed4 (c : Dev nD) (t : Fin cfg0.N) (_ : (cfg0.win 4).flush t = true) :
    (dats m 0 c).flushed 4 t = ((cfg0.win 4).blk t).view.read (Elt Ideal) (G4 m c) := by
  rw [Value.flushed4]
  funext y
  rw [View.read_apply]
  show (outsAt0 m c t.val t.isLt).2.1 _ = _
  have hy : ∃ (a : Fin 512) (b : Fin 2048), (cfg0.win 4).xinj (grid0.coords t) y = ix2 a b :=
    ⟨_, _, eq_ix2 _⟩
  obtain ⟨a, b, hy⟩ := hy
  have h0 : (y 0).val = a.val := congrArg (fun z : S512x2048.Idx => (z 0).val) hy
  have h1 : (y 1).val = b.val := congrArg (fun z : S512x2048.Idx => (z 1).val) hy
  refine (congrArg _ hy).trans ((blk4 m c t a b).trans ?_)
  unfold G4
  have e := (idxs t).2.2.2.2
  refine us_congr (us m c) ?_ ?_
  · show _ = win0_4.index t (0 : Fin 2) * 512 + 1 * (y 0).val
    rw [e.2, h0]
    rw [Nat.one_mul]
  · show _ = win0_4.index t (1 : Fin 2) * 2048 + 1 * (y 1).val
    rw [e.1, h1]
    omega

/-- An index lies in point `t`'s block of output 3 iff each coordinate is in the block's range on its axis. -/
theorem mem_blk3 (t : Fin cfg0.N) (i : S4x16x128x3072.Idx) : i ∈ ((cfg0.win 3).blk t).view.set ↔ ∀ a : Fin 4,
    win0_3.index t a * S1x16x64x1024.size a ≤ (i a).val ∧ (i a).val < win0_3.index t a * S1x16x64x1024.size a + S1x16x64x1024.size a := by
  show i ∈ ((View.whole main_v3_0).slice (win0_3.rect t)).set ↔ _
  rw [View.set_slice_whole, Rect.mem_set_unit]
  exact Iff.rfl

/-- The first result array ends holding `G3`: the blocks fill it. -/
theorem final3 (c : Dev nD) : (dats m 0 c).arrAt 3 cfg0.N = G3 m c :=
  (dats m 0 c).arrAt_eq_of_cover 3 _ (flushed3 m c) fun i => by
    have h0 : (i 0).val < 4 := (i 0).isLt
    have h1 : (i 1).val < 16 := (i 1).isLt
    have h2 : (i 2).val < 128 := (i 2).isLt
    have h3 : (i 3).val < 3072 := (i 3).isLt
    have ht : (i 3).val / 1024 * 8 + ((i 0).val * 2 + (i 2).val / 64) < cfg0.N := by rw [show cfg0.N = 24 from N_0]; omega
    refine ⟨⟨(i 3).val / 1024 * 8 + ((i 0).val * 2 + (i 2).val / 64), ht⟩, flush0_3 _, ?_⟩
    rw [mem_blk3]
    have e := (idxs ⟨(i 3).val / 1024 * 8 + ((i 0).val * 2 + (i 2).val / 64), ht⟩).2.2.2.1
    dsimp only at e
    intro a
    match a with
    | ⟨0, _⟩ =>
      show win0_3.index _ (0 : Fin 4) * 1 ≤ (i 0).val ∧ (i 0).val < win0_3.index _ (0 : Fin 4) * 1 + 1
      rw [e.1]; omega
    | ⟨1, _⟩ =>
      show win0_3.index _ (1 : Fin 4) * 16 ≤ (i 1).val ∧ (i 1).val < win0_3.index _ (1 : Fin 4) * 16 + 16
      rw [e.2.1]; omega
    | ⟨2, _⟩ =>
      show win0_3.index _ (2 : Fin 4) * 64 ≤ (i 2).val ∧ (i 2).val < win0_3.index _ (2 : Fin 4) * 64 + 64
      rw [e.2.2.1]; omega
    | ⟨3, _⟩ =>
      show win0_3.index _ (3 : Fin 4) * 1024 ≤ (i 3).val ∧ (i 3).val < win0_3.index _ (3 : Fin 4) * 1024 + 1024
      rw [e.2.2.2]; omega

/-- An index lies in point `t`'s block of output 4 iff each coordinate is in the block's range on its axis. -/
theorem mem_blk4 (t : Fin cfg0.N) (i : S8192x2048.Idx) : i ∈ ((cfg0.win 4).blk t).view.set ↔ ∀ a : Fin 2,
    win0_4.index t a * S512x2048.size a ≤ (i a).val ∧ (i a).val < win0_4.index t a * S512x2048.size a + S512x2048.size a := by
  show i ∈ ((View.whole main_v3_1).slice (win0_4.rect t)).set ↔ _
  rw [View.set_slice_whole, Rect.mem_set_unit]
  exact Iff.rfl

/-- The second result array ends holding `G4`: the first fifteen blocks and the last written fill it. -/
theorem final4 (c : Dev nD) : (dats m 0 c).arrAt 4 cfg0.N = G4 m c :=
  (dats m 0 c).arrAt_eq_of_cover 4 _ (flushed4 m c) fun i => by
    have h0 : (i 0).val < 8192 := (i 0).isLt
    have h1 : (i 1).val < 2048 := (i 1).isLt
    obtain ⟨n, hn, hf, hm⟩ : ∃ n, n < 24 ∧ (n < 15 ∨ n = 23) ∧ min n 15 = (i 0).val / 512 := by
      by_cases h : (i 0).val / 512 < 15
      · exact ⟨(i 0).val / 512, by omega, by omega, by omega⟩
      · exact ⟨23, by omega, by omega, by omega⟩
    have ht : n < cfg0.N := by rw [show cfg0.N = 24 from N_0]; exact hn
    refine ⟨⟨n, ht⟩, flushes4 _ hf, ?_⟩
    rw [mem_blk4]
    have e := (idxs ⟨n, ht⟩).2.2.2.2
    dsimp only at e
    rw [hm] at e
    intro a
    match a with
    | ⟨0, _⟩ =>
      show win0_4.index _ (0 : Fin 2) * 512 ≤ (i 0).val ∧ (i 0).val < win0_4.index _ (0 : Fin 2) * 512 + 512
      rw [e.2]; omega
    | ⟨1, _⟩ =>
      show win0_4.index _ (1 : Fin 2) * 2048 ≤ (i 1).val ∧ (i 1).val < win0_4.index _ (1 : Fin 2) * 2048 + 2048
      rw [e.1]; omega

/-- The reference's first result is `G3` of the same arguments. -/
theorem ref9 (c : Dev nD) : ProjCRefIdeal.Read.val_main_v9 (F := Ideal) (xs m c) (ws m c) = G3 m c := by
  funext i
  idx_vars i
  unfold G3 proj
  pointwise [ProjCRefIdeal.Read.val_main_v9, ProjCRefIdeal.Read.val_main_v8, ProjCRefIdeal.Read.val_main_v7, ProjCRefIdeal.Read.val_main_v6, ProjCRefIdeal.Read.val_main_v5,
    ProjCRefIdeal.Read.val_main_v4, ProjCRefIdeal.Read.val_main_v3, ProjCRefIdeal.Read.val_main_v2, ProjCRefIdeal.Read.val_main_v1, ProjCRefIdeal.Read.val_main_v0]

/-- The reference's second result is `G4` of the same arguments. -/
theorem ref11 (c : Dev nD) : ProjCRefIdeal.Read.val_main_v11 (F := Ideal) (us m c) = G4 m c := by
  funext i
  idx_vars i
  unfold G4
  pointwise [ProjCRefIdeal.Read.val_main_v11, ProjCRefIdeal.Read.val_main_v10]

/-- The call and its reference compute the same regrouped projection and the same cast weights over the extended reals. -/
theorem alg : Cert.algebraic_ProjCIdeal_ProjCRefIdeal := fun m ρ m' ρ' _ hag =>
  ⟨fun c => G3 m c, fun c => G4 m c,
    (θ_run _ _ _).mono (fun _ h c => ⟨(h c).1.trans (final3 m c), (h c).2.1.trans (final4 m c), (h c).2.2⟩) (Value.run_blocks m ρ),
    (θ_run _ _ _).mono (fun _ h c => ⟨(h c).1.trans (by
        rw [ProjCRefIdeal.Read.val_main_v9_eq, (hag c).1, (hag c).2.1]; exact ref9 m c),
      (h c).2.1.trans (by
        rw [ProjCRefIdeal.Read.val_main_v11_eq, (hag c).2.2]; exact ref11 m c), (h c).2.2⟩)
      (ProjCRefIdeal.Value.run m' ρ')⟩

end Cert.ProjCIdeal.Val

end
-- ==== Proof.ProjGla.lean ====
/-
  The value of the GLA projection call: columns 9216 … 15359 of `xn @ w_in[0]`, six weight blocks of 1024 columns read
  at element offsets, four row tiles of 2048 rows, the block's weights kept in a scratch from the first row tile on.
-/
module

public import proofs.«01_k».proof.Proof.Spec
public import proofs.«01_k».proof.Defs
public import proofs.«01_k».proof.Proof.Gen.ProjGlaIdeal.Value
public import proofs.«01_k».proof.Proof.Gen.ProjGlaRefIdeal.Read
public import Idealize.ShloMosaic.Lib.StableHlo.ReadAt
public import Idealize.ShloMosaic.Lib.Tactic

@[expose] public section

set_option maxRecDepth 16384

noncomputable section

namespace Cert.ProjGlaIdeal.Val

open Cert.ProjGlaIdeal Cert.ProjGlaIdeal.Gen Cert.Layer Idealize.ShloMosaic Idealize.ShloMosaic.TcCoe Idealize.SL.Sem
open Idealize.ShloMosaic.Pipeline (Dat)

section Cases
variable {F : FTy → Type} [FloatOps F]

/-- Where the row tile is the first, the output block is the product of the rows with the weights just cast. -/
theorem out_A (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : cond0_0 i)
    (x : Vec F S2048x2048 .bf16) (w : Vec F S1024x2048 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz]
  simp only [View.readAt_eq_ld, h2.read_unread, h3.read_unread, View.ld_unit_zero (S := S2048x2048) hz,
    View.ld_unit_zero (S := S1024x2048) hz, View.readCov_unit_zero (S := S1024x2048) _ hz]

/-- … and the scratch is left holding those weights. -/
theorem sout_A (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : cond0_0 i)
    (x : Vec F S2048x2048 .bf16) (w : Vec F S1024x2048 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S1024x2048) hz]

/-- At the other row tiles the output block is the product of the rows with the weights the scratch holds. -/
theorem out_B (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : ¬cond0_0 i)
    (x : Vec F S2048x2048 .bf16) (w : Vec F S1024x2048 .f32) (s : Vec F S1024x2048 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero hz]
  simp only [View.readAt_eq_ld, h2.read_unread, h5.read_unread, View.ld_unit_zero (S := S2048x2048) hz,
    View.ld_unit_zero (S := S1024x2048) hz]

end Cases

variable (m : (ℓ : Loc nD τ sig) → Buf (Elt Ideal) ℓ) (ρ : Dev nD → PrngReg)

/-- The activations and the weights of the call, as the arguments hold them. -/
abbrev xs (c : Dev nD) : S8192x2048.Idx → EReal := m ((c : Thread nD τ).loc main_arg0)
abbrev ws (c : Dev nD) : S1x2048x19488.Idx → EReal := m ((c : Thread nD τ).loc main_arg1)

/-- The three index maps at a point: the row tile is the point mod 4, the column block the point over 4; the weights'
    map names the first column itself. -/
theorem idxs : ∀ t : Fin cfg0.N, (win0_0.index t (0 : Fin 2) = t.val % 4 ∧ win0_0.index t (1 : Fin 2) = 0)
    ∧ (win0_1.index t (0 : Fin 2) = 9216 + t.val / 4 * 1024 ∧ win0_1.index t (1 : Fin 2) = 0)
    ∧ win0_2.index t (0 : Fin 2) = t.val % 4 ∧ win0_2.index t (1 : Fin 2) = t.val / 4 :=
  (by decide +kernel : ∀ t : Fin grid0.N, _)

/-- The call has twenty-four points. -/
theorem lt24 (t : Fin cfg0.N) : t.val < 24 := lt_of_lt_of_eq t.isLt N_0

/-- The transposed weights the host prepares, entry by entry. -/
theorem V_w (c : Dev nD) (r : Fin 19488) (k : Fin 2048) : V m c main_v1 (ix2 r k) = ws m c (ix3 0 k r) := by
  unfold V
  after_reads_at

/-- The row tile at point `t`. -/
theorem iblk_x (c : Dev nD) (t : Fin cfg0.N) (r k : Fin 2048) :
    iblk m c 0 t (ix2 r k) = xs m c (ix2 ⟨t.val % 4 * 2048 + r.val, by have := r.isLt; omega⟩ k) := by
  unfold iblk
  rw [View.read_apply]
  show V m c main_arg0 _ = _
  rw [V_main_arg0]
  congr 1
  funext a
  apply Fin.ext
  match a with
  | ⟨0, _⟩ => show win0_0.index t (0 : Fin 2) * 2048 + 1 * r.val = _; rw [(idxs t).1.1, Nat.one_mul]; rfl
  | ⟨1, _⟩ => show win0_0.index t (1 : Fin 2) * 2048 + 1 * k.val = _; rw [(idxs t).1.2, Nat.one_mul, Nat.zero_mul, Nat.zero_add]; rfl

/-- The weight block at point `t`: 1024 columns of the input weights from column `9216 + 1024 (t / 4)` on. -/
theorem iblk_w (c : Dev nD) (t : Fin cfg0.N) (r : Fin 1024) (k : Fin 2048) :
    iblk m c 1 t (ix2 r k) = ws m c (ix3 0 k ⟨9216 + t.val / 4 * 1024 + r.val, by have := r.isLt; have := lt24 t; omega⟩) := by
  rw [← V_w]
  unfold iblk
  rw [View.read_apply]
  show V m c main_v1 _ = _
  congr 1
  funext a
  apply Fin.ext
  match a with
  | ⟨0, _⟩ => show win0_1.index t (0 : Fin 2) + 1 * r.val = _; rw [(idxs t).2.1.1, Nat.one_mul]; rfl
  | ⟨1, _⟩ => show win0_1.index t (1 : Fin 2) + 1 * k.val = _; rw [(idxs t).2.1.2, Nat.one_mul, Nat.zero_add]; rfl

/-- The cast weights, entry by entry: over the extended reals the cast changes nothing. -/
theorem pay1_at (w : Vec Ideal S1024x2048 .f32) (j : S1024x2048.Idx) : k0_pay1 w j = w j := by
  idx_vars j
  pointwise [k0_pay1]

/-- The product block, entry by entry. -/
theorem pay2_at (x : Vec Ideal S2048x2048 .bf16) (s : Vec Ideal S1024x2048 .bf16) (r : Fin 2048) (q : Fin 1024) :
    k0_pay2 x s (ix2 r q) = ∑ k : Fin 2048, x (ix2 r k) * s (ix2 q k) := by
  pointwise [k0_pay2]

/-- What the scratch holds after point `n`: the weight block of the point's column block. -/
theorem scr (c : Dev nD) : ∀ (n : ℕ) (h : n < cfg0.N) (r : Fin 1024) (k : Fin 2048),
    (outsAt0 m c n h).2 (ix2 r k)
      = ws m c (ix3 0 k ⟨9216 + n / 4 * 1024 + r.val, by have := r.isLt; have := lt24 ⟨n, h⟩; dsimp only at this; omega⟩) := by
  intro n
  induction n with
  | zero =>
    intro h r k
    rw [outsAt0_A m c ⟨0, h⟩ rfl]
    dsimp only
    rw [sout_A, pay1_at]
    exact iblk_w m c ⟨0, h⟩ r k
  | succ n ih =>
    intro h r k
    by_cases h0 : (n + 1) % 4 = 0
    · rw [outsAt0_A m c ⟨n + 1, h⟩ h0]
      dsimp only
      rw [sout_A, pay1_at]
      exact iblk_w m c ⟨n + 1, h⟩ r k
    · rw [outsAt0_B m c ⟨n + 1, h⟩ h0]
      dsimp only
      unfold sout0_B_0
      refine (ih (Nat.lt_of_succ_lt h) r k).trans ?_
      have e : (n + 1) / 4 = n / 4 := by omega
      simp only [e]

/-- What the output block holds after point `t`: the projection's entries of that row tile and column block. -/
theorem blk (c : Dev nD) (t : Fin cfg0.N) (r : Fin 2048) (q : Fin 1024) :
    (outsAt0 m c t.val t.isLt).1 (ix2 r q)
      = proj (xs m c) (ws m c) ⟨t.val % 4 * 2048 + r.val, by have := r.isLt; omega⟩
          ⟨9216 + t.val / 4 * 1024 + q.val, by have := q.isLt; have := lt24 t; omega⟩ := by
  unfold proj
  by_cases h0 : t.val % 4 = 0
  · rw [outsAt0_A m c t h0]
    dsimp only
    rw [out_A, pay2_at]
    refine Finset.sum_congr rfl fun k _ => ?_
    rw [pay1_at, iblk_x, iblk_w]
  · rw [outsAt0_B m c t h0]
    dsimp only
    rw [out_B, pay2_at]
    refine Finset.sum_congr rfl fun k _ => ?_
    have e : (t.val - 1) / 4 = t.val / 4 := by omega
    rw [iblk_x, scr]
    simp only [e]

/-- What the call computes: columns 9216 … 15359 of the projection. -/
def G (c : Dev nD) : Buf (Elt Ideal) ((c : Thread nD τ).loc main_v2) := fun i =>
  proj (xs m c) (ws m c) (i 0) ⟨9216 + (i 1).val, by have h : (i 1).val < 6144 := (i 1).isLt; omega⟩

/-- Each point writes back its block of `G`. -/
theorem flushed (c : Dev nD) (t : Fin cfg0.N) (_ : (cfg0.win 2).flush t = true) :
    (dats m 0 c).flushed 2 t = ((cfg0.win 2).blk t).view.read (Elt Ideal) (G m c) := by
  rw [Value.flushed2]
  funext y
  rw [View.read_apply]
  show (outsAt0 m c t.val t.isLt).1 _ = _
  have hy : ∃ (r : Fin 2048) (q : Fin 1024), (cfg0.win 2).xinj (grid0.coords t) y = ix2 r q :=
    ⟨_, _, eq_ix2 _⟩
  obtain ⟨r, q, hy⟩ := hy
  have h0 : (y 0).val = r.val := congrArg (fun z : S2048x1024.Idx => (z 0).val) hy
  have h1 : (y 1).val = q.val := congrArg (fun z : S2048x1024.Idx => (z 1).val) hy
  refine (congrArg _ hy).trans ((blk m c t r q).trans ?_)
  unfold G
  refine proj_congr _ _ ?_ ?_
  · show _ = win0_2.index t (0 : Fin 2) * 2048 + 1 * (y 0).val
    rw [(idxs t).2.2.1, h0, Nat.one_mul]
  · show _ = 9216 + (win0_2.index t (1 : Fin 2) * 1024 + 1 * (y 1).val)
    rw [(idxs t).2.2.2, h1, Nat.one_mul]
    exact Nat.add_assoc _ _ _

/-- So the result array ends holding `G`. -/
theorem final (c : Dev nD) : (dats m 0 c).arrAt 2 cfg0.N = G m c :=
  (dats m 0 c).arrAt_eq_of_cover 2 _ (flushed m c) (fun i => (Value.covered_iff2 i).2 (by
    have h0 : (i 0).val < 8192 := (i 0).isLt; have h1 : (i 1).val < 6144 := (i 1).isLt; omega))

/-- The reference's result is `G` of the same arguments. -/
theorem ref_eq (c : Dev nD) : ProjGlaRefIdeal.Read.val_main_v4 (F := Ideal) (xs m c) (ws m c) = G m c := by
  funext i
  idx_vars i
  unfold G proj
  pointwise [ProjGlaRefIdeal.Read.val_main_v4, ProjGlaRefIdeal.Read.val_main_v3, ProjGlaRefIdeal.Read.val_main_v2,
    ProjGlaRefIdeal.Read.val_main_v1, ProjGlaRefIdeal.Read.val_main_v0]

/-- The call and its reference compute the same projection over the extended reals. -/
theorem alg : Cert.algebraic_ProjGlaIdeal_ProjGlaRefIdeal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by
      rw [ProjGlaRefIdeal.Read.val_main_v4_eq, (hag c).1, (hag c).2]; exact ref_eq m c), (h c).2⟩) (ProjGlaRefIdeal.Value.run m' ρ')⟩

end Cert.ProjGlaIdeal.Val

end
-- ==== Proof.ProjGates.lean ====
/-
  The value of the gate projection call: columns 15392 … 19487 of `xn @ w_in[0]`, four weight blocks of 1024 columns read
  at element offsets, four row tiles of 2048 rows, the block's weights kept in a scratch from the first row tile on.
-/
module

public import proofs.«01_k».proof.Proof.Spec
public import proofs.«01_k».proof.Defs
public import proofs.«01_k».proof.Proof.Gen.ProjGatesIdeal.Value
public import proofs.«01_k».proof.Proof.Gen.ProjGatesRefIdeal.Read
public import Idealize.ShloMosaic.Lib.StableHlo.ReadAt
public import Idealize.ShloMosaic.Lib.Tactic

@[expose] public section

set_option maxRecDepth 16384

noncomputable section

namespace Cert.ProjGatesIdeal.Val

open Cert.ProjGatesIdeal Cert.ProjGatesIdeal.Gen Cert.Layer Idealize.ShloMosaic Idealize.ShloMosaic.TcCoe Idealize.SL.Sem
open Idealize.ShloMosaic.Pipeline (Dat)

section Cases
variable {F : FTy → Type} [FloatOps F]

/-- Where the row tile is the first, the output block is the product of the rows with the weights just cast. -/
theorem out_A (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : cond0_0 i)
    (x : Vec F S2048x2048 .bf16) (w : Vec F S1024x2048 .f32) :
    out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero hz]
  simp only [View.readAt_eq_ld, h2.read_unread, h3.read_unread, View.ld_unit_zero (S := S2048x2048) hz,
    View.ld_unit_zero (S := S1024x2048) hz, View.readCov_unit_zero (S := S1024x2048) _ hz]

/-- … and the scratch is left holding those weights. -/
theorem sout_A (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : cond0_0 i)
    (x : Vec F S2048x2048 .bf16) (w : Vec F S1024x2048 .f32) :
    sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero hz]
  simp only [View.readAt_eq_ld, h3.read_unread, View.ld_unit_zero (S := S1024x2048) hz]

/-- At the other row tiles the output block is the product of the rows with the weights the scratch holds. -/
theorem out_B (c : Dev nD) (i : grid0.Coords) (a2 : Memref sig .tc .vmem S2048x2048 .bf16) (h2 : a2.IsWhole)
    (a3 : Memref sig .tc .vmem S1024x2048 .f32) (h3 : a3.IsWhole) (a4 : Memref sig .tc .vmem S2048x1024 .bf16) (h4 : a4.IsWhole)
    (a5 : Memref sig .tc .vmem S1024x2048 .bf16) (h5 : a5.IsWhole) (hc : ¬cond0_0 i)
    (x : Vec F S2048x2048 .bf16) (w : Vec F S1024x2048 .f32) (s : Vec F S1024x2048 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero hz]
  simp only [View.readAt_eq_ld, h2.read_unread, h5.read_unread, View.ld_unit_zero (S := S2048x2048) hz,
    View.ld_unit_zero (S := S1024x2048) hz]

end Cases

variable (m : (ℓ : Loc nD τ sig) → Buf (Elt Ideal) ℓ) (ρ : Dev nD → PrngReg)

/-- The activations and the weights of the call, as the arguments hold them. -/
abbrev xs (c : Dev nD) : S8192x2048.Idx → EReal := m ((c : Thread nD τ).loc main_arg0)
abbrev ws (c : Dev nD) : S1x2048x19488.Idx → EReal := m ((c : Thread nD τ).loc main_arg1)

/-- The three index maps at a point: the row tile is the point mod 4, the column block the point over 4; the weights'
    map names the first column itself. -/
theorem idxs : ∀ t : Fin cfg0.N, (win0_0.index t (0 : Fin 2) = t.val % 4 ∧ win0_0.index t (1 : Fin 2) = 0)
    ∧ (win0_1.index t (0 : Fin 2) = 15392 + t.val / 4 * 1024 ∧ win0_1.index t (1 : Fin 2) = 0)
    ∧ win0_2.index t (0 : Fin 2) = t.val % 4 ∧ win0_2.index t (1 : Fin 2) = t.val / 4 :=
  (by decide +kernel : ∀ t : Fin grid0.N, _)

/-- The call has sixteen points. -/
theorem lt16 (t : Fin cfg0.N) : t.val < 16 := lt_of_lt_of_eq t.isLt N_0

/-- The transposed weights the host prepares, entry by entry. -/
theorem V_w (c : Dev nD) (r : Fin 19488) (k : Fin 2048) : V m c main_v1 (ix2 r k) = ws m c (ix3 0 k r) := by
  unfold V
  after_reads_at

/-- The row tile at point `t`. -/
theorem iblk_x (c : Dev nD) (t : Fin cfg0.N) (r k : Fin 2048) :
    iblk m c 0 t (ix2 r k) = xs m c (ix2 ⟨t.val % 4 * 2048 + r.val, by have := r.isLt; omega⟩ k) := by
  unfold iblk
  rw [View.read_apply]
  show V m c main_arg0 _ = _
  rw [V_main_arg0]
  congr 1
  funext a
  apply Fin.ext
  match a with
  | ⟨0, _⟩ => show win0_0.index t (0 : Fin 2) * 2048 + 1 * r.val = _; rw [(idxs t).1.1, Nat.one_mul]; rfl
  | ⟨1, _⟩ => show win0_0.index t (1 : Fin 2) * 2048 + 1 * k.val = _; rw [(idxs t).1.2, Nat.one_mul, Nat.zero_mul, Nat.zero_add]; rfl

/-- The weight block at point `t`: 1024 columns of the input weights from column `15392 + 1024 (t / 4)` on. -/
theorem iblk_w (c : Dev nD) (t : Fin cfg0.N) (r : Fin 1024) (k : Fin 2048) :
    iblk m c 1 t (ix2 r k) = ws m c (ix3 0 k ⟨15392 + t.val / 4 * 1024 + r.val, by have := r.isLt; have := lt16 t; omega⟩) := by
  rw [← V_w]
  unfold iblk
  rw [View.read_apply]
  show V m c main_v1 _ = _
  congr 1
  funext a
  apply Fin.ext
  match a with
  | ⟨0, _⟩ => show win0_1.index t (0 : Fin 2) + 1 * r.val = _; rw [(idxs t).2.1.1, Nat.one_mul]; rfl
  | ⟨1, _⟩ => show win0_1.index t (1 : Fin 2) + 1 * k.val = _; rw [(idxs t).2.1.2, Nat.one_mul, Nat.zero_add]; rfl

/-- The cast weights, entry by entry: over the extended reals the cast changes nothing. -/
theorem pay1_at (w : Vec Ideal S1024x2048 .f32) (j : S1024x2048.Idx) : k0_pay1 w j = w j := by
  idx_vars j
  pointwise [k0_pay1]

/-- The product block, entry by entry. -/
theorem pay2_at (x : Vec Ideal S2048x2048 .bf16) (s : Vec Ideal S1024x2048 .bf16) (r : Fin 2048) (q : Fin 1024) :
    k0_pay2 x s (ix2 r q) = ∑ k : Fin 2048, x (ix2 r k) * s (ix2 q k) := by
  pointwise [k0_pay2]

/-- What the scratch holds after point `n`: the weight block of the point's column block. -/
theorem scr (c : Dev nD) : ∀ (n : ℕ) (h : n < cfg0.N) (r : Fin 1024) (k : Fin 2048),
    (outsAt0 m c n h).2 (ix2 r k)
      = ws m c (ix3 0 k ⟨15392 + n / 4 * 1024 + r.val, by have := r.isLt; have := lt16 ⟨n, h⟩; dsimp only at this; omega⟩) := by
  intro n
  induction n with
  | zero =>
    intro h r k
    rw [outsAt0_A m c ⟨0, h⟩ rfl]
    dsimp only
    rw [sout_A, pay1_at]
    exact iblk_w m c ⟨0, h⟩ r k
  | succ n ih =>
    intro h r k
    by_cases h0 : (n + 1) % 4 = 0
    · rw [outsAt0_A m c ⟨n + 1, h⟩ h0]
      dsimp only
      rw [sout_A, pay1_at]
      exact iblk_w m c ⟨n + 1, h⟩ r k
    · rw [outsAt0_B m c ⟨n + 1, h⟩ h0]
      dsimp only
      unfold sout0_B_0
      refine (ih (Nat.lt_of_succ_lt h) r k).trans ?_
      have e : (n + 1) / 4 = n / 4 := by omega
      simp only [e]

/-- What the output block holds after point `t`: the projection's entries of that row tile and column block. -/
theorem blk (c : Dev nD) (t : Fin cfg0.N) (r : Fin 2048) (q : Fin 1024) :
    (outsAt0 m c t.val t.isLt).1 (ix2 r q)
      = proj (xs m c) (ws m c) ⟨t.val % 4 * 2048 + r.val, by have := r.isLt; omega⟩
          ⟨15392 + t.val / 4 * 1024 + q.val, by have := q.isLt; have := lt16 t; omega⟩ := by
  unfold proj
  by_cases h0 : t.val % 4 = 0
  · rw [outsAt0_A m c t h0]
    dsimp only
    rw [out_A, pay2_at]
    refine Finset.sum_congr rfl fun k _ => ?_
    rw [pay1_at, iblk_x, iblk_w]
  · rw [outsAt0_B m c t h0]
    dsimp only
    rw [out_B, pay2_at]
    refine Finset.sum_congr rfl fun k _ => ?_
    have e : (t.val - 1) / 4 = t.val / 4 := by omega
    rw [iblk_x, scr]
    simp only [e]

/-- What the call computes: columns 15392 … 19487 of the projection. -/
def G (c : Dev nD) : Buf (Elt Ideal) ((c : Thread nD τ).loc main_v2) := fun i =>
  proj (xs m c) (ws m c) (i 0) ⟨15392 + (i 1).val, by have h : (i 1).val < 4096 := (i 1).isLt; omega⟩

/-- Each point writes back its block of `G`. -/
theorem flushed (c : Dev nD) (t : Fin cfg0.N) (_ : (cfg0.win 2).flush t = true) :
    (dats m 0 c).flushed 2 t = ((cfg0.win 2).blk t).view.read (Elt Ideal) (G m c) := by
  rw [Value.flushed2]
  funext y
  rw [View.read_apply]
  show (outsAt0 m c t.val t.isLt).1 _ = _
  have hy : ∃ (r : Fin 2048) (q : Fin 1024), (cfg0.win 2).xinj (grid0.coords t) y = ix2 r q :=
    ⟨_, _, eq_ix2 _⟩
  obtain ⟨r, q, hy⟩ := hy
  have h0 : (y 0).val = r.val := congrArg (fun z : S2048x1024.Idx => (z 0).val) hy
  have h1 : (y 1).val = q.val := congrArg (fun z : S2048x1024.Idx => (z 1).val) hy
  refine (congrArg _ hy).trans ((blk m c t r q).trans ?_)
  unfold G
  refine proj_congr _ _ ?_ ?_
  · show _ = win0_2.index t (0 : Fin 2) * 2048 + 1 * (y 0).val
    rw [(idxs t).2.2.1, h0, Nat.one_mul]
  · show _ = 15392 + (win0_2.index t (1 : Fin 2) * 1024 + 1 * (y 1).val)
    rw [(idxs t).2.2.2, h1, Nat.one_mul]
    exact Nat.add_assoc _ _ _

/-- So the result array ends holding `G`. -/
theorem final (c : Dev nD) : (dats m 0 c).arrAt 2 cfg0.N = G m c :=
  (dats m 0 c).arrAt_eq_of_cover 2 _ (flushed m c) (fun i => (Value.covered_iff2 i).2 (by
    have h0 : (i 0).val < 8192 := (i 0).isLt; have h1 : (i 1).val < 4096 := (i 1).isLt; omega))

/-- The reference's result is `G` of the same arguments. -/
theorem ref_eq (c : Dev nD) : ProjGatesRefIdeal.Read.val_main_v4 (F := Ideal) (xs m c) (ws m c) = G m c := by
  funext i
  idx_vars i
  unfold G proj
  pointwise [ProjGatesRefIdeal.Read.val_main_v4, ProjGatesRefIdeal.Read.val_main_v3, ProjGatesRefIdeal.Read.val_main_v2,
    ProjGatesRefIdeal.Read.val_main_v1, ProjGatesRefIdeal.Read.val_main_v0]

/-- The call and its reference compute the same projection over the extended reals. -/
theorem alg : Cert.algebraic_ProjGatesIdeal_ProjGatesRefIdeal := fun m ρ m' ρ' _ hag =>
  ⟨fun c => G m c,
    (θ_run _ _ _).mono (fun _ h c => ⟨(h c).1.trans (final m c), (h c).2⟩) (Value.run_blocks m ρ),
    (θ_run _ _ _).mono (fun _ h c => ⟨(h c).1.trans (by
      rw [ProjGatesRefIdeal.Read.val_main_v4_eq, (hag c).1, (hag c).2]; exact ref_eq m c), (h c).2⟩) (ProjGatesRefIdeal.Value.run m' ρ')⟩

end Cert.ProjGatesIdeal.Val

end
-- ==== Proof.Ffn.lean ====
/-
  The value of the feed-forward call: `h + relu(hn @ w_ff1[0])² @ w_ff2[0]`, sixteen row tiles of 512 rows, the 8192
  hidden columns taken in eight blocks of 1024 whose products are added one after the other onto the residual.
-/
module

public import proofs.«01_k».proof.Proof.Spec
public import proofs.«01_k».proof.Defs
public import proofs.«01_k».proof.Proof.Gen.FfnIdeal.Value
public import proofs.«01_k».proof.Proof.Gen.FfnRefIdeal.Read
public import Idealize.ShloMosaic.Lib.StableHlo.ReadAt
public import Idealize.ShloMosaic.Lib.Tactic

@[expose] public section

set_option maxRecDepth 16384

noncomputable section

namespace Cert.FfnIdeal.Val

open Cert.FfnIdeal Cert.FfnIdeal.Gen Cert.Layer Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The normalised rows, the residual and the two weight matrices, as the arguments hold them. -/
abbrev hs (c : Dev nD) : S8192x2048.Idx → EReal := m ((c : Thread nD τ).loc main_arg0)
abbrev res (c : Dev nD) : S8192x2048.Idx → EReal := m ((c : Thread nD τ).loc main_arg1)
abbrev w1 (c : Dev nD) : S1x2048x8192.Idx → EReal := m ((c : Thread nD τ).loc main_arg2)
abbrev w2 (c : Dev nD) : S1x8192x2048.Idx → EReal := m ((c : Thread nD τ).loc main_arg3)

/-- The index maps at a point: the row tile is the point over 8, the hidden block the point mod 8. -/
theorem idxs : ∀ t : Fin cfg0.N, (win0_0.index t (0 : Fin 2) = t.val / 8 ∧ win0_0.index t (1 : Fin 2) = 0)
    ∧ (win0_1.index t (0 : Fin 2) = 0 ∧ win0_1.index t (1 : Fin 2) = t.val % 8)
    ∧ (win0_2.index t (0 : Fin 2) = t.val % 8 ∧ win0_2.index t (1 : Fin 2) = 0)
    ∧ (win0_3.index t (0 : Fin 2) = t.val / 8 ∧ win0_3.index t (1 : Fin 2) = 0)
    ∧ win0_4.index t (0 : Fin 2) = t.val / 8 ∧ win0_4.index t (1 : Fin 2) = 0 :=
  (by decide +kernel : ∀ t : Fin grid0.N, _)

/-- The call has 128 points. -/
theorem lt128 (t : Fin cfg0.N) : t.val < 128 := lt_of_lt_of_eq t.isLt N_0

/-- The first weights the host prepares, entry by entry: the cast changes nothing. -/
theorem V_w1 (c : Dev nD) (r : Fin 2048) (k : Fin 8192) : V m c main_v1 (ix2 r k) = w1 m c (ix3 0 r k) := by
  unfold V
  after_reads_at

/-- The second weights the host prepares, entry by entry. -/
theorem V_w2 (c : Dev nD) (r : Fin 8192) (k : Fin 2048) : V m c main_v3 (ix2 r k) = w2 m c (ix3 0 r k) := by
  unfold V
  after_reads_at

/-- The row tile of the normalised rows at point `t`. -/
theorem iblk_h (c : Dev nD) (t : Fin cfg0.N) (r : Fin 512) (k : Fin 2048) :
    iblk m c 0 t (ix2 r k) = hs m c (ix2 ⟨t.val / 8 * 512 + r.val, by have := r.isLt; have := lt128 t; omega⟩ k) := by
  unfold iblk
  rw [View.read_apply]
  show V m c main_arg0 _ = _
  rw [V_main_arg0]
  congr 1
  funext a
  apply Fin.ext
  match a with
  | ⟨0, _⟩ => show win0_0.index t (0 : Fin 2) * 512 + 1 * r.val = _; rw [(idxs t).1.1, Nat.one_mul]; rfl
  | ⟨1, _⟩ => show win0_0.index t (1 : Fin 2) * 2048 + 1 * k.val = _; rw [(idxs t).1.2, Nat.one_mul, Nat.zero_mul, Nat.zero_add]; rfl

/-- The row tile of the residual at point `t`. -/
theorem iblk_r (c : Dev nD) (t : Fin cfg0.N) (r : Fin 512) (k : Fin 2048) :
    iblk m c 3 t (ix2 r k) = res m c (ix2 ⟨t.val / 8 * 512 + r.val, by have := r.isLt; have := lt128 t; omega⟩ k) := by
  unfold iblk
  rw [View.read_apply]
  show V m c main_arg1 _ = _
  rw [V_main_arg1]
  congr 1
  funext a
  apply Fin.ext
  match a with
  | ⟨0, _⟩ => show win0_3.index t (0 : Fin 2) * 512 + 1 * r.val = _; rw [(idxs t).2.2.2.1.1, Nat.one_mul]; rfl
  | ⟨1, _⟩ => show win0_3.index t (1 : Fin 2) * 2048 + 1 * k.val = _; rw [(idxs t).2.2.2.1.2, Nat.one_mul, Nat.zero_mul, Nat.zero_add]; rfl

/-- The first weight block at point `t`: 1024 hidden columns. -/
theorem iblk_w1 (c : Dev nD) (t : Fin cfg0.N) (r : Fin 2048) (k : Fin 1024) :
    iblk m c 1 t (ix2 r k) = w1 m c (ix3 0 r ⟨t.val % 8 * 1024 + k.val, by have := k.isLt; omega⟩) := by
  rw [← V_w1]
  unfold iblk
  rw [View.read_apply]
  show V m c main_v1 _ = _
  congr 1
  funext a
  apply Fin.ext
  match a with
  | ⟨0, _⟩ => show win0_1.index t (0 : Fin 2) * 2048 + 1 * r.val = _; rw [(idxs t).2.1.1, Nat.one_mul, Nat.zero_mul, Nat.zero_add]; rfl
  | ⟨1, _⟩ => show win0_1.index t (1 : Fin 2) * 1024 + 1 * k.val = _; rw [(idxs t).2.1.2, Nat.one_mul]; rfl

/-- The second weight block at point `t`: the same 1024 hidden rows. -/
theorem iblk_w2 (c : Dev nD) (t : Fin cfg0.N) (r : Fin 1024) (k : Fin 2048) :
    iblk m c 2 t (ix2 r k) = w2 m c (ix3 0 ⟨t.val % 8 * 1024 + r.val, by have := r.isLt; omega⟩ k) := by
  rw [← V_w2]
  unfold iblk
  rw [View.read_apply]
  show V m c main_v3 _ = _
  congr 1
  funext a
  apply Fin.ext
  match a with
  | ⟨0, _⟩ => show win0_2.index t (0 : Fin 2) * 1024 + 1 * r.val = _; rw [(idxs t).2.2.1.1, Nat.one_mul]; rfl
  | ⟨1, _⟩ => show win0_2.index t (1 : Fin 2) * 2048 + 1 * k.val = _; rw [(idxs t).2.2.1.2, Nat.one_mul, Nat.zero_mul, Nat.zero_add]; rfl

/-- The squared rectifier. -/
def relu2 (z : EReal) : EReal := max z 0 * max z 0

/-- Hidden unit `f`'s part of one entry of the result. -/
def part (c : Dev nD) (row : Fin 8192) (col : Fin 2048) (f : Fin 8192) : EReal :=
  relu2 (∑ k : Fin 2048, hs m c (ix2 row k) * w1 m c (ix3 0 k f)) * w2 m c (ix3 0 f col)

/-- One point's arithmetic, entry by entry: what was there plus the 1024 hidden units' parts. -/
theorem pay_at (x : Vec Ideal S512x2048 .bf16) (u : Vec Ideal S2048x1024 .bf16) (a : Vec Ideal S512x2048 .f32)
    (v : Vec Ideal S1024x2048 .bf16) (r : Fin 512) (q : Fin 2048) :
    k0_pay1 x u a v (ix2 r q)
      = a (ix2 r q) + ∑ f : Fin 1024, relu2 (∑ k : Fin 2048, x (ix2 r k) * u (ix2 k f)) * v (ix2 f q) := by
  unfold relu2
  pointwise [k0_pay1]

/-- What hidden block `s` adds at an entry of row tile `b`. -/
def blkSum (c : Dev nD) (b : Fin 16) (s : ℕ) (i : S512x2048.Idx) : EReal :=
  ∑ f : Fin 1024, part m c ⟨b.val * 512 + (i 0).val, by have h : (i 0).val < 512 := (i 0).isLt; have := b.isLt; omega⟩ (i 1)
    ⟨s % 8 * 1024 + f.val, by have := f.isLt; omega⟩

/-- One point of row tile `b` adds its hidden block's sum. -/
theorem step_at (c : Dev nD) (b : Fin 16) (n : ℕ) (h : n < cfg0.N) (hb : n / 8 = b.val) (a : Vec Ideal S512x2048 .f32)
    (i : S512x2048.Idx) :
    k0_pay1 (iblk m c 0 ⟨n, h⟩) (iblk m c 1 ⟨n, h⟩) a (iblk m c 2 ⟨n, h⟩) i = a i + blkSum m c b n i := by
  have hy : ∃ (r : Fin 512) (q : Fin 2048), i = ix2 r q := ⟨_, _, eq_ix2 _⟩
  obtain ⟨r, q, rfl⟩ := hy
  rw [pay_at]
  unfold blkSum part
  refine congrArg _ (Finset.sum_congr rfl fun f _ => ?_)
  rw [iblk_w2]
  refine congrArg (fun z => relu2 z * _) (Finset.sum_congr rfl fun k _ => ?_)
  rw [iblk_h, iblk_w1]
  simp only [hb]
  rfl

/-- The residual's entry of row tile `b`. -/
def res0 (c : Dev nD) (b : Fin 16) (i : S512x2048.Idx) : EReal :=
  res m c (ix2 ⟨b.val * 512 + (i 0).val, by have h : (i 0).val < 512 := (i 0).isLt; have := b.isLt; omega⟩ (i 1))

/-- After the last point of row tile `b` the block holds the residual plus the eight hidden blocks' sums. -/
theorem fold_at (c : Dev nD) (b : Fin 16) (h : 8 * b.val + 7 < cfg0.N) (i : S512x2048.Idx) :
    Pipeline.accAt (Value.reset4 m c) (Value.step4 m c) (8 * b.val) 7 h i
      = res0 m c b i + ∑ s ∈ Finset.range 8, blkSum m c b (8 * b.val + s) i := by
  refine Pipeline.accAt_add_apply (Value.reset4 m c) (Value.step4 m c) (res0 m c b) (blkSum m c b) (8 * b.val) 7 ?_ ?_ 7
    (le_refl 7) h i
  · intro h i
    unfold Value.reset4
    rw [step_at m c b _ h (by omega)]
    refine congrArg (· + _) ?_
    have hy : ∃ (r : Fin 512) (q : Fin 2048), i = ix2 r q := ⟨_, _, eq_ix2 _⟩
    obtain ⟨r, q, rfl⟩ := hy
    rw [iblk_r]
    unfold res0
    have e : 8 * b.val / 8 = b.val := by omega
    simp only [e]
    rfl
  · intro n h acc i h1 h2
    exact step_at m c b n h (by omega) acc i

/-- The eight hidden blocks are the 8192 hidden units, in order. -/
theorem sum_blocks (g : Fin 8192 → EReal) :
    ∑ s ∈ Finset.range 8, ∑ f : Fin 1024, g ⟨s % 8 * 1024 + f.val, by have := f.isLt; omega⟩ = ∑ k : Fin 8192, g k := by
  rw [Finset.sum_range (fun s => ∑ f : Fin 1024, g ⟨s % 8 * 1024 + f.val, by have := f.isLt; omega⟩),
    ← Fintype.sum_prod_type' (fun (s : Fin 8) (f : Fin 1024) => g ⟨s.val % 8 * 1024 + f.val, by have := f.isLt; omega⟩)]
  refine Fintype.sum_equiv (finProdFinEquiv (m := 8) (n := 1024)) _ _ fun p => congrArg g (Fin.ext ?_)
  show p.1.val % 8 * 1024 + p.2.val = p.2.val + 1024 * p.1.val
  have := p.1.isLt
  omega

/-- One entry of what the call computes. -/
def ffn (c : Dev nD) (row : Fin 8192) (col : Fin 2048) : EReal :=
  res m c (ix2 row col) + ∑ f : Fin 8192, part m c row col f

/-- What the call computes: the residual plus the feed-forward network of the normalised rows. -/
def G (c : Dev nD) : Buf (Elt Ideal) ((c : Thread nD τ).loc main_v4) := fun i => ffn m c (i 0) (i 1)

/-- What the output block holds after the last point of a row tile. -/
theorem blk (c : Dev nD) (t : Fin cfg0.N) (h7 : t.val % 8 = 7) (i : S512x2048.Idx) :
    outsAt0 m c t.val t.isLt i
      = ffn m c ⟨t.val / 8 * 512 + (i 0).val, by have h : (i 0).val < 512 := (i 0).isLt; have := lt128 t; omega⟩ (i 1) := by
  have hN := lt128 t
  have e : ∀ (b j : ℕ) (h : b + j < cfg0.N) (b' j' : ℕ) (h' : b' + j' < cfg0.N), b = b' → j = j' →
      Pipeline.accAt (Value.reset4 m c) (Value.step4 m c) b j h = Pipeline.accAt (Value.reset4 m c) (Value.step4 m c) b' j' h' := by
    intro b j h b' j' h' hb hj; subst hb; subst hj; rfl
  have hlt : 8 * (t.val / 8) + 7 < cfg0.N := by have := t.isLt; omega
  rw [Value.outsAt_4_eq, e _ _ _ (8 * (t.val / 8)) 7 hlt rfl h7]
  refine (fold_at m c ⟨t.val / 8, by omega⟩ hlt i).trans ?_
  unfold ffn res0 blkSum
  refine congrArg _ ?_
  rw [← sum_blocks]
  refine Finset.sum_congr rfl fun s hs => Finset.sum_congr rfl fun f _ => congrArg _ (Fin.ext ?_)
  show (8 * (t.val / 8) + s) % 8 * 1024 + f.val = s % 8 * 1024 + f.val
  omega

/-- Each row tile's last point writes back its block of `G`. -/
theorem flushed (c : Dev nD) (t : Fin cfg0.N) (hf : (cfg0.win 4).flush t = true) :
    (dats m 0 c).flushed 4 t = ((cfg0.win 4).blk t).view.read (Elt Ideal) (G m c) := by
  rw [Value.flushed4]
  funext y
  rw [View.read_apply]
  show outsAt0 m c t.val t.isLt _ = _
  refine (blk m c t ((flush0_4 t).mp hf) _).trans ?_
  unfold G
  refine congrArg₂ (ffn m c) (Fin.ext ?_) (Fin.ext ?_)
  · show _ = win0_4.index t (0 : Fin 2) * 512 + 1 * (y 0).val
    rw [(idxs t).2.2.2.2.1, Nat.one_mul]
  · show _ = win0_4.index t (1 : Fin 2) * 2048 + 1 * (y 1).val
    rw [(idxs t).2.2.2.2.2, Nat.one_mul, Nat.zero_mul, Nat.zero_add]

/-- So the result array ends holding `G`. -/
theorem final (c : Dev nD) : (dats m 0 c).arrAt 4 cfg0.N = G m c :=
  (dats m 0 c).arrAt_eq_of_cover 4 _ (flushed m c) (fun i => (Value.covered_iff4 i).2 (by
    have h0 : (i 0).val < 8192 := (i 0).isLt; have h1 : (i 1).val < 2048 := (i 1).isLt; omega))

/-- The reference's result is `G` of the same arguments. -/
theorem ref_eq (c : Dev nD) : FfnRefIdeal.Read.val_main_v7 (F := Ideal) (hs m c) (res m c) (w1 m c) (w2 m c) = G m c := by
  funext i
  idx_vars i
  unfold G ffn part relu2
  pointwise [FfnRefIdeal.Read.val_main_v7, FfnRefIdeal.Read.val_main_v6, FfnRefIdeal.Read.val_main_v5,
    FfnRefIdeal.Read.val_main_v4, FfnRefIdeal.Read.val_main_v3, FfnRefIdeal.Read.val_main_v2,
    FfnRefIdeal.Read.val_main_v1, FfnRefIdeal.Read.val_main_v0, FfnRefIdeal.Read.val_main_call0_v0,
    FfnRefIdeal.Read.val_main_call0_cst]

/-- The call and its reference compute the same feed-forward layer over the extended reals. -/
theorem alg : Cert.algebraic_FfnIdeal_FfnRefIdeal := fun m ρ m' ρ' _ hag =>
  ⟨fun c => G m c,
    (θ_run _ _ _).mono (fun _ h c => ⟨(h c).1.trans ((Value.final4 m c).symm.trans (final m c)), (h c).2⟩) (Value.run m ρ),
    (θ_run _ _ _).mono (fun _ h c => ⟨(h c).1.trans (by
      rw [FfnRefIdeal.Read.val_main_v7_eq, (hag c).1, (hag c).2.1, (hag c).2.2.1, (hag c).2.2.2]; exact ref_eq m c), (h c).2⟩)
      (FfnRefIdeal.Value.run m' ρ')⟩

end Cert.FfnIdeal.Val

end
-- ==== Proof.MergeRows.lean ====
module

public import proofs.«01_k».proof.Proof.Spec
public import proofs.«01_k».proof.Defs
public import proofs.«01_k».proof.Proof.Gen.MergeIdeal.Value
public import Idealize.ShloMosaic.Lib.StableHlo.ReadAt
public import Idealize.ShloMosaic.Lib.Tactic
public import Idealize.ShloMosaic.Lib.Pipeline.ReadBack

@[expose] public section

set_option maxRecDepth 16384

noncomputable section

namespace Cert.MergeIdeal.Val

open Cert.MergeIdeal Cert.MergeIdeal.Gen Cert.Layer Idealize.ShloMosaic Idealize.ShloMosaic.TcCoe Idealize.SL.Sem
open Idealize.ShloMosaic.Pipeline (Dat)

/-- What the scratch of regrouped outputs holds: group 1's rows in the first half, group 2's in the second, row `p` the
    entry `p / r` of residue class `p mod r`. -/
def rows23 (x1 : Vec Ideal S1x4x64x1024 .bf16) (x2 : Vec Ideal S1x16x16x1024 .bf16) (y : S2x8x256x128.Idx) : EReal :=
  if (y 0).val = 0 then
    x1 (ix4 0 ⟨(y 2).val % 4, by omega⟩ ⟨(y 2).val / 4, by have : (y 2).val < 256 := (y 2).isLt; omega⟩
      ⟨(y 1).val * 128 + (y 3).val, by
        have h1 : (y 1).val < 8 := (y 1).isLt
        have h3 : (y 3).val < 128 := (y 3).isLt
        omega⟩)
  else
    x2 (ix4 0 ⟨(y 2).val % 16, by omega⟩ ⟨(y 2).val / 16, by have : (y 2).val < 256 := (y 2).isLt; omega⟩
      ⟨(y 1).val * 128 + (y 3).val, by
        have h1 : (y 1).val < 8 := (y 1).isLt
        have h3 : (y 3).val < 128 := (y 3).isLt
        omega⟩)

/-- What the scratch of regrouped maxima and sums holds, likewise. -/
def rows24 (x4 : Vec Ideal S1x4x64x128 .f32) (x5 : Vec Ideal S1x16x16x128 .f32) (y : S2x256x128.Idx) : EReal :=
  if (y 0).val = 0 then
    x4 (ix4 0 ⟨(y 1).val % 4, by omega⟩ ⟨(y 1).val / 4, by have : (y 1).val < 256 := (y 1).isLt; omega⟩ (y 2))
  else
    x5 (ix4 0 ⟨(y 1).val % 16, by omega⟩ ⟨(y 1).val / 16, by have : (y 1).val < 256 := (y 1).isLt; omega⟩ (y 2))

/-- A stored piece of group 1's outputs holds those rows. -/
theorem piece23_4 (a : Memref sig .tc .vmem S1x4x64x1024 .bf16) (ha : a.IsWhole) (x1 : Vec Ideal S1x4x64x1024 .bf16)
    (x2 : Vec Ideal S1x16x16x1024 .bf16) (cl h q : ℕ) (inb : ∀ k, ![0, cl, 0, q] k + S1x1x64x128.size k ≤ S1x4x64x1024.size k)
    (inb' : ∀ k, S1x1x64x128.size k = 0 ∨ ![0, h, cl, 0] k + ![1, 1, 4, 1] k * (S1x1x64x128.size k - 1) < S2x8x256x128.size k)
    (pos : ∀ k, 0 < ![1, 1, 4, 1] k) (hq : q = h * 128) (i : S1x1x64x128.Idx) :
    k0_pay2 (F := Ideal) (View.readAt (Elt Ideal) a.view (Rect.unit (s := S1x4x64x1024) ![0, cl, 0, q] S1x1x64x128.size inb).toLoadRect (ha.unread x1)) i
      = rows23 x1 x2 ((⟨⟨![0, h, cl, 0], S1x1x64x128.size, ![1, 1, 4, 1], inb'⟩, pos⟩ : Rect S2x8x256x128).emb i) := by
  have hc : cl + 1 ≤ 4 := inb 1
  have e0 : (i 0).val = 0 := Nat.lt_one_iff.mp (i 0).isLt
  have e1 : (i 1).val = 0 := Nat.lt_one_iff.mp (i 1).isLt
  have hy : ∀ k, (((⟨⟨![0, h, cl, 0], S1x1x64x128.size, ![1, 1, 4, 1], inb'⟩, pos⟩ : Rect S2x8x256x128).emb i) k).val
      = ![0, h, cl, 0] k + ![1, 1, 4, 1] k * (i k).val := fun _ => rfl
  generalize ((⟨⟨![0, h, cl, 0], S1x1x64x128.size, ![1, 1, 4, 1], inb'⟩, pos⟩ : Rect S2x8x256x128).emb i) = y at hy
  have y0 : (y 0).val = 0 + 1 * (i 0).val := hy 0
  have y1 : (y 1).val = h + 1 * (i 1).val := hy 1
  have y2 : (y 2).val = cl + 4 * (i 2).val := hy 2
  have y3 : (y 3).val = 0 + 1 * (i 3).val := hy 3
  have e1' : (i 1).val = 0 := e1
  unfold rows23
  rw [if_pos (by omega), View.readAt_eq_ld, ha.read_unread]
  idx_vars i
  pointwise [k0_pay2]
  show x1 _ = _
  congr 1
  funext k
  apply Fin.ext
  match k with
  | ⟨0, _⟩ => rfl
  | ⟨1, _⟩ => show cl = (y 2).val % 4; omega
  | ⟨2, _⟩ => show i2.val = (y 2).val / 4; rw [y2]; show _ = (cl + 4 * i2.val) / 4; omega
  | ⟨3, _⟩ => show q + i3.val = (y 1).val * 128 + (y 3).val; rw [y1, y3, hq, e1']; show _ = (h + 1 * 0) * 128 + (0 + 1 * i3.val); omega

/-- A stored piece of group 1's maxima and sums. -/
theorem piece24_4 (a : Memref sig .tc .vmem S1x4x64x128 .f32) (ha : a.IsWhole) (x4 : Vec Ideal S1x4x64x128 .f32)
    (x5 : Vec Ideal S1x16x16x128 .f32) (cl : ℕ) (inb : ∀ k, ![0, cl, 0, 0] k + S1x1x64x128.size k ≤ S1x4x64x128.size k)
    (inb' : ∀ k, S1x64x128.size k = 0 ∨ ![0, cl, 0] k + ![1, 4, 1] k * (S1x64x128.size k - 1) < S2x256x128.size k)
    (pos : ∀ k, 0 < ![1, 4, 1] k) (i : S1x64x128.Idx) :
    k0_pay1 (F := Ideal) (View.readAt (Elt Ideal) a.view (Rect.unit (s := S1x4x64x128) ![0, cl, 0, 0] S1x1x64x128.size inb).toLoadRect (ha.unread x4)) i
      = rows24 x4 x5 ((⟨⟨![0, cl, 0], S1x64x128.size, ![1, 4, 1], inb'⟩, pos⟩ : Rect S2x256x128).emb i) := by
  have hc : cl + 1 ≤ 4 := inb 1
  have e0 : (i 0).val = 0 := Nat.lt_one_iff.mp (i 0).isLt
  have hy : ∀ k, (((⟨⟨![0, cl, 0], S1x64x128.size, ![1, 4, 1], inb'⟩, pos⟩ : Rect S2x256x128).emb i) k).val
      = ![0, cl, 0] k + ![1, 4, 1] k * (i k).val := fun _ => rfl
  generalize ((⟨⟨![0, cl, 0], S1x64x128.size, ![1, 4, 1], inb'⟩, pos⟩ : Rect S2x256x128).emb i) = y at hy
  have y0 : (y 0).val = 0 + 1 * (i 0).val := hy 0
  have y1 : (y 1).val = cl + 4 * (i 1).val := hy 1
  have y2 : (y 2).val = 0 + 1 * (i 2).val := hy 2
  unfold rows24
  rw [if_pos (by omega), View.readAt_eq_ld, ha.read_unread]
  idx_vars i
  pointwise [k0_pay1]
  show x4 _ = _
  congr 1
  funext k
  apply Fin.ext
  match k with
  | ⟨0, _⟩ => rfl
  | ⟨1, _⟩ => show cl = (y 1).val % 4; omega
  | ⟨2, _⟩ => show i1.val = (y 1).val / 4; rw [y1]; show _ = (cl + 4 * i1.val) / 4; omega
  | ⟨3, _⟩ => show i2.val = (y 2).val; rw [y2]; show _ = 0 + 1 * i2.val; omega

/-- A stored piece of group 2's outputs holds those rows. -/
theorem piece23_16 (a : Memref sig .tc .vmem S1x16x16x1024 .bf16) (ha : a.IsWhole) (x1 : Vec Ideal S1x4x64x1024 .bf16)
    (x2 : Vec Ideal S1x16x16x1024 .bf16) (cl h q : ℕ) (inb : ∀ k, ![0, cl, 0, q] k + S1x1x16x128.size k ≤ S1x16x16x1024.size k)
    (inb' : ∀ k, S1x1x16x128.size k = 0 ∨ ![1, h, cl, 0] k + ![1, 1, 16, 1] k * (S1x1x16x128.size k - 1) < S2x8x256x128.size k)
    (pos : ∀ k, 0 < ![1, 1, 16, 1] k) (hq : q = h * 128) (i : S1x1x16x128.Idx) :
    k0_pay41 (F := Ideal) (View.readAt (Elt Ideal) a.view (Rect.unit (s := S1x16x16x1024) ![0, cl, 0, q] S1x1x16x128.size inb).toLoadRect (ha.unread x2)) i
      = rows23 x1 x2 ((⟨⟨![1, h, cl, 0], S1x1x16x128.size, ![1, 1, 16, 1], inb'⟩, pos⟩ : Rect S2x8x256x128).emb i) := by
  have hc : cl + 1 ≤ 16 := inb 1
  have e0 : (i 0).val = 0 := Nat.lt_one_iff.mp (i 0).isLt
  have e1 : (i 1).val = 0 := Nat.lt_one_iff.mp (i 1).isLt
  have hy : ∀ k, (((⟨⟨![1, h, cl, 0], S1x1x16x128.size, ![1, 1, 16, 1], inb'⟩, pos⟩ : Rect S2x8x256x128).emb i) k).val
      = ![1, h, cl, 0] k + ![1, 1, 16, 1] k * (i k).val := fun _ => rfl
  generalize ((⟨⟨![1, h, cl, 0], S1x1x16x128.size, ![1, 1, 16, 1], inb'⟩, pos⟩ : Rect S2x8x256x128).emb i) = y at hy
  have y0 : (y 0).val = 1 + 1 * (i 0).val := hy 0
  have y1 : (y 1).val = h + 1 * (i 1).val := hy 1
  have y2 : (y 2).val = cl + 16 * (i 2).val := hy 2
  have y3 : (y 3).val = 0 + 1 * (i 3).val := hy 3
  have e1' : (i 1).val = 0 := e1
  unfold rows23
  rw [if_neg (by omega), View.readAt_eq_ld, ha.read_unread]
  idx_vars i
  pointwise [k0_pay41]
  show x2 _ = _
  congr 1
  funext k
  apply Fin.ext
  match k with
  | ⟨0, _⟩ => rfl
  | ⟨1, _⟩ => show cl = (y 2).val % 16; omega
  | ⟨2, _⟩ => show i2.val = (y 2).val / 16; rw [y2]; show _ = (cl + 16 * i2.val) / 16; omega
  | ⟨3, _⟩ => show q + i3.val = (y 1).val * 128 + (y 3).val; rw [y1, y3, hq, e1']; show _ = (h + 1 * 0) * 128 + (0 + 1 * i3.val); omega

/-- A stored piece of group 2's maxima and sums. -/
theorem piece24_16 (a : Memref sig .tc .vmem S1x16x16x128 .f32) (ha : a.IsWhole) (x4 : Vec Ideal S1x4x64x128 .f32)
    (x5 : Vec Ideal S1x16x16x128 .f32) (cl : ℕ) (inb : ∀ k, ![0, cl, 0, 0] k + S1x1x16x128.size k ≤ S1x16x16x128.size k)
    (inb' : ∀ k, S1x16x128.size k = 0 ∨ ![1, cl, 0] k + ![1, 16, 1] k * (S1x16x128.size k - 1) < S2x256x128.size k)
    (pos : ∀ k, 0 < ![1, 16, 1] k) (i : S1x16x128.Idx) :
    k0_pay51 (F := Ideal) (View.readAt (Elt Ideal) a.view (Rect.unit (s := S1x16x16x128) ![0, cl, 0, 0] S1x1x16x128.size inb).toLoadRect (ha.unread x5)) i
      = rows24 x4 x5 ((⟨⟨![1, cl, 0], S1x16x128.size, ![1, 16, 1], inb'⟩, pos⟩ : Rect S2x256x128).emb i) := by
  have hc : cl + 1 ≤ 16 := inb 1
  have e0 : (i 0).val = 0 := Nat.lt_one_iff.mp (i 0).isLt
  have hy : ∀ k, (((⟨⟨![1, cl, 0], S1x16x128.size, ![1, 16, 1], inb'⟩, pos⟩ : Rect S2x256x128).emb i) k).val
      = ![1, cl, 0] k + ![1, 16, 1] k * (i k).val := fun _ => rfl
  generalize ((⟨⟨![1, cl, 0], S1x16x128.size, ![1, 16, 1], inb'⟩, pos⟩ : Rect S2x256x128).emb i) = y at hy
  have y0 : (y 0).val = 1 + 1 * (i 0).val := hy 0
  have y1 : (y 1).val = cl + 16 * (i 1).val := hy 1
  have y2 : (y 2).val = 0 + 1 * (i 2).val := hy 2
  unfold rows24
  rw [if_neg (by omega), View.readAt_eq_ld, ha.read_unread]
  idx_vars i
  pointwise [k0_pay51]
  show x5 _ = _
  congr 1
  funext k
  apply Fin.ext
  match k with
  | ⟨0, _⟩ => rfl
  | ⟨1, _⟩ => show cl = (y 1).val % 16; omega
  | ⟨2, _⟩ => show i1.val = (y 1).val / 16; rw [y1]; show _ = (cl + 16 * i1.val) / 16; omega
  | ⟨3, _⟩ => show i2.val = (y 2).val; rw [y2]; show _ = 0 + 1 * i2.val; omega

/-- The store of class `k` of group 1's maxima and sums. -/
def pc24_4 (a : Memref sig .tc .vmem S1x4x64x128 .f32) (ha : a.IsWhole) (v : Vec Ideal S1x4x64x128 .f32) (k : ℕ) :
    View.Piece (Elt Ideal) S2x256x128 .f32 :=
  ⟨⟨⟨![0, k % 4, 0], S1x64x128.size, ![1, 4, 1], fun b => Or.inr (match b with
      | ⟨0, _⟩ => show 0 + 1 * 0 < 2 by omega
      | ⟨1, _⟩ => show k % 4 + 4 * 63 < 256 by omega
      | ⟨2, _⟩ => show 0 + 1 * 127 < 128 by omega)⟩, fun b => match b with
      | ⟨0, _⟩ => Nat.zero_lt_one
      | ⟨1, _⟩ => show 0 < 4 by omega
      | ⟨2, _⟩ => Nat.zero_lt_one⟩,
    k0_pay1 (View.readAt (Elt Ideal) a.view (Rect.unit (s := S1x4x64x128) ![0, k % 4, 0, 0] S1x1x64x128.size (fun b => match b with
      | ⟨0, _⟩ => show 0 + 1 ≤ 1 by omega
      | ⟨1, _⟩ => show k % 4 + 1 ≤ 4 by omega
      | ⟨2, _⟩ => show 0 + 64 ≤ 64 by omega
      | ⟨3, _⟩ => show 0 + 128 ≤ 128 by omega)).toLoadRect (ha.unread v))⟩

/-- The store of class `k / 8`, head `k mod 8` of group 1's outputs. -/
def pc23_4 (a : Memref sig .tc .vmem S1x4x64x1024 .bf16) (ha : a.IsWhole) (v : Vec Ideal S1x4x64x1024 .bf16) (k : ℕ) :
    View.Piece (Elt Ideal) S2x8x256x128 .f32 :=
  ⟨⟨⟨![0, k % 8, k / 8 % 4, 0], S1x1x64x128.size, ![1, 1, 4, 1], fun b => Or.inr (match b with
      | ⟨0, _⟩ => show 0 + 1 * 0 < 2 by omega
      | ⟨1, _⟩ => show k % 8 + 1 * 0 < 8 by omega
      | ⟨2, _⟩ => show k / 8 % 4 + 4 * 63 < 256 by omega
      | ⟨3, _⟩ => show 0 + 1 * 127 < 128 by omega)⟩, fun b => match b with
      | ⟨0, _⟩ => Nat.zero_lt_one
      | ⟨1, _⟩ => Nat.zero_lt_one
      | ⟨2, _⟩ => show 0 < 4 by omega
      | ⟨3, _⟩ => Nat.zero_lt_one⟩,
    k0_pay2 (View.readAt (Elt Ideal) a.view (Rect.unit (s := S1x4x64x1024) ![0, k / 8 % 4, 0, k % 8 * 128] S1x1x64x128.size (fun b => match b with
      | ⟨0, _⟩ => show 0 + 1 ≤ 1 by omega
      | ⟨1, _⟩ => show k / 8 % 4 + 1 ≤ 4 by omega
      | ⟨2, _⟩ => show 0 + 64 ≤ 64 by omega
      | ⟨3, _⟩ => show k % 8 * 128 + 128 ≤ 1024 by omega)).toLoadRect (ha.unread v))⟩

/-- The store of class `k` of group 2's maxima and sums. -/
def pc24_16 (a : Memref sig .tc .vmem S1x16x16x128 .f32) (ha : a.IsWhole) (v : Vec Ideal S1x16x16x128 .f32) (k : ℕ) :
    View.Piece (Elt Ideal) S2x256x128 .f32 :=
  ⟨⟨⟨![1, k % 16, 0], S1x16x128.size, ![1, 16, 1], fun b => Or.inr (match b with
      | ⟨0, _⟩ => show 1 + 1 * 0 < 2 by omega
      | ⟨1, _⟩ => show k % 16 + 16 * 15 < 256 by omega
      | ⟨2, _⟩ => show 0 + 1 * 127 < 128 by omega)⟩, fun b => match b with
      | ⟨0, _⟩ => Nat.zero_lt_one
      | ⟨1, _⟩ => show 0 < 16 by omega
      | ⟨2, _⟩ => Nat.zero_lt_one⟩,
    k0_pay51 (View.readAt (Elt Ideal) a.view (Rect.unit (s := S1x16x16x128) ![0, k % 16, 0, 0] S1x1x16x128.size (fun b => match b with
      | ⟨0, _⟩ => show 0 + 1 ≤ 1 by omega
      | ⟨1, _⟩ => show k % 16 + 1 ≤ 16 by omega
      | ⟨2, _⟩ => show 0 + 16 ≤ 16 by omega
      | ⟨3, _⟩ => show 0 + 128 ≤ 128 by omega)).toLoadRect (ha.unread v))⟩

/-- The store of class `k / 8`, head `k mod 8` of group 2's outputs. -/
def pc23_16 (a : Memref sig .tc .vmem S1x16x16x1024 .bf16) (ha : a.IsWhole) (v : Vec Ideal S1x16x16x1024 .bf16) (k : ℕ) :
    View.Piece (Elt Ideal) S2x8x256x128 .f32 :=
  ⟨⟨⟨![1, k % 8, k / 8 % 16, 0], S1x1x16x128.size, ![1, 1, 16, 1], fun b => Or.inr (match b with
      | ⟨0, _⟩ => show 1 + 1 * 0 < 2 by omega
      | ⟨1, _⟩ => show k % 8 + 1 * 0 < 8 by omega
      | ⟨2, _⟩ => show k / 8 % 16 + 16 * 15 < 256 by omega
      | ⟨3, _⟩ => show 0 + 1 * 127 < 128 by omega)⟩, fun b => match b with
      | ⟨0, _⟩ => Nat.zero_lt_one
      | ⟨1, _⟩ => Nat.zero_lt_one
      | ⟨2, _⟩ => show 0 < 16 by omega
      | ⟨3, _⟩ => Nat.zero_lt_one⟩,
    k0_pay41 (View.readAt (Elt Ideal) a.view (Rect.unit (s := S1x16x16x1024) ![0, k / 8 % 16, 0, k % 8 * 128] S1x1x16x128.size (fun b => match b with
      | ⟨0, _⟩ => show 0 + 1 ≤ 1 by omega
      | ⟨1, _⟩ => show k / 8 % 16 + 1 ≤ 16 by omega
      | ⟨2, _⟩ => show 0 + 16 ≤ 16 by omega
      | ⟨3, _⟩ => show k % 8 * 128 + 128 ≤ 1024 by omega)).toLoadRect (ha.unread v))⟩

section Rows

variable (c : Dev nD) (a3 : Memref sig .tc .vmem S1x4x64x1024 .bf16) (h3 : a3.IsWhole)
  (a4 : Memref sig .tc .vmem S1x16x16x1024 .bf16) (h4 : a4.IsWhole) (a6 : Memref sig .tc .vmem S1x4x64x128 .f32) (h6 : a6.IsWhole)
  (a7 : Memref sig .tc .vmem S1x16x16x128 .f32) (h7 : a7.IsWhole)
  (x1 : Vec Ideal S1x4x64x1024 .bf16) (x2 : Vec Ideal S1x16x16x1024 .bf16) (x4 : Vec Ideal S1x4x64x128 .f32)
  (x5 : Vec Ideal S1x16x16x128 .f32)

/-- The stores into the scratch of maxima and sums, last first. -/
theorem list24 : kernelRun0_A.sl.HS3_20 (F := Ideal) c a6 h6 a7 h7 x4 x5
    = (List.range 16).reverse.map (pc24_16 a7 h7 x5) ++ (List.range 4).reverse.map (pc24_4 a6 h6 x4) := by
  sl_kernel_rfl

/-- The stores into the scratch of outputs, last first. -/
theorem list23 : kernelRun0_A.sl.HS2_160 (F := Ideal) c a3 h3 a4 h4 x1 x2
    = (List.range 128).reverse.map (pc23_16 a4 h4 x2) ++ (List.range 32).reverse.map (pc23_4 a3 h3 x1) := by
  sl_kernel_rfl

/-- Together the stores leave the regrouped maxima and sums. -/
theorem canon24 (y : S2x256x128.Idx) : View.canon (kernelRun0_A.sl.HS3_20 (F := Ideal) c a6 h6 a7 h7 x4 x5) y = rows24 x4 x5 y := by
  rw [list24]
  refine View.canon_apply_of_pieces (Val := Elt Ideal) (e := .f32) (rows24 x4 x5) _ ?_ y ?_
  · intro p hp x
    rcases List.mem_append.mp hp with hp | hp
    · obtain ⟨k, -, rfl⟩ := List.mem_map.mp hp
      exact piece24_16 a7 h7 x4 x5 _ _ _ _ x
    · obtain ⟨k, -, rfl⟩ := List.mem_map.mp hp
      exact piece24_4 a6 h6 x4 x5 _ _ _ _ x
  · have y0 : (y 0).val < 2 := (y 0).isLt
    have y1 : (y 1).val < 256 := (y 1).isLt
    have y2 : (y 2).val < 128 := (y 2).isLt
    by_cases h : (y 0).val = 0
    · refine ⟨_, List.mem_append_right _ (List.mem_map.mpr ⟨(y 1).val % 4, by simp only [List.mem_reverse, List.mem_range]; omega, rfl⟩),
        (LoadRect.mem_set _).mpr fun b => ?_⟩
      match b with
      | ⟨0, _⟩ => exact ⟨0, Nat.zero_lt_one, show (y 0).val = 0 + 1 * 0 by omega⟩
      | ⟨1, _⟩ => exact ⟨(y 1).val / 4, show _ < 64 by omega, show (y 1).val = (y 1).val % 4 % 4 + 4 * ((y 1).val / 4) by omega⟩
      | ⟨2, _⟩ => exact ⟨(y 2).val, y2, show (y 2).val = 0 + 1 * (y 2).val by omega⟩
    · refine ⟨_, List.mem_append_left _ (List.mem_map.mpr ⟨(y 1).val % 16, by simp only [List.mem_reverse, List.mem_range]; omega, rfl⟩),
        (LoadRect.mem_set _).mpr fun b => ?_⟩
      match b with
      | ⟨0, _⟩ => exact ⟨0, Nat.zero_lt_one, show (y 0).val = 1 + 1 * 0 by omega⟩
      | ⟨1, _⟩ => exact ⟨(y 1).val / 16, show _ < 16 by omega, show (y 1).val = (y 1).val % 16 % 16 + 16 * ((y 1).val / 16) by omega⟩
      | ⟨2, _⟩ => exact ⟨(y 2).val, y2, show (y 2).val = 0 + 1 * (y 2).val by omega⟩

/-- Together the stores leave the regrouped outputs. -/
theorem canon23 (y : S2x8x256x128.Idx) : View.canon (kernelRun0_A.sl.HS2_160 (F := Ideal) c a3 h3 a4 h4 x1 x2) y = rows23 x1 x2 y := by
  rw [list23]
  refine View.canon_apply_of_pieces (Val := Elt Ideal) (e := .f32) (rows23 x1 x2) _ ?_ y ?_
  · intro p hp x
    rcases List.mem_append.mp hp with hp | hp
    · obtain ⟨k, -, rfl⟩ := List.mem_map.mp hp
      exact piece23_16 a4 h4 x1 x2 _ _ _ _ _ _ rfl x
    · obtain ⟨k, -, rfl⟩ := List.mem_map.mp hp
      exact piece23_4 a3 h3 x1 x2 _ _ _ _ _ _ rfl x
  · have y0 : (y 0).val < 2 := (y 0).isLt
    have y1 : (y 1).val < 8 := (y 1).isLt
    have y2 : (y 2).val < 256 := (y 2).isLt
    have y3 : (y 3).val < 128 := (y 3).isLt
    by_cases h : (y 0).val = 0
    · refine ⟨_, List.mem_append_right _ (List.mem_map.mpr ⟨(y 2).val % 4 * 8 + (y 1).val, by simp only [List.mem_reverse, List.mem_range]; omega, rfl⟩),
        (LoadRect.mem_set _).mpr fun b => ?_⟩
      match b with
      | ⟨0, _⟩ => exact ⟨0, Nat.zero_lt_one, show (y 0).val = 0 + 1 * 0 by omega⟩
      | ⟨1, _⟩ => exact ⟨0, Nat.zero_lt_one, show (y 1).val = ((y 2).val % 4 * 8 + (y 1).val) % 8 + 1 * 0 by omega⟩
      | ⟨2, _⟩ => exact ⟨(y 2).val / 4, show _ < 64 by omega, show (y 2).val = ((y 2).val % 4 * 8 + (y 1).val) / 8 % 4 + 4 * ((y 2).val / 4) by omega⟩
      | ⟨3, _⟩ => exact ⟨(y 3).val, y3, show (y 3).val = 0 + 1 * (y 3).val by omega⟩
    · refine ⟨_, List.mem_append_left _ (List.mem_map.mpr ⟨(y 2).val % 16 * 8 + (y 1).val, by simp only [List.mem_reverse, List.mem_range]; omega, rfl⟩),
        (LoadRect.mem_set _).mpr fun b => ?_⟩
      match b with
      | ⟨0, _⟩ => exact ⟨0, Nat.zero_lt_one, show (y 0).val = 1 + 1 * 0 by omega⟩
      | ⟨1, _⟩ => exact ⟨0, Nat.zero_lt_one, show (y 1).val = ((y 2).val % 16 * 8 + (y 1).val) % 8 + 1 * 0 by omega⟩
      | ⟨2, _⟩ => exact ⟨(y 2).val / 16, show _ < 16 by omega, show (y 2).val = ((y 2).val % 16 * 8 + (y 1).val) / 8 % 16 + 16 * ((y 2).val / 16) by omega⟩
      | ⟨3, _⟩ => exact ⟨(y 3).val, y3, show (y 3).val = 0 + 1 * (y 3).val by omega⟩

end Rows

end Cert.MergeIdeal.Val
end
-- ==== Proof.Mix.lean ====
/-
  The mathematics of the merge of the three attention groups: a softmax over the three groups' log-sum-exps, applied to
  the groups' quotients, against the same weights taken from the running maxima and sums directly.
-/
module

public import Idealize.ShloMosaic.Lib.Pointwise
public import Idealize.ShloMosaic.PureOps.Ideal.Laws
public import Mathlib.Analysis.SpecialFunctions.Log.Basic

@[expose] public section

noncomputable section

namespace Cert.Layer

open Idealize.ShloMosaic

/-- The log-sum-exp of one group, from its maximum and its sum. -/
def lse (m d : EReal) : EReal := m + Ideal.log d

/-- The weight of group `g` as the softmax over the groups' log-sum-exps gives it, shifted by `N`. -/
def softw (m d : Fin 3 → EReal) (N : EReal) (g : Fin 3) : EReal :=
  Ideal.div (Ideal.exp (lse (m g) (d g) - N)) (0 + ∑ k : Fin 3, Ideal.exp (lse (m k) (d k) - N))

/-- The weight of group `g` from the maxima and the sums, shifted by `M`: not yet divided by the group's own sum. -/
def dirw (m d : Fin 3 → EReal) (M : EReal) (g : Fin 3) : EReal :=
  Ideal.exp (m g - M) * Ideal.div 1 (Ideal.exp (m 0 - M) * d 0 + Ideal.exp (m 1 - M) * d 1 + Ideal.exp (m 2 - M) * d 2)

/-- Over real maxima and positive real sums the two agree, whatever real shift each takes. -/
theorem softw_div (m d : Fin 3 → EReal) (hm : ∀ g, ∃ r : ℝ, m g = r) (hd : ∀ g, ∃ r : ℝ, 0 < r ∧ d g = r) (M N : EReal)
    (hM : ∃ r : ℝ, M = r) (hN : ∃ r : ℝ, N = r) (g : Fin 3) (a : EReal) :
    softw m d N g * Ideal.div a (d g) = dirw m d M g * a := by
  choose m' hm using hm
  choose d' hp hd using hd
  obtain ⟨M, rfl⟩ := hM
  obtain ⟨N, rfl⟩ := hN
  have hl : ∀ k, Ideal.exp (lse (m k) (d k) - N) = ((d' k * Real.exp (m' k - M) * Real.exp (M - N) : ℝ) : EReal) := by
    intro k
    unfold lse
    rw [hm, hd, Ideal.log_coe, if_neg (not_le.2 (hp k)), ← EReal.coe_add, ← EReal.coe_sub, Ideal.exp_coe]
    congr 1
    rw [show m' k + Real.log (d' k) - N = Real.log (d' k) + (m' k - M) + (M - N) by ring, Real.exp_add, Real.exp_add,
      Real.exp_log (hp k)]
  have he : ∀ k, Ideal.exp (m k - M) = ((Real.exp (m' k - M) : ℝ) : EReal) := by
    intro k
    rw [hm, ← EReal.coe_sub, Ideal.exp_coe]
  have h0 := mul_pos (Real.exp_pos (m' 0 - M)) (hp 0)
  have h1 := mul_pos (Real.exp_pos (m' 1 - M)) (hp 1)
  have h2 := mul_pos (Real.exp_pos (m' 2 - M)) (hp 2)
  have hs : Real.exp (m' 0 - M) * d' 0 + Real.exp (m' 1 - M) * d' 1 + Real.exp (m' 2 - M) * d' 2 ≠ 0 := by positivity
  have hc := Real.exp_pos (M - N)
  have p0 := hp 0
  have p1 := hp 1
  have p2 := hp 2
  unfold softw dirw
  rw [zero_add, Fin.sum_univ_three]
  simp only [hl, he]
  simp only [hd]
  rw [← EReal.coe_add, ← EReal.coe_add, ← EReal.coe_mul, ← EReal.coe_mul, ← EReal.coe_mul, ← EReal.coe_add, ← EReal.coe_add,
    Ideal.div_coe (hp g).ne', Ideal.div_coe hs, Ideal.div_coe (by positivity), ← EReal.coe_mul, one_mul, ← EReal.coe_mul,
    mul_comm a, ← mul_assoc, ← EReal.coe_mul]
  congr 2
  have hg := (hp g).ne'
  have hc' := hc.ne'
  rw [show d' 0 * Real.exp (m' 0 - M) * Real.exp (M - N) + d' 1 * Real.exp (m' 1 - M) * Real.exp (M - N)
      + d' 2 * Real.exp (m' 2 - M) * Real.exp (M - N)
      = (Real.exp (m' 0 - M) * d' 0 + Real.exp (m' 1 - M) * d' 1 + Real.exp (m' 2 - M) * d' 2) * Real.exp (M - N) by ring]
  field_simp

/-- The largest of three reals is a real. -/
theorem max_real (m : Fin 3 → EReal) (hm : ∀ g, ∃ r : ℝ, m g = r) : ∃ r : ℝ, max (max (m 0) (m 1)) (m 2) = r := by
  choose m' hm using hm
  exact ⟨max (max (m' 0) (m' 1)) (m' 2), by
    rw [hm, hm, hm, EReal.coe_strictMono.monotone.map_max, EReal.coe_strictMono.monotone.map_max]⟩

/-- … also when it is taken from −∞, and again against −∞. -/
theorem fold_real (m : Fin 3 → EReal) (hm : ∀ g, ∃ r : ℝ, m g = r) :
    ∃ r : ℝ, max ⊥ ((Finset.univ : Finset (Fin 3)).fold max ⊥ m) = r := by
  obtain ⟨r, hr⟩ := max_real m hm
  refine ⟨r, hr ▸ ?_⟩
  rw [show (Finset.univ : Finset (Fin 3)) = {0, 1, 2} from rfl, Finset.fold_insert (by decide), Finset.fold_insert (by decide),
    Finset.fold_singleton]
  rw [max_bot_right, max_bot_left, max_assoc]

/-- A group's log-sum-exp is a real. -/
theorem lse_real (m d : EReal) (hm : ∃ r : ℝ, m = r) (hd : ∃ r : ℝ, 0 < r ∧ d = r) : ∃ r : ℝ, lse m d = r := by
  obtain ⟨m, rfl⟩ := hm
  obtain ⟨d, hp, rfl⟩ := hd
  exact ⟨m + Real.log d, by unfold lse; rw [Ideal.log_coe, if_neg (not_le.2 hp), EReal.coe_add]⟩

end Cert.Layer

end
-- ==== Proof.MergeHeads.lean ====
module

public import proofs.«01_k».proof.Proof.Spec
public import proofs.«01_k».proof.Defs
public import proofs.«01_k».proof.Proof.Gen.MergeIdeal.Value
public import proofs.«01_k».proof.Proof.MergeRows
public import proofs.«01_k».proof.Proof.Mix
public import Idealize.ShloMosaic.Lib.StableHlo.ReadAt
public import Idealize.ShloMosaic.Lib.Tactic
public import Idealize.ShloMosaic.Lib.Pipeline.ReadBack

@[expose] public section

set_option maxRecDepth 16384

noncomputable section

namespace Cert.MergeIdeal.Val

open Cert.MergeIdeal Cert.MergeIdeal.Gen Cert.Layer Idealize.ShloMosaic Idealize.ShloMosaic.TcCoe Idealize.SL.Sem
open Idealize.ShloMosaic.Pipeline (Dat)

/-- Lane `8 + l`, where the sums of the eight heads stand. -/
def up (l : Fin 8) : Fin 128 := ⟨8 + l.val, by omega⟩

/-- Lane `l`, where the maxima of the eight heads stand. -/
def lo (l : Fin 8) : Fin 128 := ⟨l.val, by omega⟩

/-- Group 0's weight, from the three rows of maxima and sums. -/
theorem weight0 (a : Vec Ideal S1x1x256x128 .f32) (b d : Vec Ideal S1x256x128 .f32) (p : Fin 256) (l : Fin 8) :
    k0_pay211 (F := Ideal) (k0_pay207 a b d) (k0_pay210 a b d) (ix2 p (lo l))
      = dirw ![a (ix4 0 0 p (lo l)), b (ix3 0 p (lo l)), d (ix3 0 p (lo l))]
          ![a (ix4 0 0 p (up l)), b (ix3 0 p (up l)), d (ix3 0 p (up l))]
          (max (max (a (ix4 0 0 p (lo l))) (b (ix3 0 p (lo l)))) (d (ix3 0 p (lo l)))) 0 := by
  have hu (h) : (⟨((lo l).val + 128 - 120) % 128, h⟩ : Fin 128) = up l :=
    Fin.ext (by show (l.val + 128 - 120) % 128 = 8 + l.val; omega)
  pointwise [k0_pay211, k0_pay207, k0_pay210, k0_pay203, k0_pay204, k0_pay205, k0_pay206, k0_pay208, k0_pay209]
  simp only [hu]
  rfl

/-- Group 1's weight, from the three rows of maxima and sums. -/
theorem weight1 (a : Vec Ideal S1x1x256x128 .f32) (b d : Vec Ideal S1x256x128 .f32) (p : Fin 256) (l : Fin 8) :
    k0_pay212 (F := Ideal) (k0_pay208 a b d) (k0_pay210 a b d) (ix2 p (lo l))
      = dirw ![a (ix4 0 0 p (lo l)), b (ix3 0 p (lo l)), d (ix3 0 p (lo l))]
          ![a (ix4 0 0 p (up l)), b (ix3 0 p (up l)), d (ix3 0 p (up l))]
          (max (max (a (ix4 0 0 p (lo l))) (b (ix3 0 p (lo l)))) (d (ix3 0 p (lo l)))) 1 := by
  have hu (h) : (⟨((lo l).val + 128 - 120) % 128, h⟩ : Fin 128) = up l :=
    Fin.ext (by show (l.val + 128 - 120) % 128 = 8 + l.val; omega)
  pointwise [k0_pay212, k0_pay207, k0_pay210, k0_pay203, k0_pay204, k0_pay205, k0_pay206, k0_pay208, k0_pay209]
  simp only [hu]
  rfl

/-- Group 2's weight, from the three rows of maxima and sums. -/
theorem weight2 (a : Vec Ideal S1x1x256x128 .f32) (b d : Vec Ideal S1x256x128 .f32) (p : Fin 256) (l : Fin 8) :
    k0_pay213 (F := Ideal) (k0_pay209 a b d) (k0_pay210 a b d) (ix2 p (lo l))
      = dirw ![a (ix4 0 0 p (lo l)), b (ix3 0 p (lo l)), d (ix3 0 p (lo l))]
          ![a (ix4 0 0 p (up l)), b (ix3 0 p (up l)), d (ix3 0 p (up l))]
          (max (max (a (ix4 0 0 p (lo l))) (b (ix3 0 p (lo l)))) (d (ix3 0 p (lo l)))) 2 := by
  have hu (h) : (⟨((lo l).val + 128 - 120) % 128, h⟩ : Fin 128) = up l :=
    Fin.ext (by show (l.val + 128 - 120) % 128 = 8 + l.val; omega)
  pointwise [k0_pay213, k0_pay207, k0_pay210, k0_pay203, k0_pay204, k0_pay205, k0_pay206, k0_pay208, k0_pay209]
  simp only [hu]
  rfl

/-- One head's block as the kernel forms it: its column of each weight times the group's outputs, summed. -/
def headBlk (w0 w1 w2 : FVec Ideal S256x128 .f32) (o0 : Vec Ideal S1x1x256x128 .bf16) (o1 o2 : Vec Ideal S1x1x256x128 .f32)
    (k : ℕ) (hs : S256x128.Slices ![0, k] S256x1) : FVec Ideal S256x128 .bf16 :=
  shapeCast S256x128 (truncf .bf16 (addf (addf
      (mulf (broadcastTo S256x128 (extractStridedSlice S256x1 ![0, k] w0 hs) broadcasts_S256x1_S256x128)
        (extf .f32 (shapeCast S256x128 o0 shapeCasts_S1x1x256x128_S256x128) bitsLt_bf16_f32))
      (mulf (broadcastTo S256x128 (extractStridedSlice S256x1 ![0, k] w1 hs) broadcasts_S256x1_S256x128)
        (shapeCast S256x128 o1 shapeCasts_S1x1x256x128_S256x128)))
      (mulf (broadcastTo S256x128 (extractStridedSlice S256x1 ![0, k] w2 hs) broadcasts_S256x1_S256x128)
        (shapeCast S256x128 o2 shapeCasts_S1x1x256x128_S256x128))) bitsLt_bf16_f32) shapeCasts_S256x128_S256x128

/-- The block at an index. -/
theorem headBlk_apply (w0 w1 w2 : FVec Ideal S256x128 .f32) (o0 : Vec Ideal S1x1x256x128 .bf16)
    (o1 o2 : Vec Ideal S1x1x256x128 .f32) (k : Fin 128) (hs) (p : Fin 256) (j : Fin 128) :
    headBlk w0 w1 w2 o0 o1 o2 k.val hs (ix2 p j)
      = w0 (ix2 p k) * o0 (ix4 0 0 p j) + w1 (ix2 p k) * o1 (ix4 0 0 p j) + w2 (ix2 p k) * o2 (ix4 0 0 p j) := by
  pointwise [headBlk]

/-- Zero offsets on four axes and on two. -/
theorem hz4 : (![0, 0, 0, 0] : Fin 4 → ℕ) = fun _ => 0 := by decide
theorem hz2 : (![0, 0] : Fin 2 → ℕ) = fun _ => 0 := by decide

/-- The weight of group `g` for row `p` and head `l`. -/
def wt (x3 : Vec Ideal S1x1x256x128 .f32) (x4 : Vec Ideal S1x4x64x128 .f32) (x5 : Vec Ideal S1x16x16x128 .f32) (g : Fin 3)
    (p : Fin 256) (l : Fin 8) : EReal :=
  dirw ![x3 (ix4 0 0 p (lo l)), rows24 x4 x5 (ix3 0 p (lo l)), rows24 x4 x5 (ix3 1 p (lo l))]
    ![x3 (ix4 0 0 p (up l)), rows24 x4 x5 (ix3 0 p (up l)), rows24 x4 x5 (ix3 1 p (up l))]
    (max (max (x3 (ix4 0 0 p (lo l))) (rows24 x4 x5 (ix3 0 p (lo l)))) (rows24 x4 x5 (ix3 1 p (lo l)))) g

/-- The head a column belongs to. -/
def hd (q : Fin 1024) : Fin 8 := ⟨q.val / 128, by omega⟩

/-- The merged attention output. -/
def mixed (x0 : Vec Ideal S1x1x256x1024 .bf16) (x1 : Vec Ideal S1x4x64x1024 .bf16) (x2 : Vec Ideal S1x16x16x1024 .bf16)
    (x3 : Vec Ideal S1x1x256x128 .f32) (x4 : Vec Ideal S1x4x64x128 .f32) (x5 : Vec Ideal S1x16x16x128 .f32)
    (p : Fin 256) (q : Fin 1024) : EReal :=
  wt x3 x4 x5 0 p (hd q) * x0 (ix4 0 0 p q)
    + wt x3 x4 x5 1 p (hd q) * rows23 x1 x2 (ix4 0 (hd q) p ⟨q.val % 128, by omega⟩)
    + wt x3 x4 x5 2 p (hd q) * rows23 x1 x2 (ix4 1 (hd q) p ⟨q.val % 128, by omega⟩)

section Heads

variable (c : Dev nD) (arg2 : Memref sig .tc .vmem S1x1x256x1024 .bf16) (harg2 : arg2.IsWhole)
    (arg3 : Memref sig .tc .vmem S1x4x64x1024 .bf16) (harg3 : arg3.IsWhole)
    (arg4 : Memref sig .tc .vmem S1x16x16x1024 .bf16) (harg4 : arg4.IsWhole)
    (arg5 : Memref sig .tc .vmem S1x1x256x128 .f32) (harg5 : arg5.IsWhole)
    (arg6 : Memref sig .tc .vmem S1x4x64x128 .f32) (harg6 : arg6.IsWhole)
    (arg7 : Memref sig .tc .vmem S1x16x16x128 .f32) (harg7 : arg7.IsWhole)
    (arg21 : Memref sig .tc .vmem S256x1024 .bf16)
    (arg23 : Memref sig .tc .vmem S2x8x256x128 .f32) (arg24 : Memref sig .tc .vmem S2x256x128 .f32)
    (x0 : Vec Ideal S1x1x256x1024 .bf16)
    (x1 : Vec Ideal S1x4x64x1024 .bf16) (x2 : Vec Ideal S1x16x16x1024 .bf16) (x3 : Vec Ideal S1x1x256x128 .f32)
    (x4 : Vec Ideal S1x4x64x128 .f32) (x5 : Vec Ideal S1x16x16x128 .f32)

/-- A row of group 1's maxima and sums, as read back. -/
theorem v1062_apply (p : Fin 256) (j : Fin 128) :
    kernelRun0_A.sl.v1062 (F := Ideal) c arg6 harg6 arg7 harg7 arg24 x4 x5 (ix3 0 p j) = rows24 x4 x5 (ix3 0 p j) := by
  unfold kernelRun0_A.sl.v1062
  rw [View.readCov_eq_canon']
  show View.canon _ _ = _
  rw [canon24]
  congr 1
  funext a
  apply Fin.ext
  match a with
  | ⟨0, _⟩ => rfl
  | ⟨1, _⟩ => show 0 + 1 * p.val = p.val; omega
  | ⟨2, _⟩ => show 0 + 1 * j.val = j.val; omega

/-- A row of group 2's maxima and sums, as read back. -/
theorem v1064_apply (p : Fin 256) (j : Fin 128) :
    kernelRun0_A.sl.v1064 (F := Ideal) c arg6 harg6 arg7 harg7 arg24 x4 x5 (ix3 0 p j) = rows24 x4 x5 (ix3 1 p j) := by
  unfold kernelRun0_A.sl.v1064
  rw [View.readCov_eq_canon']
  show View.canon _ _ = _
  rw [canon24]
  congr 1
  funext a
  apply Fin.ext
  match a with
  | ⟨0, _⟩ => rfl
  | ⟨1, _⟩ => show 0 + 1 * p.val = p.val; omega
  | ⟨2, _⟩ => show 0 + 1 * j.val = j.val; omega

/-- Group 0's weight as the run holds it. -/
theorem r30_apply (p : Fin 256) (l : Fin 8) :
    kernelRun0_A.sl.r_30 (F := Ideal) c arg5 harg5 arg6 harg6 arg7 harg7 arg24 x3 x4 x5 (ix2 p (lo l)) = wt x3 x4 x5 0 p l := by
  have ha : View.readAt (Elt Ideal) arg5.view (Rect.unit (s := S1x1x256x128) ![0, 0, 0, 0] S1x1x256x128.size
      inb_S1x1x256x128_S1x1x256x128_0_0_0_0).toLoadRect (harg5.unread x3) = x3 := by
    rw [View.readAt_eq_ld, harg5.read_unread, View.ld_unit_zero (S := S1x1x256x128) hz4]
  unfold kernelRun0_A.sl.r_30 kernelRun0_A.sl.r_26 kernelRun0_A.sl.r_29
  rw [ha]
  rw [weight0, v1062_apply, v1062_apply, v1064_apply, v1064_apply]
  rfl

/-- Group 1's weight as the run holds it. -/
theorem r31_apply (p : Fin 256) (l : Fin 8) :
    kernelRun0_A.sl.r_31 (F := Ideal) c arg5 harg5 arg6 harg6 arg7 harg7 arg24 x3 x4 x5 (ix2 p (lo l)) = wt x3 x4 x5 1 p l := by
  have ha : View.readAt (Elt Ideal) arg5.view (Rect.unit (s := S1x1x256x128) ![0, 0, 0, 0] S1x1x256x128.size
      inb_S1x1x256x128_S1x1x256x128_0_0_0_0).toLoadRect (harg5.unread x3) = x3 := by
    rw [View.readAt_eq_ld, harg5.read_unread, View.ld_unit_zero (S := S1x1x256x128) hz4]
  unfold kernelRun0_A.sl.r_31 kernelRun0_A.sl.r_27 kernelRun0_A.sl.r_29
  rw [ha]
  rw [weight1, v1062_apply, v1062_apply, v1064_apply, v1064_apply]
  rfl

/-- Group 2's weight as the run holds it. -/
theorem r32_apply (p : Fin 256) (l : Fin 8) :
    kernelRun0_A.sl.r_32 (F := Ideal) c arg5 harg5 arg6 harg6 arg7 harg7 arg24 x3 x4 x5 (ix2 p (lo l)) = wt x3 x4 x5 2 p l := by
  have ha : View.readAt (Elt Ideal) arg5.view (Rect.unit (s := S1x1x256x128) ![0, 0, 0, 0] S1x1x256x128.size
      inb_S1x1x256x128_S1x1x256x128_0_0_0_0).toLoadRect (harg5.unread x3) = x3 := by
    rw [View.readAt_eq_ld, harg5.read_unread, View.ld_unit_zero (S := S1x1x256x128) hz4]
  unfold kernelRun0_A.sl.r_32 kernelRun0_A.sl.r_28 kernelRun0_A.sl.r_29
  rw [ha]
  rw [weight2, v1062_apply, v1062_apply, v1064_apply, v1064_apply]
  rfl

/-- Head `k`'s store into the scratch of merged outputs. -/
def pcO (k : ℕ) : View.Piece (Elt Ideal) S256x1024 .bf16 :=
  ⟨Rect.unit (s := S256x1024) ![0, k % 8 * 128] S256x128.size (fun b => match b with
      | ⟨0, _⟩ => show 0 + 256 ≤ 256 by omega
      | ⟨1, _⟩ => show k % 8 * 128 + 128 ≤ 1024 by omega),
    headBlk (kernelRun0_A.sl.r_30 (F := Ideal) c arg5 harg5 arg6 harg6 arg7 harg7 arg24 x3 x4 x5)
      (kernelRun0_A.sl.r_31 (F := Ideal) c arg5 harg5 arg6 harg6 arg7 harg7 arg24 x3 x4 x5)
      (kernelRun0_A.sl.r_32 (F := Ideal) c arg5 harg5 arg6 harg6 arg7 harg7 arg24 x3 x4 x5)
      (View.readAt (Elt Ideal) arg2.view (Rect.unit (s := S1x1x256x1024) ![0, 0, 0, k % 8 * 128] S1x1x256x128.size (fun b => match b with
      | ⟨0, _⟩ => show 0 + 1 ≤ 1 by omega
      | ⟨1, _⟩ => show 0 + 1 ≤ 1 by omega
      | ⟨2, _⟩ => show 0 + 256 ≤ 256 by omega
      | ⟨3, _⟩ => show k % 8 * 128 + 128 ≤ 1024 by omega)).toLoadRect (harg2.unread x0))
      (arg23.view.readCov (kernelRun0_A.sl.HS2_160 (F := Ideal) c arg3 harg3 arg4 harg4 x1 x2)
        (Rect.unit (s := S2x8x256x128) ![0, k % 8, 0, 0] S1x1x256x128.size (fun b => match b with
      | ⟨0, _⟩ => show 0 + 1 ≤ 2 by omega
      | ⟨1, _⟩ => show k % 8 + 1 ≤ 8 by omega
      | ⟨2, _⟩ => show 0 + 256 ≤ 256 by omega
      | ⟨3, _⟩ => show 0 + 128 ≤ 128 by omega)).toLoadRect)
      (arg23.view.readCov (kernelRun0_A.sl.HS2_160 (F := Ideal) c arg3 harg3 arg4 harg4 x1 x2)
        (Rect.unit (s := S2x8x256x128) ![1, k % 8, 0, 0] S1x1x256x128.size (fun b => match b with
      | ⟨0, _⟩ => show 1 + 1 ≤ 2 by omega
      | ⟨1, _⟩ => show k % 8 + 1 ≤ 8 by omega
      | ⟨2, _⟩ => show 0 + 256 ≤ 256 by omega
      | ⟨3, _⟩ => show 0 + 128 ≤ 128 by omega)).toLoadRect) (k % 8) ⟨rfl, fun b => match b with
      | ⟨0, _⟩ => show 0 + 256 ≤ 256 by omega
      | ⟨1, _⟩ => show k % 8 + 1 ≤ 128 by omega⟩⟩

/-- The stores into the scratch of merged outputs, last first. -/
theorem list21 : kernelRun0_A.sl.HS0_8 (F := Ideal) c arg2 harg2 arg3 harg3 arg4 harg4 arg5 harg5 arg6 harg6 arg7 harg7 arg23 arg24 x0 x1 x2 x3 x4 x5
    = (List.range 8).reverse.map
        (pcO c arg2 harg2 arg3 harg3 arg4 harg4 arg5 harg5 arg6 harg6 arg7 harg7 arg23 arg24 x0 x1 x2 x3 x4 x5) := by
  sl_kernel_rfl

/-- A head's store holds the merged outputs of its columns. -/
theorem pcO_apply (k : ℕ) (i : S256x128.Idx) :
    (pcO c arg2 harg2 arg3 harg3 arg4 harg4 arg5 harg5 arg6 harg6 arg7 harg7 arg23 arg24 x0 x1 x2 x3 x4 x5 k).2 i
      = (fun y : S256x1024.Idx => mixed x0 x1 x2 x3 x4 x5 (y 0) (y 1))
          ((pcO c arg2 harg2 arg3 harg3 arg4 harg4 arg5 harg5 arg6 harg6 arg7 harg7 arg23 arg24 x0 x1 x2 x3 x4 x5 k).1.emb i) := by
  have hk : k % 8 < 8 := Nat.mod_lt _ (by omega)
  obtain ⟨p, j, rfl⟩ : ∃ p j, i = ix2 p j := ⟨i 0, i 1, (ix2_eta i).symm⟩
  have e0 : (pcO c arg2 harg2 arg3 harg3 arg4 harg4 arg5 harg5 arg6 harg6 arg7 harg7 arg23 arg24 x0 x1 x2 x3 x4 x5 k).1.emb (ix2 p j)
      = ix2 p (⟨k % 8 * 128 + j.val, by have := j.isLt; omega⟩ : Fin 1024) := by
    funext a
    apply Fin.ext
    match a with
    | ⟨0, _⟩ => show 0 + 1 * p.val = p.val; omega
    | ⟨1, _⟩ => show k % 8 * 128 + 1 * j.val = k % 8 * 128 + j.val; omega
  rw [e0]
  have eh : hd (⟨k % 8 * 128 + j.val, by have := j.isLt; omega⟩ : Fin 1024) = ⟨k % 8, hk⟩ :=
    Fin.ext (by show (k % 8 * 128 + j.val) / 128 = k % 8; have := j.isLt; omega)
  have ej : (⟨(k % 8 * 128 + j.val) % 128, by omega⟩ : Fin 128) = j :=
    Fin.ext (by show (k % 8 * 128 + j.val) % 128 = j.val; have := j.isLt; omega)
  show _ = mixed x0 x1 x2 x3 x4 x5 p (⟨k % 8 * 128 + j.val, _⟩ : Fin 1024)
  unfold mixed
  rw [eh]
  simp only [ej]
  refine (headBlk_apply _ _ _ _ _ _ (lo ⟨k % 8, hk⟩) _ p j).trans ?_
  rw [r30_apply, r31_apply, r32_apply, View.readCov_eq_canon', View.readCov_eq_canon']
  refine congrArg₂ _ (congrArg₂ _ (congrArg₂ _ rfl ?_) (congrArg₂ _ rfl ?_)) (congrArg₂ _ rfl ?_)
  · rw [View.readAt_eq_ld, harg2.read_unread]
    show x0 _ = x0 _
    congr 1
    funext a
    apply Fin.ext
    match a with
    | ⟨0, _⟩ => rfl
    | ⟨1, _⟩ => rfl
    | ⟨2, _⟩ => show 0 + 1 * p.val = p.val; omega
    | ⟨3, _⟩ => show k % 8 * 128 + 1 * j.val = k % 8 * 128 + j.val; omega
  · show View.canon _ _ = _
    rw [canon23]
    congr 1
    funext a
    apply Fin.ext
    match a with
    | ⟨0, _⟩ => rfl
    | ⟨1, _⟩ => show k % 8 + 1 * 0 = k % 8; omega
    | ⟨2, _⟩ => show 0 + 1 * p.val = p.val; omega
    | ⟨3, _⟩ => show 0 + 1 * j.val = j.val; omega
  · show View.canon _ _ = _
    rw [canon23]
    congr 1
    funext a
    apply Fin.ext
    match a with
    | ⟨0, _⟩ => rfl
    | ⟨1, _⟩ => show k % 8 + 1 * 0 = k % 8; omega
    | ⟨2, _⟩ => show 0 + 1 * p.val = p.val; omega
    | ⟨3, _⟩ => show 0 + 1 * j.val = j.val; omega

/-- The merged outputs as read back. -/
theorem v1263_apply (p : Fin 256) (q : Fin 1024) :
    kernelRun0_A.sl.v1263 (F := Ideal) c arg2 harg2 arg3 harg3 arg4 harg4 arg5 harg5 arg6 harg6 arg7 harg7 arg21 arg23 arg24 x0 x1 x2 x3 x4 x5 (ix2 p q)
      = mixed x0 x1 x2 x3 x4 x5 p q := by
  unfold kernelRun0_A.sl.v1263
  rw [View.readCov_eq_canon', list21]
  have e : (Rect.unit (s := S256x1024) ![0, 0] S256x1024.size inb_S256x1024_S256x1024_0_0).toLoadRect.idx (ix2 p q) = ix2 p q := by
    funext a
    apply Fin.ext
    match a with
    | ⟨0, _⟩ => show 0 + 1 * p.val = p.val; omega
    | ⟨1, _⟩ => show 0 + 1 * q.val = q.val; omega
  show View.canon _ ((Rect.unit (s := S256x1024) ![0, 0] S256x1024.size inb_S256x1024_S256x1024_0_0).toLoadRect.idx (ix2 p q)) = _
  rw [e]
  refine View.canon_apply_of_pieces (Val := Elt Ideal) (e := .bf16) (fun y : S256x1024.Idx => mixed x0 x1 x2 x3 x4 x5 (y 0) (y 1)) _ ?_ (ix2 p q) ?_
  · intro pc hp i
    obtain ⟨k, -, rfl⟩ := List.mem_map.mp hp
    exact pcO_apply c arg2 harg2 arg3 harg3 arg4 harg4 arg5 harg5 arg6 harg6 arg7 harg7 arg23 arg24 x0 x1 x2 x3 x4 x5 k i
  · have hq := q.isLt
    refine ⟨_, List.mem_map.mpr ⟨q.val / 128, by simp only [List.mem_reverse, List.mem_range]; omega, rfl⟩,
      (LoadRect.mem_set _).mpr fun b => ?_⟩
    match b with
    | ⟨0, _⟩ => exact ⟨p.val, p.isLt, show p.val = 0 + 1 * p.val by omega⟩
    | ⟨1, _⟩ => exact ⟨q.val % 128, show _ < 128 by omega, show q.val = q.val / 128 % 8 * 128 + 1 * (q.val % 128) by omega⟩

end Heads

end Cert.MergeIdeal.Val
end
-- ==== Proof.MergeForm.lean ====
module

public import proofs.«01_k».proof.Proof.Mix

@[expose] public section

noncomputable section

namespace Cert.Layer

open Idealize.ShloMosaic

/-! What the merge of the branches computes at one row, over real-number arithmetic. -/

/-- The sigmoid as both programs write it. -/
def sigm (a : EReal) : EReal := Ideal.div 1 (1 + Ideal.exp (0 - a))

/-- Column `k` of the 512 columns of `q`'s head. -/
def hcol (q : Fin 2048) (k : Fin 512) : Fin 2048 := ⟨q.val / 512 * 512 + k.val, by omega⟩

/-- The recurrent branch: the two directions summed, normalised over each head's 512 columns, gained and gated. -/
def gatedOut (f b rg : Fin 2048 → EReal) (gn : Fin 512 → EReal) (q : Fin 2048) : EReal :=
  (f q + b q) * Ideal.rsqrt (Ideal.div (∑ k : Fin 512, (f (hcol q k) + b (hcol q k)) * (f (hcol q k) + b (hcol q k)))
      (Ideal.ofBits .f32 0x44000000#32) + Ideal.ofBits .f32 0x358637BD#32)
    * gn ⟨q.val % 512, by omega⟩ * (rg q * sigm (rg q))

/-- The layer's sum: each branch projected and gated, their sum projected and added to the input. -/
def hOut (mix : Fin 1024 → EReal) (gl ga gb x : Fin 2048 → EReal) (wa : Fin 1024 → Fin 2048 → EReal)
    (wb wo : Fin 2048 → Fin 2048 → EReal) (j : Fin 2048) : EReal :=
  x j + ∑ k, (sigm (ga k) * (∑ i, mix i * wa i k) + sigm (gb k) * (∑ i, gl i * wb i k)) * wo k j

/-- A row normalised over its 2048 columns and gained. -/
def hnOut (h gn : Fin 2048 → EReal) (j : Fin 2048) : EReal :=
  h j * Ideal.rsqrt (Ideal.div (∑ k, h k * h k) (Ideal.ofBits .f32 0x45000000#32) + Ideal.ofBits .f32 0x358637BD#32) * gn j

end Cert.Layer
end
-- ==== Proof.MergeBody.lean ====
module

public import proofs.«01_k».proof.Proof.Spec
public import proofs.«01_k».proof.Defs
public import proofs.«01_k».proof.Proof.Gen.MergeIdeal.Value
public import proofs.«01_k».proof.Proof.MergeHeads
public import proofs.«01_k».proof.Proof.MergeForm
public import Idealize.ShloMosaic.Lib.StableHlo.ReadAt
public import Idealize.ShloMosaic.Lib.Tactic
public import Idealize.ShloMosaic.Lib.Pipeline.ReadBack

@[expose] public section

set_option maxRecDepth 16384

noncomputable section

namespace Cert.MergeIdeal.Val

open Cert.MergeIdeal Cert.MergeIdeal.Gen Cert.Layer Idealize.ShloMosaic Idealize.ShloMosaic.TcCoe Idealize.SL.Sem
open Idealize.ShloMosaic.Pipeline (Dat)

/-- A head of the recurrent branch at an index. -/
theorem pay229_apply (f b rg : Vec Ideal S256x512 .bf16) (gn : Vec Ideal S1x512 .f32) (p : Fin 256) (j : Fin 512) :
    k0_pay229 (F := Ideal) f b gn rg (ix2 p j)
      = (f (ix2 p j) + b (ix2 p j)) * Ideal.rsqrt
          (Ideal.div (∑ k, (f (ix2 p k) + b (ix2 p k)) * (f (ix2 p k) + b (ix2 p k))) (Ideal.ofBits .f32 0x44000000#32)
            + Ideal.ofBits .f32 0x358637BD#32) * gn (ix2 0 j) * (rg (ix2 p j) * sigm (rg (ix2 p j))) := by
  pointwise [k0_pay229, sigm]

/-- The attention branch's projection at an index. -/
theorem pay228_apply (a : Vec Ideal S256x1024 .bf16) (w : Vec Ideal S1024x2048 .bf16) (p : Fin 256) (j : Fin 2048) :
    k0_pay228 (F := Ideal) a w (ix2 p j) = ∑ k, a (ix2 p k) * w (ix2 k j) := by
  pointwise [k0_pay228]

/-- The recurrent branch's projection at an index. -/
theorem pay236_apply (a : Vec Ideal S256x2048 .bf16) (w : Vec Ideal S2048x2048 .bf16) (p : Fin 256) (j : Fin 2048) :
    k0_pay236 (F := Ideal) a w (ix2 p j) = ∑ k, a (ix2 p k) * w (ix2 k j) := by
  pointwise [k0_pay236]

/-- The gate's denominator at an index. -/
theorem pay237_apply (g : Vec Ideal S256x2048 .bf16) (p : Fin 256) (j : Fin 2048) :
    k0_pay237 (F := Ideal) g (ix2 p j) = 1 + Ideal.exp (0 - g (ix2 p j)) := by
  pointwise [k0_pay237]

/-- The layer's sum at an index. -/
theorem pay238_apply (u v g : FVec Ideal S256x2048 .f32) (gb : Vec Ideal S256x2048 .bf16) (x : Vec Ideal S256x2048 .f32)
    (w : Vec Ideal S2048x2048 .bf16) (p : Fin 256) (j : Fin 2048) :
    k0_pay238 (F := Ideal) u v g gb x w (ix2 p j)
      = x (ix2 p j) + ∑ k, (Ideal.div 1 (g (ix2 p k)) * u (ix2 p k) + sigm (gb (ix2 p k)) * v (ix2 p k)) * w (ix2 k j) := by
  pointwise [k0_pay238, sigm]

/-- The normalised sum at an index. -/
theorem pay239_apply (u v g : FVec Ideal S256x2048 .f32) (gb : Vec Ideal S256x2048 .bf16) (x : Vec Ideal S256x2048 .f32)
    (w : Vec Ideal S2048x2048 .bf16) (gn : Vec Ideal S1x2048 .f32) (p : Fin 256) (j : Fin 2048) :
    k0_pay239 (F := Ideal) u v g gb x w gn (ix2 p j)
      = hnOut (fun k => k0_pay238 (F := Ideal) u v g gb x w (ix2 p k)) (fun k => gn (ix2 0 k)) j := by
  pointwise [k0_pay239, hnOut]

section Gated

variable (c : Dev nD) (i : grid0.Coords) (arg2 : Memref sig .tc .vmem S1x1x256x1024 .bf16) (harg2 : arg2.IsWhole)
    (arg3 : Memref sig .tc .vmem S1x4x64x1024 .bf16) (harg3 : arg3.IsWhole)
    (arg4 : Memref sig .tc .vmem S1x16x16x1024 .bf16) (harg4 : arg4.IsWhole)
    (arg5 : Memref sig .tc .vmem S1x1x256x128 .f32) (harg5 : arg5.IsWhole)
    (arg6 : Memref sig .tc .vmem S1x4x64x128 .f32) (harg6 : arg6.IsWhole)
    (arg7 : Memref sig .tc .vmem S1x16x16x128 .f32) (harg7 : arg7.IsWhole)
    (arg8 : Memref sig .tc .vmem S256x2048 .bf16) (harg8 : arg8.IsWhole) (arg9 : Memref sig .tc .vmem S256x2048 .bf16)
    (harg9 : arg9.IsWhole) (arg10 : Memref sig .tc .vmem S256x2048 .bf16) (harg10 : arg10.IsWhole)
    (arg11 : Memref sig .tc .vmem S256x2048 .bf16) (harg11 : arg11.IsWhole)
    (arg12 : Memref sig .tc .vmem S256x2048 .bf16) (harg12 : arg12.IsWhole)
    (arg13 : Memref sig .tc .vmem S256x2048 .f32) (harg13 : arg13.IsWhole)
    (arg14 : Memref sig .tc .vmem S1024x2048 .bf16) (harg14 : arg14.IsWhole)
    (arg15 : Memref sig .tc .vmem S2048x2048 .bf16) (harg15 : arg15.IsWhole)
    (arg16 : Memref sig .tc .vmem S2048x2048 .bf16) (harg16 : arg16.IsWhole)
    (arg17 : Memref sig .tc .vmem S1x512 .f32) (harg17 : arg17.IsWhole) (arg18 : Memref sig .tc .vmem S1x2048 .f32)
    (harg18 : arg18.IsWhole) (arg19 : Memref sig .tc .vmem S256x2048 .f32) (harg19 : arg19.IsWhole)
    (arg20 : Memref sig .tc .vmem S256x2048 .bf16) (harg20 : arg20.IsWhole)
    (arg21 : Memref sig .tc .vmem S256x1024 .bf16) (harg21 : arg21.IsWhole)
    (arg22 : Memref sig .tc .vmem S256x2048 .bf16) (harg22 : arg22.IsWhole)
    (arg23 : Memref sig .tc .vmem S2x8x256x128 .f32) (harg23 : arg23.IsWhole)
    (arg24 : Memref sig .tc .vmem S2x256x128 .f32) (harg24 : arg24.IsWhole) (x0 : Vec Ideal S1x1x256x1024 .bf16)
    (x1 : Vec Ideal S1x4x64x1024 .bf16) (x2 : Vec Ideal S1x16x16x1024 .bf16) (x3 : Vec Ideal S1x1x256x128 .f32)
    (x4 : Vec Ideal S1x4x64x128 .f32) (x5 : Vec Ideal S1x16x16x128 .f32) (x6 : Vec Ideal S256x2048 .bf16)
    (x7 : Vec Ideal S256x2048 .bf16) (x8 : Vec Ideal S256x2048 .bf16) (x9 : Vec Ideal S256x2048 .bf16)
    (x10 : Vec Ideal S256x2048 .bf16) (x11 : Vec Ideal S256x2048 .f32) (x12 : Vec Ideal S1024x2048 .bf16)
    (x13 : Vec Ideal S2048x2048 .bf16) (x14 : Vec Ideal S2048x2048 .bf16) (x15 : Vec Ideal S1x512 .f32)
    (x16 : Vec Ideal S1x2048 .f32)
/-- A head's store into the scratch of the recurrent branch. -/
def pcG (k : ℕ) : View.Piece (Elt Ideal) S256x2048 .bf16 :=
  have inb : ∀ b : Fin 2, ![0, k % 4 * 512] b + S256x512.size b ≤ S256x2048.size b := fun b => match b with
    | ⟨0, _⟩ => show 0 + 256 ≤ 256 by omega
    | ⟨1, _⟩ => show k % 4 * 512 + 512 ≤ 2048 by omega
  ⟨Rect.unit (s := S256x2048) ![0, k % 4 * 512] S256x512.size inb,
    k0_pay229 (F := Ideal)
      (View.readAt (Elt Ideal) arg8.view (Rect.unit (s := S256x2048) ![0, k % 4 * 512] S256x512.size inb).toLoadRect (harg8.unread x6))
      (View.readAt (Elt Ideal) arg9.view (Rect.unit (s := S256x2048) ![0, k % 4 * 512] S256x512.size inb).toLoadRect (harg9.unread x7))
      (View.readAt (Elt Ideal) arg17.view (Rect.unit (s := S1x512) ![0, 0] S1x512.size inb_S1x512_S1x512_0_0).toLoadRect (harg17.unread x15))
      (View.readAt (Elt Ideal) arg10.view (Rect.unit (s := S256x2048) ![0, k % 4 * 512] S256x512.size inb).toLoadRect (harg10.unread x8))⟩

/-- The stores into that scratch, last first. -/
theorem list22 : kernelRun0_A.sl.HS1_4 (F := Ideal) c arg8 harg8 arg9 harg9 arg10 harg10 arg17 harg17 x6 x7 x8 x15
    = (List.range 4).reverse.map (pcG arg8 harg8 arg9 harg9 arg10 harg10 arg17 harg17 x6 x7 x8 x15) := by
  sl_kernel_rfl

/-- The recurrent branch of row `p` of the point's blocks. -/
def gated (p : Fin 256) : Fin 2048 → EReal :=
  gatedOut (fun q => x6 (ix2 p q)) (fun q => x7 (ix2 p q)) (fun q => x8 (ix2 p q)) (fun k => x15 (ix2 0 k))

/-- Reading 512 columns of a block. -/
theorem cols_apply (a : Memref sig .tc .vmem S256x2048 .bf16) (ha : a.IsWhole) (x : Vec Ideal S256x2048 .bf16) (o : ℕ) (inb)
    (p : Fin 256) (k : Fin 512) (q : Fin 2048) (hq : q.val = o + k.val) :
    View.readAt (Elt Ideal) a.view (Rect.unit (s := S256x2048) ![0, o] S256x512.size inb).toLoadRect (ha.unread x) (ix2 p k)
      = x (ix2 p q) := by
  rw [View.readAt_eq_ld, ha.read_unread]
  show x _ = x _
  congr 1
  funext a
  apply Fin.ext
  match a with
  | ⟨0, _⟩ => show 0 + 1 * p.val = p.val; omega
  | ⟨1, _⟩ => show o + 1 * k.val = q.val; omega

/-- A head's store holds the branch on its columns. -/
theorem pcG_apply (k : ℕ) (i : S256x512.Idx) :
    (pcG arg8 harg8 arg9 harg9 arg10 harg10 arg17 harg17 x6 x7 x8 x15 k).2 i
      = (fun y : S256x2048.Idx => gated x6 x7 x8 x15 (y 0) (y 1))
          ((pcG arg8 harg8 arg9 harg9 arg10 harg10 arg17 harg17 x6 x7 x8 x15 k).1.emb i) := by
  have hk : k % 4 < 4 := Nat.mod_lt _ (by omega)
  obtain ⟨p, j, rfl⟩ : ∃ p j, i = ix2 p j := ⟨i 0, i 1, (ix2_eta i).symm⟩
  have hj := j.isLt
  have e0 : (pcG arg8 harg8 arg9 harg9 arg10 harg10 arg17 harg17 x6 x7 x8 x15 k).1.emb (ix2 p j)
      = ix2 p (⟨k % 4 * 512 + j.val, by omega⟩ : Fin 2048) := by
    funext a
    apply Fin.ext
    match a with
    | ⟨0, _⟩ => show 0 + 1 * p.val = p.val; omega
    | ⟨1, _⟩ => show k % 4 * 512 + 1 * j.val = k % 4 * 512 + j.val; omega
  rw [e0]
  have ej : (⟨(k % 4 * 512 + j.val) % 512, by omega⟩ : Fin 512) = j :=
    Fin.ext (by show (k % 4 * 512 + j.val) % 512 = j.val; omega)
  have eh (n : Fin 512) : (hcol (⟨k % 4 * 512 + j.val, by omega⟩ : Fin 2048) n).val = k % 4 * 512 + n.val := by
    show (k % 4 * 512 + j.val) / 512 * 512 + n.val = _; omega
  refine (pay229_apply _ _ _ _ p j).trans ?_
  rw [cols_apply arg8 harg8 x6 _ _ p j (⟨k % 4 * 512 + j.val, by omega⟩ : Fin 2048) rfl,
    cols_apply arg9 harg9 x7 _ _ p j (⟨k % 4 * 512 + j.val, by omega⟩ : Fin 2048) rfl,
    cols_apply arg10 harg10 x8 _ _ p j (⟨k % 4 * 512 + j.val, by omega⟩ : Fin 2048) rfl,
    Finset.sum_congr rfl fun n _ => by
      rw [cols_apply arg8 harg8 x6 _ _ p n _ (eh n), cols_apply arg9 harg9 x7 _ _ p n _ (eh n)],
    View.readAt_eq_ld, harg17.read_unread, View.ld_unit_zero (S := S1x512) hz2]
  show _ = gated x6 x7 x8 x15 p (⟨k % 4 * 512 + j.val, _⟩ : Fin 2048)
  unfold gated gatedOut
  simp only [ej]

/-- The recurrent branch as read back. -/
theorem v1411_apply (p : Fin 256) (q : Fin 2048) :
    kernelRun0_A.sl.v1411 (F := Ideal) c arg8 harg8 arg9 harg9 arg10 harg10 arg17 harg17 arg22 x6 x7 x8 x15 (ix2 p q)
      = gated x6 x7 x8 x15 p q := by
  unfold kernelRun0_A.sl.v1411
  rw [View.readCov_eq_canon', list22]
  have e : (Rect.unit (s := S256x2048) ![0, 0] S256x2048.size inb_S256x2048_S256x2048_0_0).toLoadRect.idx (ix2 p q) = ix2 p q := by
    funext a
    apply Fin.ext
    match a with
    | ⟨0, _⟩ => show 0 + 1 * p.val = p.val; omega
    | ⟨1, _⟩ => show 0 + 1 * q.val = q.val; omega
  show View.canon _ ((Rect.unit (s := S256x2048) ![0, 0] S256x2048.size inb_S256x2048_S256x2048_0_0).toLoadRect.idx (ix2 p q)) = _
  rw [e]
  refine View.canon_apply_of_pieces (Val := Elt Ideal) (e := .bf16) (fun y : S256x2048.Idx => gated x6 x7 x8 x15 (y 0) (y 1)) _ ?_ (ix2 p q) ?_
  · intro pc hp i
    obtain ⟨k, -, rfl⟩ := List.mem_map.mp hp
    exact pcG_apply arg8 harg8 arg9 harg9 arg10 harg10 arg17 harg17 x6 x7 x8 x15 k i
  · have hq := q.isLt
    refine ⟨_, List.mem_map.mpr ⟨q.val / 512, by simp only [List.mem_reverse, List.mem_range]; omega, rfl⟩,
      (LoadRect.mem_set _).mpr fun b => ?_⟩
    match b with
    | ⟨0, _⟩ => exact ⟨p.val, p.isLt, show p.val = 0 + 1 * p.val by omega⟩
    | ⟨1, _⟩ => exact ⟨q.val % 512, show _ < 512 by omega, show q.val = q.val / 512 % 4 * 512 + 1 * (q.val % 512) by omega⟩

/-- The attention branch projected, as the run holds it. -/
theorem r40_apply (p : Fin 256) (j : Fin 2048) :
    kernelRun0_A.sl.r_40 (F := Ideal) c arg2 harg2 arg3 harg3 arg4 harg4 arg5 harg5 arg6 harg6 arg7 harg7 arg14 harg14 arg21 arg23 arg24 x0 x1 x2 x3 x4 x5 x12 (ix2 p j)
      = ∑ k, mixed x0 x1 x2 x3 x4 x5 p k * x12 (ix2 k j) := by
  unfold kernelRun0_A.sl.r_40
  rw [View.readAt_eq_ld, harg14.read_unread, View.ld_unit_zero (S := S1024x2048) hz2]
  refine (pay228_apply _ _ p j).trans (Finset.sum_congr rfl fun k _ => ?_)
  rw [v1263_apply]

/-- The recurrent branch projected, as the run holds it. -/
theorem r45_apply (p : Fin 256) (j : Fin 2048) :
    kernelRun0_A.sl.r_45 (F := Ideal) c arg8 harg8 arg9 harg9 arg10 harg10 arg15 harg15 arg17 harg17 arg22 x6 x7 x8 x13 x15 (ix2 p j)
      = ∑ k, gated x6 x7 x8 x15 p k * x13 (ix2 k j) := by
  unfold kernelRun0_A.sl.r_45
  rw [View.readAt_eq_ld, harg15.read_unread, View.ld_unit_zero (S := S2048x2048) hz2]
  refine (pay236_apply _ _ p j).trans (Finset.sum_congr rfl fun k _ => ?_)
  rw [v1411_apply]

/-- The gate's denominator, as the run holds it. -/
theorem r46_apply (p : Fin 256) (j : Fin 2048) :
    kernelRun0_A.sl.r_46 (F := Ideal) c arg11 harg11 x9 (ix2 p j) = 1 + Ideal.exp (0 - x9 (ix2 p j)) := by
  unfold kernelRun0_A.sl.r_46
  rw [View.readAt_eq_ld, harg11.read_unread, View.ld_unit_zero (S := S256x2048) hz2]
  exact pay237_apply _ p j

/-- Row `p` of the point's sum. -/
def hrow (p : Fin 256) : Fin 2048 → EReal :=
  hOut (mixed x0 x1 x2 x3 x4 x5 p) (gated x6 x7 x8 x15 p) (fun k => x9 (ix2 p k)) (fun k => x10 (ix2 p k)) (fun k => x11 (ix2 p k))
    (fun i k => x12 (ix2 i k)) (fun i k => x13 (ix2 i k)) (fun i k => x14 (ix2 i k))

/-- The sum the run forms, at an index. -/
theorem sum_apply (p : Fin 256) (j : Fin 2048) :
    k0_pay238 (F := Ideal) (kernelRun0_A.sl.r_40 (F := Ideal) c arg2 harg2 arg3 harg3 arg4 harg4 arg5 harg5 arg6 harg6 arg7 harg7 arg14 harg14 arg21 arg23 arg24 x0 x1 x2 x3 x4 x5 x12)
        (kernelRun0_A.sl.r_45 (F := Ideal) c arg8 harg8 arg9 harg9 arg10 harg10 arg15 harg15 arg17 harg17 arg22 x6 x7 x8 x13 x15)
        (kernelRun0_A.sl.r_46 (F := Ideal) c arg11 harg11 x9) x10 x11 x14 (ix2 p j)
      = hrow x0 x1 x2 x3 x4 x5 x6 x7 x8 x9 x10 x11 x12 x13 x14 x15 p j := by
  refine (pay238_apply _ _ _ _ _ _ p j).trans ?_
  unfold hrow hOut
  refine congrArg₂ _ rfl (Finset.sum_congr rfl fun k _ => ?_)
  rw [r40_apply, r45_apply, r46_apply]
  rfl

/-- What the run leaves in the first output: the sum. -/
theorem out17 : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
    = fun y : S256x2048.Idx => hrow x0 x1 x2 x3 x4 x5 x6 x7 x8 x9 x10 x11 x12 x13 x14 x15 (y 0) (y 1) := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16)]
  unfold kernelRun0_A
  dsimp only
  rw [View.canon_unit_zero hz2]
  funext y
  obtain ⟨p, j, rfl⟩ : ∃ p j, y = ix2 p j := ⟨y 0, y 1, (ix2_eta y).symm⟩
  rw [View.readAt_eq_ld, harg12.read_unread, View.ld_unit_zero (S := S256x2048) hz2,
    View.readAt_eq_ld, harg13.read_unread, View.ld_unit_zero (S := S256x2048) hz2,
    View.readAt_eq_ld, harg16.read_unread, View.ld_unit_zero (S := S2048x2048) hz2]
  rw [sum_apply]
  rfl

/-- What the run leaves in the second output: the sum normalised. -/
theorem out18 : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16
    = fun y : S256x2048.Idx => hnOut (hrow x0 x1 x2 x3 x4 x5 x6 x7 x8 x9 x10 x11 x12 x13 x14 x15 (y 0)) (fun k => x16 (ix2 0 k)) (y 1) := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 x12 x13 x14 x15 x16)]
  unfold kernelRun0_A
  dsimp only
  rw [View.canon_unit_zero hz2]
  funext y
  obtain ⟨p, j, rfl⟩ : ∃ p j, y = ix2 p j := ⟨y 0, y 1, (ix2_eta y).symm⟩
  rw [View.readAt_eq_ld, harg12.read_unread, View.ld_unit_zero (S := S256x2048) hz2,
    View.readAt_eq_ld, harg13.read_unread, View.ld_unit_zero (S := S256x2048) hz2,
    View.readAt_eq_ld, harg16.read_unread, View.ld_unit_zero (S := S2048x2048) hz2,
    View.readAt_eq_ld, harg18.read_unread, View.ld_unit_zero (S := S1x2048) hz2]
  refine (pay239_apply _ _ _ _ _ _ _ p j).trans ?_
  refine congrArg (fun h : Fin 2048 → EReal => hnOut h (fun k => x16 (ix2 0 k)) j) (funext fun k => ?_)
  rw [sum_apply]
  rfl

end Gated

end Cert.MergeIdeal.Val
end
-- ==== Proof.MergeRow.lean ====
module

public import proofs.«01_k».proof.Proof.Spec
public import proofs.«01_k».proof.Defs
public import proofs.«01_k».proof.Proof.Gen.MergeIdeal.Value
public import proofs.«01_k».proof.Proof.MergeBody
public import Idealize.ShloMosaic.Lib.StableHlo.ReadAt
public import Idealize.ShloMosaic.Lib.Tactic
public import Idealize.ShloMosaic.Lib.Pipeline.ReadBack

@[expose] public section

set_option maxRecDepth 16384

noncomputable section

namespace Cert.MergeIdeal.Val

open Cert.MergeIdeal Cert.MergeIdeal.Gen Cert.Layer Idealize.ShloMosaic Idealize.ShloMosaic.TcCoe Idealize.SL.Sem
open Idealize.ShloMosaic.Pipeline (Dat)

/-! The merge over whole arrays: what row `s` of sequence `b` becomes. -/

/-- Row `s` of sequence `b` among all rows. -/
def rowOf (b : Fin 4) (s : Fin 2048) : Fin 8192 := ⟨b.val * 2048 + s.val, by omega⟩

/-- The sequence of a row, and its place there. -/
def rb (R : Fin 8192) : Fin 4 := ⟨R.val / 2048, by omega⟩
def rs (R : Fin 8192) : Fin 2048 := ⟨R.val % 2048, by omega⟩

theorem rowOf_eq (R : Fin 8192) : rowOf (rb R) (rs R) = R :=
  Fin.ext (by show R.val / 2048 * 2048 + R.val % 2048 = R.val; omega)

/-- Lane `j` of the three groups' maxima and sums at a position: group `g` holds it in the position's residue class. -/
def mls (l0 : S4x1x2048x128.Idx → EReal) (l1 : S4x4x512x128.Idx → EReal) (l2 : S4x16x128x128.Idx → EReal) (b : Fin 4)
    (s : Fin 2048) (j : Fin 128) : Fin 3 → EReal :=
  ![l0 (ix4 b 0 s j), l1 (ix4 b ⟨s.val % 4, by omega⟩ ⟨s.val / 4, by omega⟩ j),
    l2 (ix4 b ⟨s.val % 16, by omega⟩ ⟨s.val / 16, by omega⟩ j)]

/-- Column `q` of the three groups' outputs at a position. -/
def accs (o0 : S4x1x2048x1024.Idx → EReal) (o1 : S4x4x512x1024.Idx → EReal) (o2 : S4x16x128x1024.Idx → EReal) (b : Fin 4)
    (s : Fin 2048) (q : Fin 1024) : Fin 3 → EReal :=
  ![o0 (ix4 b 0 s q), o1 (ix4 b ⟨s.val % 4, by omega⟩ ⟨s.val / 4, by omega⟩ q),
    o2 (ix4 b ⟨s.val % 16, by omega⟩ ⟨s.val / 16, by omega⟩ q)]

/-- The three groups' outputs under the weights of maxima `m` and sums `d`. -/
def mix3 (m d a : Fin 3 → EReal) : EReal :=
  dirw m d (max (max (m 0) (m 1)) (m 2)) 0 * a 0 + dirw m d (max (max (m 0) (m 1)) (m 2)) 1 * a 1
    + dirw m d (max (max (m 0) (m 1)) (m 2)) 2 * a 2

section Row

variable (o0 : S4x1x2048x1024.Idx → EReal) (o1 : S4x4x512x1024.Idx → EReal) (o2 : S4x16x128x1024.Idx → EReal)
  (l0 : S4x1x2048x128.Idx → EReal) (l1 : S4x4x512x128.Idx → EReal) (l2 : S4x16x128x128.Idx → EReal)
  (f g : S4x2048x2048.Idx → EReal) (p1 : S8192x6144.Idx → EReal) (p2 : S8192x4096.Idx → EReal) (x : S4x2048x2048.Idx → EReal)
  (wa : S1x1024x2048.Idx → EReal) (wb wo : S1x2048x2048.Idx → EReal) (gn : S1x512.Idx → EReal) (gf : S1x2048.Idx → EReal)

/-- The merged attention output at a position. -/
def mixB (b : Fin 4) (s : Fin 2048) (q : Fin 1024) : EReal :=
  mix3 (mls l0 l1 l2 b s (lo (hd q))) (mls l0 l1 l2 b s (up (hd q))) (accs o0 o1 o2 b s q)

/-- The recurrent branch at a position. -/
def glB (b : Fin 4) (s : Fin 2048) : Fin 2048 → EReal :=
  gatedOut (fun q => f (ix3 b s q)) (fun q => g (ix3 b s q)) (fun q => p1 (ix2 (rowOf b s) ⟨4096 + q.val, by omega⟩))
    (fun k => gn (ix2 0 k))

/-- The layer's sum at a position. -/
def hB (b : Fin 4) (s : Fin 2048) : Fin 2048 → EReal :=
  hOut (mixB o0 o1 o2 l0 l1 l2 b s) (glB f g p1 gn b s) (fun q => p2 (ix2 (rowOf b s) ⟨q.val, by omega⟩))
    (fun q => p2 (ix2 (rowOf b s) ⟨2048 + q.val, by omega⟩)) (fun q => x (ix3 b s q))
    (fun i k => wa (ix3 0 i k)) (fun i k => wb (ix3 0 i k)) (fun i k => wo (ix3 0 i k))

/-- The normalised sum at a position. -/
def hnB (b : Fin 4) (s : Fin 2048) : Fin 2048 → EReal :=
  hnOut (hB o0 o1 o2 l0 l1 l2 f g p1 p2 x wa wb wo gn b s) (fun q => gf (ix2 0 q))

end Row

end Cert.MergeIdeal.Val
end
-- ==== Proof.MergeRef.lean ====
module

public import proofs.«01_k».proof.Proof.Spec
public import proofs.«01_k».proof.Defs
public import proofs.«01_k».proof.Proof.Gen.MergeIdeal.Value
public import proofs.«01_k».proof.Proof.MergeRow
public import proofs.«01_k».proof.Proof.Gen.MergeRefIdeal.Read
public import Idealize.ShloMosaic.Lib.StableHlo.ReadAt
public import Idealize.ShloMosaic.Lib.Tactic
public import Idealize.ShloMosaic.Lib.Pipeline.ReadBack

@[expose] public section

set_option maxRecDepth 16384

noncomputable section

namespace Cert.MergeIdeal.Val

open Cert.MergeIdeal Cert.MergeIdeal.Gen Cert.Layer Idealize.ShloMosaic Idealize.ShloMosaic.TcCoe Idealize.SL.Sem
open Idealize.ShloMosaic.Pipeline (Dat)

open Cert.MergeRefIdeal.Read

/-! The reference's merge, entry by entry. -/

variable (o0 : S4x1x2048x1024.Idx → EReal) (o1 : S4x4x512x1024.Idx → EReal) (o2 : S4x16x128x1024.Idx → EReal)
  (l0 : S4x1x2048x128.Idx → EReal) (l1 : S4x4x512x128.Idx → EReal) (l2 : S4x16x128x128.Idx → EReal)
  (f g : S4x2048x2048.Idx → EReal) (p1 : S8192x6144.Idx → EReal) (p2 : S8192x4096.Idx → EReal) (x : S4x2048x2048.Idx → EReal)
  (wa : S1x1024x2048.Idx → EReal) (wb wo : S1x2048x2048.Idx → EReal) (gn : S1x512.Idx → EReal) (gf : S1x2048.Idx → EReal)

/-- The groups' log-sum-exps at a position. -/
def lses (b : Fin 4) (s : Fin 2048) (h : Fin 8) (k : Fin 3) : EReal := lse (mls l0 l1 l2 b s (lo h) k) (mls l0 l1 l2 b s (up h) k)

/-- The stacked log-sum-exps. -/
theorem ref42 (k : Fin 3) (b : Fin 4) (s : Fin 2048) (h : Fin 8) :
    val_main_v42 (F := Ideal) l0 l1 l2 (ix4 k b s h) = lses l0 l1 l2 b s h k := by
  match k with
  | 0 => pointwise [val_main_v42, val_main_v39, val_main_v12, val_main_v11, val_main_v2, val_main_v1, val_main_v0, val_main_v10, val_main_v9, val_main_v8, val_main_v7, val_main_v6, val_main_v5, val_main_v4, val_main_v3]; rfl
  | 1 => pointwise [val_main_v42, val_main_v40, val_main_v25, val_main_v24, val_main_v23, val_main_v22, val_main_v21, val_main_v20, val_main_v19, val_main_v18, val_main_v17, val_main_v16, val_main_v15, val_main_v14, val_main_v13]; rfl
  | 2 => pointwise [val_main_v42, val_main_v41, val_main_v38, val_main_v37, val_main_v36, val_main_v35, val_main_v34, val_main_v33, val_main_v32, val_main_v31, val_main_v30, val_main_v29, val_main_v28, val_main_v27, val_main_v26]; rfl

/-- The stacked outputs, each divided by its group's sum. -/
theorem ref57 (k : Fin 3) (b : Fin 4) (s : Fin 2048) (h : Fin 8) (j : Fin 128) :
    val_main_v57 (F := Ideal) o0 o1 o2 l0 l1 l2 (ix5 k b s h j)
      = Ideal.div (accs o0 o1 o2 b s ⟨h.val * 128 + j.val, by omega⟩ k) (mls l0 l1 l2 b s (up h) k) := by
  match k with
  | 0 => pointwise [val_main_v57, val_main_v54, val_main_v12, val_main_v11, val_main_v10, val_main_v9, val_main_v8, val_main_v7, val_main_v6, val_main_v5, val_main_v4, val_main_v3, val_main_v2, val_main_v1, val_main_v0]; rfl
  | 1 => pointwise [val_main_v57, val_main_v55, val_main_v25, val_main_v24, val_main_v23, val_main_v22, val_main_v21, val_main_v20, val_main_v19, val_main_v18, val_main_v17, val_main_v16, val_main_v15, val_main_v14, val_main_v13]; rfl
  | 2 => pointwise [val_main_v57, val_main_v56, val_main_v38, val_main_v37, val_main_v36, val_main_v35, val_main_v34, val_main_v33, val_main_v32, val_main_v31, val_main_v30, val_main_v29, val_main_v28, val_main_v27, val_main_v26]; rfl

/-- The bits of minus infinity. -/
theorem bot_bits : Ideal.ofBits .f32 0xFF800000#32 = ⊥ := by simp [Ideal.ofBits, Ideal.ieee]

/-- The shift the reference's softmax takes. -/
def shift (b : Fin 4) (s : Fin 2048) (h : Fin 8) : EReal :=
  max ⊥ ((Finset.univ : Finset (Fin 3)).fold max ⊥ (lses l0 l1 l2 b s h))

/-- The weights. -/
theorem ref53 (k : Fin 3) (b : Fin 4) (s : Fin 2048) (h : Fin 8) :
    val_main_v53 (F := Ideal) l0 l1 l2 (ix4 k b s h)
      = softw (mls l0 l1 l2 b s (lo h)) (mls l0 l1 l2 b s (up h)) (shift l0 l1 l2 b s h) k := by
  have e43 : max (Ideal.ofBits .f32 0xFF800000#32) (val_main_v43 (F := Ideal) l0 l1 l2 (ix3 b s h)) = shift l0 l1 l2 b s h := by
    unfold shift
    pointwise [val_main_v43, val_main_cst]
    simp only [ref42, bot_bits]
  pointwise [val_main_v53, val_main_v52, val_main_v51, val_main_v50, val_main_v49, val_main_v48, val_main_v47, val_main_v46, val_main_v45,
    val_main_v44, val_main_cst_0, val_main_cst_1]
  simp only [ref42, e43]
  unfold softw
  simp only [zero_add]
  rfl

/-- Where every maximum is real and every sum real and positive, the merged attention output. -/
theorem ref59 (b : Fin 4) (s : Fin 2048) (q : Fin 1024)
    (hm : ∀ k, ∃ r : ℝ, mls l0 l1 l2 b s (lo (hd q)) k = r) (hp : ∀ k, ∃ r : ℝ, 0 < r ∧ mls l0 l1 l2 b s (up (hd q)) k = r) :
    val_main_v59 (F := Ideal) o0 o1 o2 l0 l1 l2 (ix3 b s q) = mixB o0 o1 o2 l0 l1 l2 b s q := by
  have hM := max_real _ hm
  have hN : ∃ r : ℝ, shift l0 l1 l2 b s (hd q) = r := fold_real _ fun k => lse_real _ _ (hm k) (hp k)
  have eq : (⟨(hd q).val * 128 + (⟨q.val % 128, by omega⟩ : Fin 128).val, by have := (hd q).isLt; show _ * 128 + q.val % 128 < 1024; omega⟩ : Fin 1024) = q :=
    Fin.ext (by show q.val / 128 * 128 + q.val % 128 = q.val; omega)
  pointwise [val_main_v59, val_main_v58]
  refine (Finset.sum_congr rfl fun k _ => ?_).trans (Fin.sum_univ_three (fun k =>
    dirw (mls l0 l1 l2 b s (lo (hd q))) (mls l0 l1 l2 b s (up (hd q))) (max (max (mls l0 l1 l2 b s (lo (hd q)) 0)
      (mls l0 l1 l2 b s (lo (hd q)) 1)) (mls l0 l1 l2 b s (lo (hd q)) 2)) k * accs o0 o1 o2 b s q k))
  refine (congrArg₂ (· * ·) (ref53 l0 l1 l2 k b s (hd q)) (ref57 o0 o1 o2 l0 l1 l2 k b s (hd q) ⟨q.val % 128, by omega⟩)).trans ?_
  rw [eq]
  exact softw_div _ _ hm hp _ _ hM hN k _

/-- The recurrent branch. -/
theorem ref88 (b : Fin 4) (s q : Fin 2048) : val_main_v88 (F := Ideal) f g p1 gn (ix3 b s q) = glB f g p1 gn b s q := by
  unfold glB gatedOut sigm
  pointwise [val_main_v62, val_main_v61, val_main_v60, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_call0_v0, val_main_call0_v1, val_main_call0_v2, val_main_call0_v3, val_main_call0_v4, val_main_call0_v5, val_main_cst_2, val_main_cst_3, val_main_cst_4, val_main_call0_cst, val_main_call0_cst_0]
  simp only [zero_sub]
  rfl

/-- The layer's sum. -/
theorem ref110 (b : Fin 4) (s j : Fin 2048)
    (hm : ∀ h k, ∃ r : ℝ, mls l0 l1 l2 b s (lo h) k = r) (hp : ∀ h k, ∃ r : ℝ, 0 < r ∧ mls l0 l1 l2 b s (up h) k = r) :
    val_main_v110 (F := Ideal) o0 o1 o2 l0 l1 l2 f g p1 p2 x wa wb wo gn (ix3 b s j)
      = hB o0 o1 o2 l0 l1 l2 f g p1 p2 x wa wb wo gn b s j := by
  unfold hB hOut sigm
  pointwise [val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v66, val_main_v65, val_main_v64, val_main_v63, val_main_cst_5, val_main_cst_6, val_main_cst_7, val_main_cst_8]
  simp only [zero_sub, ref88, fun q => ref59 o0 o1 o2 l0 l1 l2 b s q (hm (hd q)) (hp (hd q))]
  rfl

/-- The first result: the sum, row by row. -/
theorem ref125 (R : Fin 8192) (j : Fin 2048)
    (hm : ∀ h k, ∃ r : ℝ, mls l0 l1 l2 (rb R) (rs R) (lo h) k = r) (hp : ∀ h k, ∃ r : ℝ, 0 < r ∧ mls l0 l1 l2 (rb R) (rs R) (up h) k = r) :
    val_main_v125 (F := Ideal) o0 o1 o2 l0 l1 l2 f g p1 p2 x wa wb wo gn (ix2 R j)
      = hB o0 o1 o2 l0 l1 l2 f g p1 p2 x wa wb wo gn (rb R) (rs R) j := by
  pointwise [val_main_v125]
  exact ref110 o0 o1 o2 l0 l1 l2 f g p1 p2 x wa wb wo gn (rb R) (rs R) j hm hp

/-- The second result: the sum normalised, row by row. -/
theorem ref127 (R : Fin 8192) (j : Fin 2048)
    (hm : ∀ h k, ∃ r : ℝ, mls l0 l1 l2 (rb R) (rs R) (lo h) k = r) (hp : ∀ h k, ∃ r : ℝ, 0 < r ∧ mls l0 l1 l2 (rb R) (rs R) (up h) k = r) :
    val_main_v127 (F := Ideal) o0 o1 o2 l0 l1 l2 f g p1 p2 x wa wb wo gn gf (ix2 R j)
      = hnB o0 o1 o2 l0 l1 l2 f g p1 p2 x wa wb wo gn gf (rb R) (rs R) j := by
  unfold hnB hnOut
  pointwise [val_main_v124, val_main_v123, val_main_v122, val_main_v121, val_main_v120, val_main_v119, val_main_v118, val_main_v117, val_main_v116, val_main_v115, val_main_v114, val_main_v113, val_main_v112, val_main_v111, val_main_v126, val_main_v127, val_main_cst_9, val_main_cst_10, val_main_cst_11]
  simp only [← fun k => ref110 o0 o1 o2 l0 l1 l2 f g p1 p2 x wa wb wo gn (rb R) (rs R) k hm hp]
  rfl

end Cert.MergeIdeal.Val
end
-- ==== Proof.Merge.lean ====
/-
  The value of the merge call: 32 tiles of 256 rows. A tile takes the three attention groups' outputs, maxima and sums of its
  rows, whichever residue class they lie in, weighs them, adds the gated recurrent branch, projects, adds the layer's input,
  and normalises the sum.
-/
module

public import proofs.«01_k».proof.Proof.Spec
public import proofs.«01_k».proof.Defs
public import proofs.«01_k».proof.Proof.Gen.MergeIdeal.Value
public import proofs.«01_k».proof.Proof.MergeRow
public import proofs.«01_k».proof.Proof.MergeRef
public import proofs.«01_k».proof.Proof.Gen.MergeRefIdeal.Read
public import Idealize.ShloMosaic.Lib.StableHlo.ReadAt
public import Idealize.ShloMosaic.Lib.Tactic
public import Idealize.ShloMosaic.Lib.Pipeline.ReadBack

@[expose] public section

set_option maxRecDepth 16384

noncomputable section

namespace Cert.MergeIdeal.Val

open Cert.MergeIdeal Cert.MergeIdeal.Gen Cert.Layer Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The call's arguments. -/
abbrev a0 (c : Dev nD) : S4x1x2048x1024.Idx → EReal := m ((c : Thread nD τ).loc main_arg0)
abbrev a1 (c : Dev nD) : S4x4x512x1024.Idx → EReal := m ((c : Thread nD τ).loc main_arg1)
abbrev a2 (c : Dev nD) : S4x16x128x1024.Idx → EReal := m ((c : Thread nD τ).loc main_arg2)
abbrev a3 (c : Dev nD) : S4x1x2048x128.Idx → EReal := m ((c : Thread nD τ).loc main_arg3)
abbrev a4 (c : Dev nD) : S4x4x512x128.Idx → EReal := m ((c : Thread nD τ).loc main_arg4)
abbrev a5 (c : Dev nD) : S4x16x128x128.Idx → EReal := m ((c : Thread nD τ).loc main_arg5)
abbrev a6 (c : Dev nD) : S4x2048x2048.Idx → EReal := m ((c : Thread nD τ).loc main_arg6)
abbrev a7 (c : Dev nD) : S4x2048x2048.Idx → EReal := m ((c : Thread nD τ).loc main_arg7)
abbrev a8 (c : Dev nD) : S8192x6144.Idx → EReal := m ((c : Thread nD τ).loc main_arg8)
abbrev a9 (c : Dev nD) : S8192x4096.Idx → EReal := m ((c : Thread nD τ).loc main_arg9)
abbrev a10 (c : Dev nD) : S4x2048x2048.Idx → EReal := m ((c : Thread nD τ).loc main_arg10)
abbrev a11 (c : Dev nD) : S1x1024x2048.Idx → EReal := m ((c : Thread nD τ).loc main_arg11)
abbrev a12 (c : Dev nD) : S1x2048x2048.Idx → EReal := m ((c : Thread nD τ).loc main_arg12)
abbrev a13 (c : Dev nD) : S1x2048x2048.Idx → EReal := m ((c : Thread nD τ).loc main_arg13)
abbrev a14 (c : Dev nD) : S1x512.Idx → EReal := m ((c : Thread nD τ).loc main_arg14)
abbrev a15 (c : Dev nD) : S1x2048.Idx → EReal := m ((c : Thread nD τ).loc main_arg15)

/-- The index map of window 0: the sequence, and the tile within it. -/
theorem idx0 : ∀ t : Fin cfg0.N, win0_0.index t (0 : Fin 4) = t.val / 8 ∧ win0_0.index t (1 : Fin 4) = 0
    ∧ win0_0.index t (2 : Fin 4) = t.val % 8 ∧ win0_0.index t (3 : Fin 4) = 0 := (by decide +kernel : ∀ t : Fin grid0.N, _)

/-- The index map of window 1: the sequence, and the tile within it. -/
theorem idx1 : ∀ t : Fin cfg0.N, win0_1.index t (0 : Fin 4) = t.val / 8 ∧ win0_1.index t (1 : Fin 4) = 0
    ∧ win0_1.index t (2 : Fin 4) = t.val % 8 ∧ win0_1.index t (3 : Fin 4) = 0 := (by decide +kernel : ∀ t : Fin grid0.N, _)

/-- The index map of window 2: the sequence, and the tile within it. -/
theorem idx2 : ∀ t : Fin cfg0.N, win0_2.index t (0 : Fin 4) = t.val / 8 ∧ win0_2.index t (1 : Fin 4) = 0
    ∧ win0_2.index t (2 : Fin 4) = t.val % 8 ∧ win0_2.index t (3 : Fin 4) = 0 := (by decide +kernel : ∀ t : Fin grid0.N, _)

/-- The index map of window 3: the sequence, and the tile within it. -/
theorem idx3 : ∀ t : Fin cfg0.N, win0_3.index t (0 : Fin 4) = t.val / 8 ∧ win0_3.index t (1 : Fin 4) = 0
    ∧ win0_3.index t (2 : Fin 4) = t.val % 8 ∧ win0_3.index t (3 : Fin 4) = 0 := (by decide +kernel : ∀ t : Fin grid0.N, _)

/-- The index map of window 4: the sequence, and the tile within it. -/
theorem idx4 : ∀ t : Fin cfg0.N, win0_4.index t (0 : Fin 4) = t.val / 8 ∧ win0_4.index t (1 : Fin 4) = 0
    ∧ win0_4.index t (2 : Fin 4) = t.val % 8 ∧ win0_4.index t (3 : Fin 4) = 0 := (by decide +kernel : ∀ t : Fin grid0.N, _)

/-- The index map of window 5: the sequence, and the tile within it. -/
theorem idx5 : ∀ t : Fin cfg0.N, win0_5.index t (0 : Fin 4) = t.val / 8 ∧ win0_5.index t (1 : Fin 4) = 0
    ∧ win0_5.index t (2 : Fin 4) = t.val % 8 ∧ win0_5.index t (3 : Fin 4) = 0 := (by decide +kernel : ∀ t : Fin grid0.N, _)

/-! The other windows: the row tile, or the whole array. -/

theorem idx6 : ∀ t : Fin cfg0.N, win0_6.index t (0 : Fin 2) = t.val ∧ win0_6.index t (1 : Fin 2) = 0 :=
  (by decide +kernel : ∀ t : Fin grid0.N, _)

theorem idx7 : ∀ t : Fin cfg0.N, win0_7.index t (0 : Fin 2) = t.val ∧ win0_7.index t (1 : Fin 2) = 0 :=
  (by decide +kernel : ∀ t : Fin grid0.N, _)

theorem idx8 : ∀ t : Fin cfg0.N, win0_8.index t (0 : Fin 2) = t.val ∧ win0_8.index t (1 : Fin 2) = 2 :=
  (by decide +kernel : ∀ t : Fin grid0.N, _)

theorem idx9 : ∀ t : Fin cfg0.N, win0_9.index t (0 : Fin 2) = t.val ∧ win0_9.index t (1 : Fin 2) = 0 :=
  (by decide +kernel : ∀ t : Fin grid0.N, _)

theorem idx10 : ∀ t : Fin cfg0.N, win0_10.index t (0 : Fin 2) = t.val ∧ win0_10.index t (1 : Fin 2) = 1 :=
  (by decide +kernel : ∀ t : Fin grid0.N, _)

theorem idx11 : ∀ t : Fin cfg0.N, win0_11.index t (0 : Fin 2) = t.val ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 2) = 0 ∧ win0_14.index t (1 : Fin 2) = 0 :=
  (by decide +kernel : ∀ t : Fin grid0.N, _)

theorem idx15 : ∀ t : Fin cfg0.N, win0_15.index t (0 : Fin 2) = 0 ∧ win0_15.index t (1 : Fin 2) = 0 :=
  (by decide +kernel : ∀ t : Fin grid0.N, _)

theorem idx16 : ∀ t : Fin cfg0.N, win0_16.index t (0 : Fin 2) = 0 ∧ win0_16.index t (1 : Fin 2) = 0 :=
  (by decide +kernel : ∀ t : Fin grid0.N, _)

theorem idx17 : ∀ t : Fin cfg0.N, win0_17.index t (0 : Fin 2) = t.val ∧ win0_17.index t (1 : Fin 2) = 0 :=
  (by decide +kernel : ∀ t : Fin grid0.N, _)

theorem idx18 : ∀ t : Fin cfg0.N, win0_18.index t (0 : Fin 2) = t.val ∧ win0_18.index t (1 : Fin 2) = 0 :=
  (by decide +kernel : ∀ t : Fin grid0.N, _)

/-- Every point writes both outputs' blocks back. -/
theorem flushes : ∀ t : Fin cfg0.N, (cfg0.win 17).flush t = true ∧ (cfg0.win 18).flush t = true :=
  (by decide +kernel : ∀ t : Fin grid0.N, win0_17.flush t = true ∧ win0_18.flush t = true)

/-- The call has 32 points. -/
theorem lt32 (t : Fin cfg0.N) : t.val < 32 := lt_of_lt_of_eq t.isLt N_0

/-- The sequence a point works on, and the place there of row `p` of its tile. -/
def bt (t : Fin cfg0.N) : Fin 4 := ⟨t.val / 8, by have := lt32 t; omega⟩
def st (t : Fin cfg0.N) (p : Fin 256) : Fin 2048 := ⟨t.val % 8 * 256 + p.val, by omega⟩

theorem row_val (t : Fin cfg0.N) (p : Fin 256) : (rowOf (bt t) (st t p)).val = t.val * 256 + p.val := by
  show t.val / 8 * 2048 + (t.val % 8 * 256 + p.val) = _; omega

/-- The sequence and place of a row written as a tile's row. -/
theorem rb_tile (t : Fin cfg0.N) (p : Fin 256) (R : Fin 8192) (h : R.val = t.val * 256 + p.val) : rb R = bt t ∧ rs R = st t p :=
  ⟨Fin.ext (by show R.val / 2048 = t.val / 8; omega), Fin.ext (by show R.val % 2048 = t.val % 8 * 256 + p.val; omega)⟩

/-! What the host prepares, entry by entry. -/

theorem V6 (c : Dev nD) (R : Fin 8192) (q : Fin 2048) : V m c main_v0 (ix2 R q) = a6 m c (ix3 (rb R) (rs R) q) := by
  unfold V
  after_reads_at
  rfl

theorem V7 (c : Dev nD) (R : Fin 8192) (q : Fin 2048) : V m c main_v1 (ix2 R q) = a7 m c (ix3 (rb R) (rs R) q) := by
  unfold V
  after_reads_at
  rfl

theorem V10 (c : Dev nD) (R : Fin 8192) (q : Fin 2048) : V m c main_v2 (ix2 R q) = a10 m c (ix3 (rb R) (rs R) q) := by
  unfold V
  after_reads_at
  rfl

theorem V11 (c : Dev nD) (i : Fin 1024) (j : Fin 2048) : V m c main_v4 (ix2 i j) = a11 m c (ix3 0 i j) := by
  unfold V
  after_reads_at

theorem V12 (c : Dev nD) (i : Fin 2048) (j : Fin 2048) : V m c main_v6 (ix2 i j) = a12 m c (ix3 0 i j) := by
  unfold V
  after_reads_at

theorem V13 (c : Dev nD) (i : Fin 2048) (j : Fin 2048) : V m c main_v8 (ix2 i j) = a13 m c (ix3 0 i j) := by
  unfold V
  after_reads_at

theorem V14 (c : Dev nD) (k : Fin 512) : V m c main_v10 (ix2 0 k) = a14 m c (ix2 0 k) := by
  unfold V
  after_reads_at

theorem V15 (c : Dev nD) (k : Fin 2048) : V m c main_v12 (ix2 0 k) = a15 m c (ix2 0 k) := by
  unfold V
  after_reads_at

/-- Group 0's block: the tile's rows. -/
theorem iblk0 (c : Dev nD) (t : Fin cfg0.N) (p : Fin 256) (q : Fin 1024) :
    iblk m c 0 t (ix4 0 0 p q) = a0 m c (ix4 (bt t) 0 (st t p) q) := by
  refine Eq.trans ?_ (congrFun (V_main_arg0 m c) (ix4 (bt t) 0 (st t p) q))
  unfold iblk
  rw [View.read_apply]
  show V m c main_arg0 _ = _
  congr 1
  funext a
  apply Fin.ext
  match a with
  | ⟨0, _⟩ => show win0_0.index t (0 : Fin 4) * 1 + 1 * 0 = _; rw [(idx0 t).1]; show t.val / 8 * 1 + 1 * 0 = t.val / 8; omega
  | ⟨1, _⟩ => show win0_0.index t (1 : Fin 4) * 1 + 1 * 0 = _; rw [(idx0 t).2.1]; rfl
  | ⟨2, _⟩ => show win0_0.index t (2 : Fin 4) * 256 + 1 * p.val = _; rw [(idx0 t).2.2.1]; show t.val % 8 * 256 + 1 * p.val = t.val % 8 * 256 + p.val; omega
  | ⟨3, _⟩ => show win0_0.index t (3 : Fin 4) * _ + 1 * q.val = _; rw [(idx0 t).2.2.2]; show 0 * _ + 1 * q.val = q.val; omega

/-- Group 0's block: the tile's rows. -/
theorem iblk3 (c : Dev nD) (t : Fin cfg0.N) (p : Fin 256) (q : Fin 128) :
    iblk m c 3 t (ix4 0 0 p q) = a3 m c (ix4 (bt t) 0 (st t p) q) := by
  refine Eq.trans ?_ (congrFun (V_main_arg3 m c) (ix4 (bt t) 0 (st t p) q))
  unfold iblk
  rw [View.read_apply]
  show V m c main_arg3 _ = _
  congr 1
  funext a
  apply Fin.ext
  match a with
  | ⟨0, _⟩ => show win0_3.index t (0 : Fin 4) * 1 + 1 * 0 = _; rw [(idx3 t).1]; show t.val / 8 * 1 + 1 * 0 = t.val / 8; omega
  | ⟨1, _⟩ => show win0_3.index t (1 : Fin 4) * 1 + 1 * 0 = _; rw [(idx3 t).2.1]; rfl
  | ⟨2, _⟩ => show win0_3.index t (2 : Fin 4) * 256 + 1 * p.val = _; rw [(idx3 t).2.2.1]; show t.val % 8 * 256 + 1 * p.val = t.val % 8 * 256 + p.val; omega
  | ⟨3, _⟩ => show win0_3.index t (3 : Fin 4) * _ + 1 * q.val = _; rw [(idx3 t).2.2.2]; show 0 * _ + 1 * q.val = q.val; omega

/-- Group 1's block at the residue class and place of row `p`. -/
theorem iblk1 (c : Dev nD) (t : Fin cfg0.N) (p : Fin 256) (q : Fin 1024) :
    iblk m c 1 t (ix4 0 ⟨p.val % 4, by omega⟩ ⟨p.val / 4, by omega⟩ q) = a1 m c (ix4 (bt t) ⟨(st t p).val % 4, by omega⟩ ⟨(st t p).val / 4, by omega⟩ q) := by
  refine Eq.trans ?_ (congrFun (V_main_arg1 m c) (ix4 (bt t) ⟨(st t p).val % 4, by omega⟩ ⟨(st t p).val / 4, by omega⟩ q))
  unfold iblk
  rw [View.read_apply]
  show V m c main_arg1 _ = _
  congr 1
  funext a
  apply Fin.ext
  match a with
  | ⟨0, _⟩ => show win0_1.index t (0 : Fin 4) * 1 + 1 * 0 = _; rw [(idx1 t).1]; show t.val / 8 * 1 + 1 * 0 = t.val / 8; omega
  | ⟨1, _⟩ => show win0_1.index t (1 : Fin 4) * 4 + 1 * (p.val % 4) = _; rw [(idx1 t).2.1]; show 0 * 4 + 1 * (p.val % 4) = (t.val % 8 * 256 + p.val) % 4; omega
  | ⟨2, _⟩ => show win0_1.index t (2 : Fin 4) * 64 + 1 * (p.val / 4) = _; rw [(idx1 t).2.2.1]; show t.val % 8 * 64 + 1 * (p.val / 4) = (t.val % 8 * 256 + p.val) / 4; omega
  | ⟨3, _⟩ => show win0_1.index t (3 : Fin 4) * _ + 1 * q.val = _; rw [(idx1 t).2.2.2]; show 0 * _ + 1 * q.val = q.val; omega

/-- Group 1's block at the residue class and place of row `p`. -/
theorem iblk4 (c : Dev nD) (t : Fin cfg0.N) (p : Fin 256) (q : Fin 128) :
    iblk m c 4 t (ix4 0 ⟨p.val % 4, by omega⟩ ⟨p.val / 4, by omega⟩ q) = a4 m c (ix4 (bt t) ⟨(st t p).val % 4, by omega⟩ ⟨(st t p).val / 4, by omega⟩ q) := by
  refine Eq.trans ?_ (congrFun (V_main_arg4 m c) (ix4 (bt t) ⟨(st t p).val % 4, by omega⟩ ⟨(st t p).val / 4, by omega⟩ q))
  unfold iblk
  rw [View.read_apply]
  show V m c main_arg4 _ = _
  congr 1
  funext a
  apply Fin.ext
  match a with
  | ⟨0, _⟩ => show win0_4.index t (0 : Fin 4) * 1 + 1 * 0 = _; rw [(idx4 t).1]; show t.val / 8 * 1 + 1 * 0 = t.val / 8; omega
  | ⟨1, _⟩ => show win0_4.index t (1 : Fin 4) * 4 + 1 * (p.val % 4) = _; rw [(idx4 t).2.1]; show 0 * 4 + 1 * (p.val % 4) = (t.val % 8 * 256 + p.val) % 4; omega
  | ⟨2, _⟩ => show win0_4.index t (2 : Fin 4) * 64 + 1 * (p.val / 4) = _; rw [(idx4 t).2.2.1]; show t.val % 8 * 64 + 1 * (p.val / 4) = (t.val % 8 * 256 + p.val) / 4; omega
  | ⟨3, _⟩ => show win0_4.index t (3 : Fin 4) * _ + 1 * q.val = _; rw [(idx4 t).2.2.2]; show 0 * _ + 1 * q.val = q.val; omega

/-- Group 2's block at the residue class and place of row `p`. -/
theorem iblk2 (c : Dev nD) (t : Fin cfg0.N) (p : Fin 256) (q : Fin 1024) :
    iblk m c 2 t (ix4 0 ⟨p.val % 16, by omega⟩ ⟨p.val / 16, by omega⟩ q) = a2 m c (ix4 (bt t) ⟨(st t p).val % 16, by omega⟩ ⟨(st t p).val / 16, by omega⟩ q) := by
  refine Eq.trans ?_ (congrFun (V_main_arg2 m c) (ix4 (bt t) ⟨(st t p).val % 16, by omega⟩ ⟨(st t p).val / 16, by omega⟩ q))
  unfold iblk
  rw [View.read_apply]
  show V m c main_arg2 _ = _
  congr 1
  funext a
  apply Fin.ext
  match a with
  | ⟨0, _⟩ => show win0_2.index t (0 : Fin 4) * 1 + 1 * 0 = _; rw [(idx2 t).1]; show t.val / 8 * 1 + 1 * 0 = t.val / 8; omega
  | ⟨1, _⟩ => show win0_2.index t (1 : Fin 4) * 16 + 1 * (p.val % 16) = _; rw [(idx2 t).2.1]; show 0 * 16 + 1 * (p.val % 16) = (t.val % 8 * 256 + p.val) % 16; omega
  | ⟨2, _⟩ => show win0_2.index t (2 : Fin 4) * 16 + 1 * (p.val / 16) = _; rw [(idx2 t).2.2.1]; show t.val % 8 * 16 + 1 * (p.val / 16) = (t.val % 8 * 256 + p.val) / 16; omega
  | ⟨3, _⟩ => show win0_2.index t (3 : Fin 4) * _ + 1 * q.val = _; rw [(idx2 t).2.2.2]; show 0 * _ + 1 * q.val = q.val; omega

/-- Group 2's block at the residue class and place of row `p`. -/
theorem iblk5 (c : Dev nD) (t : Fin cfg0.N) (p : Fin 256) (q : Fin 128) :
    iblk m c 5 t (ix4 0 ⟨p.val % 16, by omega⟩ ⟨p.val / 16, by omega⟩ q) = a5 m c (ix4 (bt t) ⟨(st t p).val % 16, by omega⟩ ⟨(st t p).val / 16, by omega⟩ q) := by
  refine Eq.trans ?_ (congrFun (V_main_arg5 m c) (ix4 (bt t) ⟨(st t p).val % 16, by omega⟩ ⟨(st t p).val / 16, by omega⟩ q))
  unfold iblk
  rw [View.read_apply]
  show V m c main_arg5 _ = _
  congr 1
  funext a
  apply Fin.ext
  match a with
  | ⟨0, _⟩ => show win0_5.index t (0 : Fin 4) * 1 + 1 * 0 = _; rw [(idx5 t).1]; show t.val / 8 * 1 + 1 * 0 = t.val / 8; omega
  | ⟨1, _⟩ => show win0_5.index t (1 : Fin 4) * 16 + 1 * (p.val % 16) = _; rw [(idx5 t).2.1]; show 0 * 16 + 1 * (p.val % 16) = (t.val % 8 * 256 + p.val) % 16; omega
  | ⟨2, _⟩ => show win0_5.index t (2 : Fin 4) * 16 + 1 * (p.val / 16) = _; rw [(idx5 t).2.2.1]; show t.val % 8 * 16 + 1 * (p.val / 16) = (t.val % 8 * 256 + p.val) / 16; omega
  | ⟨3, _⟩ => show win0_5.index t (3 : Fin 4) * _ + 1 * q.val = _; rw [(idx5 t).2.2.2]; show 0 * _ + 1 * q.val = q.val; omega

/-! The other blocks: the tile of a row array, or a whole weight or gain. -/

theorem iblk6 (c : Dev nD) (t : Fin cfg0.N) (p : Fin 256) (q : Fin 2048) :
    iblk m c 6 t (ix2 p q) = a6 m c (ix3 (bt t) (st t p) q) := by
  refine Eq.trans ?_ ((V6 m c (rowOf (bt t) (st t p)) q).trans (by rw [(rb_tile t p _ (row_val t p)).1, (rb_tile t p _ (row_val t p)).2]))
  unfold iblk
  rw [View.read_apply]
  show V m c main_v0 _ = _
  congr 1
  funext a
  apply Fin.ext
  match a with
  | ⟨0, _⟩ => show win0_6.index t (0 : Fin 2) * 256 + 1 * p.val = _; rw [(idx6 t).1]; refine Eq.trans ?_ (row_val t p).symm; omega
  | ⟨1, _⟩ => show win0_6.index t (1 : Fin 2) * 2048 + 1 * q.val = _; rw [(idx6 t).2]; show 0 * 2048 + 1 * q.val = q.val; omega

theorem iblk7 (c : Dev nD) (t : Fin cfg0.N) (p : Fin 256) (q : Fin 2048) :
    iblk m c 7 t (ix2 p q) = a7 m c (ix3 (bt t) (st t p) q) := by
  refine Eq.trans ?_ ((V7 m c (rowOf (bt t) (st t p)) q).trans (by rw [(rb_tile t p _ (row_val t p)).1, (rb_tile t p _ (row_val t p)).2]))
  unfold iblk
  rw [View.read_apply]
  show V m c main_v1 _ = _
  congr 1
  funext a
  apply Fin.ext
  match a with
  | ⟨0, _⟩ => show win0_7.index t (0 : Fin 2) * 256 + 1 * p.val = _; rw [(idx7 t).1]; refine Eq.trans ?_ (row_val t p).symm; omega
  | ⟨1, _⟩ => show win0_7.index t (1 : Fin 2) * 2048 + 1 * q.val = _; rw [(idx7 t).2]; show 0 * 2048 + 1 * q.val = q.val; omega

theorem iblk11 (c : Dev nD) (t : Fin cfg0.N) (p : Fin 256) (q : Fin 2048) :
    iblk m c 11 t (ix2 p q) = a10 m c (ix3 (bt t) (st t p) q) := by
  refine Eq.trans ?_ ((V10 m c (rowOf (bt t) (st t p)) q).trans (by rw [(rb_tile t p _ (row_val t p)).1, (rb_tile t p _ (row_val t p)).2]))
  unfold iblk
  rw [View.read_apply]
  show V m c main_v2 _ = _
  congr 1
  funext a
  apply Fin.ext
  match a with
  | ⟨0, _⟩ => show win0_11.index t (0 : Fin 2) * 256 + 1 * p.val = _; rw [(idx11 t).1]; refine Eq.trans ?_ (row_val t p).symm; omega
  | ⟨1, _⟩ => show win0_11.index t (1 : Fin 2) * 2048 + 1 * q.val = _; rw [(idx11 t).2]; show 0 * 2048 + 1 * q.val = q.val; omega

theorem iblk8 (c : Dev nD) (t : Fin cfg0.N) (p : Fin 256) (q : Fin 2048) :
    iblk m c 8 t (ix2 p q) = a8 m c (ix2 (rowOf (bt t) (st t p)) ⟨4096 + q.val, by omega⟩) := by
  refine Eq.trans ?_ (congrFun (V_main_arg8 m c) (ix2 (rowOf (bt t) (st t p)) ⟨4096 + q.val, by omega⟩))
  unfold iblk
  rw [View.read_apply]
  show V m c main_arg8 _ = _
  congr 1
  funext a
  apply Fin.ext
  match a with
  | ⟨0, _⟩ => show win0_8.index t (0 : Fin 2) * 256 + 1 * p.val = _; rw [(idx8 t).1]; refine Eq.trans ?_ (row_val t p).symm; omega
  | ⟨1, _⟩ => show win0_8.index t (1 : Fin 2) * 2048 + 1 * q.val = _; rw [(idx8 t).2]; show 2 * 2048 + 1 * q.val = 4096 + q.val; omega

theorem iblk9 (c : Dev nD) (t : Fin cfg0.N) (p : Fin 256) (q : Fin 2048) :
    iblk m c 9 t (ix2 p q) = a9 m c (ix2 (rowOf (bt t) (st t p)) ⟨q.val, by omega⟩) := by
  refine Eq.trans ?_ (congrFun (V_main_arg9 m c) (ix2 (rowOf (bt t) (st t p)) ⟨q.val, by omega⟩))
  unfold iblk
  rw [View.read_apply]
  show V m c main_arg9 _ = _
  congr 1
  funext a
  apply Fin.ext
  match a with
  | ⟨0, _⟩ => show win0_9.index t (0 : Fin 2) * 256 + 1 * p.val = _; rw [(idx9 t).1]; refine Eq.trans ?_ (row_val t p).symm; omega
  | ⟨1, _⟩ => show win0_9.index t (1 : Fin 2) * 2048 + 1 * q.val = _; rw [(idx9 t).2]; show 0 * 2048 + 1 * q.val = q.val; omega

theorem iblk10 (c : Dev nD) (t : Fin cfg0.N) (p : Fin 256) (q : Fin 2048) :
    iblk m c 10 t (ix2 p q) = a9 m c (ix2 (rowOf (bt t) (st t p)) ⟨2048 + q.val, by omega⟩) := by
  refine Eq.trans ?_ (congrFun (V_main_arg9 m c) (ix2 (rowOf (bt t) (st t p)) ⟨2048 + q.val, by omega⟩))
  unfold iblk
  rw [View.read_apply]
  show V m c main_arg9 _ = _
  congr 1
  funext a
  apply Fin.ext
  match a with
  | ⟨0, _⟩ => show win0_10.index t (0 : Fin 2) * 256 + 1 * p.val = _; rw [(idx10 t).1]; refine Eq.trans ?_ (row_val t p).symm; omega
  | ⟨1, _⟩ => show win0_10.index t (1 : Fin 2) * 2048 + 1 * q.val = _; rw [(idx10 t).2]; show 1 * 2048 + 1 * q.val = 2048 + q.val; omega

theorem iblk12 (c : Dev nD) (t : Fin cfg0.N) (i : Fin 1024) (j : Fin 2048) :
    iblk m c 12 t (ix2 i j) = a11 m c (ix3 0 i j) := by
  refine Eq.trans ?_ (V11 m c i j)
  unfold iblk
  rw [View.read_apply]
  show V m c main_v4 _ = _
  congr 1
  funext a
  apply Fin.ext
  match a with
  | ⟨0, _⟩ => show win0_12.index t (0 : Fin 2) * 1024 + 1 * i.val = _; rw [(idx12 t).1]; show 0 * 1024 + 1 * i.val = i.val; omega
  | ⟨1, _⟩ => show win0_12.index t (1 : Fin 2) * 2048 + 1 * j.val = _; rw [(idx12 t).2]; show 0 * 2048 + 1 * j.val = j.val; omega

theorem iblk13 (c : Dev nD) (t : Fin cfg0.N) (i : Fin 2048) (j : Fin 2048) :
    iblk m c 13 t (ix2 i j) = a12 m c (ix3 0 i j) := by
  refine Eq.trans ?_ (V12 m c i j)
  unfold iblk
  rw [View.read_apply]
  show V m c main_v6 _ = _
  congr 1
  funext a
  apply Fin.ext
  match a with
  | ⟨0, _⟩ => show win0_13.index t (0 : Fin 2) * 2048 + 1 * i.val = _; rw [(idx13 t).1]; show 0 * 2048 + 1 * i.val = i.val; omega
  | ⟨1, _⟩ => show win0_13.index t (1 : Fin 2) * 2048 + 1 * j.val = _; rw [(idx13 t).2]; show 0 * 2048 + 1 * j.val = j.val; omega

theorem iblk14 (c : Dev nD) (t : Fin cfg0.N) (i : Fin 2048) (j : Fin 2048) :
    iblk m c 14 t (ix2 i j) = a13 m c (ix3 0 i j) := by
  refine Eq.trans ?_ (V13 m c i j)
  unfold iblk
  rw [View.read_apply]
  show V m c main_v8 _ = _
  congr 1
  funext a
  apply Fin.ext
  match a with
  | ⟨0, _⟩ => show win0_14.index t (0 : Fin 2) * 2048 + 1 * i.val = _; rw [(idx14 t).1]; show 0 * 2048 + 1 * i.val = i.val; omega
  | ⟨1, _⟩ => show win0_14.index t (1 : Fin 2) * 2048 + 1 * j.val = _; rw [(idx14 t).2]; show 0 * 2048 + 1 * j.val = j.val; omega

theorem iblk15 (c : Dev nD) (t : Fin cfg0.N) (k : Fin 512) :
    iblk m c 15 t (ix2 0 k) = a14 m c (ix2 0 k) := by
  refine Eq.trans ?_ (V14 m c k)
  unfold iblk
  rw [View.read_apply]
  show V m c main_v10 _ = _
  congr 1
  funext a
  apply Fin.ext
  match a with
  | ⟨0, _⟩ => show win0_15.index t (0 : Fin 2) * 1 + 1 * 0 = _; rw [(idx15 t).1]; rfl
  | ⟨1, _⟩ => show win0_15.index t (1 : Fin 2) * 512 + 1 * k.val = _; rw [(idx15 t).2]; show 0 * 512 + 1 * k.val = k.val; omega

theorem iblk16 (c : Dev nD) (t : Fin cfg0.N) (k : Fin 2048) :
    iblk m c 16 t (ix2 0 k) = a15 m c (ix2 0 k) := by
  refine Eq.trans ?_ (V15 m c k)
  unfold iblk
  rw [View.read_apply]
  show V m c main_v12 _ = _
  congr 1
  funext a
  apply Fin.ext
  match a with
  | ⟨0, _⟩ => show win0_16.index t (0 : Fin 2) * 1 + 1 * 0 = _; rw [(idx16 t).1]; rfl
  | ⟨1, _⟩ => show win0_16.index t (1 : Fin 2) * 2048 + 1 * k.val = _; rw [(idx16 t).2]; show 0 * 2048 + 1 * k.val = k.val; omega

/-- The maxima and sums the tile's regrouped rows hold. -/
theorem mls_eq (c : Dev nD) (t : Fin cfg0.N) (p : Fin 256) (j : Fin 128) :
    ![(iblk m c 3 t : Vec Ideal S1x1x256x128 .f32) (ix4 0 0 p j), rows24 (iblk m c 4 t) (iblk m c 5 t) (ix3 0 p j), rows24 (iblk m c 4 t) (iblk m c 5 t) (ix3 1 p j)]
      = mls (a3 m c) (a4 m c) (a5 m c) (bt t) (st t p) j := by
  have e3 := iblk3 m c t p j
  have e4 := iblk4 m c t p j
  have e5 := iblk5 m c t p j
  unfold mls
  exact congrArg₂ (fun (u : EReal) (v : Fin 2 → EReal) => (Matrix.vecCons u v : Fin 3 → EReal)) e3
    (congrArg₂ (fun (u v : EReal) => (![u, v] : Fin 2 → EReal)) e4 e5)

/-- The merged attention output of a tile's row. -/
theorem mixed_eq (c : Dev nD) (t : Fin cfg0.N) (p : Fin 256) (q : Fin 1024) :
    mixed (iblk m c 0 t) (iblk m c 1 t) (iblk m c 2 t) (iblk m c 3 t) (iblk m c 4 t) (iblk m c 5 t) p q = mixB (a0 m c) (a1 m c) (a2 m c) (a3 m c) (a4 m c) (a5 m c) (bt t) (st t p) q := by
  have eq : (⟨(hd q).val * 128 + (⟨q.val % 128, by omega⟩ : Fin 128).val, by have := (hd q).isLt; show _ * 128 + q.val % 128 < 1024; omega⟩ : Fin 1024) = q :=
    Fin.ext (by show q.val / 128 * 128 + q.val % 128 = q.val; omega)
  have e0 := iblk0 m c t p q
  have e1 : rows23 (iblk m c 1 t) (iblk m c 2 t) (ix4 0 (hd q) p ⟨q.val % 128, by omega⟩) = _ := (congrArg (fun z => (iblk m c 1 t : Vec Ideal S1x4x64x1024 .bf16) (ix4 0 ⟨p.val % 4, by omega⟩ ⟨p.val / 4, by omega⟩ z)) eq).trans (iblk1 m c t p q)
  have e2 : rows23 (iblk m c 1 t) (iblk m c 2 t) (ix4 1 (hd q) p ⟨q.val % 128, by omega⟩) = _ := (congrArg (fun z => (iblk m c 2 t : Vec Ideal S1x16x16x1024 .bf16) (ix4 0 ⟨p.val % 16, by omega⟩ ⟨p.val / 16, by omega⟩ z)) eq).trans (iblk2 m c t p q)
  unfold mixed mixB mix3 wt
  rw [e0, e1, e2, ← mls_eq m c t p (lo (hd q)), ← mls_eq m c t p (up (hd q))]
  rfl

/-- The layer's sum in a tile's row. -/
theorem hrow_eq (c : Dev nD) (t : Fin cfg0.N) (p : Fin 256) :
    hrow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p
      = hB (a0 m c) (a1 m c) (a2 m c) (a3 m c) (a4 m c) (a5 m c) (a6 m c) (a7 m c) (a8 m c) (a9 m c) (a10 m c) (a11 m c) (a12 m c) (a13 m c) (a14 m c) (bt t) (st t p) := by
  have hm : mixed (iblk m c 0 t) (iblk m c 1 t) (iblk m c 2 t) (iblk m c 3 t) (iblk m c 4 t) (iblk m c 5 t) p = mixB (a0 m c) (a1 m c) (a2 m c) (a3 m c) (a4 m c) (a5 m c) (bt t) (st t p) := funext fun q => mixed_eq m c t p q
  have hg : gated (iblk m c 6 t) (iblk m c 7 t) (iblk m c 8 t) (iblk m c 15 t) p = glB (a6 m c) (a7 m c) (a8 m c) (a14 m c) (bt t) (st t p) := by
    unfold gated glB
    refine (congrArg₂ (fun u v => gatedOut u v _ _) (funext fun q => iblk6 m c t p q) (funext fun q => iblk7 m c t p q)).trans ?_
    exact congrArg₂ (fun u v => gatedOut _ _ u v) (funext fun q => iblk8 m c t p q) (funext fun k => iblk15 m c t k)
  unfold hrow hB
  rw [hm, hg]
  refine (congrArg₂ (fun u v => hOut _ _ u v _ _ _ _) (funext fun q => iblk9 m c t p q) (funext fun q => iblk10 m c t p q)).trans ?_
  refine (congrArg₂ (fun u v => hOut _ _ _ _ u v _ _) (funext fun q => iblk11 m c t p q) (funext fun i => funext fun k => iblk12 m c t i k)).trans ?_
  exact congrArg₂ (fun u v => hOut _ _ _ _ _ _ u v) (funext fun i => funext fun k => iblk13 m c t i k) (funext fun i => funext fun k => iblk14 m c t i k)

/-- What the call computes first: the layer's sum. -/
def G17 (c : Dev nD) : Buf (Elt Ideal) ((c : Thread nD τ).loc main_v13_0) := fun i =>
  hB (a0 m c) (a1 m c) (a2 m c) (a3 m c) (a4 m c) (a5 m c) (a6 m c) (a7 m c) (a8 m c) (a9 m c) (a10 m c) (a11 m c) (a12 m c) (a13 m c) (a14 m c) (rb (i 0)) (rs (i 0)) (i 1)

/-- What the call computes second: the sum normalised. -/
def G18 (c : Dev nD) : Buf (Elt Ideal) ((c : Thread nD τ).loc main_v13_1) := fun i =>
  hnB (a0 m c) (a1 m c) (a2 m c) (a3 m c) (a4 m c) (a5 m c) (a6 m c) (a7 m c) (a8 m c) (a9 m c) (a10 m c) (a11 m c) (a12 m c) (a13 m c) (a14 m c) (a15 m c) (rb (i 0)) (rs (i 0)) (i 1)

/-- What output 17's block holds after a point. -/
theorem blk17 (c : Dev nD) (t : Fin cfg0.N) (p : Fin 256) (j : Fin 2048) :
    (outsAt0 m c t).1 (ix2 p j) = hB (a0 m c) (a1 m c) (a2 m c) (a3 m c) (a4 m c) (a5 m c) (a6 m c) (a7 m c) (a8 m c) (a9 m c) (a10 m c) (a11 m c) (a12 m c) (a13 m c) (a14 m c) (bt t) (st t p) j := by
  unfold outsAt0
  dsimp only
  rw [out17]
  exact congrFun (hrow_eq m c t p) j

/-- Each point writes back its block of `G17`. -/
theorem flushed17 (c : Dev nD) (t : Fin cfg0.N) (_ : (cfg0.win 17).flush t = true) :
    (dats m 0 c).flushed 17 t = ((cfg0.win 17).blk t).view.read (Elt Ideal) (G17 m c) := by
  rw [Value.flushed17]
  funext y
  rw [View.read_apply]
  show (outsAt0 m c t).1 _ = _
  obtain ⟨p, j, hy⟩ : ∃ (p : Fin 256) (j : Fin 2048), (cfg0.win 17).xinj (grid0.coords t) y = ix2 p j := ⟨_, _, eq_ix2 _⟩
  have h0 : (y 0).val = p.val := congrArg (fun z : S256x2048.Idx => (z 0).val) hy
  have h1 : (y 1).val = j.val := congrArg (fun z : S256x2048.Idx => (z 1).val) hy
  refine (congrArg _ hy).trans ((blk17 m c t p j).trans ?_)
  have hR : (((cfg0.win 17).blk t).view.emb y 0).val = t.val * 256 + p.val := by
    show win0_17.index t (0 : Fin 2) * 256 + 1 * (y 0).val = _
    rw [(idx17 t).1, h0, Nat.one_mul]
  have hj : ((cfg0.win 17).blk t).view.emb y 1 = j := Fin.ext (by
    show win0_17.index t (1 : Fin 2) * 2048 + 1 * (y 1).val = _
    rw [(idx17 t).2, h1, Nat.one_mul, Nat.zero_mul, Nat.zero_add])
  show _ = G17 m c (((cfg0.win 17).blk t).view.emb y)
  unfold G17
  rw [(rb_tile t p _ hR).1, (rb_tile t p _ hR).2, hj]

/-- An index lies in point `t`'s block of output 17 iff each coordinate is in the block's range on its axis. -/
theorem mem_blk17 (t : Fin cfg0.N) (i : S8192x2048.Idx) : i ∈ ((cfg0.win 17).blk t).view.set ↔ ∀ a : Fin 2,
    win0_17.index t a * S256x2048.size a ≤ (i a).val ∧ (i a).val < win0_17.index t a * S256x2048.size a + S256x2048.size a := by
  show i ∈ ((View.whole main_v13_0).slice (win0_17.rect t)).set ↔ _
  rw [View.set_slice_whole, Rect.mem_set_unit]
  exact Iff.rfl

/-- Result 0 ends holding `G17`: the row tiles fill it. -/
theorem final17 (c : Dev nD) : (dats m 0 c).arrAt 17 cfg0.N = G17 m c :=
  (dats m 0 c).arrAt_eq_of_cover 17 _ (flushed17 m c) fun i => by
    have h0 : (i 0).val < 8192 := (i 0).isLt
    have h1 : (i 1).val < 2048 := (i 1).isLt
    have ht : (i 0).val / 256 < cfg0.N := by rw [show cfg0.N = 32 from N_0]; omega
    refine ⟨⟨(i 0).val / 256, ht⟩, (flushes _).1, ?_⟩
    rw [mem_blk17]
    intro a
    match a with
    | ⟨0, _⟩ =>
      show win0_17.index _ (0 : Fin 2) * 256 ≤ (i 0).val ∧ (i 0).val < win0_17.index _ (0 : Fin 2) * 256 + 256
      rw [(idx17 _).1]; dsimp only; omega
    | ⟨1, _⟩ =>
      show win0_17.index _ (1 : Fin 2) * 2048 ≤ (i 1).val ∧ (i 1).val < win0_17.index _ (1 : Fin 2) * 2048 + 2048
      rw [(idx17 _).2]; omega

/-- What output 18's block holds after a point. -/
theorem blk18 (c : Dev nD) (t : Fin cfg0.N) (p : Fin 256) (j : Fin 2048) :
    (outsAt0 m c t).2 (ix2 p j) = hnB (a0 m c) (a1 m c) (a2 m c) (a3 m c) (a4 m c) (a5 m c) (a6 m c) (a7 m c) (a8 m c) (a9 m c) (a10 m c) (a11 m c) (a12 m c) (a13 m c) (a14 m c) (a15 m c) (bt t) (st t p) j := by
  unfold outsAt0
  dsimp only
  rw [out18]
  unfold hnB
  exact congrArg₂ (fun u v => hnOut u v j) (hrow_eq m c t p) (funext fun k => iblk16 m c t k)

/-- Each point writes back its block of `G18`. -/
theorem flushed18 (c : Dev nD) (t : Fin cfg0.N) (_ : (cfg0.win 18).flush t = true) :
    (dats m 0 c).flushed 18 t = ((cfg0.win 18).blk t).view.read (Elt Ideal) (G18 m c) := by
  rw [Value.flushed18]
  funext y
  rw [View.read_apply]
  show (outsAt0 m c t).2 _ = _
  obtain ⟨p, j, hy⟩ : ∃ (p : Fin 256) (j : Fin 2048), (cfg0.win 18).xinj (grid0.coords t) y = ix2 p j := ⟨_, _, eq_ix2 _⟩
  have h0 : (y 0).val = p.val := congrArg (fun z : S256x2048.Idx => (z 0).val) hy
  have h1 : (y 1).val = j.val := congrArg (fun z : S256x2048.Idx => (z 1).val) hy
  refine (congrArg _ hy).trans ((blk18 m c t p j).trans ?_)
  have hR : (((cfg0.win 18).blk t).view.emb y 0).val = t.val * 256 + p.val := by
    show win0_18.index t (0 : Fin 2) * 256 + 1 * (y 0).val = _
    rw [(idx18 t).1, h0, Nat.one_mul]
  have hj : ((cfg0.win 18).blk t).view.emb y 1 = j := Fin.ext (by
    show win0_18.index t (1 : Fin 2) * 2048 + 1 * (y 1).val = _
    rw [(idx18 t).2, h1, Nat.one_mul, Nat.zero_mul, Nat.zero_add])
  show _ = G18 m c (((cfg0.win 18).blk t).view.emb y)
  unfold G18
  rw [(rb_tile t p _ hR).1, (rb_tile t p _ hR).2, hj]

/-- An index lies in point `t`'s block of output 18 iff each coordinate is in the block's range on its axis. -/
theorem mem_blk18 (t : Fin cfg0.N) (i : S8192x2048.Idx) : i ∈ ((cfg0.win 18).blk t).view.set ↔ ∀ a : Fin 2,
    win0_18.index t a * S256x2048.size a ≤ (i a).val ∧ (i a).val < win0_18.index t a * S256x2048.size a + S256x2048.size a := by
  show i ∈ ((View.whole main_v13_1).slice (win0_18.rect t)).set ↔ _
  rw [View.set_slice_whole, Rect.mem_set_unit]
  exact Iff.rfl

/-- Result 1 ends holding `G18`: the row tiles fill it. -/
theorem final18 (c : Dev nD) : (dats m 0 c).arrAt 18 cfg0.N = G18 m c :=
  (dats m 0 c).arrAt_eq_of_cover 18 _ (flushed18 m c) fun i => by
    have h0 : (i 0).val < 8192 := (i 0).isLt
    have h1 : (i 1).val < 2048 := (i 1).isLt
    have ht : (i 0).val / 256 < cfg0.N := by rw [show cfg0.N = 32 from N_0]; omega
    refine ⟨⟨(i 0).val / 256, ht⟩, (flushes _).2, ?_⟩
    rw [mem_blk18]
    intro a
    match a with
    | ⟨0, _⟩ =>
      show win0_18.index _ (0 : Fin 2) * 256 ≤ (i 0).val ∧ (i 0).val < win0_18.index _ (0 : Fin 2) * 256 + 256
      rw [(idx18 _).1]; dsimp only; omega
    | ⟨1, _⟩ =>
      show win0_18.index _ (1 : Fin 2) * 2048 ≤ (i 1).val ∧ (i 1).val < win0_18.index _ (1 : Fin 2) * 2048 + 2048
      rw [(idx18 _).2]; omega

/-- The bits of plus infinity, and of zero. -/
theorem top_bits : Ideal.ofBits .f32 0x7F800000#32 = ⊤ := by simp [Ideal.ofBits, Ideal.ieee]
theorem zero_bits : Ideal.ofBits .f32 0x00000000#32 = 0 := by simp [Ideal.ofBits, Ideal.ieee]

/-- A value whose absolute value is below infinity is real. -/
theorem real_of_lt (a : EReal) (h : Ideal.cmp .olt (max a (-a)) (Ideal.ofBits .f32 0x7F800000#32) = 1#1) : ∃ r : ℝ, a = r := by
  rw [top_bits] at h
  induction a using EReal.rec with
  | bot => exact absurd h (by simp [Ideal.cmp])
  | top => exact absurd h (by simp [Ideal.cmp])
  | coe r => exact ⟨r, rfl⟩

/-- A real value above zero is a positive real. -/
theorem pos_of_gt (a : EReal) (h : Ideal.cmp .ogt a (Ideal.ofBits .f32 0x00000000#32) = 1#1) (hr : ∃ r : ℝ, a = r) :
    ∃ r : ℝ, 0 < r ∧ a = r := by
  obtain ⟨r, rfl⟩ := hr
  refine ⟨r, ?_, rfl⟩
  rw [zero_bits] at h
  by_contra hn
  exact absurd h (by simp [Ideal.cmp, hn])

variable [Cert.Pre_softmax_state.Facts]

/-- Group 0's maxima and sums are real where the precondition holds, and its sums positive. -/
theorem real0 (h : Cert.Pre_MergeIdeal_softmax_state m) (c : Dev nD) (b : Fin 4)  (s : Fin 2048) (j : Fin 16) :
    ∃ r : ℝ, a3 m c (ix4 b 0 s ⟨j.val, by omega⟩) = r := by
  have q := congrFun ((h c).1) (ix4 b 0 s j)
  refine real_of_lt _ (Eq.trans (Eq.symm ?_) q)
  unfold Cert.Pre_softmax_state.fn Cert.Pre_softmax_state.fn_part1
  dsimp only
  pointwise []
  rfl

theorem pos0 (h : Cert.Pre_MergeIdeal_softmax_state m) (c : Dev nD) (b : Fin 4)  (s : Fin 2048) (j : Fin 8) :
    ∃ r : ℝ, 0 < r ∧ a3 m c (ix4 b 0 s ⟨8 + j.val, by omega⟩) = r := by
  have q := congrFun ((h c).2.1) (ix4 b 0 s j)
  refine pos_of_gt _ (Eq.trans (Eq.symm ?_) q) (real0 m h c b s ⟨8 + j.val, by omega⟩)
  unfold Cert.Pre_softmax_state.fn Cert.Pre_softmax_state.fn_part1
  dsimp only
  pointwise []

/-- Group 1's maxima and sums are real where the precondition holds, and its sums positive. -/
theorem real1 (h : Cert.Pre_MergeIdeal_softmax_state m) (c : Dev nD) (b : Fin 4) (d : Fin 4) (s : Fin 512) (j : Fin 16) :
    ∃ r : ℝ, a4 m c (ix4 b d s ⟨j.val, by omega⟩) = r := by
  have q := congrFun ((h c).2.2.1) (ix4 b d s j)
  refine real_of_lt _ (Eq.trans (Eq.symm ?_) q)
  unfold Cert.Pre_softmax_state.fn Cert.Pre_softmax_state.fn_part1
  dsimp only
  pointwise []
  rfl

theorem pos1 (h : Cert.Pre_MergeIdeal_softmax_state m) (c : Dev nD) (b : Fin 4) (d : Fin 4) (s : Fin 512) (j : Fin 8) :
    ∃ r : ℝ, 0 < r ∧ a4 m c (ix4 b d s ⟨8 + j.val, by omega⟩) = r := by
  have q := congrFun ((h c).2.2.2.1) (ix4 b d s j)
  refine pos_of_gt _ (Eq.trans (Eq.symm ?_) q) (real1 m h c b d s ⟨8 + j.val, by omega⟩)
  unfold Cert.Pre_softmax_state.fn Cert.Pre_softmax_state.fn_part1
  dsimp only
  pointwise []

/-- Group 2's maxima and sums are real where the precondition holds, and its sums positive. -/
theorem real2 (h : Cert.Pre_MergeIdeal_softmax_state m) (c : Dev nD) (b : Fin 4) (d : Fin 16) (s : Fin 128) (j : Fin 16) :
    ∃ r : ℝ, a5 m c (ix4 b d s ⟨j.val, by omega⟩) = r := by
  have q := congrFun ((h c).2.2.2.2.1) (ix4 b d s j)
  refine real_of_lt _ (Eq.trans (Eq.symm ?_) q)
  unfold Cert.Pre_softmax_state.fn Cert.Pre_softmax_state.fn_part1
  dsimp only
  pointwise []
  rfl

theorem pos2 (h : Cert.Pre_MergeIdeal_softmax_state m) (c : Dev nD) (b : Fin 4) (d : Fin 16) (s : Fin 128) (j : Fin 8) :
    ∃ r : ℝ, 0 < r ∧ a5 m c (ix4 b d s ⟨8 + j.val, by omega⟩) = r := by
  have q := congrFun ((h c).2.2.2.2.2) (ix4 b d s j)
  refine pos_of_gt _ (Eq.trans (Eq.symm ?_) q) (real2 m h c b d s ⟨8 + j.val, by omega⟩)
  unfold Cert.Pre_softmax_state.fn Cert.Pre_softmax_state.fn_part1
  dsimp only
  pointwise []

/-- At every position the maxima are real and the sums real and positive. -/
theorem state_real (h : Cert.Pre_MergeIdeal_softmax_state m) (c : Dev nD) (b : Fin 4) (s : Fin 2048) (l : Fin 8) (k : Fin 3) :
    ∃ r : ℝ, mls (a3 m c) (a4 m c) (a5 m c) b s (lo l) k = r := by
  match k with
  | 0 => exact real0 m h c b s ⟨l.val, by omega⟩
  | 1 => exact real1 m h c b _ _ ⟨l.val, by omega⟩
  | 2 => exact real2 m h c b _ _ ⟨l.val, by omega⟩

theorem state_pos (h : Cert.Pre_MergeIdeal_softmax_state m) (c : Dev nD) (b : Fin 4) (s : Fin 2048) (l : Fin 8) (k : Fin 3) :
    ∃ r : ℝ, 0 < r ∧ mls (a3 m c) (a4 m c) (a5 m c) b s (up l) k = r := by
  match k with
  | 0 => exact pos0 m h c b s l
  | 1 => exact pos1 m h c b _ _ l
  | 2 => exact pos2 m h c b _ _ l

/-- The reference's results are what the call computes, where the maxima are real and the sums real and positive. -/
theorem ref_sum (h : Cert.Pre_MergeIdeal_softmax_state m) (c : Dev nD) :
    Cert.MergeRefIdeal.Read.val_main_v125 (F := Ideal) (a0 m c) (a1 m c) (a2 m c) (a3 m c) (a4 m c) (a5 m c) (a6 m c) (a7 m c) (a8 m c) (a9 m c) (a10 m c) (a11 m c) (a12 m c) (a13 m c) (a14 m c) = G17 m c := by
  funext i
  obtain ⟨R, j, rfl⟩ : ∃ R j, i = ix2 R j := ⟨i 0, i 1, (ix2_eta i).symm⟩
  exact ref125 _ _ _ _ _ _ _ _ _ _ _ _ _ _ _ R j (state_real m h c _ _) (state_pos m h c _ _)

theorem ref_norm (h : Cert.Pre_MergeIdeal_softmax_state m) (c : Dev nD) :
    Cert.MergeRefIdeal.Read.val_main_v127 (F := Ideal) (a0 m c) (a1 m c) (a2 m c) (a3 m c) (a4 m c) (a5 m c) (a6 m c) (a7 m c) (a8 m c) (a9 m c) (a10 m c) (a11 m c) (a12 m c) (a13 m c) (a14 m c) (a15 m c) = G18 m c := by
  funext i
  obtain ⟨R, j, rfl⟩ : ∃ R j, i = ix2 R j := ⟨i 0, i 1, (ix2_eta i).symm⟩
  exact ref127 _ _ _ _ _ _ _ _ _ _ _ _ _ _ _ _ R j (state_real m h c _ _) (state_pos m h c _ _)

/-- The call and the reference compute the same two arrays. -/
theorem alg : Cert.algebraic_MergeIdeal_MergeRefIdeal_pre_softmax_state := fun m ρ m' ρ' hp hag =>
  ⟨fun c => G17 m c, fun c => G18 m c,
    (θ_run _ _ _).mono (fun _ h c => ⟨(h c).1.trans (final17 m c), (h c).2.1.trans (final18 m c), (h c).2.2⟩) (Value.run_blocks m ρ),
    (θ_run _ _ _).mono (fun _ h c => ⟨(h c).1.trans (by
        rw [Cert.MergeRefIdeal.Read.val_main_v125_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2.1, (hag c).2.2.2.2.2.2.2.2.2.2.2.2.2.1, (hag c).2.2.2.2.2.2.2.2.2.2.2.2.2.2.1]; exact ref_sum m hp c),
      (h c).2.1.trans (by
        rw [Cert.MergeRefIdeal.Read.val_main_v127_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2.1, (hag c).2.2.2.2.2.2.2.2.2.2.2.2.2.1, (hag c).2.2.2.2.2.2.2.2.2.2.2.2.2.2.1, (hag c).2.2.2.2.2.2.2.2.2.2.2.2.2.2.2]; exact ref_norm m hp c), (h c).2.2⟩)
      (Cert.MergeRefIdeal.Value.run m' ρ')⟩

end Cert.MergeIdeal.Val
end
-- ==== Proof.AttCRows.lean ====
module

public import proofs.«01_k».proof.Proof.Spec
public import proofs.«01_k».proof.Defs
public import proofs.«01_k».proof.Proof.Gen.AttCIdeal.Value
public import Idealize.ShloMosaic.Lib.StableHlo.ReadAt
public import Idealize.ShloMosaic.Lib.Tactic
public import Idealize.ShloMosaic.Lib.Pipeline.ReadBack

@[expose] public section

set_option maxRecDepth 16384

noncomputable section

namespace Cert.AttCIdeal.Val

open Cert.AttCIdeal Cert.AttCIdeal.Gen Cert.Layer Idealize.ShloMosaic Idealize.ShloMosaic.TcCoe Idealize.SL.Sem
open Idealize.ShloMosaic.Pipeline (Dat)

section Lists

variable (c : Dev nD) (arg3 : Memref sig .tc .vmem S1x1x128x1024 .bf16) (harg3 : arg3.IsWhole)
  (arg4 : Memref sig .tc .vmem S1x1x128x1024 .bf16) (harg4 : arg4.IsWhole)
  (arg5 : Memref sig .tc .vmem S1x1x128x1024 .bf16) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S1x128 .f32) (harg8 : arg8.IsWhole)
  (arg9 : Memref sig .tc .vmem S1x128 .f32) (harg9 : arg9.IsWhole)
  (x0 x1 x2 : Vec Ideal S1x1x128x1024 .bf16) (x3 x4 : Vec Ideal S128x128 .f32) (x5 x6 : Vec Ideal S1x128 .f32)

/-- The 128 columns of head `k`, as the body reads them. -/
def colsOf (a : Memref sig .tc .vmem S1x1x128x1024 .bf16) (ha : a.IsWhole) (x : Vec Ideal S1x1x128x1024 .bf16) (k : ℕ) :
    Vec Ideal S1x1x128x128 .bf16 :=
  View.readAt (Elt Ideal) a.view (Rect.unit (s := S1x1x128x1024) ![0, 0, 0, k % 8 * 128] S1x1x128x128.size (fun b => match b with
      | ⟨0, _⟩ => show 0 + 1 ≤ 1 by omega
      | ⟨1, _⟩ => show 0 + 1 ≤ 1 by omega
      | ⟨2, _⟩ => show 0 + 128 ≤ 128 by omega
      | ⟨3, _⟩ => show k % 8 * 128 + 128 ≤ 1024 by omega)).toLoadRect (ha.unread x)

/-- A whole table, as the body reads it. -/
def tabOf (a : Memref sig .tc .vmem S128x128 .f32) (ha : a.IsWhole) (x : Vec Ideal S128x128 .f32) : Vec Ideal S128x128 .f32 :=
  View.readAt (Elt Ideal) a.view (Rect.unit (s := S128x128) ![0, 0] S128x128.size inb_S128x128_S128x128_0_0).toLoadRect (ha.unread x)

/-- A whole gain row, as the body reads it. -/
def gainOf (a : Memref sig .tc .vmem S1x128 .f32) (ha : a.IsWhole) (x : Vec Ideal S1x128 .f32) : Vec Ideal S1x128 .f32 :=
  View.readAt (Elt Ideal) a.view (Rect.unit (s := S1x128) ![0, 0] S1x128.size inb_S1x128_S1x128_0_0).toLoadRect (ha.unread x)

/-- The store of head `k`'s queries. -/
def pcQ (k : ℕ) : View.Piece (Elt Ideal) S8x256x128 .bf16 :=
  ⟨Rect.unit (s := S8x256x128) ![k % 8, 0, 0] S1x128x128.size (fun b => match b with
      | ⟨0, _⟩ => show k % 8 + 1 ≤ 8 by omega
      | ⟨1, _⟩ => show 0 + 128 ≤ 256 by omega
      | ⟨2, _⟩ => show 0 + 128 ≤ 128 by omega),
    k0_pay58 k0_pay9 k0_pay10 (k0_pay54 (gainOf arg8 harg8 x5)) (tabOf arg6 harg6 x3) (tabOf arg7 harg7 x4) (colsOf arg3 harg3 x0 k)⟩

/-- The stores of the queries, last first. -/
theorem listQ : kernelRun0_A.sl.HS0_8 (F := Ideal) c arg3 harg3 arg6 harg6 arg7 harg7 arg8 harg8 x0 x3 x4 x5
    = (List.range 8).reverse.map (pcQ arg3 harg3 arg6 harg6 arg7 harg7 arg8 harg8 x0 x3 x4 x5) := by
  sl_kernel_rfl

/-- The store of head `k`'s keys, and the two stores of zeros around them. -/
def pcK (k : ℕ) : View.Piece (Elt Ideal) S8x320x128 .bf16 :=
  ⟨Rect.unit (s := S8x320x128) ![k % 8, 64, 0] S1x128x128.size (fun b => match b with
      | ⟨0, _⟩ => show k % 8 + 1 ≤ 8 by omega
      | ⟨1, _⟩ => show 64 + 128 ≤ 320 by omega
      | ⟨2, _⟩ => show 0 + 128 ≤ 128 by omega),
    k0_pay58 k0_pay9 k0_pay10 (k0_pay55 (gainOf arg9 harg9 x6)) (tabOf arg6 harg6 x3) (tabOf arg7 harg7 x4) (colsOf arg4 harg4 x1 k)⟩

/-- The zeros above and below head `k`'s keys. -/
def pcKz (k : ℕ) : List (View.Piece (Elt Ideal) S8x320x128 .bf16) :=
  [⟨Rect.unit (s := S8x320x128) ![k % 8, 192, 0] S1x128x128.size (fun b => match b with
      | ⟨0, _⟩ => show k % 8 + 1 ≤ 8 by omega
      | ⟨1, _⟩ => show 192 + 128 ≤ 320 by omega
      | ⟨2, _⟩ => show 0 + 128 ≤ 128 by omega), k0_pay14 (F := Ideal) k0_pay12⟩,
   ⟨Rect.unit (s := S8x320x128) ![k % 8, 0, 0] S1x64x128.size (fun b => match b with
      | ⟨0, _⟩ => show k % 8 + 1 ≤ 8 by omega
      | ⟨1, _⟩ => show 0 + 64 ≤ 320 by omega
      | ⟨2, _⟩ => show 0 + 128 ≤ 128 by omega), k0_pay13 (F := Ideal)⟩]

/-- The stores of the keys, last first. -/
theorem listK : kernelRun0_A.sl.HS1_24 (F := Ideal) c arg4 harg4 arg6 harg6 arg7 harg7 arg9 harg9 x1 x3 x4 x6
    = (List.range 8).reverse.map (pcK arg4 harg4 arg6 harg6 arg7 harg7 arg9 harg9 x1 x3 x4 x6)
      ++ (List.range 8).reverse.flatMap pcKz := by
  sl_kernel_rfl

/-- The store of head `k`'s values. -/
def pcV (k : ℕ) : View.Piece (Elt Ideal) S8x320x256 .bf16 :=
  ⟨Rect.unit (s := S8x320x256) ![k % 8, 64, 0] S1x128x128.size (fun b => match b with
      | ⟨0, _⟩ => show k % 8 + 1 ≤ 8 by omega
      | ⟨1, _⟩ => show 64 + 128 ≤ 320 by omega
      | ⟨2, _⟩ => show 0 + 128 ≤ 256 by omega), k0_pay62 (colsOf arg5 harg5 x2 k)⟩

/-- The ones beside head `k`'s values and the zeros above and below them. -/
def pcVz (k : ℕ) : List (View.Piece (Elt Ideal) S8x320x256 .bf16) :=
  [⟨Rect.unit (s := S8x320x256) ![k % 8, 0, 128] S1x320x128.size (fun b => match b with
      | ⟨0, _⟩ => show k % 8 + 1 ≤ 8 by omega
      | ⟨1, _⟩ => show 0 + 320 ≤ 320 by omega
      | ⟨2, _⟩ => show 128 + 128 ≤ 256 by omega), k0_pay17 (F := Ideal)⟩,
   ⟨Rect.unit (s := S8x320x256) ![k % 8, 192, 0] S1x128x128.size (fun b => match b with
      | ⟨0, _⟩ => show k % 8 + 1 ≤ 8 by omega
      | ⟨1, _⟩ => show 192 + 128 ≤ 320 by omega
      | ⟨2, _⟩ => show 0 + 128 ≤ 256 by omega), k0_pay14 (F := Ideal) k0_pay12⟩,
   ⟨Rect.unit (s := S8x320x256) ![k % 8, 0, 0] S1x64x128.size (fun b => match b with
      | ⟨0, _⟩ => show k % 8 + 1 ≤ 8 by omega
      | ⟨1, _⟩ => show 0 + 64 ≤ 320 by omega
      | ⟨2, _⟩ => show 0 + 128 ≤ 256 by omega), k0_pay13 (F := Ideal)⟩]

/-- The stores of the values, last first. -/
theorem listV : kernelRun0_A.sl.HS2_32 (F := Ideal) c arg5 harg5 x2
    = (List.range 8).reverse.map (pcV arg5 harg5 x2) ++ (List.range 8).reverse.flatMap pcVz := by
  sl_kernel_rfl

end Lists

end Cert.AttCIdeal.Val

end
-- ==== Proof.AttForm.lean ====
/-
  Banded attention over one residue class of 128 rows, over the extended reals: rows normalised and rotated, scores kept
  within 64 rows of the query, the maximum, the sum of the exponentials and the weighted sum of the values.
-/
module

public import Idealize.ShloMosaic.Lib.Pointwise
public import Idealize.ShloMosaic.PureOps.Ideal.Laws

@[expose] public section

noncomputable section

namespace Cert.Layer

open Idealize.ShloMosaic

/-- A head's row divided by its root mean square and gained. -/
def rmsRow (x g : Fin 128 → EReal) (j : Fin 128) : EReal :=
  x j * Ideal.rsqrt (Ideal.div (∑ k, x k * x k) (Ideal.ofBits .f32 0x43000000#32) + Ideal.ofBits .f32 0x358637BD#32) * g j

/-- The quarter turn: of the first 32 lanes, the second 16 negated before the first 16; nothing elsewhere. -/
def turn (u : Fin 128 → EReal) (j : Fin 128) : EReal :=
  if j.val < 16 then -u ⟨(j.val + 16) % 128, Nat.mod_lt _ (by omega)⟩
  else if j.val < 32 then u ⟨j.val - 16, by omega⟩ else 0

/-- A row rotated by the cosines `c` and sines `s`. -/
def roped (u c s : Fin 128 → EReal) (j : Fin 128) : EReal := u j * c j + turn u j * s j

/-- The rotary angle of position `p` in lane `j` of 16. -/
def angle (p j : ℕ) : EReal :=
  FloatOps.sitofp (F := Ideal) .f32 (BitVec.ofNat 32 p) * Ideal.pow (Ideal.ofBits .f32 0x48F42400#32)
    (Ideal.div (-(Ideal.ofBits .f32 0x40000000#32 * FloatOps.sitofp (F := Ideal) .f32 (BitVec.ofNat 32 j))) (Ideal.ofBits .f32 0x42000000#32))

/-- The cosines of a position's lanes, one from lane 32 on. -/
def cosT (p : ℕ) (d : Fin 128) : EReal :=
  if d.val < 16 then Ideal.cos (angle p d.val) else if d.val < 32 then Ideal.cos (angle p (d.val - 16)) else 1

/-- The sines of a position's lanes, zero from lane 32 on. -/
def sinT (p : ℕ) (d : Fin 128) : EReal :=
  if d.val < 16 then Ideal.sin (angle p d.val) else if d.val < 32 then Ideal.sin (angle p (d.val - 16)) else 0

/-- The scale of the scores. -/
def scl : EReal := Ideal.ofBits .f32 0x3DB504F3#32

/-- A score kept when the key is within 64 rows of the query. -/
def band (q : Fin 128 → EReal) (k : Fin 128 → Fin 128 → EReal) (i j : Fin 128) : EReal :=
  if i.val ≤ j.val + 64 ∧ j.val ≤ i.val + 64 then (∑ d, q d * k j d) * scl else ⊥

/-- The largest score of query row `i`. -/
def bandMax (q : Fin 128 → EReal) (k : Fin 128 → Fin 128 → EReal) (i : Fin 128) : EReal :=
  Finset.univ.fold max ⊥ (band q k i)

/-- The exponential of a score less the largest. -/
def bandExp (q : Fin 128 → EReal) (k : Fin 128 → Fin 128 → EReal) (i j : Fin 128) : EReal :=
  Ideal.exp (band q k i j - bandMax q k i)

/-- The sum of the exponentials. -/
def bandSum (q : Fin 128 → EReal) (k : Fin 128 → Fin 128 → EReal) (i : Fin 128) : EReal := ∑ j, bandExp q k i j

/-- The values weighted by the exponentials. -/
def bandOut (q : Fin 128 → EReal) (k v : Fin 128 → Fin 128 → EReal) (i d : Fin 128) : EReal := ∑ j, bandExp q k i j * v j d

/-- Row `j` of a window of 128 rows beginning at `o`. -/
def inWin {N : ℕ} (o : ℕ) (h : o + 128 ≤ N) (j : Fin 128) : Fin N := ⟨o + j.val, by omega⟩

theorem inWin_inj {N : ℕ} (o : ℕ) (h : o + 128 ≤ N) : Function.Injective (inWin o h) := fun a b e => by
  have := congrArg Fin.val e
  exact Fin.ext (by simpa [inWin] using this)

/-- A row outside the window is above it or below it. -/
theorem not_win {N : ℕ} (o : ℕ) (h : o + 128 ≤ N) (x : Fin N) (hx : x ∉ Set.range (inWin o h)) : x.val < o ∨ o + 128 ≤ x.val := by
  by_contra hc
  exact hx ⟨⟨x.val - o, by omega⟩, Fin.ext (by show o + (x.val - o) = x.val; omega)⟩

/-- A sum of terms that vanish outside a window is the sum over the window. -/
theorem sum_win {N : ℕ} (o : ℕ) (h : o + 128 ≤ N) (f : Fin N → EReal) (g : Fin 128 → EReal)
    (h0 : ∀ x, x.val < o ∨ o + 128 ≤ x.val → f x = 0) (hg : ∀ j, f (inWin o h j) = g j) : ∑ x, f x = ∑ j, g j :=
  (Fintype.sum_of_injective (inWin o h) (inWin_inj o h) g f (fun x hx => h0 x (not_win o h x hx)) (fun j => (hg j).symm)).symm

/-- A maximum of terms that are `-∞` outside a window is the maximum over the window. -/
theorem max_win {N : ℕ} (o : ℕ) (h : o + 128 ≤ N) (f : Fin N → EReal) (g : Fin 128 → EReal)
    (h0 : ∀ x, x.val < o ∨ o + 128 ≤ x.val → f x = ⊥) (hg : ∀ j, f (inWin o h j) = g j) :
    Finset.univ.fold max ⊥ f = Finset.univ.fold max ⊥ g := by
  apply le_antisymm
  · refine (Finset.fold_max_le _).mpr ⟨bot_le, fun x _ => ?_⟩
    by_cases hx : x ∈ Set.range (inWin o h)
    · obtain ⟨j, rfl⟩ := hx
      exact (Finset.le_fold_max _).mpr (Or.inr ⟨j, Finset.mem_univ _, le_of_eq (hg j)⟩)
    · rw [h0 x (not_win o h x hx)]
      exact bot_le
  · exact (Finset.fold_max_le _).mpr ⟨bot_le, fun j _ => (Finset.le_fold_max _).mpr (Or.inr ⟨inWin o h j, Finset.mem_univ _, le_of_eq (hg j).symm⟩)⟩

/-- A masked score weighs nothing. -/
theorem exp_bot (m : EReal) : Ideal.exp (⊥ - m) = 0 := by
  rw [EReal.bot_sub]
  rfl

/-- A finite nonnegative factor moves out of a sum. -/
theorem sum_scl {n : ℕ} (a : EReal) (h0 : 0 ≤ a) (ht : a ≠ ⊤) (f : Fin n → EReal) : ∑ i, f i * a = (∑ i, f i) * a := by
  classical
  induction (Finset.univ : Finset (Fin n)) using Finset.induction_on with
  | empty => simp
  | insert i s hi ih =>
    rw [Finset.sum_insert hi, Finset.sum_insert hi, ih, EReal.right_distrib_of_nonneg_of_ne_top h0 ht]

/-- Turning a scaled row scales the turned row. -/
theorem turn_mul (u : Fin 128 → EReal) (a : EReal) (j : Fin 128) : turn (fun d => u d * a) j = turn u j * a := by
  unfold turn
  split
  · exact (EReal.neg_mul _ _).symm
  split
  · rfl
  · exact (zero_mul a).symm

/-- Rotating a row scaled by a finite nonnegative factor scales the rotated row. -/
theorem roped_mul (u c s : Fin 128 → EReal) (a : EReal) (h0 : 0 ≤ a) (ht : a ≠ ⊤) (j : Fin 128) :
    roped (fun d => u d * a) c s j = roped u c s j * a := by
  unfold roped
  rw [turn_mul, EReal.right_distrib_of_nonneg_of_ne_top h0 ht, mul_right_comm (u j), mul_right_comm (turn u j)]

/-- The scale is finite and nonnegative. -/
theorem scl_pos : 0 ≤ scl ∧ scl ≠ ⊤ := by
  have e : scl = (((11863283 : ℝ) * 2 ^ (-27 : ℤ) : ℝ) : EReal) := by
    simp [scl, Ideal.ofBits, Ideal.ieee, -EReal.coe_mul]
  rw [e]
  exact ⟨EReal.coe_nonneg.mpr (by positivity), EReal.coe_ne_top _⟩

/-- The product with the quarter turn's matrix is the quarter turn. -/
theorem sum_turn (u : Fin 128 → EReal) (m : Fin 128 → Fin 128 → EReal)
    (hm : ∀ a j, m a j = if j.val < 16 ∧ a.val = j.val + 16 then -1 else if (16 ≤ j.val ∧ j.val < 32) ∧ a.val + 16 = j.val then 1 else 0)
    (j : Fin 128) : ∑ a, u a * m a j = turn u j := by
  unfold turn
  split
  · rename_i h
    rw [Finset.sum_eq_single (⟨(j.val + 16) % 128, Nat.mod_lt _ (by omega)⟩ : Fin 128)]
    · rw [hm, if_pos ⟨h, by show (j.val + 16) % 128 = _; omega⟩, mul_neg, mul_one]
    · intro b _ hb
      have : b.val ≠ j.val + 16 := fun e => hb (Fin.ext (by show b.val = (j.val + 16) % 128; omega))
      rw [hm, if_neg (by omega), if_neg (by omega), mul_zero]
    · exact fun hn => absurd (Finset.mem_univ _) hn
  split
  · rename_i h h'
    rw [Finset.sum_eq_single (⟨j.val - 16, by omega⟩ : Fin 128)]
    · rw [hm, if_neg (by omega), if_pos ⟨⟨by omega, h'⟩, by show j.val - 16 + 16 = _; omega⟩, mul_one]
    · intro b _ hb
      have : b.val + 16 ≠ j.val := fun e => hb (Fin.ext (by show b.val = j.val - 16; omega))
      rw [hm, if_neg (by omega), if_neg (by omega), mul_zero]
    · exact fun hn => absurd (Finset.mem_univ _) hn
  · rename_i h h'
    exact Finset.sum_eq_zero fun b _ => by rw [hm, if_neg (by omega), if_neg (by omega), mul_zero]

/-- The mean of the squares as a product with 1/128 or as a quotient by 128. -/
theorem mean_bits (a : EReal) : a * Ideal.ofBits .f32 0x3C000000#32 = Ideal.div a (Ideal.ofBits .f32 0x43000000#32) := by
  have e1 : Ideal.ofBits .f32 0x43000000#32 = ((128 : ℝ) : EReal) := by
    simp [Ideal.ofBits, Ideal.ieee, -EReal.coe_mul]
    norm_num
  have e2 : Ideal.ofBits .f32 0x3C000000#32 = (((128 : ℝ)⁻¹ : ℝ) : EReal) := by
    simp [Ideal.ofBits, Ideal.ieee, -EReal.coe_mul]
    norm_num
  have h0 : ((128 : ℝ) : EReal) ≠ 0 := by
    rw [← EReal.coe_zero]
    exact fun h => by have := EReal.coe_injective h; norm_num at this
  rw [e1, e2, Ideal.div, if_neg h0, EReal.coe_inv]

/-- Minus one, as the kernel's constant. -/
theorem neg_one_bits : Ideal.ofBits .f32 0xBF800000#32 = (-1 : EReal) := by
  have e : Ideal.ofBits .f32 0xBF800000#32 = ((-(1 : ℝ) : ℝ) : EReal) := by
    simp [Ideal.ofBits, Ideal.ieee, -EReal.coe_mul, -EReal.coe_neg]
    norm_num
  rw [e, EReal.coe_neg, EReal.coe_one]

end Cert.Layer

end
-- ==== Proof.AttCBits.lean ====
/-
  The word comparisons of the third attention group's kernel, decided over its rows and lanes.
-/
module

public import Idealize.ShloMosaic.Lib.Pointwise

@[expose] public section

noncomputable section

namespace Cert.AttCIdeal.Val

open Idealize.ShloMosaic

theorem low_bits : ∀ a j : Fin 128, IntOp.andi (IntOp.cmpi .slt (BitVec.ofNat 32 j.val) 16#32)
      (IntOp.cmpi .eq (BitVec.ofNat 32 a.val) (IntOp.addi (BitVec.ofNat 32 j.val) 16#32))
    = BitVec.ofBool (decide (j.val < 16 ∧ a.val = j.val + 16)) := by
  decide +kernel

theorem high_bits : ∀ a j : Fin 128, IntOp.andi (IntOp.andi (IntOp.cmpi .sge (BitVec.ofNat 32 j.val) 16#32) (IntOp.cmpi .slt (BitVec.ofNat 32 j.val) 32#32))
      (IntOp.cmpi .eq (BitVec.ofNat 32 a.val) (IntOp.subi (BitVec.ofNat 32 j.val) 16#32))
    = BitVec.ofBool (decide ((16 ≤ j.val ∧ j.val < 32) ∧ a.val + 16 = j.val)) := by
  decide +kernel

theorem bias_bits : ∀ (r : Fin 128) (j : Fin 256),
    (IntOp.cmpi .sge (BitVec.ofNat 32 j.val) 192#32 = BitVec.ofBool (decide (192 ≤ j.val))
      ∧ IntOp.cmpi .slt (BitVec.ofNat 32 j.val) 64#32 = BitVec.ofBool (decide (j.val < 64)))
    ∧ IntOp.cmpi .slt (IntOp.subi (BitVec.ofNat 32 j.val) (BitVec.ofNat 32 r.val)) 0#32 = BitVec.ofBool (decide (j.val < r.val))
      ∧ IntOp.cmpi .sgt (IntOp.subi (BitVec.ofNat 32 j.val) (BitVec.ofNat 32 r.val)) 128#32 = BitVec.ofBool (decide (r.val + 128 < j.val)) := by
  decide +kernel

end Cert.AttCIdeal.Val

end
-- ==== Proof.AttCEntry.lean ====
module

public import proofs.«01_k».proof.Proof.Spec
public import proofs.«01_k».proof.Proof.AttForm
public import proofs.«01_k».proof.Proof.AttCBits
public import proofs.«01_k».proof.Defs
public import proofs.«01_k».proof.Proof.Gen.AttCIdeal.Value
public import Idealize.ShloMosaic.Lib.StableHlo.ReadAt
public import Idealize.ShloMosaic.Lib.Tactic
public import Idealize.ShloMosaic.Lib.Pipeline.ReadBack

@[expose] public section

set_option maxRecDepth 16384

noncomputable section

namespace Cert.AttCIdeal.Val

open Cert.AttCIdeal Cert.AttCIdeal.Gen Cert.Layer Idealize.ShloMosaic Idealize.ShloMosaic.TcCoe Idealize.SL.Sem
open Idealize.ShloMosaic.Pipeline (Dat)

/-- The entry `(a, j)` of the kernel's quarter-turn matrix, as it computes it. -/
def quarter (a j : Fin 128) : EReal :=
  Scalar.select (IntOp.andi (IntOp.cmpi .slt (BitVec.ofNat 32 j.val) 16#32)
      (IntOp.cmpi .eq (BitVec.ofNat 32 a.val) (IntOp.addi (BitVec.ofNat 32 j.val) 16#32))) (Ideal.ofBits .f32 0xBF800000#32)
    (Scalar.select (IntOp.andi (IntOp.andi (IntOp.cmpi .sge (BitVec.ofNat 32 j.val) 16#32) (IntOp.cmpi .slt (BitVec.ofNat 32 j.val) 32#32))
      (IntOp.cmpi .eq (BitVec.ofNat 32 a.val) (IntOp.subi (BitVec.ofNat 32 j.val) 16#32))) (1 : EReal) 0)

/-- A selection by a decided condition. -/
theorem select_if {α : Type} (p : Prop) [Decidable p] (x y : α) : Scalar.select (BitVec.ofBool (decide p)) x y = if p then x else y := by
  by_cases h : p
  · rw [if_pos h, decide_eq_true h]
    rfl
  · rw [if_neg h, decide_eq_false h]
    rfl

theorem quarter_eq (a j : Fin 128) :
    quarter a j = if j.val < 16 ∧ a.val = j.val + 16 then -1 else if (16 ≤ j.val ∧ j.val < 32) ∧ a.val + 16 = j.val then 1 else 0 := by
  unfold quarter
  rw [low_bits, high_bits, select_if, select_if, neg_one_bits]

/-- A head's row after the kernel's normalisation and rotation. -/
theorem roped_at (g : FVec Ideal S1x128 .f32) (cs sn : Vec Ideal S128x128 .f32) (x : Vec Ideal S1x1x128x128 .bf16) (r d : Fin 128) :
    k0_pay58 (F := Ideal) k0_pay9 k0_pay10 g cs sn x (ix3 0 r d)
      = roped (rmsRow (fun j => x (ix4 0 0 r j)) (fun j => g (ix2 0 j))) (fun j => cs (ix2 r j)) (fun j => sn (ix2 r j)) d := by
  pointwise [k0_pay58, k0_pay9, k0_pay10, k0_pay56, k0_pay57]
  unfold roped rmsRow
  simp only [← mean_bits]
  exact congrArg₂ (· + ·) rfl (congrArg (· * _) (sum_turn (fun j => _) quarter quarter_eq d))

theorem mask_bot : Named.named (F := Ideal) κ "mask" (φ := .f32) 4048155338#32 = ⊥ := rfl

/-- The bias added to a score: nothing where the key is within 64 rows of the query and inside the window, else `-∞`. -/
theorem bias_at (r : Fin 128) (j : Fin 256) : k0_pay8 (F := Ideal) kernelRun0_A.sl.v4 k0_pay4 192#32 (ix3 0 r j)
    = if 64 ≤ j.val ∧ j.val < 192 ∧ r.val ≤ j.val ∧ j.val ≤ r.val + 128 then 0 else ⊥ := by
  pointwise [k0_pay8, k0_pay4, k0_pay3, kernelRun0_A.sl.v4]
  rw [(bias_bits r j).1.1, (bias_bits r j).1.2, (bias_bits r j).2.1, (bias_bits r j).2.2, select_if, select_if, select_if, select_if,
    mask_bot]
  by_cases h1 : 192 ≤ j.val
  · rw [if_pos h1, if_neg (by omega)]
  by_cases h2 : j.val < 64
  · rw [if_neg h1, if_pos h2, if_neg (by omega)]
  by_cases h3 : j.val < r.val
  · rw [if_neg h1, if_neg h2, if_pos h3, if_neg (by omega)]
  by_cases h4 : r.val + 128 < j.val
  · rw [if_neg h1, if_neg h2, if_neg h3, if_pos h4, if_neg (by omega)]
  · rw [if_neg h1, if_neg h2, if_neg h3, if_neg h4, if_pos (by omega)]

theorem gainq_at (g : Vec Ideal S1x128 .f32) (j : Fin 128) : k0_pay54 (F := Ideal) g (ix2 0 j) = g (ix2 0 j) * scl := by
  pointwise [k0_pay54]
  rfl

theorem gaink_at (g : Vec Ideal S1x128 .f32) (j : Fin 128) : k0_pay55 (F := Ideal) g (ix2 0 j) = g (ix2 0 j) := by
  pointwise [k0_pay55]

theorem vals_at (x : Vec Ideal S1x1x128x128 .bf16) (r d : Fin 128) : k0_pay62 (F := Ideal) x (ix3 0 r d) = x (ix4 0 0 r d) := by
  pointwise [k0_pay62]

theorem ones_at (r : Fin 320) (d : Fin 128) : k0_pay17 (F := Ideal) (ix3 0 r d) = 1 := by
  pointwise [k0_pay17]

theorem zeros_at (r : Fin 64) (d : Fin 128) : k0_pay13 (F := Ideal) (ix3 0 r d) = 0 := by
  pointwise [k0_pay13, k0_pay11]

theorem zeros_below_at (r d : Fin 128) : k0_pay14 (F := Ideal) k0_pay12 (ix3 0 r d) = 0 := by
  pointwise [k0_pay14, k0_pay12]

theorem ml0_at (r d : Fin 128) : k0_pay2 (F := Ideal) (ix4 0 0 r d) = 0 := by
  pointwise [k0_pay2]

theorem mlinit_at (x : Vec Ideal S1x1x128x128 .f32) (r d : Fin 128) : k0_pay98 (F := Ideal) x (ix2 r d) = x (ix4 0 0 r d) := by
  pointwise [k0_pay98]

theorem mlout_at (x : FVec Ideal S128x128 .f32) (r d : Fin 128) : k0_pay1 (F := Ideal) x (ix4 0 0 r d) = x (ix2 r d) := by
  pointwise [k0_pay1]

section Head

variable (b : Vec Ideal S1x128x256 .f32) (q : Vec Ideal S1x128x128 .bf16) (k : Vec Ideal S1x256x128 .bf16) (v : Vec Ideal S1x256x256 .bf16)
  (q' : Fin 128 → Fin 128 → EReal) (k' v' : Fin 128 → Fin 128 → EReal)

/-- What a head's step finds in its bias, queries, keys and values. -/
structure Head : Prop where
  hb : ∀ r x, b (ix3 0 r x) = if 64 ≤ x.val ∧ x.val < 192 ∧ r.val ≤ x.val ∧ x.val ≤ r.val + 128 then 0 else ⊥
  hq : ∀ r d, q (ix3 0 r d) = q' r d * scl
  hk : ∀ j d, k (ix3 0 (inWin 64 (by omega) j) d) = k' j d
  hv : ∀ j d, v (ix3 0 (inWin 64 (by omega) j) (inWin 0 (by omega) d)) = v' j d
  h1 : ∀ j d, v (ix3 0 (inWin 64 (by omega) j) (inWin 128 (by omega) d)) = 1

/-- The score of query row `r` and key row `x` of the window, as the kernel computes it. -/
def ksc (r : Fin 128) (x : Fin 256) : EReal := (∑ d : Fin 128, q (ix3 0 r d) * k (ix3 0 x d)) + b (ix3 0 r x)

theorem ksc_in (h : Head b q k v q' k' v') (r j : Fin 128) : ksc b q k r (inWin 64 (by omega) j) = band (q' r) k' r j := by
  unfold ksc band
  rw [h.hb]
  by_cases hc : r.val ≤ j.val + 64 ∧ j.val ≤ r.val + 64
  · rw [if_pos hc, if_pos (by show 64 ≤ 64 + j.val ∧ 64 + j.val < 192 ∧ r.val ≤ 64 + j.val ∧ 64 + j.val ≤ r.val + 128; omega), add_zero,
      ← sum_scl _ scl_pos.1 scl_pos.2]
    exact Finset.sum_congr rfl fun d _ => by rw [h.hq, h.hk, mul_right_comm]
  · rw [if_neg hc, if_neg (by show ¬(64 ≤ 64 + j.val ∧ 64 + j.val < 192 ∧ r.val ≤ 64 + j.val ∧ 64 + j.val ≤ r.val + 128); omega)]
    exact EReal.add_bot _

theorem ksc_out (h : Head b q k v q' k' v') (r : Fin 128) (x : Fin 256) (hx : x.val < 64 ∨ 64 + 128 ≤ x.val) : ksc b q k r x = ⊥ := by
  unfold ksc
  rw [h.hb, if_neg (by omega)]
  exact EReal.add_bot _

theorem score_at (r : Fin 128) (x : Fin 256) : k0_pay99 (F := Ideal) b q k (ix2 r x) = ksc b q k r x := by
  unfold ksc
  pointwise [k0_pay99, k0_pay97]

/-- The largest score of a row. -/
theorem max_at (h : Head b q k v q' k' v') (r : Fin 128) : k0_pay100 (F := Ideal) b q k (ix2 r 0) = bandMax (q' r) k' r := by
  have e : k0_pay100 (F := Ideal) b q k (ix2 r 0)
      = Finset.univ.fold max (Ideal.ofBits .f32 0xFF800000#32) (fun x : Fin 256 => ksc b q k r x) := by
    unfold ksc
    pointwise [k0_pay100, k0_pay99, k0_pay97]
  rw [e, show Ideal.ofBits .f32 0xFF800000#32 = ⊥ by simp [Ideal.ofBits, Ideal.ieee]]
  exact max_win 64 (by omega) _ _ (fun x hx => ksc_out b q k v q' k' v' h r x hx) (fun j => ksc_in b q k v q' k' v' h r j)

/-- The exponential of a score less the largest. -/
theorem exp_at (h : Head b q k v q' k' v') (r : Fin 128) (x : Fin 256) :
    k0_pay101 (F := Ideal) b q k (ix2 r x) = Ideal.exp (ksc b q k r x - bandMax (q' r) k' r) := by
  rw [← max_at b q k v q' k' v' h, ← score_at]
  pointwise [k0_pay101]

/-- A sum over the window's rows of exponentials times `w` is the sum over the keys. -/
theorem expsum (h : Head b q k v q' k' v') (r : Fin 128) (w : Fin 256 → EReal) (w' : Fin 128 → EReal)
    (hw : ∀ j, w (inWin 64 (by omega) j) = w' j) :
    ∑ x : Fin 256, k0_pay101 (F := Ideal) b q k (ix2 r x) * w x = ∑ j, bandExp (q' r) k' r j * w' j := by
  refine sum_win 64 (by omega) _ _ (fun x hx => ?_) (fun j => ?_)
  · rw [exp_at b q k v q' k' v' h, ksc_out b q k v q' k' v' h r x hx, exp_bot, zero_mul]
  · rw [exp_at b q k v q' k' v' h, ksc_in b q k v q' k' v' h, hw]
    rfl

/-- The values weighted by the exponentials. -/
theorem out_at (h : Head b q k v q' k' v') (r d : Fin 128) :
    k0_pay103 (F := Ideal) (k0_pay101 b q k) v (ix4 0 0 r d) = bandOut (q' r) k' v' r d := by
  have e : k0_pay103 (F := Ideal) (k0_pay101 b q k) v (ix4 0 0 r d)
      = ∑ x : Fin 256, k0_pay101 (F := Ideal) b q k (ix2 r x) * v (ix3 0 x ⟨d.val, by omega⟩) := by
    pointwise [k0_pay103, k0_pay102]
  rw [e]
  refine expsum b q k v q' k' v' h r _ _ (fun j => (congrArg (fun t => v (ix3 0 _ t)) (Fin.ext ?_)).trans (h.hv j d))
  show d.val = 0 + d.val
  omega

/-- The step's statistics: lane `n` the maximum, lane `8 + n` the sum, the others as they were. -/
theorem step_at (h : Head b q k v q' k' v') (ml : FVec Ideal S128x128 .f32) (n : ℕ) (hn : n < 8) (r d : Fin 128) :
    k0_pay104 (F := Ideal) kernelRun0_A.sl.v199 ml (BitVec.ofNat 32 n) (k0_pay100 b q k) (k0_pay101 b q k) v (ix2 r d)
      = if d.val = n then bandMax (q' r) k' r else if d.val = 8 + n then bandSum (q' r) k' r else ml (ix2 r d) := by
  have e : k0_pay104 (F := Ideal) kernelRun0_A.sl.v199 ml (BitVec.ofNat 32 n) (k0_pay100 b q k) (k0_pay101 b q k) v (ix2 r d)
      = Scalar.select (IntOp.cmpi .eq (BitVec.ofNat 32 d.val) (BitVec.ofNat 32 n)) (k0_pay100 (F := Ideal) b q k (ix2 r 0))
        (Scalar.select (IntOp.cmpi .eq (BitVec.ofNat 32 d.val) (Scalar.addi 8#32 (BitVec.ofNat 32 n)))
          (∑ x : Fin 256, k0_pay101 (F := Ideal) b q k (ix2 r x) * v (ix3 0 x ⟨128 + d.val, by omega⟩)) (ml (ix2 r d))) := by
    pointwise [k0_pay104, k0_pay102, kernelRun0_A.sl.v199]
  rw [e, max_at b q k v q' k' v' h, show Scalar.addi 8#32 (BitVec.ofNat 32 n) = BitVec.ofNat 32 (8 + n) from (BitVec.ofNat_add 8 n).symm,
    WordCmp.cmpi_eq_ofNat (by omega) (by omega), WordCmp.cmpi_eq_ofNat (by omega) (by omega), select_if, select_if,
    expsum b q k v q' k' v' h r _ (fun _ => 1) (fun j => h.h1 j d)]
  simp only [mul_one]
  rfl

end Head

end Cert.AttCIdeal.Val

end
-- ==== Proof.AttCCanon.lean ====
module

public import proofs.«01_k».proof.Proof.Spec
public import proofs.«01_k».proof.Defs
public import proofs.«01_k».proof.Proof.AttCRows
public import proofs.«01_k».proof.Proof.AttCEntry
public import proofs.«01_k».proof.Proof.Gen.AttCIdeal.Value
public import Idealize.ShloMosaic.Lib.StableHlo.ReadAt
public import Idealize.ShloMosaic.Lib.Tactic
public import Idealize.ShloMosaic.Lib.Pipeline.ReadBack

@[expose] public section

set_option maxRecDepth 16384

noncomputable section

namespace Cert.AttCIdeal.Val

open Cert.AttCIdeal Cert.AttCIdeal.Gen Cert.Layer Idealize.ShloMosaic Idealize.ShloMosaic.TcCoe Idealize.SL.Sem
open Idealize.ShloMosaic.Pipeline (Dat)

/-! What the scratch arrays hold once the heads' rows are stored. -/

theorem hz2 : (![0, 0] : Fin 2 → ℕ) = fun _ => 0 := by decide

theorem one_row {n k : ℕ} (x : (⟨3, ![1, n, k]⟩ : Shape).Idx) : ∃ (r : Fin n) (d : Fin k), x = ix3 0 r d :=
  ⟨x 1, x 2, (ix3_eta x).symm.trans (congrArg (fun z : Fin 1 => ix3 z (x 1) (x 2)) (Subsingleton.elim (α := Fin 1) (x 0) 0))⟩

theorem other_case {p : Prop} [Decidable p] {t : p → EReal} {z : EReal} (h : ¬p) : z = if h : p then t h else z := by
  rw [dif_neg h]

/-- Row `r` of head `k` of the block `x`. -/
def headRow (x : Vec Ideal S1x1x128x1024 .bf16) (k : Fin 8) (r j : Fin 128) : EReal := x (ix4 0 0 r ⟨k.val * 128 + j.val, by omega⟩)

/-- That row normalised with gain `g` and rotated by the tables. -/
def ropedRow (cs sn : Vec Ideal S128x128 .f32) (x : Vec Ideal S1x1x128x1024 .bf16) (g : Fin 128 → EReal) (k : Fin 8) (r d : Fin 128) : EReal :=
  roped (rmsRow (headRow x k r) g) (fun j => cs (ix2 r j)) (fun j => sn (ix2 r j)) d

theorem colsOf_at (a : Memref sig .tc .vmem S1x1x128x1024 .bf16) (ha : a.IsWhole) (x : Vec Ideal S1x1x128x1024 .bf16) (k : ℕ) (r j : Fin 128) :
    colsOf a ha x k (ix4 0 0 r j) = headRow x ⟨k % 8, Nat.mod_lt _ (by omega)⟩ r j := by
  unfold colsOf headRow
  rw [View.readAt_eq_ld, ha.read_unread]
  refine congrArg x (funext fun t => Fin.ext ?_)
  match t with
  | ⟨0, _⟩ => rfl
  | ⟨1, _⟩ => rfl
  | ⟨2, _⟩ => show 0 + 1 * r.val = r.val; omega
  | ⟨3, _⟩ => show k % 8 * 128 + 1 * j.val = k % 8 * 128 + j.val; omega

theorem tabOf_eq (a : Memref sig .tc .vmem S128x128 .f32) (ha : a.IsWhole) (x : Vec Ideal S128x128 .f32) : tabOf a ha x = x := by
  unfold tabOf
  rw [View.readAt_eq_ld, ha.read_unread, View.ld_unit_zero (S := S128x128) hz2]

theorem gainOf_eq (a : Memref sig .tc .vmem S1x128 .f32) (ha : a.IsWhole) (x : Vec Ideal S1x128 .f32) : gainOf a ha x = x := by
  unfold gainOf
  rw [View.readAt_eq_ld, ha.read_unread, View.ld_unit_zero (S := S1x128) hz2]

section Canon

variable (c : Dev nD) (arg3 : Memref sig .tc .vmem S1x1x128x1024 .bf16) (harg3 : arg3.IsWhole)
  (arg4 : Memref sig .tc .vmem S1x1x128x1024 .bf16) (harg4 : arg4.IsWhole)
  (arg5 : Memref sig .tc .vmem S1x1x128x1024 .bf16) (harg5 : arg5.IsWhole)
  (arg6 : Memref sig .tc .vmem S128x128 .f32) (harg6 : arg6.IsWhole)
  (arg7 : Memref sig .tc .vmem S128x128 .f32) (harg7 : arg7.IsWhole)
  (arg8 : Memref sig .tc .vmem S1x128 .f32) (harg8 : arg8.IsWhole)
  (arg9 : Memref sig .tc .vmem S1x128 .f32) (harg9 : arg9.IsWhole)
  (x0 x1 x2 : Vec Ideal S1x1x128x1024 .bf16) (x3 x4 : Vec Ideal S128x128 .f32) (x5 x6 : Vec Ideal S1x128 .f32)

/-- The scratch of queries, over its first 128 rows. -/
def gridQ (y : S8x256x128.Idx) : EReal :=
  ropedRow x3 x4 x0 (fun j => x5 (ix2 0 j) * scl) (y 0) ⟨(y 1).val % 128, Nat.mod_lt _ (by omega)⟩ (y 2)

/-- The scratch of keys: zeros around the rows. -/
def gridK (y : S8x320x128.Idx) : EReal :=
  if h : 64 ≤ (y 1).val ∧ (y 1).val < 192 then ropedRow x3 x4 x1 (fun j => x6 (ix2 0 j)) (y 0) ⟨(y 1).val - 64, by omega⟩ (y 2) else 0

/-- The scratch of values: zeros around the rows, and ones beside them. -/
def gridV (y : S8x320x256.Idx) : EReal :=
  if h' : (y 2).val < 128 then
    if h : 64 ≤ (y 1).val ∧ (y 1).val < 192 then headRow x2 (y 0) ⟨(y 1).val - 64, by omega⟩ ⟨(y 2).val, h'⟩ else 0
  else 1

theorem rows_at (a : Memref sig .tc .vmem S1x1x128x1024 .bf16) (ha : a.IsWhole) (x : Vec Ideal S1x1x128x1024 .bf16) (g : FVec Ideal S1x128 .f32)
    (k : ℕ) (r d : Fin 128) :
    k0_pay58 (F := Ideal) k0_pay9 k0_pay10 g (tabOf arg6 harg6 x3) (tabOf arg7 harg7 x4) (colsOf a ha x k) (ix3 0 r d)
      = ropedRow x3 x4 x (fun j => g (ix2 0 j)) ⟨k % 8, Nat.mod_lt _ (by omega)⟩ r d := by
  rw [tabOf_eq, tabOf_eq, roped_at]
  unfold ropedRow
  exact congrArg (fun u => roped (rmsRow u _) _ _ d) (funext fun j => colsOf_at a ha x k r j)

theorem pieceQ (k : ℕ) (x : S1x128x128.Idx) : (pcQ arg3 harg3 arg6 harg6 arg7 harg7 arg8 harg8 x0 x3 x4 x5 k).2 x
    = gridQ x0 x3 x4 x5 ((pcQ arg3 harg3 arg6 harg6 arg7 harg7 arg8 harg8 x0 x3 x4 x5 k).1.toLoadRect.idx x) := by
  obtain ⟨r, d, rfl⟩ := one_row x
  refine (rows_at arg6 harg6 arg7 harg7 x3 x4 arg3 harg3 x0 _ k r d).trans ?_
  unfold gridQ
  have er : (⟨(0 + 1 * r.val) % 128, Nat.mod_lt _ (by omega)⟩ : Fin 128) = r := Fin.ext (by show (0 + 1 * r.val) % 128 = _; omega)
  have ed : (⟨0 + 1 * d.val, by omega⟩ : Fin 128) = d := Fin.ext (by show 0 + 1 * d.val = _; omega)
  show _ = ropedRow x3 x4 x0 _ ⟨k % 8 + 1 * 0, _⟩ ⟨(0 + 1 * r.val) % 128, _⟩ ⟨0 + 1 * d.val, _⟩
  rw [er, ed]
  refine congrArg (fun g => ropedRow x3 x4 x0 g _ r d) (funext fun j => ?_)
  rw [gainOf_eq, gainq_at]

/-- The queries a later read finds. -/
theorem canonQ (y : S8x256x128.Idx) (hy : (y 1).val < 128) :
    View.canon (kernelRun0_A.sl.HS0_8 (F := Ideal) c arg3 harg3 arg6 harg6 arg7 harg7 arg8 harg8 x0 x3 x4 x5) y = gridQ x0 x3 x4 x5 y := by
  rw [listQ]
  refine View.canon_apply_of_pieces (Val := Elt Ideal) (e := .bf16) (gridQ x0 x3 x4 x5) _ ?_ y ?_
  · intro p hp x
    obtain ⟨k, -, rfl⟩ := List.mem_map.mp hp
    exact pieceQ arg3 harg3 arg6 harg6 arg7 harg7 arg8 harg8 x0 x3 x4 x5 k x
  · have y0 : (y 0).val < 8 := (y 0).isLt
    have y2 : (y 2).val < 128 := (y 2).isLt
    refine ⟨_, List.mem_map.mpr ⟨(y 0).val, by simp only [List.mem_reverse, List.mem_range]; omega, rfl⟩, (LoadRect.mem_set _).mpr fun b => ?_⟩
    match b with
    | ⟨0, _⟩ => exact ⟨0, Nat.zero_lt_one, show (y 0).val = (y 0).val % 8 + 1 * 0 by omega⟩
    | ⟨1, _⟩ => exact ⟨(y 1).val, hy, show (y 1).val = 0 + 1 * (y 1).val by omega⟩
    | ⟨2, _⟩ => exact ⟨(y 2).val, y2, show (y 2).val = 0 + 1 * (y 2).val by omega⟩

theorem pieceK (k : ℕ) (x : S1x128x128.Idx) : (pcK arg4 harg4 arg6 harg6 arg7 harg7 arg9 harg9 x1 x3 x4 x6 k).2 x
    = gridK x1 x3 x4 x6 ((pcK arg4 harg4 arg6 harg6 arg7 harg7 arg9 harg9 x1 x3 x4 x6 k).1.toLoadRect.idx x) := by
  obtain ⟨r, d, rfl⟩ := one_row x
  refine (rows_at arg6 harg6 arg7 harg7 x3 x4 arg4 harg4 x1 _ k r d).trans ?_
  have er : (⟨64 + 1 * r.val - 64, by omega⟩ : Fin 128) = r := Fin.ext (by show 64 + 1 * r.val - 64 = _; omega)
  have ed : (⟨0 + 1 * d.val, by omega⟩ : Fin 128) = d := Fin.ext (by show 0 + 1 * d.val = _; omega)
  refine Eq.trans ?_ (dif_pos (show 64 ≤ 64 + 1 * r.val ∧ 64 + 1 * r.val < 192 by omega)).symm
  show _ = ropedRow x3 x4 x1 _ ⟨k % 8 + 1 * 0, _⟩ ⟨64 + 1 * r.val - 64, _⟩ ⟨0 + 1 * d.val, _⟩
  rw [er, ed]
  refine congrArg (fun g => ropedRow x3 x4 x1 g _ r d) (funext fun j => ?_)
  rw [gainOf_eq, gaink_at]

theorem pieceKz (k : ℕ) (p : View.Piece (Elt Ideal) S8x320x128 .bf16) (hp : p ∈ pcKz k) (x : p.1.toLoadRect.shape.Idx) :
    p.2 x = gridK x1 x3 x4 x6 (p.1.toLoadRect.idx x) := by
  rcases List.mem_cons.mp hp with rfl | hp
  · obtain ⟨r, d, rfl⟩ := one_row (n := 128) (k := 128) x
    refine (zeros_below_at r d).trans ?_
    unfold gridK
    refine other_case ?_
    show ¬(64 ≤ 192 + 1 * r.val ∧ 192 + 1 * r.val < 192)
    omega
  · obtain rfl := List.mem_singleton.mp hp
    obtain ⟨r, d, rfl⟩ := one_row (n := 64) (k := 128) x
    refine (zeros_at r d).trans ?_
    unfold gridK
    refine other_case ?_
    show ¬(64 ≤ 0 + 1 * r.val ∧ 0 + 1 * r.val < 192)
    omega

/-- The keys a later read finds. -/
theorem canonK (y : S8x320x128.Idx) :
    View.canon (kernelRun0_A.sl.HS1_24 (F := Ideal) c arg4 harg4 arg6 harg6 arg7 harg7 arg9 harg9 x1 x3 x4 x6) y = gridK x1 x3 x4 x6 y := by
  rw [listK]
  refine View.canon_apply_of_pieces (Val := Elt Ideal) (e := .bf16) (gridK x1 x3 x4 x6) _ ?_ y ?_
  · intro p hp x
    rcases List.mem_append.mp hp with hp | hp
    · obtain ⟨k, -, rfl⟩ := List.mem_map.mp hp
      exact pieceK arg4 harg4 arg6 harg6 arg7 harg7 arg9 harg9 x1 x3 x4 x6 k x
    · obtain ⟨k, -, hp⟩ := List.mem_flatMap.mp hp
      exact pieceKz x1 x3 x4 x6 k p hp x
  · have y0 : (y 0).val < 8 := (y 0).isLt
    have y1 : (y 1).val < 320 := (y 1).isLt
    have y2 : (y 2).val < 128 := (y 2).isLt
    have hk : (y 0).val ∈ (List.range 8).reverse := by simp only [List.mem_reverse, List.mem_range]; omega
    by_cases h : 64 ≤ (y 1).val ∧ (y 1).val < 192
    · refine ⟨_, List.mem_append_left _ (List.mem_map.mpr ⟨(y 0).val, hk, rfl⟩), (LoadRect.mem_set _).mpr fun b => ?_⟩
      match b with
      | ⟨0, _⟩ => exact ⟨0, Nat.zero_lt_one, show (y 0).val = (y 0).val % 8 + 1 * 0 by omega⟩
      | ⟨1, _⟩ => exact ⟨(y 1).val - 64, show _ < 128 by omega, show (y 1).val = 64 + 1 * ((y 1).val - 64) by omega⟩
      | ⟨2, _⟩ => exact ⟨(y 2).val, y2, show (y 2).val = 0 + 1 * (y 2).val by omega⟩
    by_cases h' : (y 1).val < 64
    · refine ⟨_, List.mem_append_right _ (List.mem_flatMap.mpr ⟨(y 0).val, hk, List.mem_cons_of_mem _ (List.mem_singleton.mpr rfl)⟩),
        (LoadRect.mem_set _).mpr fun b => ?_⟩
      match b with
      | ⟨0, _⟩ => exact ⟨0, Nat.zero_lt_one, show (y 0).val = (y 0).val % 8 + 1 * 0 by omega⟩
      | ⟨1, _⟩ => exact ⟨(y 1).val, h', show (y 1).val = 0 + 1 * (y 1).val by omega⟩
      | ⟨2, _⟩ => exact ⟨(y 2).val, y2, show (y 2).val = 0 + 1 * (y 2).val by omega⟩
    · refine ⟨_, List.mem_append_right _ (List.mem_flatMap.mpr ⟨(y 0).val, hk, List.mem_cons_self⟩),
        (LoadRect.mem_set _).mpr fun b => ?_⟩
      match b with
      | ⟨0, _⟩ => exact ⟨0, Nat.zero_lt_one, show (y 0).val = (y 0).val % 8 + 1 * 0 by omega⟩
      | ⟨1, _⟩ => exact ⟨(y 1).val - 192, show _ < 128 by omega, show (y 1).val = 192 + 1 * ((y 1).val - 192) by omega⟩
      | ⟨2, _⟩ => exact ⟨(y 2).val, y2, show (y 2).val = 0 + 1 * (y 2).val by omega⟩

theorem pieceV (k : ℕ) (x : S1x128x128.Idx) : (pcV arg5 harg5 x2 k).2 x = gridV x2 ((pcV arg5 harg5 x2 k).1.toLoadRect.idx x) := by
  obtain ⟨r, d, rfl⟩ := one_row x
  refine (vals_at _ r d).trans ((colsOf_at arg5 harg5 x2 k r d).trans ?_)
  have er : (⟨64 + 1 * r.val - 64, by omega⟩ : Fin 128) = r := Fin.ext (by show 64 + 1 * r.val - 64 = _; omega)
  have ed : (⟨0 + 1 * d.val, by omega⟩ : Fin 128) = d := Fin.ext (by show 0 + 1 * d.val = _; omega)
  refine Eq.trans ?_ (dif_pos (show 0 + 1 * d.val < 128 by omega)).symm
  refine Eq.trans ?_ (dif_pos (show 64 ≤ 64 + 1 * r.val ∧ 64 + 1 * r.val < 192 by omega)).symm
  show _ = headRow x2 ⟨k % 8 + 1 * 0, _⟩ ⟨64 + 1 * r.val - 64, _⟩ ⟨0 + 1 * d.val, _⟩
  rw [er, ed]
  rfl

theorem pieceVz (k : ℕ) (p : View.Piece (Elt Ideal) S8x320x256 .bf16) (hp : p ∈ pcVz k) (x : p.1.toLoadRect.shape.Idx) :
    p.2 x = gridV x2 (p.1.toLoadRect.idx x) := by
  rcases List.mem_cons.mp hp with rfl | hp
  · obtain ⟨r, d, rfl⟩ := one_row (n := 320) (k := 128) x
    refine (ones_at r d).trans ?_
    unfold gridV
    refine other_case ?_
    show ¬(128 + 1 * d.val < 128)
    omega
  rcases List.mem_cons.mp hp with rfl | hp
  · obtain ⟨r, d, rfl⟩ := one_row (n := 128) (k := 128) x
    refine (zeros_below_at r d).trans (Eq.trans ?_ (dif_pos (show 0 + 1 * d.val < 128 by omega)).symm)
    refine other_case ?_
    show ¬(64 ≤ 192 + 1 * r.val ∧ 192 + 1 * r.val < 192)
    omega
  · obtain rfl := List.mem_singleton.mp hp
    obtain ⟨r, d, rfl⟩ := one_row (n := 64) (k := 128) x
    refine (zeros_at r d).trans (Eq.trans ?_ (dif_pos (show 0 + 1 * d.val < 128 by omega)).symm)
    refine other_case ?_
    show ¬(64 ≤ 0 + 1 * r.val ∧ 0 + 1 * r.val < 192)
    omega

/-- The values a later read finds. -/
theorem canonV (y : S8x320x256.Idx) : View.canon (kernelRun0_A.sl.HS2_32 (F := Ideal) c arg5 harg5 x2) y = gridV x2 y := by
  rw [listV]
  refine View.canon_apply_of_pieces (Val := Elt Ideal) (e := .bf16) (gridV x2) _ ?_ y ?_
  · intro p hp x
    rcases List.mem_append.mp hp with hp | hp
    · obtain ⟨k, -, rfl⟩ := List.mem_map.mp hp
      exact pieceV arg5 harg5 x2 k x
    · obtain ⟨k, -, hp⟩ := List.mem_flatMap.mp hp
      exact pieceVz x2 k p hp x
  · have y0 : (y 0).val < 8 := (y 0).isLt
    have y1 : (y 1).val < 320 := (y 1).isLt
    have y2 : (y 2).val < 256 := (y 2).isLt
    have hk : (y 0).val ∈ (List.range 8).reverse := by simp only [List.mem_reverse, List.mem_range]; omega
    by_cases h2 : (y 2).val < 128
    · by_cases h : 64 ≤ (y 1).val ∧ (y 1).val < 192
      · refine ⟨_, List.mem_append_left _ (List.mem_map.mpr ⟨(y 0).val, hk, rfl⟩), (LoadRect.mem_set _).mpr fun b => ?_⟩
        match b with
        | ⟨0, _⟩ => exact ⟨0, Nat.zero_lt_one, show (y 0).val = (y 0).val % 8 + 1 * 0 by omega⟩
        | ⟨1, _⟩ => exact ⟨(y 1).val - 64, show _ < 128 by omega, show (y 1).val = 64 + 1 * ((y 1).val - 64) by omega⟩
        | ⟨2, _⟩ => exact ⟨(y 2).val, h2, show (y 2).val = 0 + 1 * (y 2).val by omega⟩
      by_cases h' : (y 1).val < 64
      · refine ⟨_, List.mem_append_right _ (List.mem_flatMap.mpr ⟨(y 0).val, hk,
          List.mem_cons_of_mem _ (List.mem_cons_of_mem _ (List.mem_singleton.mpr rfl))⟩), (LoadRect.mem_set _).mpr fun b => ?_⟩
        match b with
        | ⟨0, _⟩ => exact ⟨0, Nat.zero_lt_one, show (y 0).val = (y 0).val % 8 + 1 * 0 by omega⟩
        | ⟨1, _⟩ => exact ⟨(y 1).val, h', show (y 1).val = 0 + 1 * (y 1).val by omega⟩
        | ⟨2, _⟩ => exact ⟨(y 2).val, h2, show (y 2).val = 0 + 1 * (y 2).val by omega⟩
      · refine ⟨_, List.mem_append_right _ (List.mem_flatMap.mpr ⟨(y 0).val, hk, List.mem_cons_of_mem _ List.mem_cons_self⟩),
          (LoadRect.mem_set _).mpr fun b => ?_⟩
        match b with
        | ⟨0, _⟩ => exact ⟨0, Nat.zero_lt_one, show (y 0).val = (y 0).val % 8 + 1 * 0 by omega⟩
        | ⟨1, _⟩ => exact ⟨(y 1).val - 192, show _ < 128 by omega, show (y 1).val = 192 + 1 * ((y 1).val - 192) by omega⟩
        | ⟨2, _⟩ => exact ⟨(y 2).val, h2, show (y 2).val = 0 + 1 * (y 2).val by omega⟩
    · refine ⟨_, List.mem_append_right _ (List.mem_flatMap.mpr ⟨(y 0).val, hk, List.mem_cons_self⟩), (LoadRect.mem_set _).mpr fun b => ?_⟩
      match b with
      | ⟨0, _⟩ => exact ⟨0, Nat.zero_lt_one, show (y 0).val = (y 0).val % 8 + 1 * 0 by omega⟩
      | ⟨1, _⟩ => exact ⟨(y 1).val, y1, show (y 1).val = 0 + 1 * (y 1).val by omega⟩
      | ⟨2, _⟩ => exact ⟨(y 2).val - 128, show _ < 128 by omega, show (y 2).val = 128 + 1 * ((y 2).val - 128) by omega⟩

end Canon

end Cert.AttCIdeal.Val

end
-- ==== Proof.AttCHeads.lean ====
module

public import proofs.«01_k».proof.Proof.Spec
public import proofs.«01_k».proof.Defs
public import proofs.«01_k».proof.Proof.AttCCanon
public import proofs.«01_k».proof.Proof.Gen.AttCIdeal.Value
public import Idealize.ShloMosaic.Lib.StableHlo.ReadAt
public import Idealize.ShloMosaic.Lib.Tactic
public import Idealize.ShloMosaic.Lib.Pipeline.ReadBack

@[expose] public section

set_option maxRecDepth 16384

noncomputable section

namespace Cert.AttCIdeal.Val

open Cert.AttCIdeal Cert.AttCIdeal.Gen Cert.Layer Idealize.ShloMosaic Idealize.ShloMosaic.TcCoe Idealize.SL.Sem
open Idealize.ShloMosaic.Pipeline (Dat)

/-! One grid point: the reads of the scratch by each head's step, and what the steps store. -/

theorem hz4 : (![0, 0, 0, 0] : Fin 4 → ℕ) = fun _ => 0 := by decide

section Body

variable (c : Dev nD) (i : grid0.Coords) (arg3 : Memref sig .tc .vmem S1x1x128x1024 .bf16) (harg3 : arg3.IsWhole) (arg4 : Memref sig .tc .vmem S1x1x128x1024 .bf16) (harg4 : arg4.IsWhole) (arg5 : Memref sig .tc .vmem S1x1x128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1x128x1024 .bf16) (harg10 : arg10.IsWhole) (arg11 : Memref sig .tc .vmem S1x1x128x128 .f32) (harg11 : arg11.IsWhole) (arg12 : Memref sig .tc .vmem S8x256x128 .bf16) (harg12 : arg12.IsWhole) (arg13 : Memref sig .tc .vmem S8x320x128 .bf16) (harg13 : arg13.IsWhole) (arg14 : Memref sig .tc .vmem S8x320x256 .bf16) (harg14 : arg14.IsWhole) (arg15 : Memref sig .tc .vmem S4x128x256 .f32) (harg15 : arg15.IsWhole)  (hc0 : cond0_0 i)
  (x0 x1 x2 : Vec Ideal S1x1x128x1024 .bf16) (x3 x4 : Vec Ideal S128x128 .f32) (x5 x6 : Vec Ideal S1x128 .f32)

/-- The queries head `k`'s step reads. -/
def rdQ (k : ℕ) : Vec Ideal S1x128x128 .bf16 :=
  arg12.view.readCov (kernelRun0_A.sl.HS0_8 (F := Ideal) c arg3 harg3 arg6 harg6 arg7 harg7 arg8 harg8 x0 x3 x4 x5) (Rect.unit (s := S8x256x128) ![k % 8, 0, 0] S1x128x128.size (fun b => match b with
      | ⟨0, _⟩ => show k % 8 + 1 ≤ 8 by omega
      | ⟨1, _⟩ => show 0 + 128 ≤ 256 by omega
      | ⟨2, _⟩ => show 0 + 128 ≤ 128 by omega)).toLoadRect

/-- The keys head `k`'s step reads. -/
def rdK (k : ℕ) : Vec Ideal S1x256x128 .bf16 :=
  arg13.view.readCov (kernelRun0_A.sl.HS1_24 (F := Ideal) c arg4 harg4 arg6 harg6 arg7 harg7 arg9 harg9 x1 x3 x4 x6) (Rect.unit (s := S8x320x128) ![k % 8, 0, 0] S1x256x128.size (fun b => match b with
      | ⟨0, _⟩ => show k % 8 + 1 ≤ 8 by omega
      | ⟨1, _⟩ => show 0 + 256 ≤ 320 by omega
      | ⟨2, _⟩ => show 0 + 128 ≤ 128 by omega)).toLoadRect

/-- The values head `k`'s step reads. -/
def rdV (k : ℕ) : Vec Ideal S1x256x256 .bf16 :=
  arg14.view.readCov (kernelRun0_A.sl.HS2_32 (F := Ideal) c arg5 harg5 x2) (Rect.unit (s := S8x320x256) ![k % 8, 0, 0] S1x256x256.size (fun b => match b with
      | ⟨0, _⟩ => show k % 8 + 1 ≤ 8 by omega
      | ⟨1, _⟩ => show 0 + 256 ≤ 320 by omega
      | ⟨2, _⟩ => show 0 + 256 ≤ 256 by omega)).toLoadRect

/-- The bias a step reads. -/
abbrev rdB : Vec Ideal S1x128x256 .f32 := kernelRun0_A.sl.v617 (F := Ideal) c arg15

theorem rdQ_at (k : ℕ) (r d : Fin 128) : rdQ c arg3 harg3 arg6 harg6 arg7 harg7 arg8 harg8 arg12 x0 x3 x4 x5 k (ix3 0 r d)
    = ropedRow x3 x4 x0 (fun j => x5 (ix2 0 j) * scl) ⟨k % 8, Nat.mod_lt _ (by omega)⟩ r d := by
  unfold rdQ
  rw [View.readCov_eq_canon']
  refine (canonQ c arg3 harg3 arg6 harg6 arg7 harg7 arg8 harg8 x0 x3 x4 x5 _ (show 0 + 1 * r.val < 128 by omega)).trans ?_
  have er : (⟨(0 + 1 * r.val) % 128, Nat.mod_lt _ (by omega)⟩ : Fin 128) = r := Fin.ext (by show (0 + 1 * r.val) % 128 = _; omega)
  have ed : (⟨0 + 1 * d.val, by omega⟩ : Fin 128) = d := Fin.ext (by show 0 + 1 * d.val = _; omega)
  show ropedRow x3 x4 x0 _ ⟨k % 8 + 1 * 0, _⟩ ⟨(0 + 1 * r.val) % 128, _⟩ ⟨0 + 1 * d.val, _⟩ = _
  rw [er, ed]
  rfl

theorem rdK_at (k : ℕ) (j d : Fin 128) : rdK c arg4 harg4 arg6 harg6 arg7 harg7 arg9 harg9 arg13 x1 x3 x4 x6 k (ix3 0 (inWin 64 (by omega) j) d)
    = ropedRow x3 x4 x1 (fun j => x6 (ix2 0 j)) ⟨k % 8, Nat.mod_lt _ (by omega)⟩ j d := by
  unfold rdK
  rw [View.readCov_eq_canon']
  refine (canonK c arg4 harg4 arg6 harg6 arg7 harg7 arg9 harg9 x1 x3 x4 x6 _).trans ?_
  have er : (⟨0 + 1 * (64 + j.val) - 64, by omega⟩ : Fin 128) = j := Fin.ext (by show 0 + 1 * (64 + j.val) - 64 = _; omega)
  have ed : (⟨0 + 1 * d.val, by omega⟩ : Fin 128) = d := Fin.ext (by show 0 + 1 * d.val = _; omega)
  refine (dif_pos (show 64 ≤ 0 + 1 * (64 + j.val) ∧ 0 + 1 * (64 + j.val) < 192 by omega)).trans ?_
  show ropedRow x3 x4 x1 _ ⟨k % 8 + 1 * 0, _⟩ ⟨0 + 1 * (64 + j.val) - 64, _⟩ ⟨0 + 1 * d.val, _⟩ = _
  rw [er, ed]
  rfl

theorem rdV_at (k : ℕ) (j d : Fin 128) : rdV c arg5 harg5 arg14 x2 k (ix3 0 (inWin 64 (by omega) j) (inWin 0 (by omega) d))
    = headRow x2 ⟨k % 8, Nat.mod_lt _ (by omega)⟩ j d := by
  unfold rdV
  rw [View.readCov_eq_canon']
  refine (canonV c arg5 harg5 x2 _).trans ?_
  have er : (⟨0 + 1 * (64 + j.val) - 64, by omega⟩ : Fin 128) = j := Fin.ext (by show 0 + 1 * (64 + j.val) - 64 = _; omega)
  have ed : (⟨0 + 1 * (0 + d.val), by omega⟩ : Fin 128) = d := Fin.ext (by show 0 + 1 * (0 + d.val) = _; omega)
  refine (dif_pos (show 0 + 1 * (0 + d.val) < 128 by omega)).trans ?_
  refine (dif_pos (show 64 ≤ 0 + 1 * (64 + j.val) ∧ 0 + 1 * (64 + j.val) < 192 by omega)).trans ?_
  show headRow x2 ⟨k % 8 + 1 * 0, _⟩ ⟨0 + 1 * (64 + j.val) - 64, _⟩ ⟨0 + 1 * (0 + d.val), _⟩ = _
  rw [er, ed]
  rfl

theorem rdV_one (k : ℕ) (j d : Fin 128) : rdV c arg5 harg5 arg14 x2 k (ix3 0 (inWin 64 (by omega) j) (inWin 128 (by omega) d)) = 1 := by
  unfold rdV
  rw [View.readCov_eq_canon']
  refine (canonV c arg5 harg5 x2 _).trans ?_
  unfold gridV
  refine dif_neg ?_
  show ¬(0 + 1 * (128 + d.val) < 128)
  omega

theorem rdB_at (r : Fin 128) (x : Fin 256) : rdB c arg15 (ix3 0 r x)
    = if 64 ≤ x.val ∧ x.val < 192 ∧ r.val ≤ x.val ∧ x.val ≤ r.val + 128 then 0 else ⊥ := by
  rw [← bias_at]
  unfold rdB kernelRun0_A.sl.v617 kernelRun0_A.sl.HS3_4
  rw [View.readCov_eq_canon']
  exact View.canon_cons_emb _ _ _ _

theorem rms_scl (x g : Fin 128 → EReal) : rmsRow x (fun j => g j * scl) = fun j => rmsRow x g j * scl := by
  funext j
  unfold rmsRow
  exact (mul_assoc _ _ _).symm

theorem roped_scl (cs sn : Vec Ideal S128x128 .f32) (x : Vec Ideal S1x1x128x1024 .bf16) (g : Fin 128 → EReal) (k : Fin 8) (r d : Fin 128) :
    ropedRow cs sn x (fun j => g j * scl) k r d = ropedRow cs sn x g k r d * scl := by
  unfold ropedRow
  rw [rms_scl, roped_mul _ _ _ _ scl_pos.1 scl_pos.2]

/-- What head `k`'s step finds. -/
theorem head (k : ℕ) : Head (rdB c arg15) (rdQ c arg3 harg3 arg6 harg6 arg7 harg7 arg8 harg8 arg12 x0 x3 x4 x5 k) (rdK c arg4 harg4 arg6 harg6 arg7 harg7 arg9 harg9 arg13 x1 x3 x4 x6 k) (rdV c arg5 harg5 arg14 x2 k)
    (ropedRow x3 x4 x0 (fun j => x5 (ix2 0 j)) ⟨k % 8, Nat.mod_lt _ (by omega)⟩)
    (ropedRow x3 x4 x1 (fun j => x6 (ix2 0 j)) ⟨k % 8, Nat.mod_lt _ (by omega)⟩)
    (headRow x2 ⟨k % 8, Nat.mod_lt _ (by omega)⟩) where
  hb := rdB_at c arg15
  hq r d := (rdQ_at c arg3 harg3 arg6 harg6 arg7 harg7 arg8 harg8 arg12 x0 x3 x4 x5 k r d).trans (roped_scl x3 x4 x0 (fun j => x5 (ix2 0 j)) _ r d)
  hk j d := rdK_at c arg4 harg4 arg6 harg6 arg7 harg7 arg9 harg9 arg13 x1 x3 x4 x6 k j d
  hv j d := rdV_at c arg5 harg5 arg14 x2 k j d
  h1 j d := rdV_one c arg5 harg5 arg14 x2 k j d

end Body

end Cert.AttCIdeal.Val

end
-- ==== Proof.AttCBody.lean ====
module

public import proofs.«01_k».proof.Proof.Spec
public import proofs.«01_k».proof.Defs
public import proofs.«01_k».proof.Proof.AttCHeads
public import proofs.«01_k».proof.Proof.Gen.AttCIdeal.Value
public import Idealize.ShloMosaic.Lib.StableHlo.ReadAt
public import Idealize.ShloMosaic.Lib.Tactic
public import Idealize.ShloMosaic.Lib.Pipeline.ReadBack

@[expose] public section

set_option maxRecDepth 16384

noncomputable section

namespace Cert.AttCIdeal.Val

open Cert.AttCIdeal Cert.AttCIdeal.Gen Cert.Layer Idealize.ShloMosaic Idealize.ShloMosaic.TcCoe Idealize.SL.Sem
open Idealize.ShloMosaic.Pipeline (Dat)

/-! One grid point: what its stores leave in the two outputs. -/

section Outs

variable (c : Dev nD) (i : grid0.Coords) (arg3 : Memref sig .tc .vmem S1x1x128x1024 .bf16) (harg3 : arg3.IsWhole) (arg4 : Memref sig .tc .vmem S1x1x128x1024 .bf16) (harg4 : arg4.IsWhole) (arg5 : Memref sig .tc .vmem S1x1x128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x1x128x1024 .bf16) (harg10 : arg10.IsWhole) (arg11 : Memref sig .tc .vmem S1x1x128x128 .f32) (harg11 : arg11.IsWhole) (arg12 : Memref sig .tc .vmem S8x256x128 .bf16) (harg12 : arg12.IsWhole) (arg13 : Memref sig .tc .vmem S8x320x128 .bf16) (harg13 : arg13.IsWhole) (arg14 : Memref sig .tc .vmem S8x320x256 .bf16) (harg14 : arg14.IsWhole) (arg15 : Memref sig .tc .vmem S4x128x256 .f32) (harg15 : arg15.IsWhole)  (hc0 : cond0_0 i)
  (x0 x1 x2 : Vec Ideal S1x1x128x1024 .bf16) (x3 x4 : Vec Ideal S128x128 .f32) (x5 x6 : Vec Ideal S1x128 .f32)

/-- Head `k`'s rotated queries and keys, and its values. -/
abbrev hq (k : Fin 8) : Fin 128 → Fin 128 → EReal := ropedRow x3 x4 x0 (fun j => x5 (ix2 0 j)) k
abbrev hk (k : Fin 8) : Fin 128 → Fin 128 → EReal := ropedRow x3 x4 x1 (fun j => x6 (ix2 0 j)) k

/-- Head `k`'s store into the output. -/
def pcOut (k : ℕ) : View.Piece (Elt Ideal) S1x1x128x1024 .bf16 :=
  ⟨Rect.unit (s := S1x1x128x1024) ![0, 0, 0, k % 8 * 128] S1x1x128x128.size (fun b => match b with
      | ⟨0, _⟩ => show 0 + 1 ≤ 1 by omega
      | ⟨1, _⟩ => show 0 + 1 ≤ 1 by omega
      | ⟨2, _⟩ => show 0 + 128 ≤ 128 by omega
      | ⟨3, _⟩ => show k % 8 * 128 + 128 ≤ 1024 by omega),
    k0_pay103 (k0_pay101 (rdB c arg15) (rdQ c arg3 harg3 arg6 harg6 arg7 harg7 arg8 harg8 arg12 x0 x3 x4 x5 k) (rdK c arg4 harg4 arg6 harg6 arg7 harg7 arg9 harg9 arg13 x1 x3 x4 x6 k)) (rdV c arg5 harg5 arg14 x2 k)⟩

/-- The statistics after the first `n` heads' steps. -/
def mlAt : ℕ → FVec Ideal S128x128 .f32
  | 0 => k0_pay98 (kernelRun0_A.sl.v619 (F := Ideal) c arg11)
  | n + 1 => k0_pay104 kernelRun0_A.sl.v199 (mlAt n) (Scalar.addi (kernelRun0_A.sl.v621 i) (BitVec.ofNat 32 n))
      (k0_pay100 (rdB c arg15) (rdQ c arg3 harg3 arg6 harg6 arg7 harg7 arg8 harg8 arg12 x0 x3 x4 x5 n) (rdK c arg4 harg4 arg6 harg6 arg7 harg7 arg9 harg9 arg13 x1 x3 x4 x6 n)) (k0_pay101 (rdB c arg15) (rdQ c arg3 harg3 arg6 harg6 arg7 harg7 arg8 harg8 arg12 x0 x3 x4 x5 n) (rdK c arg4 harg4 arg6 harg6 arg7 harg7 arg9 harg9 arg13 x1 x3 x4 x6 n)) (rdV c arg5 harg5 arg14 x2 n)

/-- The stores into the first output, last first. -/
theorem listOut : (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).1 = (List.range 8).reverse.map (pcOut c arg3 harg3 arg4 harg4 arg5 harg5 arg6 harg6 arg7 harg7 arg8 harg8 arg9 harg9 arg12 arg13 arg14 arg15 x0 x1 x2 x3 x4 x5 x6) := by
  sl_kernel_rfl

/-- The stores into the second output, last first. -/
theorem listMl : (kernelRun0_A (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6).2.1
    = [⟨Rect.unit (s := S1x1x128x128) ![0, 0, 0, 0] S1x1x128x128.size inb_S1x1x128x128_S1x1x128x128_0_0_0_0, k0_pay1 (mlAt c i arg3 harg3 arg4 harg4 arg5 harg5 arg6 harg6 arg7 harg7 arg8 harg8 arg9 harg9 arg11 arg12 arg13 arg14 arg15 x0 x1 x2 x3 x4 x5 x6 8)⟩,
       ⟨Rect.unit (s := S1x1x128x128) ![0, 0, 0, 0] S1x1x128x128.size inb_S1x1x128x128_S1x1x128x128_0_0_0_0, k0_pay2 (F := Ideal)⟩] := by
  sl_kernel_rfl

/-- The first output's block. -/
def gridOut (y : S1x1x128x1024.Idx) : EReal :=
  have hy : (y 3).val < 1024 := (y 3).isLt
  bandOut (hq x0 x3 x4 x5 ⟨(y 3).val / 128, by omega⟩ (y 2)) (hk x1 x3 x4 x6 ⟨(y 3).val / 128, by omega⟩) (headRow x2 ⟨(y 3).val / 128, by omega⟩)
    (y 2) ⟨(y 3).val % 128, Nat.mod_lt _ (by omega)⟩

theorem one_tile {n k : ℕ} (x : (⟨4, ![1, 1, n, k]⟩ : Shape).Idx) : ∃ (r : Fin n) (d : Fin k), x = ix4 0 0 r d :=
  ⟨x 2, x 3, (ix4_eta x).symm.trans (congrArg₂ (fun z w : Fin 1 => ix4 z w (x 2) (x 3)) (Subsingleton.elim (α := Fin 1) (x 0) 0)
    (Subsingleton.elim (α := Fin 1) (x 1) 0))⟩

theorem pieceOut (k : ℕ) (x : S1x1x128x128.Idx) : (pcOut c arg3 harg3 arg4 harg4 arg5 harg5 arg6 harg6 arg7 harg7 arg8 harg8 arg9 harg9 arg12 arg13 arg14 arg15 x0 x1 x2 x3 x4 x5 x6 k).2 x = gridOut x0 x1 x2 x3 x4 x5 x6 ((pcOut c arg3 harg3 arg4 harg4 arg5 harg5 arg6 harg6 arg7 harg7 arg8 harg8 arg9 harg9 arg12 arg13 arg14 arg15 x0 x1 x2 x3 x4 x5 x6 k).1.toLoadRect.idx x) := by
  obtain ⟨r, d, rfl⟩ := one_tile x
  refine (out_at _ _ _ _ _ _ _ (head c arg3 harg3 arg4 harg4 arg5 harg5 arg6 harg6 arg7 harg7 arg8 harg8 arg9 harg9 arg12 arg13 arg14 arg15 x0 x1 x2 x3 x4 x5 x6 k) r d).trans ?_
  unfold gridOut
  have er : (⟨0 + 1 * r.val, by omega⟩ : Fin 128) = r := Fin.ext (by show 0 + 1 * r.val = _; omega)
  have ed : (⟨(k % 8 * 128 + 1 * d.val) % 128, Nat.mod_lt _ (by omega)⟩ : Fin 128) = d :=
    Fin.ext (by show (k % 8 * 128 + 1 * d.val) % 128 = _; omega)
  have ek : (⟨(k % 8 * 128 + 1 * d.val) / 128, by omega⟩ : Fin 8) = ⟨k % 8, Nat.mod_lt _ (by omega)⟩ :=
    Fin.ext (by show (k % 8 * 128 + 1 * d.val) / 128 = k % 8; omega)
  show _ = bandOut (hq x0 x3 x4 x5 ⟨(k % 8 * 128 + 1 * d.val) / 128, _⟩ ⟨0 + 1 * r.val, _⟩) (hk x1 x3 x4 x6 ⟨(k % 8 * 128 + 1 * d.val) / 128, _⟩)
    (headRow x2 ⟨(k % 8 * 128 + 1 * d.val) / 128, _⟩) ⟨0 + 1 * r.val, _⟩ ⟨(k % 8 * 128 + 1 * d.val) % 128, _⟩
  rw [er, ed, ek]

/-- What the point leaves in the first output. -/
theorem out7 : out0_A_7 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 = gridOut x0 x1 x2 x3 x4 x5 x6 := by
  unfold out0_A_7
  rw [View.read_writes_eq_canon _ _ _ (cover0_A_7 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6), listOut]
  funext y
  refine View.canon_apply_of_pieces (Val := Elt Ideal) (e := .bf16) (gridOut x0 x1 x2 x3 x4 x5 x6) _ ?_ y ?_
  · intro p hp x
    obtain ⟨k, -, rfl⟩ := List.mem_map.mp hp
    exact pieceOut c arg3 harg3 arg4 harg4 arg5 harg5 arg6 harg6 arg7 harg7 arg8 harg8 arg9 harg9 arg12 arg13 arg14 arg15 x0 x1 x2 x3 x4 x5 x6 k x
  · have y2 : (y 2).val < 128 := (y 2).isLt
    have y3 : (y 3).val < 1024 := (y 3).isLt
    have y0 : (y 0).val < 1 := (y 0).isLt
    have y1 : (y 1).val < 1 := (y 1).isLt
    refine ⟨_, List.mem_map.mpr ⟨(y 3).val / 128, by simp only [List.mem_reverse, List.mem_range]; omega, rfl⟩,
      (LoadRect.mem_set _).mpr fun b => ?_⟩
    match b with
    | ⟨0, _⟩ => exact ⟨0, Nat.zero_lt_one, show (y 0).val = 0 + 1 * 0 by omega⟩
    | ⟨1, _⟩ => exact ⟨0, Nat.zero_lt_one, show (y 1).val = 0 + 1 * 0 by omega⟩
    | ⟨2, _⟩ => exact ⟨(y 2).val, y2, show (y 2).val = 0 + 1 * (y 2).val by omega⟩
    | ⟨3, _⟩ => exact ⟨(y 3).val % 128, Nat.mod_lt _ (by omega), show (y 3).val = (y 3).val / 128 % 8 * 128 + 1 * ((y 3).val % 128) by omega⟩

theorem headWord (n : ℕ) : Scalar.addi (kernelRun0_A.sl.v621 i) (BitVec.ofNat 32 n) = BitVec.ofNat 32 n := by
  have e : (i 2).val = 0 := by
    have : (i 2).val < 1 := (i 2).isLt
    omega
  unfold kernelRun0_A.sl.v621
  rw [e]
  exact BitVec.zero_add _

/-- A row's statistics once the first `n` heads are done. -/
def stats (M S : ℕ → EReal) (n d : ℕ) : EReal := if d < n then M d else if 8 ≤ d ∧ d < 8 + n then S (d - 8) else 0

theorem stats_succ (M S : ℕ → EReal) (n d : ℕ) (hn : n < 8) :
    (if d = n then M n else if d = 8 + n then S n else stats M S n d) = stats M S (n + 1) d := by
  unfold stats
  by_cases h1 : d = n
  · rw [if_pos h1, if_pos (by omega), h1]
  by_cases h2 : d = 8 + n
  · rw [if_neg h1, if_pos h2, if_neg (by omega), if_pos (by omega), show d - 8 = n by omega]
  · rw [if_neg h1, if_neg h2]
    refine if_congr (by omega) rfl (if_congr (by omega) rfl rfl)

/-- Head `k`'s maxima and sums of a row. -/
def maxOf (r : Fin 128) (k : ℕ) : EReal :=
  bandMax (hq x0 x3 x4 x5 ⟨k % 8, Nat.mod_lt _ (by omega)⟩ r) (hk x1 x3 x4 x6 ⟨k % 8, Nat.mod_lt _ (by omega)⟩) r
def sumOf (r : Fin 128) (k : ℕ) : EReal :=
  bandSum (hq x0 x3 x4 x5 ⟨k % 8, Nat.mod_lt _ (by omega)⟩ r) (hk x1 x3 x4 x6 ⟨k % 8, Nat.mod_lt _ (by omega)⟩) r

theorem mlAt_at (r d : Fin 128) : ∀ n, n ≤ 8 → mlAt c i arg3 harg3 arg4 harg4 arg5 harg5 arg6 harg6 arg7 harg7 arg8 harg8 arg9 harg9 arg11 arg12 arg13 arg14 arg15 x0 x1 x2 x3 x4 x5 x6 n (ix2 r d)
    = stats (maxOf x0 x1 x3 x4 x5 x6 r) (sumOf x0 x1 x3 x4 x5 x6 r) n d.val
  | 0, _ => by
    unfold mlAt stats kernelRun0_A.sl.v619 kernelRun0_A.sl.H8_1
    rw [mlinit_at, View.readCov_eq_canon', if_neg (by omega), if_neg (by omega), View.canon_unit_zero hz4]
    refine Eq.trans (congrArg (k0_pay2 (F := Ideal)) (funext fun t => Fin.ext ?_)) (ml0_at r d)
    match t with
    | ⟨0, _⟩ => rfl
    | ⟨1, _⟩ => rfl
    | ⟨2, _⟩ => show 0 + 1 * r.val = r.val; omega
    | ⟨3, _⟩ => show 0 + 1 * d.val = d.val; omega
  | n + 1, h => by
    unfold mlAt
    rw [headWord, step_at _ _ _ _ _ _ _ (head c arg3 harg3 arg4 harg4 arg5 harg5 arg6 harg6 arg7 harg7 arg8 harg8 arg9 harg9 arg12 arg13 arg14 arg15 x0 x1 x2 x3 x4 x5 x6 n) _ n (by omega) r d, mlAt_at r d n (by omega)]
    exact stats_succ (maxOf x0 x1 x3 x4 x5 x6 r) (sumOf x0 x1 x3 x4 x5 x6 r) n d.val (by omega)

/-- What the point leaves in the second output. -/
theorem out8 (r d : Fin 128) : out0_A_8 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 (ix4 0 0 r d)
    = stats (maxOf x0 x1 x3 x4 x5 x6 r) (sumOf x0 x1 x3 x4 x5 x6 r) 8 d.val := by
  unfold out0_A_8
  rw [View.read_writes_eq_canon _ _ _ (cover0_A_8 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6), listMl, View.canon_cons_unit_zero hz4, mlout_at]
  exact mlAt_at c i arg3 harg3 arg4 harg4 arg5 harg5 arg6 harg6 arg7 harg7 arg8 harg8 arg9 harg9 arg11 arg12 arg13 arg14 arg15 x0 x1 x2 x3 x4 x5 x6 r d 8 le_rfl

end Outs

end Cert.AttCIdeal.Val

end
-- ==== Proof.AttCRefRows.lean ====
module

public import proofs.«01_k».proof.Proof.Spec
public import proofs.«01_k».proof.Proof.AttForm
public import proofs.«01_k».proof.Proof.Gen.AttCRefIdeal.Read
public import Idealize.ShloMosaic.Lib.StableHlo.ReadAt
public import Idealize.ShloMosaic.Lib.Tactic

@[expose] public section

set_option maxRecDepth 16384

noncomputable section

namespace Cert.AttCRefIdeal.Val

open Cert.AttCRefIdeal Cert.AttCRefIdeal.Gen Cert.AttCRefIdeal.Read Cert.Layer Idealize.ShloMosaic Idealize.ShloMosaic.TcCoe Idealize.SL.Sem

variable (x0 : S4x16x128x3072.Idx → EReal) (x1 x2 : S1x3x128.Idx → EReal)

/-! The third attention group's reference: the heads' rows, normalised and rotated. -/

/-- The projected row of a position, part and head. -/
theorem ref3 (b : Fin 4) (p : Fin 2048) (e : Fin 3) (h : Fin 8) (d : Fin 128) : val_main_v3 (F := Ideal) x0 (ix5 b p e h d)
    = x0 (ix4 b ⟨p.val % 16, Nat.mod_lt _ (by omega)⟩ ⟨p.val / 16, by omega⟩ ⟨e.val * 1024 + h.val * 128 + d.val, by omega⟩) := by
  pointwise [val_main_v3, val_main_v2, val_main_v1, val_main_v0]

theorem ref21 (b : Fin 4) (p : Fin 2048) (h : Fin 8) (d : Fin 128) : val_main_v21 (F := Ideal) x0 x1 (ix4 b p h d)
    = rmsRow (fun j => val_main_v3 (F := Ideal) x0 (ix5 b p 0 h j)) (fun j => x1 (ix3 0 2 j)) d := by
  unfold rmsRow
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]

theorem ref74 (b : Fin 4) (p : Fin 2048) (h : Fin 8) (d : Fin 128) : val_main_v74 (F := Ideal) x0 x2 (ix4 b p h d)
    = rmsRow (fun j => val_main_v3 (F := Ideal) x0 (ix5 b p 1 h j)) (fun j => x2 (ix3 0 2 j)) d := by
  unfold rmsRow
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_cst_6, val_main_cst_7, val_main_cst_8]

theorem ref38 (p : Fin 2048) (d : Fin 16) : val_main_v38 (F := Ideal) (ix3 p 0 d) = Ideal.cos (angle p.val d.val) := by
  unfold angle
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v4, val_main_cst_2, val_main_cst_3, val_main_cst_4, val_main_cst_5]

theorem ref39 (p : Fin 2048) (d : Fin 16) : val_main_v39 (F := Ideal) (ix3 p 0 d) = Ideal.sin (angle p.val d.val) := by
  unfold angle
  pointwise [val_main_v39, val_main_v37, val_main_v36, val_main_v35, val_main_v34, val_main_v33, val_main_v32, val_main_v31, val_main_v30, val_main_v29, val_main_v28, val_main_v27, val_main_v26, val_main_v25, val_main_v24, val_main_v23, val_main_v22, val_main_v4, val_main_cst_2, val_main_cst_3, val_main_cst_4, val_main_cst_5]

theorem ref91 (p : Fin 2048) (d : Fin 16) : val_main_v91 (F := Ideal) (ix3 p 0 d) = Ideal.cos (angle p.val d.val) :=
  (show val_main_v91 (F := Ideal) (ix3 p 0 d) = val_main_v38 (F := Ideal) (ix3 p 0 d) from rfl).trans (ref38 p d)

theorem ref92 (p : Fin 2048) (d : Fin 16) : val_main_v92 (F := Ideal) (ix3 p 0 d) = Ideal.sin (angle p.val d.val) :=
  (show val_main_v92 (F := Ideal) (ix3 p 0 d) = val_main_v39 (F := Ideal) (ix3 p 0 d) from rfl).trans (ref39 p d)

/-- The rotation of the first half with the second, lane by lane, is the rotation by the quarter turn. -/
theorem roped_lanes (u : Fin 128 → EReal) (p : ℕ) (C S : Fin 16 → EReal) (hC : ∀ j, C j = Ideal.cos (angle p j.val))
    (hS : ∀ j, S j = Ideal.sin (angle p j.val)) (d : Fin 128) :
    (if h1 : d.val < 16 then u d * C ⟨d.val, h1⟩ - u ⟨16 + d.val, by omega⟩ * S ⟨d.val, h1⟩
      else if h2 : d.val - 16 < 16 then u ⟨16 + (d.val - 16), by omega⟩ * C ⟨d.val - 16, h2⟩ + u ⟨d.val - 16, by omega⟩ * S ⟨d.val - 16, h2⟩
      else u ⟨32 + (d.val - 16 - 16), by omega⟩) = roped u (cosT p) (sinT p) d := by
  unfold roped turn cosT sinT
  simp only [hC, hS]
  by_cases h1 : d.val < 16
  · rw [dif_pos h1, if_pos h1, if_pos h1, if_pos h1, EReal.neg_mul, ← sub_eq_add_neg]
    refine congrArg (fun t => _ - u t * _) (Fin.ext ?_)
    show 16 + d.val = (d.val + 16) % 128
    omega
  by_cases h2 : d.val < 32
  · rw [dif_neg h1, dif_pos (by omega), if_neg h1, if_neg h1, if_neg h1, if_pos h2, if_pos h2, if_pos h2]
    refine congrArg (fun t => u t * _ + _) (Fin.ext ?_)
    show 16 + (d.val - 16) = d.val
    omega
  · rw [dif_neg h1, dif_neg (by omega), if_neg h1, if_neg h1, if_neg h1, if_neg h2, if_neg h2, if_neg h2, mul_one, zero_mul, add_zero]
    refine congrArg u (Fin.ext ?_)
    show 32 + (d.val - 16 - 16) = d.val
    omega

/-- The rotated query row. -/
theorem ref57 (b : Fin 4) (p : Fin 2048) (h : Fin 8) (d : Fin 128) : val_main_v57 (F := Ideal) x0 x1 (ix4 b p h d)
    = roped (rmsRow (fun j => val_main_v3 (F := Ideal) x0 (ix5 b p 0 h j)) (fun j => x1 (ix3 0 2 j))) (cosT p.val) (sinT p.val) d := by
  rw [← show (fun j => val_main_v21 (F := Ideal) x0 x1 (ix4 b p h j)) = _ from funext fun j => ref21 x0 x1 b p h j,
    ← roped_lanes _ _ (fun j => val_main_v38 (F := Ideal) (ix3 p 0 j)) (fun j => val_main_v39 (F := Ideal) (ix3 p 0 j)) (ref38 p) (ref39 p)]
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40]

/-- The rotated key row. -/
theorem ref110 (b : Fin 4) (p : Fin 2048) (h : Fin 8) (d : Fin 128) : val_main_v110 (F := Ideal) x0 x2 (ix4 b p h d)
    = roped (rmsRow (fun j => val_main_v3 (F := Ideal) x0 (ix5 b p 1 h j)) (fun j => x2 (ix3 0 2 j))) (cosT p.val) (sinT p.val) d := by
  rw [← show (fun j => val_main_v74 (F := Ideal) x0 x2 (ix4 b p h j)) = _ from funext fun j => ref74 x0 x2 b p h j,
    ← roped_lanes _ _ (fun j => val_main_v91 (F := Ideal) (ix3 p 0 j)) (fun j => val_main_v92 (F := Ideal) (ix3 p 0 j)) (ref91 p) (ref92 p)]
  pointwise [val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93]

/-- The position of row `l` of residue class `c`. -/
def pos (l : Fin 128) (c : Fin 16) : Fin 2048 := ⟨l.val * 16 + c.val, by omega⟩

/-- A query row of the class. -/
def rowQ (b : Fin 4) (c : Fin 16) (h : Fin 8) (i d : Fin 128) : EReal := val_main_v57 (F := Ideal) x0 x1 (ix4 b (pos i c) h d)

/-- A key row of the class. -/
def rowK (b : Fin 4) (c : Fin 16) (h : Fin 8) (i d : Fin 128) : EReal := val_main_v110 (F := Ideal) x0 x2 (ix4 b (pos i c) h d)

/-- A value row of the class. -/
def rowV (b : Fin 4) (c : Fin 16) (h : Fin 8) (i d : Fin 128) : EReal := val_main_v3 (F := Ideal) x0 (ix5 b (pos i c) 2 h d)

/-- The positions split into rows and residue classes. -/
theorem cast_class (y : S4x2048x8x128.Idx → EReal) (b : Fin 4) (i : Fin 128) (c : Fin 16) (h : Fin 8) (d : Fin 128) :
    shapeCast S4x128x16x8x128 y shapeCasts_S4x2048x8x128_S4x128x16x8x128 (ix5 b i c h d) = y (ix4 b (pos i c) h d) :=
  shapeCast_apply y shapeCasts_S4x2048x8x128_S4x128x16x8x128 (ix5 b i c h d) (ix4 b (pos i c) h d)
    (by rewrite [Shape.rowMajor_val_four, Shape.rowMajor_val_five]
        show ((b.val * 2048 + (i.val * 16 + c.val)) * 8 + h.val) * 128 + d.val = (((b.val * 128 + i.val) * 16 + c.val) * 8 + h.val) * 128 + d.val
        omega)

theorem ref114 (b : Fin 4) (c : Fin 16) (i : Fin 128) (h : Fin 8) (d : Fin 128) :
    val_main_v114 (F := Ideal) x0 x1 (ix5 b c i h d) = rowQ x0 x1 b c h i d := by
  rw [val_main_v114_apply]
  exact cast_class (val_main_v57 (F := Ideal) x0 x1) b i c h d

theorem ref116 (b : Fin 4) (c : Fin 16) (i : Fin 128) (h : Fin 8) (d : Fin 128) :
    val_main_v116 (F := Ideal) x0 x2 (ix5 b c i h d) = rowK x0 x2 b c h i d := by
  rw [val_main_v116_apply]
  exact cast_class (val_main_v110 (F := Ideal) x0 x2) b i c h d

theorem ref118 (b : Fin 4) (c : Fin 16) (i : Fin 128) (h : Fin 8) (d : Fin 128) :
    val_main_v118 (F := Ideal) x0 (ix5 b c i h d) = rowV x0 b c h i d := by
  unfold rowV pos
  pointwise [val_main_v118, val_main_v117, val_main_v112, val_main_v111]

end Cert.AttCRefIdeal.Val

end
-- ==== Proof.AttCRefBlocks.lean ====
module

public import proofs.«01_k».proof.Proof.Spec
public import proofs.«01_k».proof.Proof.AttForm
public import proofs.«01_k».proof.Proof.AttCRefRows
public import proofs.«01_k».proof.Proof.Gen.AttCRefIdeal.Read
public import Idealize.ShloMosaic.Lib.StableHlo.ReadAt
public import Idealize.ShloMosaic.Lib.Tactic

@[expose] public section

set_option maxRecDepth 16384

noncomputable section

namespace Cert.AttCRefIdeal.Val

open Cert.AttCRefIdeal Cert.AttCRefIdeal.Gen Cert.AttCRefIdeal.Read Cert.Layer Idealize.ShloMosaic Idealize.ShloMosaic.TcCoe Idealize.SL.Sem

variable (x0 : S4x16x128x3072.Idx → EReal) (x1 x2 : S1x3x128.Idx → EReal)

/-! The third attention group's reference: the masked scores, their maximum, and the weighted sums. -/

theorem ref119 (b : Fin 4) (c : Fin 16) (n : Fin 2) (a : Fin 64) (h : Fin 8) (d : Fin 128) :
    val_main_v119 (F := Ideal) x0 x1 (ix6 b c n a h d) = rowQ x0 x1 b c h ⟨n.val * 64 + a.val, by omega⟩ d := by
  rw [← ref114]
  exact shapeCast_apply (val_main_v114 (F := Ideal) x0 x1) shapeCasts_S4x16x128x8x128_S4x16x2x64x8x128 (ix6 b c n a h d)
    (ix5 b c ⟨n.val * 64 + a.val, by omega⟩ h d)
    (by rewrite [Shape.rowMajor_val_five, Shape.rowMajor_val_six]
        show (((b.val * 16 + c.val) * 128 + (n.val * 64 + a.val)) * 8 + h.val) * 128 + d.val
          = ((((b.val * 16 + c.val) * 2 + n.val) * 64 + a.val) * 8 + h.val) * 128 + d.val
        omega)

/-- Inside the window, the three shifted blocks laid side by side are the padded rows. -/
theorem blocks (f : Fin 128 → EReal) (z : EReal) (n : Fin 2) (x : Fin 192) (j : Fin 128) (hx : n.val * 64 + x.val = 64 + j.val) :
    (if _ : x.val < 64 then
      if h2 : 64 ≤ n.val * 64 + x.val ∧ n.val * 64 + x.val - 64 < 128 then f ⟨n.val * 64 + x.val - 64, h2.2⟩ else z
    else if _ : x.val - 64 < 64 then
      if h3 : 64 ≤ (1 + n.val) * 64 + (x.val - 64) ∧ (1 + n.val) * 64 + (x.val - 64) - 64 < 128 then f ⟨(1 + n.val) * 64 + (x.val - 64) - 64, h3.2⟩ else z
    else
      if h3 : 64 ≤ (2 + n.val) * 64 + (x.val - 64 - 64) ∧ (2 + n.val) * 64 + (x.val - 64 - 64) - 64 < 128 then
        f ⟨(2 + n.val) * 64 + (x.val - 64 - 64) - 64, h3.2⟩ else z) = f j := by
  split_ifs <;> first
    | (exfalso; omega)
    | (refine congrArg f (Fin.ext ?_); dsimp only; omega)

theorem ref127 (b : Fin 4) (c : Fin 16) (n : Fin 2) (x : Fin 192) (h : Fin 8) (d j : Fin 128) (hx : n.val * 64 + x.val = 64 + j.val) :
    val_main_v127 (F := Ideal) x0 x2 (ix6 b c n x h d) = rowK x0 x2 b c h j d := by
  rw [← ref116, ← blocks (fun i => val_main_v116 (F := Ideal) x0 x2 (ix5 b c i h d)) (val_main_call0_v0 (F := Ideal) (Shape.Idx.first h_S_)) n x j hx]
  pointwise [val_main_v127, val_main_v126, val_main_v125, val_main_v124, val_main_v121, val_main_v120]

theorem ref131 (b : Fin 4) (c : Fin 16) (n : Fin 2) (x : Fin 192) (h : Fin 8) (d j : Fin 128) (hx : n.val * 64 + x.val = 64 + j.val) :
    val_main_v131 (F := Ideal) x0 (ix6 b c n x h d) = rowV x0 b c h j d := by
  rw [← ref118, ← blocks (fun i => val_main_v118 (F := Ideal) x0 (ix5 b c i h d)) (val_main_call1_v0 (F := Ideal) (Shape.Idx.first h_S_)) n x j hx]
  pointwise [val_main_v131, val_main_v130, val_main_v129, val_main_v128, val_main_v123, val_main_v122]

end Cert.AttCRefIdeal.Val

end
-- ==== Proof.AttCRefMask.lean ====
module

public import proofs.«01_k».proof.Proof.Spec
public import proofs.«01_k».proof.Proof.AttForm
public import proofs.«01_k».proof.Proof.Gen.AttCRefIdeal.Read
public import Idealize.ShloMosaic.Lib.StableHlo.ReadAt
public import Idealize.ShloMosaic.Lib.Tactic

@[expose] public section

set_option maxRecDepth 16384

noncomputable section

namespace Cert.AttCRefIdeal.Val

open Cert.AttCRefIdeal Cert.AttCRefIdeal.Gen Cert.AttCRefIdeal.Read Cert.Layer Idealize.ShloMosaic Idealize.ShloMosaic.TcCoe Idealize.SL.Sem

/-! The reference's mask. -/

/-- The mask as the reference computes it. -/
def maskW (n : Fin 2) (a : Fin 64) (x : Fin 192) : BitVec 1 :=
  IntOp.andi (IntOp.andi (IntOp.cmpi .sle (IntOp.absi (IntOp.subi (IntOp.subi (BitVec.ofNat 32 x.val) 64#32) (BitVec.ofNat 32 a.val))) 64#32)
      (IntOp.cmpi .sge (IntOp.addi (IntOp.subi (IntOp.muli (BitVec.ofNat 32 n.val) 64#32) 64#32) (BitVec.ofNat 32 x.val)) 0#32))
    (IntOp.cmpi .slt (IntOp.addi (IntOp.subi (IntOp.muli (BitVec.ofNat 32 n.val) 64#32) 64#32) (BitVec.ofNat 32 x.val)) 128#32)

theorem near_bits : ∀ (a : Fin 64) (x : Fin 192),
    IntOp.cmpi .sle (IntOp.absi (IntOp.subi (IntOp.subi (BitVec.ofNat 32 x.val) 64#32) (BitVec.ofNat 32 a.val))) 64#32
      = BitVec.ofBool (decide (a.val ≤ x.val ∧ x.val ≤ a.val + 128)) := by
  decide +kernel

theorem range_bits : ∀ (n : Fin 2) (x : Fin 192),
    IntOp.cmpi .sge (IntOp.addi (IntOp.subi (IntOp.muli (BitVec.ofNat 32 n.val) 64#32) 64#32) (BitVec.ofNat 32 x.val)) 0#32
        = BitVec.ofBool (decide (64 ≤ n.val * 64 + x.val))
    ∧ IntOp.cmpi .slt (IntOp.addi (IntOp.subi (IntOp.muli (BitVec.ofNat 32 n.val) 64#32) 64#32) (BitVec.ofNat 32 x.val)) 128#32
        = BitVec.ofBool (decide (n.val * 64 + x.val < 192)) := by
  decide +kernel

theorem andi_dec (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The mask keeps a key within 64 rows of the query and inside the class. -/
theorem mask_eq (n : Fin 2) (a : Fin 64) (x : Fin 192) : maskW n a x
    = BitVec.ofBool (decide (((a.val ≤ x.val ∧ x.val ≤ a.val + 128) ∧ 64 ≤ n.val * 64 + x.val) ∧ n.val * 64 + x.val < 192)) := by
  unfold maskW
  rw [near_bits, (range_bits n x).1, (range_bits n x).2, andi_dec, andi_dec]

theorem ref163 (n : Fin 2) (a : Fin 64) (x : Fin 192) : val_main_v163 (F := Ideal) (ix3 n a x) = maskW n a x := by
  unfold maskW
  pointwise [val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_c_14, val_main_c_15, val_main_c_16, val_main_c_17, val_main_c_18, val_main_c_19]

end Cert.AttCRefIdeal.Val

end
-- ==== Proof.AttCRef.lean ====
module

public import proofs.«01_k».proof.Proof.Spec
public import proofs.«01_k».proof.Proof.AttForm
public import proofs.«01_k».proof.Proof.AttCRefBlocks
public import proofs.«01_k».proof.Proof.AttCRefMask
public import proofs.«01_k».proof.Proof.Gen.AttCRefIdeal.Read
public import Idealize.ShloMosaic.Lib.StableHlo.ReadAt
public import Idealize.ShloMosaic.Lib.Tactic

@[expose] public section

set_option maxRecDepth 16384

noncomputable section

namespace Cert.AttCRefIdeal.Val

open Cert.AttCRefIdeal Cert.AttCRefIdeal.Gen Cert.AttCRefIdeal.Read Cert.Layer Idealize.ShloMosaic Idealize.ShloMosaic.TcCoe Idealize.SL.Sem

variable (x0 : S4x16x128x3072.Idx → EReal) (x1 x2 : S1x3x128.Idx → EReal)

/-! The third attention group's reference: the masked scores, their maximum, and the weighted sums. -/

/-- A selection by a decided condition. -/
theorem select_dec {α : Type} (p : Prop) [Decidable p] (x y : α) : Scalar.select (BitVec.ofBool (decide p)) x y = if p then x else y := by
  by_cases h : p
  · rw [if_pos h, decide_eq_true h]
    rfl
  · rw [if_neg h, decide_eq_false h]
    rfl

/-- The masked score, as the reference computes it. -/
theorem ref168 (b : Fin 4) (c : Fin 16) (n : Fin 2) (h : Fin 8) (a : Fin 64) (x : Fin 192) :
    val_main_v168 (F := Ideal) x0 x1 x2 (ix6 b c n h a x)
      = if ((a.val ≤ x.val ∧ x.val ≤ a.val + 128) ∧ 64 ≤ n.val * 64 + x.val) ∧ n.val * 64 + x.val < 192 then
        (∑ d : Fin 128, val_main_v119 (F := Ideal) x0 x1 (ix6 b c n a h d) * val_main_v127 (F := Ideal) x0 x2 (ix6 b c n x h d)) * scl else ⊥ := by
  have e : val_main_v164 (F := Ideal) x0 x1 x2 (ix6 b c n h a x)
      = ∑ d : Fin 128, val_main_v119 (F := Ideal) x0 x1 (ix6 b c n a h d) * val_main_v127 (F := Ideal) x0 x2 (ix6 b c n x h d) := by
    unfold val_main_v164
    generalize val_main_v119 (F := Ideal) x0 x1 = y
    generalize val_main_v127 (F := Ideal) x0 x2 = z
    pointwise []
  have hw : idx_main_v167 (idx_main_call2_v1 (ix6 b c n h a x)) = ix3 n a x := by
    funext t
    apply Fin.ext
    match t with
    | ⟨0, _⟩ => rfl
    | ⟨1, _⟩ => rfl
    | ⟨2, _⟩ => rfl
  rw [val_main_v168_apply, val_main_call2_v1_apply, val_main_v167_apply, hw, ref163, mask_eq, select_dec, val_main_v166_apply, e,
    val_main_v165_apply, val_main_cst_20_apply, val_main_call2_v2_apply, val_main_call2_v0_apply, val_main_cst_21_apply,
    show FloatOps.ofBits (F := Ideal) .f32 0xFF800000#32 = ⊥ from (show Ideal.ofBits .f32 0xFF800000#32 = ⊥ by simp [Ideal.ofBits, Ideal.ieee])]
  unfold scl
  generalize (∑ d : Fin 128, val_main_v119 (F := Ideal) x0 x1 (ix6 b c n a h d) * val_main_v127 (F := Ideal) x0 x2 (ix6 b c n x h d)) = y
  rfl

section Row

variable (b : Fin 4) (c : Fin 16) (n : Fin 2) (h : Fin 8) (a : Fin 64) (i : Fin 128) (hi : i.val = n.val * 64 + a.val)
include hi

theorem score_in (j : Fin 128) : val_main_v168 (F := Ideal) x0 x1 x2 (ix6 b c n h a (inWin (64 - n.val * 64) (by omega) j))
    = band (rowQ x0 x1 b c h i) (rowK x0 x2 b c h) i j := by
  have hx : n.val * 64 + (inWin (N := 192) (64 - n.val * 64) (by omega) j).val = 64 + j.val := by
    show n.val * 64 + (64 - n.val * 64 + j.val) = _
    omega
  have e : i = ⟨n.val * 64 + a.val, by omega⟩ := Fin.ext hi
  rw [ref168]
  unfold band
  refine if_congr ?_ (congrArg (· * scl) (Finset.sum_congr rfl fun d _ => ?_)) rfl
  · rw [hx]
    have : (inWin (N := 192) (64 - n.val * 64) (by omega) j).val = 64 - n.val * 64 + j.val := rfl
    omega
  · rw [ref119, ref127 x0 x2 b c n _ h d j hx, ← e]

theorem score_out (x : Fin 192) (hx : x.val < 64 - n.val * 64 ∨ 64 - n.val * 64 + 128 ≤ x.val) :
    val_main_v168 (F := Ideal) x0 x1 x2 (ix6 b c n h a x) = ⊥ := by
  rw [ref168, if_neg (by omega)]

/-- The largest score. -/
theorem ref169 : val_main_v169 (F := Ideal) x0 x1 x2 (ix5 b c n h a) = bandMax (rowQ x0 x1 b c h i) (rowK x0 x2 b c h) i := by
  unfold val_main_v169 bandMax
  rw [Host.reduce_eq_fold_single (FloatOps.maximumf (F := Ideal) (φ := .f32)) _ _ reducesTo_S4x16x2x8x64x192_S4x16x2x8x64_d5 (by decide)]
  refine Eq.trans ?_ (max_win (64 - n.val * 64) (by omega) (fun x : Fin 192 => val_main_v168 (F := Ideal) x0 x1 x2 (ix6 b c n h a x)) _
    (fun x hx => score_out x0 x1 x2 b c n h a i hi x hx) (fun j => score_in x0 x1 x2 b c n h a i hi j))
  rw [show val_main_cst_22 (F := Ideal) (Shape.Idx.first h_S_) = ⊥ from
    (show Ideal.ofBits .f32 0xFF800000#32 = ⊥ by simp [Ideal.ofBits, Ideal.ieee])]
  refine Finset.fold_congr fun x _ => congrArg (val_main_v168 (F := Ideal) x0 x1 x2) ?_
  funext t
  apply Fin.ext
  match t with
  | ⟨0, _⟩ => rfl
  | ⟨1, _⟩ => rfl
  | ⟨2, _⟩ => rfl
  | ⟨3, _⟩ => rfl
  | ⟨4, _⟩ => rfl
  | ⟨5, _⟩ => rfl

/-- The exponential of a score less the largest. -/
theorem ref173 (x : Fin 192) : val_main_v173 (F := Ideal) x0 x1 x2 (ix6 b c n h a x)
    = Ideal.exp (val_main_v168 (F := Ideal) x0 x1 x2 (ix6 b c n h a x) - bandMax (rowQ x0 x1 b c h i) (rowK x0 x2 b c h) i) := by
  rw [← ref169 x0 x1 x2 b c n h a i hi]
  unfold val_main_v173 val_main_v172 val_main_v171 val_main_v170
  generalize val_main_v168 (F := Ideal) x0 x1 x2 = y
  generalize val_main_v169 (F := Ideal) x0 x1 x2 = z
  pointwise []

/-- A sum over the window of exponentials times `w` is the sum over the keys. -/
theorem ref_expsum (w : Fin 192 → EReal) (w' : Fin 128 → EReal) (hw : ∀ j, w (inWin (64 - n.val * 64) (by omega) j) = w' j) :
    ∑ x : Fin 192, val_main_v173 (F := Ideal) x0 x1 x2 (ix6 b c n h a x) * w x
      = ∑ j, bandExp (rowQ x0 x1 b c h i) (rowK x0 x2 b c h) i j * w' j := by
  refine sum_win (64 - n.val * 64) (by omega) _ _ (fun x hx => ?_) (fun j => ?_)
  · rw [ref173 x0 x1 x2 b c n h a i hi, score_out x0 x1 x2 b c n h a i hi x hx, exp_bot, zero_mul]
  · rw [ref173 x0 x1 x2 b c n h a i hi, score_in x0 x1 x2 b c n h a i hi j, hw]
    rfl

/-- The weighted values. -/
theorem ref175 (d : Fin 128) : val_main_v175 (F := Ideal) x0 x1 x2 (ix6 b c n h d a)
    = bandOut (rowQ x0 x1 b c h i) (rowK x0 x2 b c h) (rowV x0 b c h) i d := by
  have e : val_main_v175 (F := Ideal) x0 x1 x2 (ix6 b c n h d a)
      = ∑ x : Fin 192, val_main_v131 (F := Ideal) x0 (ix6 b c n x h d) * val_main_v173 (F := Ideal) x0 x1 x2 (ix6 b c n h a x) := by
    unfold val_main_v175
    generalize val_main_v131 (F := Ideal) x0 = y
    generalize val_main_v173 (F := Ideal) x0 x1 x2 = z
    pointwise []
  rw [e]
  refine (Finset.sum_congr rfl fun x _ => mul_comm _ _).trans
    (ref_expsum x0 x1 x2 b c n h a i hi (fun x => val_main_v131 (F := Ideal) x0 (ix6 b c n x h d)) _ fun j => ?_)
  refine ref131 x0 b c n _ h d j ?_
  show n.val * 64 + (64 - n.val * 64 + j.val) = _
  omega

/-- The sum of the exponentials. -/
theorem ref174 : val_main_v174 (F := Ideal) x0 x1 x2 (ix5 b c n h a) = bandSum (rowQ x0 x1 b c h i) (rowK x0 x2 b c h) i := by
  rw [val_main_v174_apply, show val_main_cst_23 (F := Ideal) (Shape.Idx.first h_S_) = 0 from Ideal.ofBits_zero_f32, zero_add]
  refine Eq.trans (Finset.sum_congr rfl fun x _ => ?_) ((ref_expsum x0 x1 x2 b c n h a i hi (fun _ => 1) (fun _ => 1) fun _ => rfl).trans
    (Finset.sum_congr rfl fun j _ => mul_one _))
  rw [mul_one]
  refine congrArg (val_main_v173 (F := Ideal) x0 x1 x2) (funext fun t => Fin.ext ?_)
  match t with
  | ⟨0, _⟩ => rfl
  | ⟨1, _⟩ => rfl
  | ⟨2, _⟩ => rfl
  | ⟨3, _⟩ => rfl
  | ⟨4, _⟩ => rfl
  | ⟨5, _⟩ => rfl

end Row

/-- The reference's output. -/
theorem ref185 (b : Fin 4) (c : Fin 16) (l : Fin 128) (h : Fin 8) (d : Fin 128) :
    val_main_v185 (F := Ideal) x0 x1 x2 (ix4 b c l ⟨h.val * 128 + d.val, by omega⟩)
      = bandOut (rowQ x0 x1 b c h l) (rowK x0 x2 b c h) (rowV x0 b c h) l d := by
  rw [← ref175 x0 x1 x2 b c ⟨l.val / 64, by omega⟩ h ⟨l.val % 64, by omega⟩ l (by show l.val = l.val / 64 * 64 + l.val % 64; omega)]
  unfold val_main_v185 val_main_v184 val_main_v176
  generalize val_main_v175 (F := Ideal) x0 x1 x2 = y
  pointwise []

/-- The reference's statistics: lanes 0 to 7 the maxima, lanes 8 to 15 the sums, zero from lane 16 on. -/
theorem ref183 (b : Fin 4) (c : Fin 16) (l d : Fin 128) :
    val_main_v183 (F := Ideal) x0 x1 x2 (ix4 b c l d)
      = if h : d.val < 8 then bandMax (rowQ x0 x1 b c ⟨d.val, h⟩ l) (rowK x0 x2 b c ⟨d.val, h⟩) l
        else if h : d.val - 8 < 8 then bandSum (rowQ x0 x1 b c ⟨d.val - 8, h⟩ l) (rowK x0 x2 b c ⟨d.val - 8, h⟩) l else 0 := by
  have hl : l.val = l.val / 64 * 64 + l.val % 64 := by omega
  simp only [← ref169 x0 x1 x2 b c ⟨l.val / 64, by omega⟩ _ ⟨l.val % 64, by omega⟩ l hl,
    ← ref174 x0 x1 x2 b c ⟨l.val / 64, by omega⟩ _ ⟨l.val % 64, by omega⟩ l hl]
  unfold val_main_v183 val_main_v182 val_main_v181 val_main_v180 val_main_v179 val_main_v178 val_main_v177 val_main_v170 val_main_cst_24
  generalize val_main_v169 (F := Ideal) x0 x1 x2 = y
  generalize val_main_v174 (F := Ideal) x0 x1 x2 = z
  pointwise []

end Cert.AttCRefIdeal.Val

end
-- ==== Proof.AttC.lean ====
/-
  The value of the third attention group's call: 64 tiles, one for each sequence and residue class. A tile normalises, scales and
  rotates the class's queries and keys, and attends within 64 rows, head by head.
-/
module

public import proofs.«01_k».proof.Proof.Spec
public import proofs.«01_k».proof.Defs
public import proofs.«01_k».proof.Proof.AttCBody
public import proofs.«01_k».proof.Proof.AttCRef
public import proofs.«01_k».proof.Proof.Gen.AttCIdeal.Value
public import proofs.«01_k».proof.Proof.Gen.AttCRefIdeal.Read
public import Idealize.ShloMosaic.Lib.StableHlo.ReadAt
public import Idealize.ShloMosaic.Lib.Tactic
public import Idealize.ShloMosaic.Lib.Pipeline.ReadBack

@[expose] public section

set_option maxRecDepth 16384

noncomputable section

namespace Cert.AttCIdeal.Val

open Cert.AttCIdeal Cert.AttCIdeal.Gen Cert.Layer Idealize.ShloMosaic Idealize.ShloMosaic.TcCoe Idealize.SL.Sem
open Cert.AttCRefIdeal.Val (rowQ rowK rowV pos ref3 ref57 ref110 ref185 ref183)
open Idealize.ShloMosaic.Pipeline (Dat)

variable (m : (ℓ : Loc nD τ sig) → Buf (Elt Ideal) ℓ) (ρ : Dev nD → PrngReg)

/-- The call's arguments. -/
abbrev a0 (c : Dev nD) : S4x16x128x3072.Idx → EReal := m ((c : Thread nD τ).loc main_arg0)
abbrev a1 (c : Dev nD) : S1x3x128.Idx → EReal := m ((c : Thread nD τ).loc main_arg1)
abbrev a2 (c : Dev nD) : S1x3x128.Idx → EReal := m ((c : Thread nD τ).loc main_arg2)

/-! The index maps: the sequence and the class, and the third of the columns; the class's tables; the gains. -/

theorem idx0 : ∀ t : Fin cfg0.N, win0_0.index t (0 : Fin 4) = t.val / 16 ∧ win0_0.index t (1 : Fin 4) = t.val % 16
    ∧ win0_0.index t (2 : Fin 4) = 0 ∧ win0_0.index t (3 : Fin 4) = 0 := (by decide +kernel : ∀ t : Fin grid0.N, _)

theorem idx1 : ∀ t : Fin cfg0.N, win0_1.index t (0 : Fin 4) = t.val / 16 ∧ win0_1.index t (1 : Fin 4) = t.val % 16
    ∧ win0_1.index t (2 : Fin 4) = 0 ∧ win0_1.index t (3 : Fin 4) = 1 := (by decide +kernel : ∀ t : Fin grid0.N, _)

theorem idx2 : ∀ t : Fin cfg0.N, win0_2.index t (0 : Fin 4) = t.val / 16 ∧ win0_2.index t (1 : Fin 4) = t.val % 16
    ∧ win0_2.index t (2 : Fin 4) = 0 ∧ win0_2.index t (3 : Fin 4) = 2 := (by decide +kernel : ∀ t : Fin grid0.N, _)

theorem idx3 : ∀ t : Fin cfg0.N, win0_3.index t (0 : Fin 2) = 0 ∧ win0_3.index t (1 : Fin 2) = t.val % 16 :=
  (by decide +kernel : ∀ t : Fin grid0.N, _)

theorem idx4 : ∀ t : Fin cfg0.N, win0_4.index t (0 : Fin 2) = 0 ∧ win0_4.index t (1 : Fin 2) = t.val % 16 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 4) = t.val / 16 ∧ win0_7.index t (1 : Fin 4) = t.val % 16
    ∧ win0_7.index t (2 : Fin 4) = 0 ∧ win0_7.index t (3 : Fin 4) = 0 := (by decide +kernel : ∀ t : Fin grid0.N, _)

theorem idx8 : ∀ t : Fin cfg0.N, win0_8.index t (0 : Fin 4) = t.val / 16 ∧ win0_8.index t (1 : Fin 4) = t.val % 16
    ∧ win0_8.index t (2 : Fin 4) = 0 ∧ win0_8.index t (3 : Fin 4) = 0 := (by decide +kernel : ∀ t : Fin grid0.N, _)

/-- Every point writes both outputs' blocks back. -/
theorem flushes : ∀ t : Fin cfg0.N, (cfg0.win 7).flush t = true ∧ (cfg0.win 8).flush t = true :=
  (by decide +kernel : ∀ t : Fin grid0.N, win0_7.flush t = true ∧ win0_8.flush t = true)

theorem lt64 (t : Fin cfg0.N) : t.val < 64 := lt_of_lt_of_eq t.isLt N_0

/-- A point's sequence and residue class. -/
def bt (t : Fin cfg0.N) : Fin 4 := ⟨t.val / 16, by have := lt64 t; omega⟩
def et (t : Fin cfg0.N) : Fin 16 := ⟨t.val % 16, Nat.mod_lt _ (by omega)⟩

/-! What the host prepares: the tables and the gains. -/

theorem t16 (c : Dev nD) (p : Fin 2048) (d : Fin 16) :
    StableHlo.upto (hostOps0 (F := Ideal)) (fun b => m (c, b)) 24 (Proc.tc.devRef main_v16) (ix2 p d) = Ideal.cos (angle p.val d.val) := by
  unfold angle
  after_reads_at

theorem t17 (c : Dev nD) (p : Fin 2048) (d : Fin 16) :
    StableHlo.upto (hostOps0 (F := Ideal)) (fun b => m (c, b)) 27 (Proc.tc.devRef main_v17) (ix2 p d) = Ideal.sin (angle p.val d.val) := by
  unfold angle
  after_reads_at

theorem t18 (c : Dev nD) (p : Fin 2048) (d : Fin 96) :
    @Eq EReal (StableHlo.upto (hostOps0 (F := Ideal)) (fun b => m (c, b)) 24 (Proc.tc.devRef main_v18) (ix2 p d)) 1 := by
  after_reads_at

theorem t20 (c : Dev nD) (p : Fin 2048) (d : Fin 96) :
    @Eq EReal (StableHlo.upto (hostOps0 (F := Ideal)) (fun b => m (c, b)) 27 (Proc.tc.devRef main_v20) (ix2 p d)) 0 := by
  after_reads_at

theorem V24 (c : Dev nD) (l : Fin 128) (e : Fin 16) (j : Fin 128) :
    V m c main_v24 (ix2 l ⟨e.val * 128 + j.val, by omega⟩) = cosT (l.val * 16 + e.val) j := by
  rw [show l.val * 16 + e.val = l.val * 16 + (e.val * 128 + j.val) / 128 by omega]
  unfold V
  after_reads_at
  split
  next h =>
    refine (t16 m c _ _).trans ?_
    unfold cosT
    exact (if_pos h).symm
  next h =>
    split
    next h' =>
      refine (t16 m c _ _).trans ?_
      unfold cosT
      exact ((if_neg h).trans (if_pos (by omega))).symm
    next h' =>
      refine (t18 m c _ _).trans ?_
      unfold cosT
      exact ((if_neg h).trans (if_neg (by omega))).symm

theorem V25 (c : Dev nD) (l : Fin 128) (e : Fin 16) (j : Fin 128) :
    V m c main_v25 (ix2 l ⟨e.val * 128 + j.val, by omega⟩) = sinT (l.val * 16 + e.val) j := by
  rw [show l.val * 16 + e.val = l.val * 16 + (e.val * 128 + j.val) / 128 by omega]
  unfold V
  after_reads_at
  split
  next h =>
    refine (t17 m c _ _).trans ?_
    unfold sinT
    exact (if_pos h).symm
  next h =>
    split
    next h' =>
      refine (t17 m c _ _).trans ?_
      unfold sinT
      exact ((if_neg h).trans (if_pos (by omega))).symm
    next h' =>
      refine (t20 m c _ _).trans ?_
      unfold sinT
      exact ((if_neg h).trans (if_neg (by omega))).symm

theorem V26 (c : Dev nD) (k : Fin 128) : V m c main_v26 (ix2 0 k) = a1 m c (ix3 0 2 k) := by
  unfold V
  after_reads_at

theorem V27 (c : Dev nD) (k : Fin 128) : V m c main_v27 (ix2 0 k) = a2 m c (ix3 0 2 k) := by
  unfold V
  after_reads_at

theorem iblk0 (c : Dev nD) (t : Fin cfg0.N) (r : Fin 128) (q : Fin 1024) :
    iblk m c 0 t (ix4 0 0 r q) = a0 m c (ix4 (bt t) (et t) r ⟨0 * 1024 + q.val, by omega⟩) := by
  refine Eq.trans ?_ (congrFun (V_main_arg0 m c) (ix4 (bt t) (et t) r ⟨0 * 1024 + q.val, by omega⟩))
  unfold iblk
  rw [View.read_apply]
  show V m c main_arg0 _ = _
  congr 1
  funext a
  apply Fin.ext
  match a with
  | ⟨0, _⟩ => show win0_0.index t (0 : Fin 4) * 1 + 1 * 0 = _; rw [(idx0 t).1]; show t.val / 16 * 1 + 1 * 0 = t.val / 16; omega
  | ⟨1, _⟩ => show win0_0.index t (1 : Fin 4) * 1 + 1 * 0 = _; rw [(idx0 t).2.1]; show t.val % 16 * 1 + 1 * 0 = t.val % 16; omega
  | ⟨2, _⟩ => show win0_0.index t (2 : Fin 4) * 128 + 1 * r.val = _; rw [(idx0 t).2.2.1]; show 0 * 128 + 1 * r.val = r.val; omega
  | ⟨3, _⟩ => show win0_0.index t (3 : Fin 4) * 1024 + 1 * q.val = _; rw [(idx0 t).2.2.2]; show 0 * 1024 + 1 * q.val = 0 * 1024 + q.val; omega

theorem iblk1 (c : Dev nD) (t : Fin cfg0.N) (r : Fin 128) (q : Fin 1024) :
    iblk m c 1 t (ix4 0 0 r q) = a0 m c (ix4 (bt t) (et t) r ⟨1 * 1024 + q.val, by omega⟩) := by
  refine Eq.trans ?_ (congrFun (V_main_arg0 m c) (ix4 (bt t) (et t) r ⟨1 * 1024 + q.val, by omega⟩))
  unfold iblk
  rw [View.read_apply]
  show V m c main_arg0 _ = _
  congr 1
  funext a
  apply Fin.ext
  match a with
  | ⟨0, _⟩ => show win0_1.index t (0 : Fin 4) * 1 + 1 * 0 = _; rw [(idx1 t).1]; show t.val / 16 * 1 + 1 * 0 = t.val / 16; omega
  | ⟨1, _⟩ => show win0_1.index t (1 : Fin 4) * 1 + 1 * 0 = _; rw [(idx1 t).2.1]; show t.val % 16 * 1 + 1 * 0 = t.val % 16; omega
  | ⟨2, _⟩ => show win0_1.index t (2 : Fin 4) * 128 + 1 * r.val = _; rw [(idx1 t).2.2.1]; show 0 * 128 + 1 * r.val = r.val; omega
  | ⟨3, _⟩ => show win0_1.index t (3 : Fin 4) * 1024 + 1 * q.val = _; rw [(idx1 t).2.2.2]; show 1 * 1024 + 1 * q.val = 1 * 1024 + q.val; omega

theorem iblk2 (c : Dev nD) (t : Fin cfg0.N) (r : Fin 128) (q : Fin 1024) :
    iblk m c 2 t (ix4 0 0 r q) = a0 m c (ix4 (bt t) (et t) r ⟨2 * 1024 + q.val, by omega⟩) := by
  refine Eq.trans ?_ (congrFun (V_main_arg0 m c) (ix4 (bt t) (et t) r ⟨2 * 1024 + q.val, by omega⟩))
  unfold iblk
  rw [View.read_apply]
  show V m c main_arg0 _ = _
  congr 1
  funext a
  apply Fin.ext
  match a with
  | ⟨0, _⟩ => show win0_2.index t (0 : Fin 4) * 1 + 1 * 0 = _; rw [(idx2 t).1]; show t.val / 16 * 1 + 1 * 0 = t.val / 16; omega
  | ⟨1, _⟩ => show win0_2.index t (1 : Fin 4) * 1 + 1 * 0 = _; rw [(idx2 t).2.1]; show t.val % 16 * 1 + 1 * 0 = t.val % 16; omega
  | ⟨2, _⟩ => show win0_2.index t (2 : Fin 4) * 128 + 1 * r.val = _; rw [(idx2 t).2.2.1]; show 0 * 128 + 1 * r.val = r.val; omega
  | ⟨3, _⟩ => show win0_2.index t (3 : Fin 4) * 1024 + 1 * q.val = _; rw [(idx2 t).2.2.2]; show 2 * 1024 + 1 * q.val = 2 * 1024 + q.val; omega

theorem iblk3 (c : Dev nD) (t : Fin cfg0.N) (r j : Fin 128) : iblk m c 3 t (ix2 r j) = cosT (r.val * 16 + (et t).val) j := by
  refine Eq.trans ?_ (V24 m c r (et t) j)
  unfold iblk
  rw [View.read_apply]
  show V m c main_v24 _ = _
  congr 1
  funext a
  apply Fin.ext
  match a with
  | ⟨0, _⟩ => show win0_3.index t (0 : Fin 2) * 128 + 1 * r.val = _; rw [(idx3 t).1]; show 0 * 128 + 1 * r.val = r.val; omega
  | ⟨1, _⟩ => show win0_3.index t (1 : Fin 2) * 128 + 1 * j.val = _; rw [(idx3 t).2]; show t.val % 16 * 128 + 1 * j.val = t.val % 16 * 128 + j.val; omega

theorem iblk4 (c : Dev nD) (t : Fin cfg0.N) (r j : Fin 128) : iblk m c 4 t (ix2 r j) = sinT (r.val * 16 + (et t).val) j := by
  refine Eq.trans ?_ (V25 m c r (et t) j)
  unfold iblk
  rw [View.read_apply]
  show V m c main_v25 _ = _
  congr 1
  funext a
  apply Fin.ext
  match a with
  | ⟨0, _⟩ => show win0_4.index t (0 : Fin 2) * 128 + 1 * r.val = _; rw [(idx4 t).1]; show 0 * 128 + 1 * r.val = r.val; omega
  | ⟨1, _⟩ => show win0_4.index t (1 : Fin 2) * 128 + 1 * j.val = _; rw [(idx4 t).2]; show t.val % 16 * 128 + 1 * j.val = t.val % 16 * 128 + j.val; omega

theorem iblk5 (c : Dev nD) (t : Fin cfg0.N) (k : Fin 128) : iblk m c 5 t (ix2 0 k) = a1 m c (ix3 0 2 k) := by
  refine Eq.trans ?_ (V26 m c k)
  unfold iblk
  rw [View.read_apply]
  show V m c main_v26 _ = _
  congr 1
  funext a
  apply Fin.ext
  match a with
  | ⟨0, _⟩ => show win0_5.index t (0 : Fin 2) * 1 + 1 * 0 = _; rw [(idx5 t).1]; rfl
  | ⟨1, _⟩ => show win0_5.index t (1 : Fin 2) * 128 + 1 * k.val = _; rw [(idx5 t).2]; show 0 * 128 + 1 * k.val = k.val; omega

theorem iblk6 (c : Dev nD) (t : Fin cfg0.N) (k : Fin 128) : iblk m c 6 t (ix2 0 k) = a2 m c (ix3 0 2 k) := by
  refine Eq.trans ?_ (V27 m c k)
  unfold iblk
  rw [View.read_apply]
  show V m c main_v27 _ = _
  congr 1
  funext a
  apply Fin.ext
  match a with
  | ⟨0, _⟩ => show win0_6.index t (0 : Fin 2) * 1 + 1 * 0 = _; rw [(idx6 t).1]; rfl
  | ⟨1, _⟩ => show win0_6.index t (1 : Fin 2) * 128 + 1 * k.val = _; rw [(idx6 t).2]; show 0 * 128 + 1 * k.val = k.val; omega

/-! A head's rows are the reference's. -/

theorem row0 (c : Dev nD) (t : Fin cfg0.N) (h : Fin 8) (r : Fin 128) : headRow (iblk m c 0 t) h r
    = fun j => Cert.AttCRefIdeal.Read.val_main_v3 (F := Ideal) (a0 m c) (ix5 (bt t) (pos r (et t)) 0 h j) := by
  funext j
  unfold headRow
  rw [iblk0, ref3]
  refine congrArg (a0 m c) (funext fun a => Fin.ext ?_)
  match a with
  | ⟨0, _⟩ => rfl
  | ⟨1, _⟩ => show (et t).val = (r.val * 16 + (et t).val) % 16; omega
  | ⟨2, _⟩ => show r.val = (r.val * 16 + (et t).val) / 16; omega
  | ⟨3, _⟩ => show 0 * 1024 + (h.val * 128 + j.val) = 0 * 1024 + h.val * 128 + j.val; omega

theorem row1 (c : Dev nD) (t : Fin cfg0.N) (h : Fin 8) (r : Fin 128) : headRow (iblk m c 1 t) h r
    = fun j => Cert.AttCRefIdeal.Read.val_main_v3 (F := Ideal) (a0 m c) (ix5 (bt t) (pos r (et t)) 1 h j) := by
  funext j
  unfold headRow
  rw [iblk1, ref3]
  refine congrArg (a0 m c) (funext fun a => Fin.ext ?_)
  match a with
  | ⟨0, _⟩ => rfl
  | ⟨1, _⟩ => show (et t).val = (r.val * 16 + (et t).val) % 16; omega
  | ⟨2, _⟩ => show r.val = (r.val * 16 + (et t).val) / 16; omega
  | ⟨3, _⟩ => show 1 * 1024 + (h.val * 128 + j.val) = 1 * 1024 + h.val * 128 + j.val; omega

theorem row2 (c : Dev nD) (t : Fin cfg0.N) (h : Fin 8) (r : Fin 128) : headRow (iblk m c 2 t) h r
    = fun j => Cert.AttCRefIdeal.Read.val_main_v3 (F := Ideal) (a0 m c) (ix5 (bt t) (pos r (et t)) 2 h j) := by
  funext j
  unfold headRow
  rw [iblk2, ref3]
  refine congrArg (a0 m c) (funext fun a => Fin.ext ?_)
  match a with
  | ⟨0, _⟩ => rfl
  | ⟨1, _⟩ => show (et t).val = (r.val * 16 + (et t).val) % 16; omega
  | ⟨2, _⟩ => show r.val = (r.val * 16 + (et t).val) / 16; omega
  | ⟨3, _⟩ => show 2 * 1024 + (h.val * 128 + j.val) = 2 * 1024 + h.val * 128 + j.val; omega

theorem cos_row (c : Dev nD) (t : Fin cfg0.N) (r : Fin 128) : (fun j => iblk m c 3 t (ix2 r j)) = cosT (pos r (et t)).val :=
  funext fun j => iblk3 m c t r j

theorem sin_row (c : Dev nD) (t : Fin cfg0.N) (r : Fin 128) : (fun j => iblk m c 4 t (ix2 r j)) = sinT (pos r (et t)).val :=
  funext fun j => iblk4 m c t r j

theorem hq_eq (c : Dev nD) (t : Fin cfg0.N) (h : Fin 8) : hq (iblk m c 0 t) (iblk m c 3 t) (iblk m c 4 t) (iblk m c 5 t) h
    = rowQ (a0 m c) (a1 m c) (bt t) (et t) h := by
  funext r d
  unfold hq ropedRow rowQ
  rw [ref57, row0, cos_row, sin_row, funext (iblk5 m c t)]

theorem hk_eq (c : Dev nD) (t : Fin cfg0.N) (h : Fin 8) : hk (iblk m c 1 t) (iblk m c 3 t) (iblk m c 4 t) (iblk m c 6 t) h
    = rowK (a0 m c) (a2 m c) (bt t) (et t) h := by
  funext r d
  unfold hk ropedRow rowK
  rw [ref110, row1, cos_row, sin_row, funext (iblk6 m c t)]

theorem hv_eq (c : Dev nD) (t : Fin cfg0.N) (h : Fin 8) : headRow (iblk m c 2 t) h = rowV (a0 m c) (bt t) (et t) h := by
  funext r d
  rw [row2]
  rfl

/-- What the call computes: the reference's two arrays. -/
def G7 (c : Dev nD) : Buf (Elt Ideal) ((c : Thread nD τ).loc main_v28_0) :=
  Cert.AttCRefIdeal.Read.val_main_v185 (F := Ideal) (a0 m c) (a1 m c) (a2 m c)
def G8 (c : Dev nD) : Buf (Elt Ideal) ((c : Thread nD τ).loc main_v28_1) :=
  Cert.AttCRefIdeal.Read.val_main_v183 (F := Ideal) (a0 m c) (a1 m c) (a2 m c)

/-- What the first output's block holds after a point. -/
theorem blk7 (c : Dev nD) (t : Fin cfg0.N) (r : Fin 128) (q : Fin 1024) :
    (outsAt0 m c t).1 (ix4 0 0 r q) = G7 m c (ix4 (bt t) (et t) r q) := by
  obtain ⟨h, d, rfl⟩ : ∃ (h : Fin 8) (d : Fin 128), q = ⟨h.val * 128 + d.val, by omega⟩ :=
    ⟨⟨q.val / 128, by omega⟩, ⟨q.val % 128, Nat.mod_lt _ (by omega)⟩, Fin.ext (by show q.val = q.val / 128 * 128 + q.val % 128; omega)⟩
  unfold outsAt0 G7
  dsimp only
  rw [out7, ref185]
  have eh : (⟨(h.val * 128 + d.val) / 128, by omega⟩ : Fin 8) = h := Fin.ext (by show (h.val * 128 + d.val) / 128 = h.val; omega)
  have ed : (⟨(h.val * 128 + d.val) % 128, Nat.mod_lt _ (by omega)⟩ : Fin 128) = d :=
    Fin.ext (by show (h.val * 128 + d.val) % 128 = d.val; omega)
  show bandOut (hq (iblk m c 0 t) (iblk m c 3 t) (iblk m c 4 t) (iblk m c 5 t) ⟨(h.val * 128 + d.val) / 128, _⟩ r)
    (hk (iblk m c 1 t) (iblk m c 3 t) (iblk m c 4 t) (iblk m c 6 t) ⟨(h.val * 128 + d.val) / 128, _⟩)
    (headRow (iblk m c 2 t) ⟨(h.val * 128 + d.val) / 128, _⟩) r ⟨(h.val * 128 + d.val) % 128, _⟩ = _
  rw [eh, ed, hq_eq, hk_eq, hv_eq]

/-- What the second output's block holds after a point. -/
theorem blk8 (c : Dev nD) (t : Fin cfg0.N) (r d : Fin 128) :
    (outsAt0 m c t).2 (ix4 0 0 r d) = G8 m c (ix4 (bt t) (et t) r d) := by
  unfold outsAt0 G8
  dsimp only
  rw [out8, ref183]
  unfold stats maxOf sumOf
  rw [hq_eq, hk_eq, hq_eq, hk_eq]
  by_cases h : d.val < 8
  · have e : (⟨d.val % 8, Nat.mod_lt _ (by omega)⟩ : Fin 8) = ⟨d.val, h⟩ := Fin.ext (Nat.mod_eq_of_lt h)
    rw [if_pos h, dif_pos h, e]
  by_cases h' : d.val - 8 < 8
  · have e : (⟨(d.val - 8) % 8, Nat.mod_lt _ (by omega)⟩ : Fin 8) = ⟨d.val - 8, h'⟩ := Fin.ext (Nat.mod_eq_of_lt h')
    rw [if_neg h, dif_neg h, if_pos (by omega), dif_pos h', e]
  · rw [if_neg h, dif_neg h, if_neg (by omega), dif_neg h']

/-- Each point writes back its block of `G7`. -/
theorem flushed7 (c : Dev nD) (t : Fin cfg0.N) (_ : (cfg0.win 7).flush t = true) :
    (dats m 0 c).flushed 7 t = ((cfg0.win 7).blk t).view.read (Elt Ideal) (G7 m c) := by
  rw [Value.flushed7]
  have hb := blk7 m c t
  generalize G7 m c = g at hb ⊢
  funext y
  rw [View.read_apply]
  show (outsAt0 m c t).1 _ = _
  obtain ⟨p, q, hy⟩ : ∃ (p : Fin 128) (q : Fin 1024), (cfg0.win 7).xinj (grid0.coords t) y = ix4 0 0 p q := one_tile (n := 128) (k := 1024) _
  have h0 : (y 0).val = 0 := congrArg (fun z : S1x1x128x1024.Idx => (z 0).val) hy
  have h1 : (y 1).val = 0 := congrArg (fun z : S1x1x128x1024.Idx => (z 1).val) hy
  have h2 : (y 2).val = p.val := congrArg (fun z : S1x1x128x1024.Idx => (z 2).val) hy
  have h3 : (y 3).val = q.val := congrArg (fun z : S1x1x128x1024.Idx => (z 3).val) hy
  have he : ix4 (bt t) (et t) p q = ((cfg0.win 7).blk t).view.emb y := by
    refine funext fun a => Fin.ext ?_
    match a with
    | ⟨0, _⟩ => show t.val / 16 = win0_7.index t (0 : Fin 4) * 1 + 1 * (y 0).val; rw [(idx7 t).1, h0]; omega
    | ⟨1, _⟩ => show t.val % 16 = win0_7.index t (1 : Fin 4) * 1 + 1 * (y 1).val; rw [(idx7 t).2.1, h1]; omega
    | ⟨2, _⟩ => show p.val = win0_7.index t (2 : Fin 4) * 128 + 1 * (y 2).val; rw [(idx7 t).2.2.1, h2]; omega
    | ⟨3, _⟩ => show q.val = win0_7.index t (3 : Fin 4) * 1024 + 1 * (y 3).val; rw [(idx7 t).2.2.2, h3]; omega
  generalize (outsAt0 m c t).1 = o at hb ⊢
  rw [hy, hb p q, ← he]
  exact (cast_eq _ _).symm

/-- An index lies in point `t`'s block of output 7 iff each coordinate is in the block's range on its axis. -/
theorem mem_blk7 (t : Fin cfg0.N) (i : S4x16x128x1024.Idx) : i ∈ ((cfg0.win 7).blk t).view.set ↔ ∀ a : Fin 4,
    win0_7.index t a * S1x1x128x1024.size a ≤ (i a).val ∧ (i a).val < win0_7.index t a * S1x1x128x1024.size a + S1x1x128x1024.size a := by
  show i ∈ ((View.whole main_v28_0).slice (win0_7.rect t)).set ↔ _
  rw [View.set_slice_whole, Rect.mem_set_unit]
  exact Iff.rfl

/-- The result ends holding `G7`: the blocks fill it. -/
theorem final7 (c : Dev nD) : (dats m 0 c).arrAt 7 cfg0.N = G7 m c :=
  (dats m 0 c).arrAt_eq_of_cover 7 _ (flushed7 m c) fun i => by
    have h0 : (i 0).val < 4 := (i 0).isLt
    have h1 : (i 1).val < 16 := (i 1).isLt
    have h2 : (i 2).val < 128 := (i 2).isLt
    have h3 : (i 3).val < 1024 := (i 3).isLt
    have ht : (i 0).val * 16 + (i 1).val < cfg0.N := by rw [show cfg0.N = 64 from N_0]; omega
    refine ⟨⟨(i 0).val * 16 + (i 1).val, ht⟩, (flushes _).1, ?_⟩
    rw [mem_blk7]
    intro a
    match a with
    | ⟨0, _⟩ =>
      show win0_7.index _ (0 : Fin 4) * 1 ≤ (i 0).val ∧ (i 0).val < win0_7.index _ (0 : Fin 4) * 1 + 1
      rw [(idx7 _).1]; dsimp only; omega
    | ⟨1, _⟩ =>
      show win0_7.index _ (1 : Fin 4) * 1 ≤ (i 1).val ∧ (i 1).val < win0_7.index _ (1 : Fin 4) * 1 + 1
      rw [(idx7 _).2.1]; dsimp only; omega
    | ⟨2, _⟩ =>
      show win0_7.index _ (2 : Fin 4) * 128 ≤ (i 2).val ∧ (i 2).val < win0_7.index _ (2 : Fin 4) * 128 + 128
      rw [(idx7 _).2.2.1]; omega
    | ⟨3, _⟩ =>
      show win0_7.index _ (3 : Fin 4) * 1024 ≤ (i 3).val ∧ (i 3).val < win0_7.index _ (3 : Fin 4) * 1024 + 1024
      rw [(idx7 _).2.2.2]; omega

/-- Each point writes back its block of `G8`. -/
theorem flushed8 (c : Dev nD) (t : Fin cfg0.N) (_ : (cfg0.win 8).flush t = true) :
    (dats m 0 c).flushed 8 t = ((cfg0.win 8).blk t).view.read (Elt Ideal) (G8 m c) := by
  rw [Value.flushed8]
  have hb := blk8 m c t
  generalize G8 m c = g at hb ⊢
  funext y
  rw [View.read_apply]
  show (outsAt0 m c t).2 _ = _
  obtain ⟨p, q, hy⟩ : ∃ (p : Fin 128) (q : Fin 128), (cfg0.win 8).xinj (grid0.coords t) y = ix4 0 0 p q := one_tile (n := 128) (k := 128) _
  have h0 : (y 0).val = 0 := congrArg (fun z : S1x1x128x128.Idx => (z 0).val) hy
  have h1 : (y 1).val = 0 := congrArg (fun z : S1x1x128x128.Idx => (z 1).val) hy
  have h2 : (y 2).val = p.val := congrArg (fun z : S1x1x128x128.Idx => (z 2).val) hy
  have h3 : (y 3).val = q.val := congrArg (fun z : S1x1x128x128.Idx => (z 3).val) hy
  have he : ix4 (bt t) (et t) p q = ((cfg0.win 8).blk t).view.emb y := by
    refine funext fun a => Fin.ext ?_
    match a with
    | ⟨0, _⟩ => show t.val / 16 = win0_8.index t (0 : Fin 4) * 1 + 1 * (y 0).val; rw [(idx8 t).1, h0]; omega
    | ⟨1, _⟩ => show t.val % 16 = win0_8.index t (1 : Fin 4) * 1 + 1 * (y 1).val; rw [(idx8 t).2.1, h1]; omega
    | ⟨2, _⟩ => show p.val = win0_8.index t (2 : Fin 4) * 128 + 1 * (y 2).val; rw [(idx8 t).2.2.1, h2]; omega
    | ⟨3, _⟩ => show q.val = win0_8.index t (3 : Fin 4) * 128 + 1 * (y 3).val; rw [(idx8 t).2.2.2, h3]; omega
  generalize (outsAt0 m c t).2 = o at hb ⊢
  rw [hy, hb p q, ← he]
  exact (cast_eq _ _).symm

/-- An index lies in point `t`'s block of output 8 iff each coordinate is in the block's range on its axis. -/
theorem mem_blk8 (t : Fin cfg0.N) (i : S4x16x128x128.Idx) : i ∈ ((cfg0.win 8).blk t).view.set ↔ ∀ a : Fin 4,
    win0_8.index t a * S1x1x128x128.size a ≤ (i a).val ∧ (i a).val < win0_8.index t a * S1x1x128x128.size a + S1x1x128x128.size a := by
  show i ∈ ((View.whole main_v28_1).slice (win0_8.rect t)).set ↔ _
  rw [View.set_slice_whole, Rect.mem_set_unit]
  exact Iff.rfl

/-- The result ends holding `G8`: the blocks fill it. -/
theorem final8 (c : Dev nD) : (dats m 0 c).arrAt 8 cfg0.N = G8 m c :=
  (dats m 0 c).arrAt_eq_of_cover 8 _ (flushed8 m c) fun i => by
    have h0 : (i 0).val < 4 := (i 0).isLt
    have h1 : (i 1).val < 16 := (i 1).isLt
    have h2 : (i 2).val < 128 := (i 2).isLt
    have h3 : (i 3).val < 128 := (i 3).isLt
    have ht : (i 0).val * 16 + (i 1).val < cfg0.N := by rw [show cfg0.N = 64 from N_0]; omega
    refine ⟨⟨(i 0).val * 16 + (i 1).val, ht⟩, (flushes _).2, ?_⟩
    rw [mem_blk8]
    intro a
    match a with
    | ⟨0, _⟩ =>
      show win0_8.index _ (0 : Fin 4) * 1 ≤ (i 0).val ∧ (i 0).val < win0_8.index _ (0 : Fin 4) * 1 + 1
      rw [(idx8 _).1]; dsimp only; omega
    | ⟨1, _⟩ =>
      show win0_8.index _ (1 : Fin 4) * 1 ≤ (i 1).val ∧ (i 1).val < win0_8.index _ (1 : Fin 4) * 1 + 1
      rw [(idx8 _).2.1]; dsimp only; omega
    | ⟨2, _⟩ =>
      show win0_8.index _ (2 : Fin 4) * 128 ≤ (i 2).val ∧ (i 2).val < win0_8.index _ (2 : Fin 4) * 128 + 128
      rw [(idx8 _).2.2.1]; omega
    | ⟨3, _⟩ =>
      show win0_8.index _ (3 : Fin 4) * 128 ≤ (i 3).val ∧ (i 3).val < win0_8.index _ (3 : Fin 4) * 128 + 128
      rw [(idx8 _).2.2.2]; omega

/-- A function of three arguments takes equal arguments to equal values. -/
theorem args3 {A B C D : Type} (f : A → B → C → D) {x x' : A} {y y' : B} {z z' : C} (hx : x' = x) (hy : y' = y) (hz : z' = z) :
    f x' y' z' = f x y z := by
  subst hx hy hz; rfl

/-- The call and the reference compute the same two arrays. -/
theorem alg : Cert.algebraic_AttCIdeal_AttCRefIdeal := fun m ρ m' ρ' _ hag =>
  ⟨fun c => G7 m c, fun c => G8 m c,
    (θ_run _ _ _).mono (fun _ h c => ⟨(h c).1.trans (final7 m c), (h c).2.1.trans (final8 m c), (h c).2.2⟩) (Value.run_blocks m ρ),
    (θ_run _ _ _).mono (fun _ h c => ⟨(h c).1.trans (by
        rw [Cert.AttCRefIdeal.Read.val_main_v185_eq]
        beta_reduce
        unfold G7
        exact args3 (Cert.AttCRefIdeal.Read.val_main_v185 (F := Ideal)) (hag c).1 (hag c).2.1 (hag c).2.2),
      (h c).2.1.trans (by
        rw [Cert.AttCRefIdeal.Read.val_main_v183_eq]
        beta_reduce
        unfold G8
        exact args3 (Cert.AttCRefIdeal.Read.val_main_v183 (F := Ideal)) (hag c).1 (hag c).2.1 (hag c).2.2), (h c).2.2⟩)
      (Cert.AttCRefIdeal.Value.run m' ρ')⟩

end Cert.AttCIdeal.Val
end
-- ==== Proof.lean ====
/-
  `Cert.Claim`, assembled: the kernels' frames are the generated ones, the references' frames come from their runs, each
  idealized program is its program unchanged but for the attention call's mask constant, and each value claim is its
  module's.
-/
module

public import proofs.«01_k».proof.Defs
public import proofs.«01_k».proof.Proof.Gen.Xnorm
public import proofs.«01_k».proof.Proof.Gen.Xnorm.Frame
public import proofs.«01_k».proof.Proof.Gen.XnormIdeal
public import proofs.«01_k».proof.Proof.Gen.XnormIdeal.Frame
public import proofs.«01_k».proof.Proof.Gen.XnormIdeal.Value
public import proofs.«01_k».proof.Proof.Gen.XnormRefIdeal
public import proofs.«01_k».proof.Proof.Gen.XnormRefIdeal.Run
public import proofs.«01_k».proof.Proof.Gen.XnormRefIdeal.Read
public import proofs.«01_k».proof.Proof.Gen.ProjA
public import proofs.«01_k».proof.Proof.Gen.ProjA.Frame
public import proofs.«01_k».proof.Proof.Gen.ProjAIdeal
public import proofs.«01_k».proof.Proof.Gen.ProjAIdeal.Frame
public import proofs.«01_k».proof.Proof.Gen.ProjAIdeal.Value
public import proofs.«01_k».proof.Proof.Gen.ProjARefIdeal
public import proofs.«01_k».proof.Proof.Gen.ProjARefIdeal.Run
public import proofs.«01_k».proof.Proof.Gen.ProjARefIdeal.Read
public import proofs.«01_k».proof.Proof.Gen.ProjB
public import proofs.«01_k».proof.Proof.Gen.ProjB.Frame
public import proofs.«01_k».proof.Proof.Gen.ProjBIdeal
public import proofs.«01_k».proof.Proof.Gen.ProjBIdeal.Frame
public import proofs.«01_k».proof.Proof.Gen.ProjBIdeal.Value
public import proofs.«01_k».proof.Proof.Gen.ProjBRefIdeal
public import proofs.«01_k».proof.Proof.Gen.ProjBRefIdeal.Run
public import proofs.«01_k».proof.Proof.Gen.ProjBRefIdeal.Read
public import proofs.«01_k».proof.Proof.Gen.ProjC
public import proofs.«01_k».proof.Proof.Gen.ProjC.Frame
public import proofs.«01_k».proof.Proof.Gen.ProjCIdeal
public import proofs.«01_k».proof.Proof.Gen.ProjCIdeal.Frame
public import proofs.«01_k».proof.Proof.Gen.ProjCIdeal.Value
public import proofs.«01_k».proof.Proof.Gen.ProjCRefIdeal
public import proofs.«01_k».proof.Proof.Gen.ProjCRefIdeal.Run
public import proofs.«01_k».proof.Proof.Gen.ProjCRefIdeal.Read
public import proofs.«01_k».proof.Proof.Gen.ProjGla
public import proofs.«01_k».proof.Proof.Gen.ProjGla.Frame
public import proofs.«01_k».proof.Proof.Gen.ProjGlaIdeal
public import proofs.«01_k».proof.Proof.Gen.ProjGlaIdeal.Frame
public import proofs.«01_k».proof.Proof.Gen.ProjGlaIdeal.Value
public import proofs.«01_k».proof.Proof.Gen.ProjGlaRefIdeal
public import proofs.«01_k».proof.Proof.Gen.ProjGlaRefIdeal.Run
public import proofs.«01_k».proof.Proof.Gen.ProjGlaRefIdeal.Read
public import proofs.«01_k».proof.Proof.Gen.ProjGates
public import proofs.«01_k».proof.Proof.Gen.ProjGates.Frame
public import proofs.«01_k».proof.Proof.Gen.ProjGatesIdeal
public import proofs.«01_k».proof.Proof.Gen.ProjGatesIdeal.Frame
public import proofs.«01_k».proof.Proof.Gen.ProjGatesIdeal.Value
public import proofs.«01_k».proof.Proof.Gen.ProjGatesRefIdeal
public import proofs.«01_k».proof.Proof.Gen.ProjGatesRefIdeal.Run
public import proofs.«01_k».proof.Proof.Gen.ProjGatesRefIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.AttC
public import proofs.«01_k».proof.Proof.Gen.AttC.Frame
public import proofs.«01_k».proof.Proof.Gen.AttCIdeal
public import proofs.«01_k».proof.Proof.Gen.AttCIdeal.Frame
public import proofs.«01_k».proof.Proof.Gen.AttCIdeal.Value
public import proofs.«01_k».proof.Proof.Gen.AttCRefIdeal
public import proofs.«01_k».proof.Proof.Gen.AttCRefIdeal.Run
public import proofs.«01_k».proof.Proof.Gen.AttCRefIdeal.Read
public import proofs.«01_k».proof.Proof.Gen.Pre_softmax_state
public import proofs.«01_k».proof.Proof.RefFrames
public import proofs.«01_k».proof.Proof.Xnorm
public import proofs.«01_k».proof.Proof.ProjA
public import proofs.«01_k».proof.Proof.ProjB
public import proofs.«01_k».proof.Proof.ProjC
public import proofs.«01_k».proof.Proof.ProjGla
public import proofs.«01_k».proof.Proof.ProjGates
public import proofs.«01_k».proof.Proof.Ffn
public import proofs.«01_k».proof.Proof.Merge
public import proofs.«01_k».proof.Proof.AttC

@[expose] public section

noncomputable section

namespace Cert.Proof

open Idealize.ShloMosaic Idealize.SL.Sem

/-- Every claim: the frames of the calls, of their idealized programs and of the references, then for each call that its
    idealized program is the program itself (of the attention call, with its mask constant read as minus infinity) and that
    it computes what its reference computes over the extended reals. -/
theorem claim : Cert.Claim := ⟨
  Cert.Xnorm.Gen.facts, Cert.XnormIdeal.Gen.facts, Cert.XnormRefIdeal.Gen.facts,
  Cert.ProjA.Gen.facts, Cert.ProjAIdeal.Gen.facts, Cert.ProjARefIdeal.Gen.facts,
  Cert.ProjB.Gen.facts, Cert.ProjBIdeal.Gen.facts, Cert.ProjBRefIdeal.Gen.facts,
  Cert.ProjC.Gen.facts, Cert.ProjCIdeal.Gen.facts, Cert.ProjCRefIdeal.Gen.facts,
  Cert.ProjGla.Gen.facts, Cert.ProjGlaIdeal.Gen.facts, Cert.ProjGlaRefIdeal.Gen.facts,
  Cert.ProjGates.Gen.facts, Cert.ProjGatesIdeal.Gen.facts, Cert.ProjGatesRefIdeal.Gen.facts,
  Cert.Ffn.Gen.facts, Cert.FfnIdeal.Gen.facts, Cert.FfnRefIdeal.Gen.facts,
  Cert.Merge.Gen.facts, Cert.MergeIdeal.Gen.facts, Cert.MergeRefIdeal.Gen.facts,
  Cert.AttC.Gen.facts, Cert.AttCIdeal.Gen.facts, Cert.AttCRefIdeal.Gen.facts,
  Cert.Pre_softmax_state.Gen.facts,
  fun m ρ _ => Cert.Xnorm.Gen.frame m ρ, fun m ρ _ => Cert.XnormIdeal.Gen.frame m ρ, Cert.Layer.RefFrames.frame_xnorm,
  fun m ρ _ => Cert.ProjA.Gen.frame m ρ, fun m ρ _ => Cert.ProjAIdeal.Gen.frame m ρ, Cert.Layer.RefFrames.frame_projA,
  fun m ρ _ => Cert.ProjB.Gen.frame m ρ, fun m ρ _ => Cert.ProjBIdeal.Gen.frame m ρ, Cert.Layer.RefFrames.frame_projB,
  fun m ρ _ => Cert.ProjC.Gen.frame m ρ, fun m ρ _ => Cert.ProjCIdeal.Gen.frame m ρ, Cert.Layer.RefFrames.frame_projC,
  fun m ρ _ => Cert.ProjGla.Gen.frame m ρ, fun m ρ _ => Cert.ProjGlaIdeal.Gen.frame m ρ, Cert.Layer.RefFrames.frame_projGla,
  fun m ρ _ => Cert.ProjGates.Gen.frame m ρ, fun m ρ _ => Cert.ProjGatesIdeal.Gen.frame m ρ, Cert.Layer.RefFrames.frame_projGates,
  fun m ρ _ => Cert.Ffn.Gen.frame m ρ, fun m ρ _ => Cert.FfnIdeal.Gen.frame m ρ, Cert.Layer.RefFrames.frame_ffn,
  fun m ρ _ => Cert.Merge.Gen.frame m ρ, fun m ρ _ => Cert.MergeIdeal.Gen.frame m ρ, fun m ρ _ => Cert.MergeIdeal.Gen.frame m ρ,
  Cert.Layer.RefFrames.frame_merge, fun m ρ _ => Cert.Layer.RefFrames.frame_merge m ρ True.intro,
  fun m ρ _ => Cert.AttC.Gen.frame m ρ, fun m ρ _ => Cert.AttCIdeal.Gen.frame m ρ, Cert.Layer.RefFrames.frame_attC,
  trivial, Cert.XnormIdeal.Val.alg,
  trivial, Cert.ProjAIdeal.Val.alg,
  trivial, Cert.ProjBIdeal.Val.alg,
  trivial, Cert.ProjCIdeal.Val.alg,
  trivial, Cert.ProjGlaIdeal.Val.alg,
  trivial, Cert.ProjGatesIdeal.Val.alg,
  trivial, Cert.FfnIdeal.Val.alg,
  trivial, Cert.MergeIdeal.Val.alg,
  ⟨rfl, fun _ => rfl, rfl⟩, Cert.AttCIdeal.Val.alg⟩

end Cert.Proof

end
